-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_and_some_selected [hPre_finite_and_some_selected : Cert.Pre_finite_and_some_selected.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_and_some_selected.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) (m ((c.tc : Thread Cert.AttentionIdeal.nD Cert.AttentionIdeal.τ).loc Cert.AttentionIdeal.main_arg5)) (m ((c.tc : Thread Cert.AttentionIdeal.nD Cert.AttentionIdeal.τ).loc Cert.AttentionIdeal.main_arg6)) (m ((c.tc : Thread Cert.AttentionIdeal.nD Cert.AttentionIdeal.τ).loc Cert.AttentionIdeal.main_arg7))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_and_some_selected [hPre_finite_and_some_selected : Cert.Pre_finite_and_some_selected.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_and_some_selected.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4)) (m ((c.tc : Thread Cert.AttentionReferenceIdeal.nD Cert.AttentionReferenceIdeal.τ).loc Cert.AttentionReferenceIdeal.main_arg5)) (m ((c.tc : Thread Cert.AttentionReferenceIdeal.nD Cert.AttentionReferenceIdeal.τ).loc Cert.AttentionReferenceIdeal.main_arg6)) (m ((c.tc : Thread Cert.AttentionReferenceIdeal.nD Cert.AttentionReferenceIdeal.τ).loc Cert.AttentionReferenceIdeal.main_arg7))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_OutMerged (m : (ℓ : Loc Cert.OutMerged.nD Cert.OutMerged.τ Cert.OutMerged.sig) → Buf (Elt Bits) ℓ) : Prop :=
  True

def Pre_OutMergedIdeal (m : (ℓ : Loc Cert.OutMergedIdeal.nD Cert.OutMergedIdeal.τ Cert.OutMergedIdeal.sig) → Buf (Elt Ideal) ℓ) : Prop :=
  True

def Pre_OutMergedReferenceIdeal (m : (ℓ : Loc Cert.OutMergedReferenceIdeal.nD Cert.OutMergedReferenceIdeal.τ Cert.OutMergedReferenceIdeal.sig) → Buf (Elt Ideal) ℓ) : Prop :=
  True

def Pre_OutAttn (m : (ℓ : Loc Cert.OutAttn.nD Cert.OutAttn.τ Cert.OutAttn.sig) → Buf (Elt Bits) ℓ) : Prop :=
  True

def Pre_OutAttnIdeal (m : (ℓ : Loc Cert.OutAttnIdeal.nD Cert.OutAttnIdeal.τ Cert.OutAttnIdeal.sig) → Buf (Elt Ideal) ℓ) : Prop :=
  True

def Pre_OutAttnReferenceIdeal (m : (ℓ : Loc Cert.OutAttnReferenceIdeal.nD Cert.OutAttnReferenceIdeal.τ Cert.OutAttnReferenceIdeal.sig) → Buf (Elt Ideal) ℓ) : Prop :=
  True

def Pre_OutRg (m : (ℓ : Loc Cert.OutRg.nD Cert.OutRg.τ Cert.OutRg.sig) → Buf (Elt Bits) ℓ) : Prop :=
  True

def Pre_OutRgIdeal (m : (ℓ : Loc Cert.OutRgIdeal.nD Cert.OutRgIdeal.τ Cert.OutRgIdeal.sig) → Buf (Elt Ideal) ℓ) : Prop :=
  True

def Pre_OutRgReferenceIdeal (m : (ℓ : Loc Cert.OutRgReferenceIdeal.nD Cert.OutRgReferenceIdeal.τ Cert.OutRgReferenceIdeal.sig) → Buf (Elt Ideal) ℓ) : Prop :=
  True

def Pre_InProjV (m : (ℓ : Loc Cert.InProjV.nD Cert.InProjV.τ Cert.InProjV.sig) → Buf (Elt Bits) ℓ) : Prop :=
  True

def Pre_InProjVIdeal (m : (ℓ : Loc Cert.InProjVIdeal.nD Cert.InProjVIdeal.τ Cert.InProjVIdeal.sig) → Buf (Elt Ideal) ℓ) : Prop :=
  True

def Pre_InProjVReferenceIdeal (m : (ℓ : Loc Cert.InProjVReferenceIdeal.nD Cert.InProjVReferenceIdeal.τ Cert.InProjVReferenceIdeal.sig) → Buf (Elt Ideal) ℓ) : Prop :=
  True

def Pre_InProjQi (m : (ℓ : Loc Cert.InProjQi.nD Cert.InProjQi.τ Cert.InProjQi.sig) → Buf (Elt Bits) ℓ) : Prop :=
  True

def Pre_InProjQiIdeal (m : (ℓ : Loc Cert.InProjQiIdeal.nD Cert.InProjQiIdeal.τ Cert.InProjQiIdeal.sig) → Buf (Elt Ideal) ℓ) : Prop :=
  True

def Pre_InProjQiReferenceIdeal (m : (ℓ : Loc Cert.InProjQiReferenceIdeal.nD Cert.InProjQiReferenceIdeal.τ Cert.InProjQiReferenceIdeal.sig) → Buf (Elt Ideal) ℓ) : Prop :=
  True

def Pre_InProjXr (m : (ℓ : Loc Cert.InProjXr.nD Cert.InProjXr.τ Cert.InProjXr.sig) → Buf (Elt Bits) ℓ) : Prop :=
  True

def Pre_InProjXrIdeal (m : (ℓ : Loc Cert.InProjXrIdeal.nD Cert.InProjXrIdeal.τ Cert.InProjXrIdeal.sig) → Buf (Elt Ideal) ℓ) : Prop :=
  True

def Pre_InProjXrReferenceIdeal (m : (ℓ : Loc Cert.InProjXrReferenceIdeal.nD Cert.InProjXrReferenceIdeal.τ Cert.InProjXrReferenceIdeal.sig) → Buf (Elt Ideal) ℓ) : Prop :=
  True

def Pre_InProjGr (m : (ℓ : Loc Cert.InProjGr.nD Cert.InProjGr.τ Cert.InProjGr.sig) → Buf (Elt Bits) ℓ) : Prop :=
  True

def Pre_InProjGrIdeal (m : (ℓ : Loc Cert.InProjGrIdeal.nD Cert.InProjGrIdeal.τ Cert.InProjGrIdeal.sig) → Buf (Elt Ideal) ℓ) : Prop :=
  True

def Pre_InProjGrReferenceIdeal (m : (ℓ : Loc Cert.InProjGrReferenceIdeal.nD Cert.InProjGrReferenceIdeal.τ Cert.InProjGrReferenceIdeal.sig) → Buf (Elt Ideal) ℓ) : Prop :=
  True

def Pre_InProjGa (m : (ℓ : Loc Cert.InProjGa.nD Cert.InProjGa.τ Cert.InProjGa.sig) → Buf (Elt Bits) ℓ) : Prop :=
  True

def Pre_InProjGaIdeal (m : (ℓ : Loc Cert.InProjGaIdeal.nD Cert.InProjGaIdeal.τ Cert.InProjGaIdeal.sig) → Buf (Elt Ideal) ℓ) : Prop :=
  True

def Pre_InProjGaReferenceIdeal (m : (ℓ : Loc Cert.InProjGaReferenceIdeal.nD Cert.InProjGaReferenceIdeal.τ Cert.InProjGaReferenceIdeal.sig) → Buf (Elt Ideal) ℓ) : Prop :=
  True

def Pre_InProjGb (m : (ℓ : Loc Cert.InProjGb.nD Cert.InProjGb.τ Cert.InProjGb.sig) → Buf (Elt Bits) ℓ) : Prop :=
  True

def Pre_InProjGbIdeal (m : (ℓ : Loc Cert.InProjGbIdeal.nD Cert.InProjGbIdeal.τ Cert.InProjGbIdeal.sig) → Buf (Elt Ideal) ℓ) : Prop :=
  True

def Pre_InProjGbReferenceIdeal (m : (ℓ : Loc Cert.InProjGbReferenceIdeal.nD Cert.InProjGbReferenceIdeal.τ Cert.InProjGbReferenceIdeal.sig) → Buf (Elt Ideal) ℓ) : Prop :=
  True

def Pre_InProjQ (m : (ℓ : Loc Cert.InProjQ.nD Cert.InProjQ.τ Cert.InProjQ.sig) → Buf (Elt Bits) ℓ) : Prop :=
  True

def Pre_InProjQIdeal (m : (ℓ : Loc Cert.InProjQIdeal.nD Cert.InProjQIdeal.τ Cert.InProjQIdeal.sig) → Buf (Elt Ideal) ℓ) : Prop :=
  True

def Pre_InProjQReferenceIdeal (m : (ℓ : Loc Cert.InProjQReferenceIdeal.nD Cert.InProjQReferenceIdeal.τ Cert.InProjQReferenceIdeal.sig) → Buf (Elt Ideal) ℓ) : Prop :=
  True

def Pre_InProjK (m : (ℓ : Loc Cert.InProjK.nD Cert.InProjK.τ Cert.InProjK.sig) → Buf (Elt Bits) ℓ) : Prop :=
  True

def Pre_InProjKIdeal (m : (ℓ : Loc Cert.InProjKIdeal.nD Cert.InProjKIdeal.τ Cert.InProjKIdeal.sig) → Buf (Elt Ideal) ℓ) : Prop :=
  True

def Pre_InProjKReferenceIdeal (m : (ℓ : Loc Cert.InProjKReferenceIdeal.nD Cert.InProjKReferenceIdeal.τ Cert.InProjKReferenceIdeal.sig) → Buf (Elt Ideal) ℓ) : Prop :=
  True

def Pre_Rmsnorm (m : (ℓ : Loc Cert.Rmsnorm.nD Cert.Rmsnorm.τ Cert.Rmsnorm.sig) → Buf (Elt Bits) ℓ) : Prop :=
  True

def Pre_RmsnormIdeal (m : (ℓ : Loc Cert.RmsnormIdeal.nD Cert.RmsnormIdeal.τ Cert.RmsnormIdeal.sig) → Buf (Elt Ideal) ℓ) : Prop :=
  True

def Pre_RmsnormReferenceIdeal (m : (ℓ : Loc Cert.RmsnormReferenceIdeal.nD Cert.RmsnormReferenceIdeal.τ Cert.RmsnormReferenceIdeal.sig) → Buf (Elt Ideal) ℓ) : Prop :=
  True

def Pre_InProjKi (m : (ℓ : Loc Cert.InProjKi.nD Cert.InProjKi.τ Cert.InProjKi.sig) → Buf (Elt Bits) ℓ) : Prop :=
  True

def Pre_InProjKiIdeal (m : (ℓ : Loc Cert.InProjKiIdeal.nD Cert.InProjKiIdeal.τ Cert.InProjKiIdeal.sig) → Buf (Elt Ideal) ℓ) : Prop :=
  True

def Pre_InProjKiReferenceIdeal (m : (ℓ : Loc Cert.InProjKiReferenceIdeal.nD Cert.InProjKiReferenceIdeal.τ Cert.InProjKiReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5)
      ∧ r.2.mem ((c.tc : Thread Cert.Attention.nD Cert.Attention.τ).loc Cert.Attention.main_arg6) = m ((c.tc : Thread Cert.Attention.nD Cert.Attention.τ).loc Cert.Attention.main_arg6)
      ∧ r.2.mem ((c.tc : Thread Cert.Attention.nD Cert.Attention.τ).loc Cert.Attention.main_arg7) = m ((c.tc : Thread Cert.Attention.nD Cert.Attention.τ).loc Cert.Attention.main_arg7))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionIdeal_pre_finite_and_some_selected [hAttentionIdeal : Cert.AttentionIdeal.Facts] [hPre_finite_and_some_selected : Cert.Pre_finite_and_some_selected.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_and_some_selected m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5)
      ∧ r.2.mem ((c.tc : Thread Cert.AttentionReferenceIdeal.nD Cert.AttentionReferenceIdeal.τ).loc Cert.AttentionReferenceIdeal.main_arg6) = m ((c.tc : Thread Cert.AttentionReferenceIdeal.nD Cert.AttentionReferenceIdeal.τ).loc Cert.AttentionReferenceIdeal.main_arg6)
      ∧ r.2.mem ((c.tc : Thread Cert.AttentionReferenceIdeal.nD Cert.AttentionReferenceIdeal.τ).loc Cert.AttentionReferenceIdeal.main_arg7) = m ((c.tc : Thread Cert.AttentionReferenceIdeal.nD Cert.AttentionReferenceIdeal.τ).loc Cert.AttentionReferenceIdeal.main_arg7))
      ∧ r.2.sem = fun _ => 0)

def quiescent_AttentionReferenceIdeal_pre_finite_and_some_selected [hAttentionReferenceIdeal : Cert.AttentionReferenceIdeal.Facts] [hPre_finite_and_some_selected : Cert.Pre_finite_and_some_selected.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_and_some_selected m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5)
      ∧ r.2.mem ((c.tc : Thread Cert.AttentionReferenceIdeal.nD Cert.AttentionReferenceIdeal.τ).loc Cert.AttentionReferenceIdeal.main_arg6) = m ((c.tc : Thread Cert.AttentionReferenceIdeal.nD Cert.AttentionReferenceIdeal.τ).loc Cert.AttentionReferenceIdeal.main_arg6)
      ∧ r.2.mem ((c.tc : Thread Cert.AttentionReferenceIdeal.nD Cert.AttentionReferenceIdeal.τ).loc Cert.AttentionReferenceIdeal.main_arg7) = m ((c.tc : Thread Cert.AttentionReferenceIdeal.nD Cert.AttentionReferenceIdeal.τ).loc Cert.AttentionReferenceIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_OutMerged [hOutMerged : Cert.OutMerged.Facts] : Prop :=
  ∀ (m : (ℓ : Loc Cert.OutMerged.nD Cert.OutMerged.τ Cert.OutMerged.sig) → Buf (Elt Bits) ℓ) (g : Dev Cert.OutMerged.nD → PrngReg), Pre_OutMerged m →
    θ_run (Cert.OutMerged.defs (F := Bits)) (onTc (τ := Cert.OutMerged.τ) (Cert.OutMerged.main (F := Bits))) ⟨m, fun _ => 0, g⟩ (fun r => (∀ c : Dev Cert.OutMerged.nD,
      r.2.mem ((c.tc : Thread Cert.OutMerged.nD Cert.OutMerged.τ).loc Cert.OutMerged.main_arg0) = m ((c.tc : Thread Cert.OutMerged.nD Cert.OutMerged.τ).loc Cert.OutMerged.main_arg0)
      ∧ r.2.mem ((c.tc : Thread Cert.OutMerged.nD Cert.OutMerged.τ).loc Cert.OutMerged.main_arg1) = m ((c.tc : Thread Cert.OutMerged.nD Cert.OutMerged.τ).loc Cert.OutMerged.main_arg1)
      ∧ r.2.mem ((c.tc : Thread Cert.OutMerged.nD Cert.OutMerged.τ).loc Cert.OutMerged.main_arg2) = m ((c.tc : Thread Cert.OutMerged.nD Cert.OutMerged.τ).loc Cert.OutMerged.main_arg2))
      ∧ r.2.sem = fun _ => 0)

def quiescent_OutMergedIdeal [hOutMergedIdeal : Cert.OutMergedIdeal.Facts] : Prop :=
  ∀ (m : (ℓ : Loc Cert.OutMergedIdeal.nD Cert.OutMergedIdeal.τ Cert.OutMergedIdeal.sig) → Buf (Elt Ideal) ℓ) (g : Dev Cert.OutMergedIdeal.nD → PrngReg), Pre_OutMergedIdeal m →
    θ_run (Cert.OutMergedIdeal.defs (F := Ideal)) (onTc (τ := Cert.OutMergedIdeal.τ) (Cert.OutMergedIdeal.main (F := Ideal))) ⟨m, fun _ => 0, g⟩ (fun r => (∀ c : Dev Cert.OutMergedIdeal.nD,
      r.2.mem ((c.tc : Thread Cert.OutMergedIdeal.nD Cert.OutMergedIdeal.τ).loc Cert.OutMergedIdeal.main_arg0) = m ((c.tc : Thread Cert.OutMergedIdeal.nD Cert.OutMergedIdeal.τ).loc Cert.OutMergedIdeal.main_arg0)
      ∧ r.2.mem ((c.tc : Thread Cert.OutMergedIdeal.nD Cert.OutMergedIdeal.τ).loc Cert.OutMergedIdeal.main_arg1) = m ((c.tc : Thread Cert.OutMergedIdeal.nD Cert.OutMergedIdeal.τ).loc Cert.OutMergedIdeal.main_arg1)
      ∧ r.2.mem ((c.tc : Thread Cert.OutMergedIdeal.nD Cert.OutMergedIdeal.τ).loc Cert.OutMergedIdeal.main_arg2) = m ((c.tc : Thread Cert.OutMergedIdeal.nD Cert.OutMergedIdeal.τ).loc Cert.OutMergedIdeal.main_arg2))
      ∧ r.2.sem = fun _ => 0)

def quiescent_OutMergedReferenceIdeal [hOutMergedReferenceIdeal : Cert.OutMergedReferenceIdeal.Facts] : Prop :=
  ∀ (m : (ℓ : Loc Cert.OutMergedReferenceIdeal.nD Cert.OutMergedReferenceIdeal.τ Cert.OutMergedReferenceIdeal.sig) → Buf (Elt Ideal) ℓ) (g : Dev Cert.OutMergedReferenceIdeal.nD → PrngReg), Pre_OutMergedReferenceIdeal m →
    θ_run (Cert.OutMergedReferenceIdeal.defs (F := Ideal)) (onTc (τ := Cert.OutMergedReferenceIdeal.τ) (Cert.OutMergedReferenceIdeal.main (F := Ideal))) ⟨m, fun _ => 0, g⟩ (fun r => (∀ c : Dev Cert.OutMergedReferenceIdeal.nD,
      r.2.mem ((c.tc : Thread Cert.OutMergedReferenceIdeal.nD Cert.OutMergedReferenceIdeal.τ).loc Cert.OutMergedReferenceIdeal.main_arg0) = m ((c.tc : Thread Cert.OutMergedReferenceIdeal.nD Cert.OutMergedReferenceIdeal.τ).loc Cert.OutMergedReferenceIdeal.main_arg0)
      ∧ r.2.mem ((c.tc : Thread Cert.OutMergedReferenceIdeal.nD Cert.OutMergedReferenceIdeal.τ).loc Cert.OutMergedReferenceIdeal.main_arg1) = m ((c.tc : Thread Cert.OutMergedReferenceIdeal.nD Cert.OutMergedReferenceIdeal.τ).loc Cert.OutMergedReferenceIdeal.main_arg1)
      ∧ r.2.mem ((c.tc : Thread Cert.OutMergedReferenceIdeal.nD Cert.OutMergedReferenceIdeal.τ).loc Cert.OutMergedReferenceIdeal.main_arg2) = m ((c.tc : Thread Cert.OutMergedReferenceIdeal.nD Cert.OutMergedReferenceIdeal.τ).loc Cert.OutMergedReferenceIdeal.main_arg2))
      ∧ r.2.sem = fun _ => 0)

def quiescent_OutAttn [hOutAttn : Cert.OutAttn.Facts] : Prop :=
  ∀ (m : (ℓ : Loc Cert.OutAttn.nD Cert.OutAttn.τ Cert.OutAttn.sig) → Buf (Elt Bits) ℓ) (g : Dev Cert.OutAttn.nD → PrngReg), Pre_OutAttn m →
    θ_run (Cert.OutAttn.defs (F := Bits)) (onTc (τ := Cert.OutAttn.τ) (Cert.OutAttn.main (F := Bits))) ⟨m, fun _ => 0, g⟩ (fun r => (∀ c : Dev Cert.OutAttn.nD,
      r.2.mem ((c.tc : Thread Cert.OutAttn.nD Cert.OutAttn.τ).loc Cert.OutAttn.main_arg0) = m ((c.tc : Thread Cert.OutAttn.nD Cert.OutAttn.τ).loc Cert.OutAttn.main_arg0)
      ∧ r.2.mem ((c.tc : Thread Cert.OutAttn.nD Cert.OutAttn.τ).loc Cert.OutAttn.main_arg1) = m ((c.tc : Thread Cert.OutAttn.nD Cert.OutAttn.τ).loc Cert.OutAttn.main_arg1)
      ∧ r.2.mem ((c.tc : Thread Cert.OutAttn.nD Cert.OutAttn.τ).loc Cert.OutAttn.main_arg2) = m ((c.tc : Thread Cert.OutAttn.nD Cert.OutAttn.τ).loc Cert.OutAttn.main_arg2))
      ∧ r.2.sem = fun _ => 0)

def quiescent_OutAttnIdeal [hOutAttnIdeal : Cert.OutAttnIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
      ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2))
      ∧ r.2.sem = fun _ => 0)

def quiescent_OutAttnReferenceIdeal [hOutAttnReferenceIdeal : Cert.OutAttnReferenceIdeal.Facts] : Prop :=
  ∀ (m : (ℓ : Loc Cert.OutAttnReferenceIdeal.nD Cert.OutAttnReferenceIdeal.τ Cert.OutAttnReferenceIdeal.sig) → Buf (Elt Ideal) ℓ) (g : Dev Cert.OutAttnReferenceIdeal.nD → PrngReg), Pre_OutAttnReferenceIdeal m →
    θ_run (Cert.OutAttnReferenceIdeal.defs (F := Ideal)) (onTc (τ := Cert.OutAttnReferenceIdeal.τ) (Cert.OutAttnReferenceIdeal.main (F := Ideal))) ⟨m, fun _ => 0, g⟩ (fun r => (∀ c : Dev Cert.OutAttnReferenceIdeal.nD,
      r.2.mem ((c.tc : Thread Cert.OutAttnReferenceIdeal.nD Cert.OutAttnReferenceIdeal.τ).loc Cert.OutAttnReferenceIdeal.main_arg0) = m ((c.tc : Thread Cert.OutAttnReferenceIdeal.nD Cert.OutAttnReferenceIdeal.τ).loc Cert.OutAttnReferenceIdeal.main_arg0)
      ∧ r.2.mem ((c.tc : Thread Cert.OutAttnReferenceIdeal.nD Cert.OutAttnReferenceIdeal.τ).loc Cert.OutAttnReferenceIdeal.main_arg1) = m ((c.tc : Thread Cert.OutAttnReferenceIdeal.nD Cert.OutAttnReferenceIdeal.τ).loc Cert.OutAttnReferenceIdeal.main_arg1)
      ∧ r.2.mem ((c.tc : Thread Cert.OutAttnReferenceIdeal.nD Cert.OutAttnReferenceIdeal.τ).loc Cert.OutAttnReferenceIdeal.main_arg2) = m ((c.tc : Thread Cert.OutAttnReferenceIdeal.nD Cert.OutAttnReferenceIdeal.τ).loc Cert.OutAttnReferenceIdeal.main_arg2))
      ∧ r.2.sem = fun _ => 0)

def quiescent_OutRg [hOutRg : Cert.OutRg.Facts] : Prop :=
  ∀ (m : (ℓ : Loc Cert.OutRg.nD Cert.OutRg.τ Cert.OutRg.sig) → Buf (Elt Bits) ℓ) (g : Dev Cert.OutRg.nD → PrngReg), Pre_OutRg m →
    θ_run (Cert.OutRg.defs (F := Bits)) (onTc (τ := Cert.OutRg.τ) (Cert.OutRg.main (F := Bits))) ⟨m, fun _ => 0, g⟩ (fun r => (∀ c : Dev Cert.OutRg.nD,
      r.2.mem ((c.tc : Thread Cert.OutRg.nD Cert.OutRg.τ).loc Cert.OutRg.main_arg0) = m ((c.tc : Thread Cert.OutRg.nD Cert.OutRg.τ).loc Cert.OutRg.main_arg0)
      ∧ r.2.mem ((c.tc : Thread Cert.OutRg.nD Cert.OutRg.τ).loc Cert.OutRg.main_arg1) = m ((c.tc : Thread Cert.OutRg.nD Cert.OutRg.τ).loc Cert.OutRg.main_arg1)
      ∧ r.2.mem ((c.tc : Thread Cert.OutRg.nD Cert.OutRg.τ).loc Cert.OutRg.main_arg2) = m ((c.tc : Thread Cert.OutRg.nD Cert.OutRg.τ).loc Cert.OutRg.main_arg2)
      ∧ r.2.mem ((c.tc : Thread Cert.OutRg.nD Cert.OutRg.τ).loc Cert.OutRg.main_arg3) = m ((c.tc : Thread Cert.OutRg.nD Cert.OutRg.τ).loc Cert.OutRg.main_arg3))
      ∧ r.2.sem = fun _ => 0)

def quiescent_OutRgIdeal [hOutRgIdeal : Cert.OutRgIdeal.Facts] : Prop :=
  ∀ (m : (ℓ : Loc Cert.OutRgIdeal.nD Cert.OutRgIdeal.τ Cert.OutRgIdeal.sig) → Buf (Elt Ideal) ℓ) (g : Dev Cert.OutRgIdeal.nD → PrngReg), Pre_OutRgIdeal m →
    θ_run (Cert.OutRgIdeal.defs (F := Ideal)) (onTc (τ := Cert.OutRgIdeal.τ) (Cert.OutRgIdeal.main (F := Ideal))) ⟨m, fun _ => 0, g⟩ (fun r => (∀ c : Dev Cert.OutRgIdeal.nD,
      r.2.mem ((c.tc : Thread Cert.OutRgIdeal.nD Cert.OutRgIdeal.τ).loc Cert.OutRgIdeal.main_arg0) = m ((c.tc : Thread Cert.OutRgIdeal.nD Cert.OutRgIdeal.τ).loc Cert.OutRgIdeal.main_arg0)
      ∧ r.2.mem ((c.tc : Thread Cert.OutRgIdeal.nD Cert.OutRgIdeal.τ).loc Cert.OutRgIdeal.main_arg1) = m ((c.tc : Thread Cert.OutRgIdeal.nD Cert.OutRgIdeal.τ).loc Cert.OutRgIdeal.main_arg1)
      ∧ r.2.mem ((c.tc : Thread Cert.OutRgIdeal.nD Cert.OutRgIdeal.τ).loc Cert.OutRgIdeal.main_arg2) = m ((c.tc : Thread Cert.OutRgIdeal.nD Cert.OutRgIdeal.τ).loc Cert.OutRgIdeal.main_arg2)
      ∧ r.2.mem ((c.tc : Thread Cert.OutRgIdeal.nD Cert.OutRgIdeal.τ).loc Cert.OutRgIdeal.main_arg3) = m ((c.tc : Thread Cert.OutRgIdeal.nD Cert.OutRgIdeal.τ).loc Cert.OutRgIdeal.main_arg3))
      ∧ r.2.sem = fun _ => 0)

def quiescent_OutRgReferenceIdeal [hOutRgReferenceIdeal : Cert.OutRgReferenceIdeal.Facts] : Prop :=
  ∀ (m : (ℓ : Loc Cert.OutRgReferenceIdeal.nD Cert.OutRgReferenceIdeal.τ Cert.OutRgReferenceIdeal.sig) → Buf (Elt Ideal) ℓ) (g : Dev Cert.OutRgReferenceIdeal.nD → PrngReg), Pre_OutRgReferenceIdeal m →
    θ_run (Cert.OutRgReferenceIdeal.defs (F := Ideal)) (onTc (τ := Cert.OutRgReferenceIdeal.τ) (Cert.OutRgReferenceIdeal.main (F := Ideal))) ⟨m, fun _ => 0, g⟩ (fun r => (∀ c : Dev Cert.OutRgReferenceIdeal.nD,
      r.2.mem ((c.tc : Thread Cert.OutRgReferenceIdeal.nD Cert.OutRgReferenceIdeal.τ).loc Cert.OutRgReferenceIdeal.main_arg0) = m ((c.tc : Thread Cert.OutRgReferenceIdeal.nD Cert.OutRgReferenceIdeal.τ).loc Cert.OutRgReferenceIdeal.main_arg0)
      ∧ r.2.mem ((c.tc : Thread Cert.OutRgReferenceIdeal.nD Cert.OutRgReferenceIdeal.τ).loc Cert.OutRgReferenceIdeal.main_arg1) = m ((c.tc : Thread Cert.OutRgReferenceIdeal.nD Cert.OutRgReferenceIdeal.τ).loc Cert.OutRgReferenceIdeal.main_arg1)
      ∧ r.2.mem ((c.tc : Thread Cert.OutRgReferenceIdeal.nD Cert.OutRgReferenceIdeal.τ).loc Cert.OutRgReferenceIdeal.main_arg2) = m ((c.tc : Thread Cert.OutRgReferenceIdeal.nD Cert.OutRgReferenceIdeal.τ).loc Cert.OutRgReferenceIdeal.main_arg2)
      ∧ r.2.mem ((c.tc : Thread Cert.OutRgReferenceIdeal.nD Cert.OutRgReferenceIdeal.τ).loc Cert.OutRgReferenceIdeal.main_arg3) = m ((c.tc : Thread Cert.OutRgReferenceIdeal.nD Cert.OutRgReferenceIdeal.τ).loc Cert.OutRgReferenceIdeal.main_arg3))
      ∧ r.2.sem = fun _ => 0)

def quiescent_InProjV [hInProjV : Cert.InProjV.Facts] : Prop :=
  ∀ (m : (ℓ : Loc Cert.InProjV.nD Cert.InProjV.τ Cert.InProjV.sig) → Buf (Elt Bits) ℓ) (g : Dev Cert.InProjV.nD → PrngReg), Pre_InProjV m →
    θ_run (Cert.InProjV.defs (F := Bits)) (onTc (τ := Cert.InProjV.τ) (Cert.InProjV.main (F := Bits))) ⟨m, fun _ => 0, g⟩ (fun r => (∀ c : Dev Cert.InProjV.nD,
      r.2.mem ((c.tc : Thread Cert.InProjV.nD Cert.InProjV.τ).loc Cert.InProjV.main_arg0) = m ((c.tc : Thread Cert.InProjV.nD Cert.InProjV.τ).loc Cert.InProjV.main_arg0)
      ∧ r.2.mem ((c.tc : Thread Cert.InProjV.nD Cert.InProjV.τ).loc Cert.InProjV.main_arg1) = m ((c.tc : Thread Cert.InProjV.nD Cert.InProjV.τ).loc Cert.InProjV.main_arg1))
      ∧ r.2.sem = fun _ => 0)

def quiescent_InProjVIdeal [hInProjVIdeal : Cert.InProjVIdeal.Facts] : Prop :=
  ∀ (m : (ℓ : Loc Cert.InProjVIdeal.nD Cert.InProjVIdeal.τ Cert.InProjVIdeal.sig) → Buf (Elt Ideal) ℓ) (g : Dev Cert.InProjVIdeal.nD → PrngReg), Pre_InProjVIdeal m →
    θ_run (Cert.InProjVIdeal.defs (F := Ideal)) (onTc (τ := Cert.InProjVIdeal.τ) (Cert.InProjVIdeal.main (F := Ideal))) ⟨m, fun _ => 0, g⟩ (fun r => (∀ c : Dev Cert.InProjVIdeal.nD,
      r.2.mem ((c.tc : Thread Cert.InProjVIdeal.nD Cert.InProjVIdeal.τ).loc Cert.InProjVIdeal.main_arg0) = m ((c.tc : Thread Cert.InProjVIdeal.nD Cert.InProjVIdeal.τ).loc Cert.InProjVIdeal.main_arg0)
      ∧ r.2.mem ((c.tc : Thread Cert.InProjVIdeal.nD Cert.InProjVIdeal.τ).loc Cert.InProjVIdeal.main_arg1) = m ((c.tc : Thread Cert.InProjVIdeal.nD Cert.InProjVIdeal.τ).loc Cert.InProjVIdeal.main_arg1))
      ∧ r.2.sem = fun _ => 0)

def quiescent_InProjVReferenceIdeal [hInProjVReferenceIdeal : Cert.InProjVReferenceIdeal.Facts] : Prop :=
  ∀ (m : (ℓ : Loc Cert.InProjVReferenceIdeal.nD Cert.InProjVReferenceIdeal.τ Cert.InProjVReferenceIdeal.sig) → Buf (Elt Ideal) ℓ) (g : Dev Cert.InProjVReferenceIdeal.nD → PrngReg), Pre_InProjVReferenceIdeal m →
    θ_run (Cert.InProjVReferenceIdeal.defs (F := Ideal)) (onTc (τ := Cert.InProjVReferenceIdeal.τ) (Cert.InProjVReferenceIdeal.main (F := Ideal))) ⟨m, fun _ => 0, g⟩ (fun r => (∀ c : Dev Cert.InProjVReferenceIdeal.nD,
      r.2.mem ((c.tc : Thread Cert.InProjVReferenceIdeal.nD Cert.InProjVReferenceIdeal.τ).loc Cert.InProjVReferenceIdeal.main_arg0) = m ((c.tc : Thread Cert.InProjVReferenceIdeal.nD Cert.InProjVReferenceIdeal.τ).loc Cert.InProjVReferenceIdeal.main_arg0)
      ∧ r.2.mem ((c.tc : Thread Cert.InProjVReferenceIdeal.nD Cert.InProjVReferenceIdeal.τ).loc Cert.InProjVReferenceIdeal.main_arg1) = m ((c.tc : Thread Cert.InProjVReferenceIdeal.nD Cert.InProjVReferenceIdeal.τ).loc Cert.InProjVReferenceIdeal.main_arg1))
      ∧ r.2.sem = fun _ => 0)

def quiescent_InProjQi [hInProjQi : Cert.InProjQi.Facts] : Prop :=
  ∀ (m : (ℓ : Loc Cert.InProjQi.nD Cert.InProjQi.τ Cert.InProjQi.sig) → Buf (Elt Bits) ℓ) (g : Dev Cert.InProjQi.nD → PrngReg), Pre_InProjQi m →
    θ_run (Cert.InProjQi.defs (F := Bits)) (onTc (τ := Cert.InProjQi.τ) (Cert.InProjQi.main (F := Bits))) ⟨m, fun _ => 0, g⟩ (fun r => (∀ c : Dev Cert.InProjQi.nD,
      r.2.mem ((c.tc : Thread Cert.InProjQi.nD Cert.InProjQi.τ).loc Cert.InProjQi.main_arg0) = m ((c.tc : Thread Cert.InProjQi.nD Cert.InProjQi.τ).loc Cert.InProjQi.main_arg0)
      ∧ r.2.mem ((c.tc : Thread Cert.InProjQi.nD Cert.InProjQi.τ).loc Cert.InProjQi.main_arg1) = m ((c.tc : Thread Cert.InProjQi.nD Cert.InProjQi.τ).loc Cert.InProjQi.main_arg1))
      ∧ r.2.sem = fun _ => 0)

def quiescent_InProjQiIdeal [hInProjQiIdeal : Cert.InProjQiIdeal.Facts] : Prop :=
  ∀ (m : (ℓ : Loc Cert.InProjQiIdeal.nD Cert.InProjQiIdeal.τ Cert.InProjQiIdeal.sig) → Buf (Elt Ideal) ℓ) (g : Dev Cert.InProjQiIdeal.nD → PrngReg), Pre_InProjQiIdeal m →
    θ_run (Cert.InProjQiIdeal.defs (F := Ideal)) (onTc (τ := Cert.InProjQiIdeal.τ) (Cert.InProjQiIdeal.main (F := Ideal))) ⟨m, fun _ => 0, g⟩ (fun r => (∀ c : Dev Cert.InProjQiIdeal.nD,
      r.2.mem ((c.tc : Thread Cert.InProjQiIdeal.nD Cert.InProjQiIdeal.τ).loc Cert.InProjQiIdeal.main_arg0) = m ((c.tc : Thread Cert.InProjQiIdeal.nD Cert.InProjQiIdeal.τ).loc Cert.InProjQiIdeal.main_arg0)
      ∧ r.2.mem ((c.tc : Thread Cert.InProjQiIdeal.nD Cert.InProjQiIdeal.τ).loc Cert.InProjQiIdeal.main_arg1) = m ((c.tc : Thread Cert.InProjQiIdeal.nD Cert.InProjQiIdeal.τ).loc Cert.InProjQiIdeal.main_arg1))
      ∧ r.2.sem = fun _ => 0)

def quiescent_InProjQiReferenceIdeal [hInProjQiReferenceIdeal : Cert.InProjQiReferenceIdeal.Facts] : Prop :=
  ∀ (m : (ℓ : Loc Cert.InProjQiReferenceIdeal.nD Cert.InProjQiReferenceIdeal.τ Cert.InProjQiReferenceIdeal.sig) → Buf (Elt Ideal) ℓ) (g : Dev Cert.InProjQiReferenceIdeal.nD → PrngReg), Pre_InProjQiReferenceIdeal m →
    θ_run (Cert.InProjQiReferenceIdeal.defs (F := Ideal)) (onTc (τ := Cert.InProjQiReferenceIdeal.τ) (Cert.InProjQiReferenceIdeal.main (F := Ideal))) ⟨m, fun _ => 0, g⟩ (fun r => (∀ c : Dev Cert.InProjQiReferenceIdeal.nD,
      r.2.mem ((c.tc : Thread Cert.InProjQiReferenceIdeal.nD Cert.InProjQiReferenceIdeal.τ).loc Cert.InProjQiReferenceIdeal.main_arg0) = m ((c.tc : Thread Cert.InProjQiReferenceIdeal.nD Cert.InProjQiReferenceIdeal.τ).loc Cert.InProjQiReferenceIdeal.main_arg0)
      ∧ r.2.mem ((c.tc : Thread Cert.InProjQiReferenceIdeal.nD Cert.InProjQiReferenceIdeal.τ).loc Cert.InProjQiReferenceIdeal.main_arg1) = m ((c.tc : Thread Cert.InProjQiReferenceIdeal.nD Cert.InProjQiReferenceIdeal.τ).loc Cert.InProjQiReferenceIdeal.main_arg1))
      ∧ r.2.sem = fun _ => 0)

def quiescent_InProjXr [hInProjXr : Cert.InProjXr.Facts] : Prop :=
  ∀ (m : (ℓ : Loc Cert.InProjXr.nD Cert.InProjXr.τ Cert.InProjXr.sig) → Buf (Elt Bits) ℓ) (g : Dev Cert.InProjXr.nD → PrngReg), Pre_InProjXr m →
    θ_run (Cert.InProjXr.defs (F := Bits)) (onTc (τ := Cert.InProjXr.τ) (Cert.InProjXr.main (F := Bits))) ⟨m, fun _ => 0, g⟩ (fun r => (∀ c : Dev Cert.InProjXr.nD,
      r.2.mem ((c.tc : Thread Cert.InProjXr.nD Cert.InProjXr.τ).loc Cert.InProjXr.main_arg0) = m ((c.tc : Thread Cert.InProjXr.nD Cert.InProjXr.τ).loc Cert.InProjXr.main_arg0)
      ∧ r.2.mem ((c.tc : Thread Cert.InProjXr.nD Cert.InProjXr.τ).loc Cert.InProjXr.main_arg1) = m ((c.tc : Thread Cert.InProjXr.nD Cert.InProjXr.τ).loc Cert.InProjXr.main_arg1))
      ∧ r.2.sem = fun _ => 0)

def quiescent_InProjXrIdeal [hInProjXrIdeal : Cert.InProjXrIdeal.Facts] : Prop :=
  ∀ (m : (ℓ : Loc Cert.InProjXrIdeal.nD Cert.InProjXrIdeal.τ Cert.InProjXrIdeal.sig) → Buf (Elt Ideal) ℓ) (g : Dev Cert.InProjXrIdeal.nD → PrngReg), Pre_InProjXrIdeal m →
    θ_run (Cert.InProjXrIdeal.defs (F := Ideal)) (onTc (τ := Cert.InProjXrIdeal.τ) (Cert.InProjXrIdeal.main (F := Ideal))) ⟨m, fun _ => 0, g⟩ (fun r => (∀ c : Dev Cert.InProjXrIdeal.nD,
      r.2.mem ((c.tc : Thread Cert.InProjXrIdeal.nD Cert.InProjXrIdeal.τ).loc Cert.InProjXrIdeal.main_arg0) = m ((c.tc : Thread Cert.InProjXrIdeal.nD Cert.InProjXrIdeal.τ).loc Cert.InProjXrIdeal.main_arg0)
      ∧ r.2.mem ((c.tc : Thread Cert.InProjXrIdeal.nD Cert.InProjXrIdeal.τ).loc Cert.InProjXrIdeal.main_arg1) = m ((c.tc : Thread Cert.InProjXrIdeal.nD Cert.InProjXrIdeal.τ).loc Cert.InProjXrIdeal.main_arg1))
      ∧ r.2.sem = fun _ => 0)

def quiescent_InProjXrReferenceIdeal [hInProjXrReferenceIdeal : Cert.InProjXrReferenceIdeal.Facts] : Prop :=
  ∀ (m : (ℓ : Loc Cert.InProjXrReferenceIdeal.nD Cert.InProjXrReferenceIdeal.τ Cert.InProjXrReferenceIdeal.sig) → Buf (Elt Ideal) ℓ) (g : Dev Cert.InProjXrReferenceIdeal.nD → PrngReg), Pre_InProjXrReferenceIdeal m →
    θ_run (Cert.InProjXrReferenceIdeal.defs (F := Ideal)) (onTc (τ := Cert.InProjXrReferenceIdeal.τ) (Cert.InProjXrReferenceIdeal.main (F := Ideal))) ⟨m, fun _ => 0, g⟩ (fun r => (∀ c : Dev Cert.InProjXrReferenceIdeal.nD,
      r.2.mem ((c.tc : Thread Cert.InProjXrReferenceIdeal.nD Cert.InProjXrReferenceIdeal.τ).loc Cert.InProjXrReferenceIdeal.main_arg0) = m ((c.tc : Thread Cert.InProjXrReferenceIdeal.nD Cert.InProjXrReferenceIdeal.τ).loc Cert.InProjXrReferenceIdeal.main_arg0)
      ∧ r.2.mem ((c.tc : Thread Cert.InProjXrReferenceIdeal.nD Cert.InProjXrReferenceIdeal.τ).loc Cert.InProjXrReferenceIdeal.main_arg1) = m ((c.tc : Thread Cert.InProjXrReferenceIdeal.nD Cert.InProjXrReferenceIdeal.τ).loc Cert.InProjXrReferenceIdeal.main_arg1))
      ∧ r.2.sem = fun _ => 0)

def quiescent_InProjGr [hInProjGr : Cert.InProjGr.Facts] : Prop :=
  ∀ (m : (ℓ : Loc Cert.InProjGr.nD Cert.InProjGr.τ Cert.InProjGr.sig) → Buf (Elt Bits) ℓ) (g : Dev Cert.InProjGr.nD → PrngReg), Pre_InProjGr m →
    θ_run (Cert.InProjGr.defs (F := Bits)) (onTc (τ := Cert.InProjGr.τ) (Cert.InProjGr.main (F := Bits))) ⟨m, fun _ => 0, g⟩ (fun r => (∀ c : Dev Cert.InProjGr.nD,
      r.2.mem ((c.tc : Thread Cert.InProjGr.nD Cert.InProjGr.τ).loc Cert.InProjGr.main_arg0) = m ((c.tc : Thread Cert.InProjGr.nD Cert.InProjGr.τ).loc Cert.InProjGr.main_arg0)
      ∧ r.2.mem ((c.tc : Thread Cert.InProjGr.nD Cert.InProjGr.τ).loc Cert.InProjGr.main_arg1) = m ((c.tc : Thread Cert.InProjGr.nD Cert.InProjGr.τ).loc Cert.InProjGr.main_arg1))
      ∧ r.2.sem = fun _ => 0)

def quiescent_InProjGrIdeal [hInProjGrIdeal : Cert.InProjGrIdeal.Facts] : Prop :=
  ∀ (m : (ℓ : Loc Cert.InProjGrIdeal.nD Cert.InProjGrIdeal.τ Cert.InProjGrIdeal.sig) → Buf (Elt Ideal) ℓ) (g : Dev Cert.InProjGrIdeal.nD → PrngReg), Pre_InProjGrIdeal m →
    θ_run (Cert.InProjGrIdeal.defs (F := Ideal)) (onTc (τ := Cert.InProjGrIdeal.τ) (Cert.InProjGrIdeal.main (F := Ideal))) ⟨m, fun _ => 0, g⟩ (fun r => (∀ c : Dev Cert.InProjGrIdeal.nD,
      r.2.mem ((c.tc : Thread Cert.InProjGrIdeal.nD Cert.InProjGrIdeal.τ).loc Cert.InProjGrIdeal.main_arg0) = m ((c.tc : Thread Cert.InProjGrIdeal.nD Cert.InProjGrIdeal.τ).loc Cert.InProjGrIdeal.main_arg0)
      ∧ r.2.mem ((c.tc : Thread Cert.InProjGrIdeal.nD Cert.InProjGrIdeal.τ).loc Cert.InProjGrIdeal.main_arg1) = m ((c.tc : Thread Cert.InProjGrIdeal.nD Cert.InProjGrIdeal.τ).loc Cert.InProjGrIdeal.main_arg1))
      ∧ r.2.sem = fun _ => 0)

def quiescent_InProjGrReferenceIdeal [hInProjGrReferenceIdeal : Cert.InProjGrReferenceIdeal.Facts] : Prop :=
  ∀ (m : (ℓ : Loc Cert.InProjGrReferenceIdeal.nD Cert.InProjGrReferenceIdeal.τ Cert.InProjGrReferenceIdeal.sig) → Buf (Elt Ideal) ℓ) (g : Dev Cert.InProjGrReferenceIdeal.nD → PrngReg), Pre_InProjGrReferenceIdeal m →
    θ_run (Cert.InProjGrReferenceIdeal.defs (F := Ideal)) (onTc (τ := Cert.InProjGrReferenceIdeal.τ) (Cert.InProjGrReferenceIdeal.main (F := Ideal))) ⟨m, fun _ => 0, g⟩ (fun r => (∀ c : Dev Cert.InProjGrReferenceIdeal.nD,
      r.2.mem ((c.tc : Thread Cert.InProjGrReferenceIdeal.nD Cert.InProjGrReferenceIdeal.τ).loc Cert.InProjGrReferenceIdeal.main_arg0) = m ((c.tc : Thread Cert.InProjGrReferenceIdeal.nD Cert.InProjGrReferenceIdeal.τ).loc Cert.InProjGrReferenceIdeal.main_arg0)
      ∧ r.2.mem ((c.tc : Thread Cert.InProjGrReferenceIdeal.nD Cert.InProjGrReferenceIdeal.τ).loc Cert.InProjGrReferenceIdeal.main_arg1) = m ((c.tc : Thread Cert.InProjGrReferenceIdeal.nD Cert.InProjGrReferenceIdeal.τ).loc Cert.InProjGrReferenceIdeal.main_arg1))
      ∧ r.2.sem = fun _ => 0)

def quiescent_InProjGa [hInProjGa : Cert.InProjGa.Facts] : Prop :=
  ∀ (m : (ℓ : Loc Cert.InProjGa.nD Cert.InProjGa.τ Cert.InProjGa.sig) → Buf (Elt Bits) ℓ) (g : Dev Cert.InProjGa.nD → PrngReg), Pre_InProjGa m →
    θ_run (Cert.InProjGa.defs (F := Bits)) (onTc (τ := Cert.InProjGa.τ) (Cert.InProjGa.main (F := Bits))) ⟨m, fun _ => 0, g⟩ (fun r => (∀ c : Dev Cert.InProjGa.nD,
      r.2.mem ((c.tc : Thread Cert.InProjGa.nD Cert.InProjGa.τ).loc Cert.InProjGa.main_arg0) = m ((c.tc : Thread Cert.InProjGa.nD Cert.InProjGa.τ).loc Cert.InProjGa.main_arg0)
      ∧ r.2.mem ((c.tc : Thread Cert.InProjGa.nD Cert.InProjGa.τ).loc Cert.InProjGa.main_arg1) = m ((c.tc : Thread Cert.InProjGa.nD Cert.InProjGa.τ).loc Cert.InProjGa.main_arg1))
      ∧ r.2.sem = fun _ => 0)

def quiescent_InProjGaIdeal [hInProjGaIdeal : Cert.InProjGaIdeal.Facts] : Prop :=
  ∀ (m : (ℓ : Loc Cert.InProjGaIdeal.nD Cert.InProjGaIdeal.τ Cert.InProjGaIdeal.sig) → Buf (Elt Ideal) ℓ) (g : Dev Cert.InProjGaIdeal.nD → PrngReg), Pre_InProjGaIdeal m →
    θ_run (Cert.InProjGaIdeal.defs (F := Ideal)) (onTc (τ := Cert.InProjGaIdeal.τ) (Cert.InProjGaIdeal.main (F := Ideal))) ⟨m, fun _ => 0, g⟩ (fun r => (∀ c : Dev Cert.InProjGaIdeal.nD,
      r.2.mem ((c.tc : Thread Cert.InProjGaIdeal.nD Cert.InProjGaIdeal.τ).loc Cert.InProjGaIdeal.main_arg0) = m ((c.tc : Thread Cert.InProjGaIdeal.nD Cert.InProjGaIdeal.τ).loc Cert.InProjGaIdeal.main_arg0)
      ∧ r.2.mem ((c.tc : Thread Cert.InProjGaIdeal.nD Cert.InProjGaIdeal.τ).loc Cert.InProjGaIdeal.main_arg1) = m ((c.tc : Thread Cert.InProjGaIdeal.nD Cert.InProjGaIdeal.τ).loc Cert.InProjGaIdeal.main_arg1))
      ∧ r.2.sem = fun _ => 0)

def quiescent_InProjGaReferenceIdeal [hInProjGaReferenceIdeal : Cert.InProjGaReferenceIdeal.Facts] : Prop :=
  ∀ (m : (ℓ : Loc Cert.InProjGaReferenceIdeal.nD Cert.InProjGaReferenceIdeal.τ Cert.InProjGaReferenceIdeal.sig) → Buf (Elt Ideal) ℓ) (g : Dev Cert.InProjGaReferenceIdeal.nD → PrngReg), Pre_InProjGaReferenceIdeal m →
    θ_run (Cert.InProjGaReferenceIdeal.defs (F := Ideal)) (onTc (τ := Cert.InProjGaReferenceIdeal.τ) (Cert.InProjGaReferenceIdeal.main (F := Ideal))) ⟨m, fun _ => 0, g⟩ (fun r => (∀ c : Dev Cert.InProjGaReferenceIdeal.nD,
      r.2.mem ((c.tc : Thread Cert.InProjGaReferenceIdeal.nD Cert.InProjGaReferenceIdeal.τ).loc Cert.InProjGaReferenceIdeal.main_arg0) = m ((c.tc : Thread Cert.InProjGaReferenceIdeal.nD Cert.InProjGaReferenceIdeal.τ).loc Cert.InProjGaReferenceIdeal.main_arg0)
      ∧ r.2.mem ((c.tc : Thread Cert.InProjGaReferenceIdeal.nD Cert.InProjGaReferenceIdeal.τ).loc Cert.InProjGaReferenceIdeal.main_arg1) = m ((c.tc : Thread Cert.InProjGaReferenceIdeal.nD Cert.InProjGaReferenceIdeal.τ).loc Cert.InProjGaReferenceIdeal.main_arg1))
      ∧ r.2.sem = fun _ => 0)

def quiescent_InProjGb [hInProjGb : Cert.InProjGb.Facts] : Prop :=
  ∀ (m : (ℓ : Loc Cert.InProjGb.nD Cert.InProjGb.τ Cert.InProjGb.sig) → Buf (Elt Bits) ℓ) (g : Dev Cert.InProjGb.nD → PrngReg), Pre_InProjGb m →
    θ_run (Cert.InProjGb.defs (F := Bits)) (onTc (τ := Cert.InProjGb.τ) (Cert.InProjGb.main (F := Bits))) ⟨m, fun _ => 0, g⟩ (fun r => (∀ c : Dev Cert.InProjGb.nD,
      r.2.mem ((c.tc : Thread Cert.InProjGb.nD Cert.InProjGb.τ).loc Cert.InProjGb.main_arg0) = m ((c.tc : Thread Cert.InProjGb.nD Cert.InProjGb.τ).loc Cert.InProjGb.main_arg0)
      ∧ r.2.mem ((c.tc : Thread Cert.InProjGb.nD Cert.InProjGb.τ).loc Cert.InProjGb.main_arg1) = m ((c.tc : Thread Cert.InProjGb.nD Cert.InProjGb.τ).loc Cert.InProjGb.main_arg1))
      ∧ r.2.sem = fun _ => 0)

def quiescent_InProjGbIdeal [hInProjGbIdeal : Cert.InProjGbIdeal.Facts] : Prop :=
  ∀ (m : (ℓ : Loc Cert.InProjGbIdeal.nD Cert.InProjGbIdeal.τ Cert.InProjGbIdeal.sig) → Buf (Elt Ideal) ℓ) (g : Dev Cert.InProjGbIdeal.nD → PrngReg), Pre_InProjGbIdeal m →
    θ_run (Cert.InProjGbIdeal.defs (F := Ideal)) (onTc (τ := Cert.InProjGbIdeal.τ) (Cert.InProjGbIdeal.main (F := Ideal))) ⟨m, fun _ => 0, g⟩ (fun r => (∀ c : Dev Cert.InProjGbIdeal.nD,
      r.2.mem ((c.tc : Thread Cert.InProjGbIdeal.nD Cert.InProjGbIdeal.τ).loc Cert.InProjGbIdeal.main_arg0) = m ((c.tc : Thread Cert.InProjGbIdeal.nD Cert.InProjGbIdeal.τ).loc Cert.InProjGbIdeal.main_arg0)
      ∧ r.2.mem ((c.tc : Thread Cert.InProjGbIdeal.nD Cert.InProjGbIdeal.τ).loc Cert.InProjGbIdeal.main_arg1) = m ((c.tc : Thread Cert.InProjGbIdeal.nD Cert.InProjGbIdeal.τ).loc Cert.InProjGbIdeal.main_arg1))
      ∧ r.2.sem = fun _ => 0)

def quiescent_InProjGbReferenceIdeal [hInProjGbReferenceIdeal : Cert.InProjGbReferenceIdeal.Facts] : Prop :=
  ∀ (m : (ℓ : Loc Cert.InProjGbReferenceIdeal.nD Cert.InProjGbReferenceIdeal.τ Cert.InProjGbReferenceIdeal.sig) → Buf (Elt Ideal) ℓ) (g : Dev Cert.InProjGbReferenceIdeal.nD → PrngReg), Pre_InProjGbReferenceIdeal m →
    θ_run (Cert.InProjGbReferenceIdeal.defs (F := Ideal)) (onTc (τ := Cert.InProjGbReferenceIdeal.τ) (Cert.InProjGbReferenceIdeal.main (F := Ideal))) ⟨m, fun _ => 0, g⟩ (fun r => (∀ c : Dev Cert.InProjGbReferenceIdeal.nD,
      r.2.mem ((c.tc : Thread Cert.InProjGbReferenceIdeal.nD Cert.InProjGbReferenceIdeal.τ).loc Cert.InProjGbReferenceIdeal.main_arg0) = m ((c.tc : Thread Cert.InProjGbReferenceIdeal.nD Cert.InProjGbReferenceIdeal.τ).loc Cert.InProjGbReferenceIdeal.main_arg0)
      ∧ r.2.mem ((c.tc : Thread Cert.InProjGbReferenceIdeal.nD Cert.InProjGbReferenceIdeal.τ).loc Cert.InProjGbReferenceIdeal.main_arg1) = m ((c.tc : Thread Cert.InProjGbReferenceIdeal.nD Cert.InProjGbReferenceIdeal.τ).loc Cert.InProjGbReferenceIdeal.main_arg1))
      ∧ r.2.sem = fun _ => 0)

def quiescent_InProjQ [hInProjQ : Cert.InProjQ.Facts] : Prop :=
  ∀ (m : (ℓ : Loc Cert.InProjQ.nD Cert.InProjQ.τ Cert.InProjQ.sig) → Buf (Elt Bits) ℓ) (g : Dev Cert.InProjQ.nD → PrngReg), Pre_InProjQ m →
    θ_run (Cert.InProjQ.defs (F := Bits)) (onTc (τ := Cert.InProjQ.τ) (Cert.InProjQ.main (F := Bits))) ⟨m, fun _ => 0, g⟩ (fun r => (∀ c : Dev Cert.InProjQ.nD,
      r.2.mem ((c.tc : Thread Cert.InProjQ.nD Cert.InProjQ.τ).loc Cert.InProjQ.main_arg0) = m ((c.tc : Thread Cert.InProjQ.nD Cert.InProjQ.τ).loc Cert.InProjQ.main_arg0)
      ∧ r.2.mem ((c.tc : Thread Cert.InProjQ.nD Cert.InProjQ.τ).loc Cert.InProjQ.main_arg1) = m ((c.tc : Thread Cert.InProjQ.nD Cert.InProjQ.τ).loc Cert.InProjQ.main_arg1)
      ∧ r.2.mem ((c.tc : Thread Cert.InProjQ.nD Cert.InProjQ.τ).loc Cert.InProjQ.main_arg2) = m ((c.tc : Thread Cert.InProjQ.nD Cert.InProjQ.τ).loc Cert.InProjQ.main_arg2))
      ∧ r.2.sem = fun _ => 0)

def quiescent_InProjQIdeal [hInProjQIdeal : Cert.InProjQIdeal.Facts] : Prop :=
  ∀ (m : (ℓ : Loc Cert.InProjQIdeal.nD Cert.InProjQIdeal.τ Cert.InProjQIdeal.sig) → Buf (Elt Ideal) ℓ) (g : Dev Cert.InProjQIdeal.nD → PrngReg), Pre_InProjQIdeal m →
    θ_run (Cert.InProjQIdeal.defs (F := Ideal)) (onTc (τ := Cert.InProjQIdeal.τ) (Cert.InProjQIdeal.main (F := Ideal))) ⟨m, fun _ => 0, g⟩ (fun r => (∀ c : Dev Cert.InProjQIdeal.nD,
      r.2.mem ((c.tc : Thread Cert.InProjQIdeal.nD Cert.InProjQIdeal.τ).loc Cert.InProjQIdeal.main_arg0) = m ((c.tc : Thread Cert.InProjQIdeal.nD Cert.InProjQIdeal.τ).loc Cert.InProjQIdeal.main_arg0)
      ∧ r.2.mem ((c.tc : Thread Cert.InProjQIdeal.nD Cert.InProjQIdeal.τ).loc Cert.InProjQIdeal.main_arg1) = m ((c.tc : Thread Cert.InProjQIdeal.nD Cert.InProjQIdeal.τ).loc Cert.InProjQIdeal.main_arg1)
      ∧ r.2.mem ((c.tc : Thread Cert.InProjQIdeal.nD Cert.InProjQIdeal.τ).loc Cert.InProjQIdeal.main_arg2) = m ((c.tc : Thread Cert.InProjQIdeal.nD Cert.InProjQIdeal.τ).loc Cert.InProjQIdeal.main_arg2))
      ∧ r.2.sem = fun _ => 0)

def quiescent_InProjQReferenceIdeal [hInProjQReferenceIdeal : Cert.InProjQReferenceIdeal.Facts] : Prop :=
  ∀ (m : (ℓ : Loc Cert.InProjQReferenceIdeal.nD Cert.InProjQReferenceIdeal.τ Cert.InProjQReferenceIdeal.sig) → Buf (Elt Ideal) ℓ) (g : Dev Cert.InProjQReferenceIdeal.nD → PrngReg), Pre_InProjQReferenceIdeal m →
    θ_run (Cert.InProjQReferenceIdeal.defs (F := Ideal)) (onTc (τ := Cert.InProjQReferenceIdeal.τ) (Cert.InProjQReferenceIdeal.main (F := Ideal))) ⟨m, fun _ => 0, g⟩ (fun r => (∀ c : Dev Cert.InProjQReferenceIdeal.nD,
      r.2.mem ((c.tc : Thread Cert.InProjQReferenceIdeal.nD Cert.InProjQReferenceIdeal.τ).loc Cert.InProjQReferenceIdeal.main_arg0) = m ((c.tc : Thread Cert.InProjQReferenceIdeal.nD Cert.InProjQReferenceIdeal.τ).loc Cert.InProjQReferenceIdeal.main_arg0)
      ∧ r.2.mem ((c.tc : Thread Cert.InProjQReferenceIdeal.nD Cert.InProjQReferenceIdeal.τ).loc Cert.InProjQReferenceIdeal.main_arg1) = m ((c.tc : Thread Cert.InProjQReferenceIdeal.nD Cert.InProjQReferenceIdeal.τ).loc Cert.InProjQReferenceIdeal.main_arg1)
      ∧ r.2.mem ((c.tc : Thread Cert.InProjQReferenceIdeal.nD Cert.InProjQReferenceIdeal.τ).loc Cert.InProjQReferenceIdeal.main_arg2) = m ((c.tc : Thread Cert.InProjQReferenceIdeal.nD Cert.InProjQReferenceIdeal.τ).loc Cert.InProjQReferenceIdeal.main_arg2))
      ∧ r.2.sem = fun _ => 0)

def quiescent_InProjK [hInProjK : Cert.InProjK.Facts] : Prop :=
  ∀ (m : (ℓ : Loc Cert.InProjK.nD Cert.InProjK.τ Cert.InProjK.sig) → Buf (Elt Bits) ℓ) (g : Dev Cert.InProjK.nD → PrngReg), Pre_InProjK m →
    θ_run (Cert.InProjK.defs (F := Bits)) (onTc (τ := Cert.InProjK.τ) (Cert.InProjK.main (F := Bits))) ⟨m, fun _ => 0, g⟩ (fun r => (∀ c : Dev Cert.InProjK.nD,
      r.2.mem ((c.tc : Thread Cert.InProjK.nD Cert.InProjK.τ).loc Cert.InProjK.main_arg0) = m ((c.tc : Thread Cert.InProjK.nD Cert.InProjK.τ).loc Cert.InProjK.main_arg0)
      ∧ r.2.mem ((c.tc : Thread Cert.InProjK.nD Cert.InProjK.τ).loc Cert.InProjK.main_arg1) = m ((c.tc : Thread Cert.InProjK.nD Cert.InProjK.τ).loc Cert.InProjK.main_arg1)
      ∧ r.2.mem ((c.tc : Thread Cert.InProjK.nD Cert.InProjK.τ).loc Cert.InProjK.main_arg2) = m ((c.tc : Thread Cert.InProjK.nD Cert.InProjK.τ).loc Cert.InProjK.main_arg2))
      ∧ r.2.sem = fun _ => 0)

def quiescent_InProjKIdeal [hInProjKIdeal : Cert.InProjKIdeal.Facts] : Prop :=
  ∀ (m : (ℓ : Loc Cert.InProjKIdeal.nD Cert.InProjKIdeal.τ Cert.InProjKIdeal.sig) → Buf (Elt Ideal) ℓ) (g : Dev Cert.InProjKIdeal.nD → PrngReg), Pre_InProjKIdeal m →
    θ_run (Cert.InProjKIdeal.defs (F := Ideal)) (onTc (τ := Cert.InProjKIdeal.τ) (Cert.InProjKIdeal.main (F := Ideal))) ⟨m, fun _ => 0, g⟩ (fun r => (∀ c : Dev Cert.InProjKIdeal.nD,
      r.2.mem ((c.tc : Thread Cert.InProjKIdeal.nD Cert.InProjKIdeal.τ).loc Cert.InProjKIdeal.main_arg0) = m ((c.tc : Thread Cert.InProjKIdeal.nD Cert.InProjKIdeal.τ).loc Cert.InProjKIdeal.main_arg0)
      ∧ r.2.mem ((c.tc : Thread Cert.InProjKIdeal.nD Cert.InProjKIdeal.τ).loc Cert.InProjKIdeal.main_arg1) = m ((c.tc : Thread Cert.InProjKIdeal.nD Cert.InProjKIdeal.τ).loc Cert.InProjKIdeal.main_arg1)
      ∧ r.2.mem ((c.tc : Thread Cert.InProjKIdeal.nD Cert.InProjKIdeal.τ).loc Cert.InProjKIdeal.main_arg2) = m ((c.tc : Thread Cert.InProjKIdeal.nD Cert.InProjKIdeal.τ).loc Cert.InProjKIdeal.main_arg2))
      ∧ r.2.sem = fun _ => 0)

def quiescent_InProjKReferenceIdeal [hInProjKReferenceIdeal : Cert.InProjKReferenceIdeal.Facts] : Prop :=
  ∀ (m : (ℓ : Loc Cert.InProjKReferenceIdeal.nD Cert.InProjKReferenceIdeal.τ Cert.InProjKReferenceIdeal.sig) → Buf (Elt Ideal) ℓ) (g : Dev Cert.InProjKReferenceIdeal.nD → PrngReg), Pre_InProjKReferenceIdeal m →
    θ_run (Cert.InProjKReferenceIdeal.defs (F := Ideal)) (onTc (τ := Cert.InProjKReferenceIdeal.τ) (Cert.InProjKReferenceIdeal.main (F := Ideal))) ⟨m, fun _ => 0, g⟩ (fun r => (∀ c : Dev Cert.InProjKReferenceIdeal.nD,
      r.2.mem ((c.tc : Thread Cert.InProjKReferenceIdeal.nD Cert.InProjKReferenceIdeal.τ).loc Cert.InProjKReferenceIdeal.main_arg0) = m ((c.tc : Thread Cert.InProjKReferenceIdeal.nD Cert.InProjKReferenceIdeal.τ).loc Cert.InProjKReferenceIdeal.main_arg0)
      ∧ r.2.mem ((c.tc : Thread Cert.InProjKReferenceIdeal.nD Cert.InProjKReferenceIdeal.τ).loc Cert.InProjKReferenceIdeal.main_arg1) = m ((c.tc : Thread Cert.InProjKReferenceIdeal.nD Cert.InProjKReferenceIdeal.τ).loc Cert.InProjKReferenceIdeal.main_arg1)
      ∧ r.2.mem ((c.tc : Thread Cert.InProjKReferenceIdeal.nD Cert.InProjKReferenceIdeal.τ).loc Cert.InProjKReferenceIdeal.main_arg2) = m ((c.tc : Thread Cert.InProjKReferenceIdeal.nD Cert.InProjKReferenceIdeal.τ).loc Cert.InProjKReferenceIdeal.main_arg2))
      ∧ r.2.sem = fun _ => 0)

def quiescent_Rmsnorm [hRmsnorm : Cert.Rmsnorm.Facts] : Prop :=
  ∀ (m : (ℓ : Loc Cert.Rmsnorm.nD Cert.Rmsnorm.τ Cert.Rmsnorm.sig) → Buf (Elt Bits) ℓ) (g : Dev Cert.Rmsnorm.nD → PrngReg), Pre_Rmsnorm m →
    θ_run (Cert.Rmsnorm.defs (F := Bits)) (onTc (τ := Cert.Rmsnorm.τ) (Cert.Rmsnorm.main (F := Bits))) ⟨m, fun _ => 0, g⟩ (fun r => (∀ c : Dev Cert.Rmsnorm.nD,
      r.2.mem ((c.tc : Thread Cert.Rmsnorm.nD Cert.Rmsnorm.τ).loc Cert.Rmsnorm.main_arg0) = m ((c.tc : Thread Cert.Rmsnorm.nD Cert.Rmsnorm.τ).loc Cert.Rmsnorm.main_arg0)
      ∧ r.2.mem ((c.tc : Thread Cert.Rmsnorm.nD Cert.Rmsnorm.τ).loc Cert.Rmsnorm.main_arg1) = m ((c.tc : Thread Cert.Rmsnorm.nD Cert.Rmsnorm.τ).loc Cert.Rmsnorm.main_arg1))
      ∧ r.2.sem = fun _ => 0)

def quiescent_RmsnormIdeal [hRmsnormIdeal : Cert.RmsnormIdeal.Facts] : Prop :=
  ∀ (m : (ℓ : Loc Cert.RmsnormIdeal.nD Cert.RmsnormIdeal.τ Cert.RmsnormIdeal.sig) → Buf (Elt Ideal) ℓ) (g : Dev Cert.RmsnormIdeal.nD → PrngReg), Pre_RmsnormIdeal m →
    θ_run (Cert.RmsnormIdeal.defs (F := Ideal)) (onTc (τ := Cert.RmsnormIdeal.τ) (Cert.RmsnormIdeal.main (F := Ideal))) ⟨m, fun _ => 0, g⟩ (fun r => (∀ c : Dev Cert.RmsnormIdeal.nD,
      r.2.mem ((c.tc : Thread Cert.RmsnormIdeal.nD Cert.RmsnormIdeal.τ).loc Cert.RmsnormIdeal.main_arg0) = m ((c.tc : Thread Cert.RmsnormIdeal.nD Cert.RmsnormIdeal.τ).loc Cert.RmsnormIdeal.main_arg0)
      ∧ r.2.mem ((c.tc : Thread Cert.RmsnormIdeal.nD Cert.RmsnormIdeal.τ).loc Cert.RmsnormIdeal.main_arg1) = m ((c.tc : Thread Cert.RmsnormIdeal.nD Cert.RmsnormIdeal.τ).loc Cert.RmsnormIdeal.main_arg1))
      ∧ r.2.sem = fun _ => 0)

def quiescent_RmsnormReferenceIdeal [hRmsnormReferenceIdeal : Cert.RmsnormReferenceIdeal.Facts] : Prop :=
  ∀ (m : (ℓ : Loc Cert.RmsnormReferenceIdeal.nD Cert.RmsnormReferenceIdeal.τ Cert.RmsnormReferenceIdeal.sig) → Buf (Elt Ideal) ℓ) (g : Dev Cert.RmsnormReferenceIdeal.nD → PrngReg), Pre_RmsnormReferenceIdeal m →
    θ_run (Cert.RmsnormReferenceIdeal.defs (F := Ideal)) (onTc (τ := Cert.RmsnormReferenceIdeal.τ) (Cert.RmsnormReferenceIdeal.main (F := Ideal))) ⟨m, fun _ => 0, g⟩ (fun r => (∀ c : Dev Cert.RmsnormReferenceIdeal.nD,
      r.2.mem ((c.tc : Thread Cert.RmsnormReferenceIdeal.nD Cert.RmsnormReferenceIdeal.τ).loc Cert.RmsnormReferenceIdeal.main_arg0) = m ((c.tc : Thread Cert.RmsnormReferenceIdeal.nD Cert.RmsnormReferenceIdeal.τ).loc Cert.RmsnormReferenceIdeal.main_arg0)
      ∧ r.2.mem ((c.tc : Thread Cert.RmsnormReferenceIdeal.nD Cert.RmsnormReferenceIdeal.τ).loc Cert.RmsnormReferenceIdeal.main_arg1) = m ((c.tc : Thread Cert.RmsnormReferenceIdeal.nD Cert.RmsnormReferenceIdeal.τ).loc Cert.RmsnormReferenceIdeal.main_arg1))
      ∧ r.2.sem = fun _ => 0)

def quiescent_InProjKi [hInProjKi : Cert.InProjKi.Facts] : Prop :=
  ∀ (m : (ℓ : Loc Cert.InProjKi.nD Cert.InProjKi.τ Cert.InProjKi.sig) → Buf (Elt Bits) ℓ) (g : Dev Cert.InProjKi.nD → PrngReg), Pre_InProjKi m →
    θ_run (Cert.InProjKi.defs (F := Bits)) (onTc (τ := Cert.InProjKi.τ) (Cert.InProjKi.main (F := Bits))) ⟨m, fun _ => 0, g⟩ (fun r => (∀ c : Dev Cert.InProjKi.nD,
      r.2.mem ((c.tc : Thread Cert.InProjKi.nD Cert.InProjKi.τ).loc Cert.InProjKi.main_arg0) = m ((c.tc : Thread Cert.InProjKi.nD Cert.InProjKi.τ).loc Cert.InProjKi.main_arg0)
      ∧ r.2.mem ((c.tc : Thread Cert.InProjKi.nD Cert.InProjKi.τ).loc Cert.InProjKi.main_arg1) = m ((c.tc : Thread Cert.InProjKi.nD Cert.InProjKi.τ).loc Cert.InProjKi.main_arg1))
      ∧ r.2.sem = fun _ => 0)

def quiescent_InProjKiIdeal [hInProjKiIdeal : Cert.InProjKiIdeal.Facts] : Prop :=
  ∀ (m : (ℓ : Loc Cert.InProjKiIdeal.nD Cert.InProjKiIdeal.τ Cert.InProjKiIdeal.sig) → Buf (Elt Ideal) ℓ) (g : Dev Cert.InProjKiIdeal.nD → PrngReg), Pre_InProjKiIdeal m →
    θ_run (Cert.InProjKiIdeal.defs (F := Ideal)) (onTc (τ := Cert.InProjKiIdeal.τ) (Cert.InProjKiIdeal.main (F := Ideal))) ⟨m, fun _ => 0, g⟩ (fun r => (∀ c : Dev Cert.InProjKiIdeal.nD,
      r.2.mem ((c.tc : Thread Cert.InProjKiIdeal.nD Cert.InProjKiIdeal.τ).loc Cert.InProjKiIdeal.main_arg0) = m ((c.tc : Thread Cert.InProjKiIdeal.nD Cert.InProjKiIdeal.τ).loc Cert.InProjKiIdeal.main_arg0)
      ∧ r.2.mem ((c.tc : Thread Cert.InProjKiIdeal.nD Cert.InProjKiIdeal.τ).loc Cert.InProjKiIdeal.main_arg1) = m ((c.tc : Thread Cert.InProjKiIdeal.nD Cert.InProjKiIdeal.τ).loc Cert.InProjKiIdeal.main_arg1))
      ∧ r.2.sem = fun _ => 0)

def quiescent_InProjKiReferenceIdeal [hInProjKiReferenceIdeal : Cert.InProjKiReferenceIdeal.Facts] : Prop :=
  ∀ (m : (ℓ : Loc Cert.InProjKiReferenceIdeal.nD Cert.InProjKiReferenceIdeal.τ Cert.InProjKiReferenceIdeal.sig) → Buf (Elt Ideal) ℓ) (g : Dev Cert.InProjKiReferenceIdeal.nD → PrngReg), Pre_InProjKiReferenceIdeal m →
    θ_run (Cert.InProjKiReferenceIdeal.defs (F := Ideal)) (onTc (τ := Cert.InProjKiReferenceIdeal.τ) (Cert.InProjKiReferenceIdeal.main (F := Ideal))) ⟨m, fun _ => 0, g⟩ (fun r => (∀ c : Dev Cert.InProjKiReferenceIdeal.nD,
      r.2.mem ((c.tc : Thread Cert.InProjKiReferenceIdeal.nD Cert.InProjKiReferenceIdeal.τ).loc Cert.InProjKiReferenceIdeal.main_arg0) = m ((c.tc : Thread Cert.InProjKiReferenceIdeal.nD Cert.InProjKiReferenceIdeal.τ).loc Cert.InProjKiReferenceIdeal.main_arg0)
      ∧ r.2.mem ((c.tc : Thread Cert.InProjKiReferenceIdeal.nD Cert.InProjKiReferenceIdeal.τ).loc Cert.InProjKiReferenceIdeal.main_arg1) = m ((c.tc : Thread Cert.InProjKiReferenceIdeal.nD Cert.InProjKiReferenceIdeal.τ).loc Cert.InProjKiReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6))
      ∧ r.2.sem = fun _ => 0)

def preserves_Attention_AttentionIdeal : Prop :=
  IdealRules.named_const.Statement Cert.AttentionIdeal.κ "mask" .f32 0xF149F2CA#32 ⊥

def algebraic_AttentionIdeal_AttentionReferenceIdeal_pre_finite_and_some_selected [hAttentionIdeal : Cert.AttentionIdeal.Facts] [hAttentionReferenceIdeal : Cert.AttentionReferenceIdeal.Facts] [hPre_finite_and_some_selected : Cert.Pre_finite_and_some_selected.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_and_some_selected m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)
      ∧ m' ((c.tc : Thread Cert.AttentionReferenceIdeal.nD Cert.AttentionReferenceIdeal.τ).loc Cert.AttentionReferenceIdeal.main_arg6) = m ((c.tc : Thread Cert.AttentionIdeal.nD Cert.AttentionIdeal.τ).loc Cert.AttentionIdeal.main_arg6)
      ∧ m' ((c.tc : Thread Cert.AttentionReferenceIdeal.nD Cert.AttentionReferenceIdeal.τ).loc Cert.AttentionReferenceIdeal.main_arg7) = m ((c.tc : Thread Cert.AttentionIdeal.nD Cert.AttentionIdeal.τ).loc Cert.AttentionIdeal.main_arg7)) →
    ∃ (v0 : (c : Dev Cert.AttentionIdeal.nD) → Buf (Elt Ideal) ((c.tc : Thread Cert.AttentionIdeal.nD Cert.AttentionIdeal.τ).loc Cert.AttentionIdeal.main_v30)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v30) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v37) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5)
          ∧ r.2.mem ((c.tc : Thread Cert.AttentionReferenceIdeal.nD Cert.AttentionReferenceIdeal.τ).loc Cert.AttentionReferenceIdeal.main_arg6) = m' ((c.tc : Thread Cert.AttentionReferenceIdeal.nD Cert.AttentionReferenceIdeal.τ).loc Cert.AttentionReferenceIdeal.main_arg6)
          ∧ r.2.mem ((c.tc : Thread Cert.AttentionReferenceIdeal.nD Cert.AttentionReferenceIdeal.τ).loc Cert.AttentionReferenceIdeal.main_arg7) = m' ((c.tc : Thread Cert.AttentionReferenceIdeal.nD Cert.AttentionReferenceIdeal.τ).loc Cert.AttentionReferenceIdeal.main_arg7))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v5) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_OutMerged_OutMergedIdeal : Prop :=
  True

def algebraic_OutMergedIdeal_OutMergedReferenceIdeal [hOutMergedIdeal : Cert.OutMergedIdeal.Facts] [hOutMergedReferenceIdeal : Cert.OutMergedReferenceIdeal.Facts] : Prop :=
  ∀ (m : (ℓ : Loc Cert.OutMergedIdeal.nD Cert.OutMergedIdeal.τ Cert.OutMergedIdeal.sig) → Buf (Elt Ideal) ℓ) (g : Dev Cert.OutMergedIdeal.nD → PrngReg)
    (m' : (ℓ : Loc Cert.OutMergedReferenceIdeal.nD Cert.OutMergedReferenceIdeal.τ Cert.OutMergedReferenceIdeal.sig) → Buf (Elt Ideal) ℓ) (g' : Dev Cert.OutMergedReferenceIdeal.nD → PrngReg), Pre_OutMergedIdeal m →
    (∀ c : Dev Cert.OutMergedIdeal.nD,
      m' ((c.tc : Thread Cert.OutMergedReferenceIdeal.nD Cert.OutMergedReferenceIdeal.τ).loc Cert.OutMergedReferenceIdeal.main_arg0) = m ((c.tc : Thread Cert.OutMergedIdeal.nD Cert.OutMergedIdeal.τ).loc Cert.OutMergedIdeal.main_arg0)
      ∧ m' ((c.tc : Thread Cert.OutMergedReferenceIdeal.nD Cert.OutMergedReferenceIdeal.τ).loc Cert.OutMergedReferenceIdeal.main_arg1) = m ((c.tc : Thread Cert.OutMergedIdeal.nD Cert.OutMergedIdeal.τ).loc Cert.OutMergedIdeal.main_arg1)
      ∧ m' ((c.tc : Thread Cert.OutMergedReferenceIdeal.nD Cert.OutMergedReferenceIdeal.τ).loc Cert.OutMergedReferenceIdeal.main_arg2) = m ((c.tc : Thread Cert.OutMergedIdeal.nD Cert.OutMergedIdeal.τ).loc Cert.OutMergedIdeal.main_arg2)) →
    ∃ (v0 : (c : Dev Cert.OutMergedIdeal.nD) → Buf (Elt Ideal) ((c.tc : Thread Cert.OutMergedIdeal.nD Cert.OutMergedIdeal.τ).loc Cert.OutMergedIdeal.main_v1)),
      θ_run (Cert.OutMergedIdeal.defs (F := Ideal)) (onTc (τ := Cert.OutMergedIdeal.τ) (Cert.OutMergedIdeal.main (F := Ideal))) ⟨m, fun _ => 0, g⟩ (fun r => ∀ c : Dev Cert.OutMergedIdeal.nD,
          r.2.mem ((c.tc : Thread Cert.OutMergedIdeal.nD Cert.OutMergedIdeal.τ).loc Cert.OutMergedIdeal.main_v1) = v0 c
          ∧ r.2.mem ((c.tc : Thread Cert.OutMergedIdeal.nD Cert.OutMergedIdeal.τ).loc Cert.OutMergedIdeal.main_arg0) = m ((c.tc : Thread Cert.OutMergedIdeal.nD Cert.OutMergedIdeal.τ).loc Cert.OutMergedIdeal.main_arg0)
          ∧ r.2.mem ((c.tc : Thread Cert.OutMergedIdeal.nD Cert.OutMergedIdeal.τ).loc Cert.OutMergedIdeal.main_arg1) = m ((c.tc : Thread Cert.OutMergedIdeal.nD Cert.OutMergedIdeal.τ).loc Cert.OutMergedIdeal.main_arg1)
          ∧ r.2.mem ((c.tc : Thread Cert.OutMergedIdeal.nD Cert.OutMergedIdeal.τ).loc Cert.OutMergedIdeal.main_arg2) = m ((c.tc : Thread Cert.OutMergedIdeal.nD Cert.OutMergedIdeal.τ).loc Cert.OutMergedIdeal.main_arg2))
      ∧ θ_run (Cert.OutMergedReferenceIdeal.defs (F := Ideal)) (onTc (τ := Cert.OutMergedReferenceIdeal.τ) (Cert.OutMergedReferenceIdeal.main (F := Ideal))) ⟨m', fun _ => 0, g'⟩ (fun r => ∀ c : Dev Cert.OutMergedReferenceIdeal.nD,
          r.2.mem ((c.tc : Thread Cert.OutMergedReferenceIdeal.nD Cert.OutMergedReferenceIdeal.τ).loc Cert.OutMergedReferenceIdeal.main_v2) = v0 c
          ∧ r.2.mem ((c.tc : Thread Cert.OutMergedReferenceIdeal.nD Cert.OutMergedReferenceIdeal.τ).loc Cert.OutMergedReferenceIdeal.main_arg0) = m' ((c.tc : Thread Cert.OutMergedReferenceIdeal.nD Cert.OutMergedReferenceIdeal.τ).loc Cert.OutMergedReferenceIdeal.main_arg0)
          ∧ r.2.mem ((c.tc : Thread Cert.OutMergedReferenceIdeal.nD Cert.OutMergedReferenceIdeal.τ).loc Cert.OutMergedReferenceIdeal.main_arg1) = m' ((c.tc : Thread Cert.OutMergedReferenceIdeal.nD Cert.OutMergedReferenceIdeal.τ).loc Cert.OutMergedReferenceIdeal.main_arg1)
          ∧ r.2.mem ((c.tc : Thread Cert.OutMergedReferenceIdeal.nD Cert.OutMergedReferenceIdeal.τ).loc Cert.OutMergedReferenceIdeal.main_arg2) = m' ((c.tc : Thread Cert.OutMergedReferenceIdeal.nD Cert.OutMergedReferenceIdeal.τ).loc Cert.OutMergedReferenceIdeal.main_arg2))

def preserves_OutAttn_OutAttnIdeal : Prop :=
  True

def algebraic_OutAttnIdeal_OutAttnReferenceIdeal [hOutAttnIdeal : Cert.OutAttnIdeal.Facts] [hOutAttnReferenceIdeal : Cert.OutAttnReferenceIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg)
    (m' : (ℓ : Loc Cert.OutAttnReferenceIdeal.nD Cert.OutAttnReferenceIdeal.τ Cert.OutAttnReferenceIdeal.sig) → Buf (Elt Ideal) ℓ) (g' : Dev Cert.OutAttnReferenceIdeal.nD → PrngReg), Pre_OutAttnIdeal m →
    (∀ c : Dev Cert.OutAttnIdeal.nD,
      m' ((c.tc : Thread Cert.OutAttnReferenceIdeal.nD Cert.OutAttnReferenceIdeal.τ).loc Cert.OutAttnReferenceIdeal.main_arg0) = m ((c.tc : Thread Cert.OutAttnIdeal.nD Cert.OutAttnIdeal.τ).loc Cert.OutAttnIdeal.main_arg0)
      ∧ m' ((c.tc : Thread Cert.OutAttnReferenceIdeal.nD Cert.OutAttnReferenceIdeal.τ).loc Cert.OutAttnReferenceIdeal.main_arg1) = m ((c.tc : Thread Cert.OutAttnIdeal.nD Cert.OutAttnIdeal.τ).loc Cert.OutAttnIdeal.main_arg1)
      ∧ m' ((c.tc : Thread Cert.OutAttnReferenceIdeal.nD Cert.OutAttnReferenceIdeal.τ).loc Cert.OutAttnReferenceIdeal.main_arg2) = m ((c.tc : Thread Cert.OutAttnIdeal.nD Cert.OutAttnIdeal.τ).loc Cert.OutAttnIdeal.main_arg2)) →
    ∃ (v0 : (c : Dev Cert.OutAttnIdeal.nD) → Buf (Elt Ideal) ((c.tc : Thread Cert.OutAttnIdeal.nD Cert.OutAttnIdeal.τ).loc Cert.OutAttnIdeal.main_v1)),
      θ_run (Cert.OutAttnIdeal.defs (F := Ideal)) (onTc (τ := Cert.OutAttnIdeal.τ) (Cert.OutAttnIdeal.main (F := Ideal))) ⟨m, fun _ => 0, g⟩ (fun r => ∀ c : Dev Cert.OutAttnIdeal.nD,
          r.2.mem ((c.tc : Thread Cert.OutAttnIdeal.nD Cert.OutAttnIdeal.τ).loc Cert.OutAttnIdeal.main_v1) = v0 c
          ∧ r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
          ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1)
          ∧ r.2.mem ((c.tc : Thread Cert.OutAttnIdeal.nD Cert.OutAttnIdeal.τ).loc Cert.OutAttnIdeal.main_arg2) = m ((c.tc : Thread Cert.OutAttnIdeal.nD Cert.OutAttnIdeal.τ).loc Cert.OutAttnIdeal.main_arg2))
      ∧ θ_run (Cert.OutAttnReferenceIdeal.defs (F := Ideal)) (onTc (τ := Cert.OutAttnReferenceIdeal.τ) (Cert.OutAttnReferenceIdeal.main (F := Ideal))) ⟨m', fun _ => 0, g'⟩ (fun r => ∀ c : Dev Cert.OutAttnReferenceIdeal.nD,
          r.2.mem ((c.tc : Thread Cert.OutAttnReferenceIdeal.nD Cert.OutAttnReferenceIdeal.τ).loc Cert.OutAttnReferenceIdeal.main_v8) = v0 c
          ∧ r.2.mem ((c.tc : Thread Cert.OutAttnReferenceIdeal.nD Cert.OutAttnReferenceIdeal.τ).loc Cert.OutAttnReferenceIdeal.main_arg0) = m' ((c.tc : Thread Cert.OutAttnReferenceIdeal.nD Cert.OutAttnReferenceIdeal.τ).loc Cert.OutAttnReferenceIdeal.main_arg0)
          ∧ r.2.mem ((c.tc : Thread Cert.OutAttnReferenceIdeal.nD Cert.OutAttnReferenceIdeal.τ).loc Cert.OutAttnReferenceIdeal.main_arg1) = m' ((c.tc : Thread Cert.OutAttnReferenceIdeal.nD Cert.OutAttnReferenceIdeal.τ).loc Cert.OutAttnReferenceIdeal.main_arg1)
          ∧ r.2.mem ((c.tc : Thread Cert.OutAttnReferenceIdeal.nD Cert.OutAttnReferenceIdeal.τ).loc Cert.OutAttnReferenceIdeal.main_arg2) = m' ((c.tc : Thread Cert.OutAttnReferenceIdeal.nD Cert.OutAttnReferenceIdeal.τ).loc Cert.OutAttnReferenceIdeal.main_arg2))

def preserves_OutRg_OutRgIdeal : Prop :=
  True

def algebraic_OutRgIdeal_OutRgReferenceIdeal [hOutRgIdeal : Cert.OutRgIdeal.Facts] [hOutRgReferenceIdeal : Cert.OutRgReferenceIdeal.Facts] : Prop :=
  ∀ (m : (ℓ : Loc Cert.OutRgIdeal.nD Cert.OutRgIdeal.τ Cert.OutRgIdeal.sig) → Buf (Elt Ideal) ℓ) (g : Dev Cert.OutRgIdeal.nD → PrngReg)
    (m' : (ℓ : Loc Cert.OutRgReferenceIdeal.nD Cert.OutRgReferenceIdeal.τ Cert.OutRgReferenceIdeal.sig) → Buf (Elt Ideal) ℓ) (g' : Dev Cert.OutRgReferenceIdeal.nD → PrngReg), Pre_OutRgIdeal m →
    (∀ c : Dev Cert.OutRgIdeal.nD,
      m' ((c.tc : Thread Cert.OutRgReferenceIdeal.nD Cert.OutRgReferenceIdeal.τ).loc Cert.OutRgReferenceIdeal.main_arg0) = m ((c.tc : Thread Cert.OutRgIdeal.nD Cert.OutRgIdeal.τ).loc Cert.OutRgIdeal.main_arg0)
      ∧ m' ((c.tc : Thread Cert.OutRgReferenceIdeal.nD Cert.OutRgReferenceIdeal.τ).loc Cert.OutRgReferenceIdeal.main_arg1) = m ((c.tc : Thread Cert.OutRgIdeal.nD Cert.OutRgIdeal.τ).loc Cert.OutRgIdeal.main_arg1)
      ∧ m' ((c.tc : Thread Cert.OutRgReferenceIdeal.nD Cert.OutRgReferenceIdeal.τ).loc Cert.OutRgReferenceIdeal.main_arg2) = m ((c.tc : Thread Cert.OutRgIdeal.nD Cert.OutRgIdeal.τ).loc Cert.OutRgIdeal.main_arg2)
      ∧ m' ((c.tc : Thread Cert.OutRgReferenceIdeal.nD Cert.OutRgReferenceIdeal.τ).loc Cert.OutRgReferenceIdeal.main_arg3) = m ((c.tc : Thread Cert.OutRgIdeal.nD Cert.OutRgIdeal.τ).loc Cert.OutRgIdeal.main_arg3)) →
    ∃ (v0 : (c : Dev Cert.OutRgIdeal.nD) → Buf (Elt Ideal) ((c.tc : Thread Cert.OutRgIdeal.nD Cert.OutRgIdeal.τ).loc Cert.OutRgIdeal.main_v1)),
      θ_run (Cert.OutRgIdeal.defs (F := Ideal)) (onTc (τ := Cert.OutRgIdeal.τ) (Cert.OutRgIdeal.main (F := Ideal))) ⟨m, fun _ => 0, g⟩ (fun r => ∀ c : Dev Cert.OutRgIdeal.nD,
          r.2.mem ((c.tc : Thread Cert.OutRgIdeal.nD Cert.OutRgIdeal.τ).loc Cert.OutRgIdeal.main_v1) = v0 c
          ∧ r.2.mem ((c.tc : Thread Cert.OutRgIdeal.nD Cert.OutRgIdeal.τ).loc Cert.OutRgIdeal.main_arg0) = m ((c.tc : Thread Cert.OutRgIdeal.nD Cert.OutRgIdeal.τ).loc Cert.OutRgIdeal.main_arg0)
          ∧ r.2.mem ((c.tc : Thread Cert.OutRgIdeal.nD Cert.OutRgIdeal.τ).loc Cert.OutRgIdeal.main_arg1) = m ((c.tc : Thread Cert.OutRgIdeal.nD Cert.OutRgIdeal.τ).loc Cert.OutRgIdeal.main_arg1)
          ∧ r.2.mem ((c.tc : Thread Cert.OutRgIdeal.nD Cert.OutRgIdeal.τ).loc Cert.OutRgIdeal.main_arg2) = m ((c.tc : Thread Cert.OutRgIdeal.nD Cert.OutRgIdeal.τ).loc Cert.OutRgIdeal.main_arg2)
          ∧ r.2.mem ((c.tc : Thread Cert.OutRgIdeal.nD Cert.OutRgIdeal.τ).loc Cert.OutRgIdeal.main_arg3) = m ((c.tc : Thread Cert.OutRgIdeal.nD Cert.OutRgIdeal.τ).loc Cert.OutRgIdeal.main_arg3))
      ∧ θ_run (Cert.OutRgReferenceIdeal.defs (F := Ideal)) (onTc (τ := Cert.OutRgReferenceIdeal.τ) (Cert.OutRgReferenceIdeal.main (F := Ideal))) ⟨m', fun _ => 0, g'⟩ (fun r => ∀ c : Dev Cert.OutRgReferenceIdeal.nD,
          r.2.mem ((c.tc : Thread Cert.OutRgReferenceIdeal.nD Cert.OutRgReferenceIdeal.τ).loc Cert.OutRgReferenceIdeal.main_v10) = v0 c
          ∧ r.2.mem ((c.tc : Thread Cert.OutRgReferenceIdeal.nD Cert.OutRgReferenceIdeal.τ).loc Cert.OutRgReferenceIdeal.main_arg0) = m' ((c.tc : Thread Cert.OutRgReferenceIdeal.nD Cert.OutRgReferenceIdeal.τ).loc Cert.OutRgReferenceIdeal.main_arg0)
          ∧ r.2.mem ((c.tc : Thread Cert.OutRgReferenceIdeal.nD Cert.OutRgReferenceIdeal.τ).loc Cert.OutRgReferenceIdeal.main_arg1) = m' ((c.tc : Thread Cert.OutRgReferenceIdeal.nD Cert.OutRgReferenceIdeal.τ).loc Cert.OutRgReferenceIdeal.main_arg1)
          ∧ r.2.mem ((c.tc : Thread Cert.OutRgReferenceIdeal.nD Cert.OutRgReferenceIdeal.τ).loc Cert.OutRgReferenceIdeal.main_arg2) = m' ((c.tc : Thread Cert.OutRgReferenceIdeal.nD Cert.OutRgReferenceIdeal.τ).loc Cert.OutRgReferenceIdeal.main_arg2)
          ∧ r.2.mem ((c.tc : Thread Cert.OutRgReferenceIdeal.nD Cert.OutRgReferenceIdeal.τ).loc Cert.OutRgReferenceIdeal.main_arg3) = m' ((c.tc : Thread Cert.OutRgReferenceIdeal.nD Cert.OutRgReferenceIdeal.τ).loc Cert.OutRgReferenceIdeal.main_arg3))

def preserves_InProjV_InProjVIdeal : Prop :=
  True

def algebraic_InProjVIdeal_InProjVReferenceIdeal [hInProjVIdeal : Cert.InProjVIdeal.Facts] [hInProjVReferenceIdeal : Cert.InProjVReferenceIdeal.Facts] : Prop :=
  ∀ (m : (ℓ : Loc Cert.InProjVIdeal.nD Cert.InProjVIdeal.τ Cert.InProjVIdeal.sig) → Buf (Elt Ideal) ℓ) (g : Dev Cert.InProjVIdeal.nD → PrngReg)
    (m' : (ℓ : Loc Cert.InProjVReferenceIdeal.nD Cert.InProjVReferenceIdeal.τ Cert.InProjVReferenceIdeal.sig) → Buf (Elt Ideal) ℓ) (g' : Dev Cert.InProjVReferenceIdeal.nD → PrngReg), Pre_InProjVIdeal m →
    (∀ c : Dev Cert.InProjVIdeal.nD,
      m' ((c.tc : Thread Cert.InProjVReferenceIdeal.nD Cert.InProjVReferenceIdeal.τ).loc Cert.InProjVReferenceIdeal.main_arg0) = m ((c.tc : Thread Cert.InProjVIdeal.nD Cert.InProjVIdeal.τ).loc Cert.InProjVIdeal.main_arg0)
      ∧ m' ((c.tc : Thread Cert.InProjVReferenceIdeal.nD Cert.InProjVReferenceIdeal.τ).loc Cert.InProjVReferenceIdeal.main_arg1) = m ((c.tc : Thread Cert.InProjVIdeal.nD Cert.InProjVIdeal.τ).loc Cert.InProjVIdeal.main_arg1)) →
    ∃ (v0 : (c : Dev Cert.InProjVIdeal.nD) → Buf (Elt Ideal) ((c.tc : Thread Cert.InProjVIdeal.nD Cert.InProjVIdeal.τ).loc Cert.InProjVIdeal.main_v2)),
      θ_run (Cert.InProjVIdeal.defs (F := Ideal)) (onTc (τ := Cert.InProjVIdeal.τ) (Cert.InProjVIdeal.main (F := Ideal))) ⟨m, fun _ => 0, g⟩ (fun r => ∀ c : Dev Cert.InProjVIdeal.nD,
          r.2.mem ((c.tc : Thread Cert.InProjVIdeal.nD Cert.InProjVIdeal.τ).loc Cert.InProjVIdeal.main_v2) = v0 c
          ∧ r.2.mem ((c.tc : Thread Cert.InProjVIdeal.nD Cert.InProjVIdeal.τ).loc Cert.InProjVIdeal.main_arg0) = m ((c.tc : Thread Cert.InProjVIdeal.nD Cert.InProjVIdeal.τ).loc Cert.InProjVIdeal.main_arg0)
          ∧ r.2.mem ((c.tc : Thread Cert.InProjVIdeal.nD Cert.InProjVIdeal.τ).loc Cert.InProjVIdeal.main_arg1) = m ((c.tc : Thread Cert.InProjVIdeal.nD Cert.InProjVIdeal.τ).loc Cert.InProjVIdeal.main_arg1))
      ∧ θ_run (Cert.InProjVReferenceIdeal.defs (F := Ideal)) (onTc (τ := Cert.InProjVReferenceIdeal.τ) (Cert.InProjVReferenceIdeal.main (F := Ideal))) ⟨m', fun _ => 0, g'⟩ (fun r => ∀ c : Dev Cert.InProjVReferenceIdeal.nD,
          r.2.mem ((c.tc : Thread Cert.InProjVReferenceIdeal.nD Cert.InProjVReferenceIdeal.τ).loc Cert.InProjVReferenceIdeal.main_v2) = v0 c
          ∧ r.2.mem ((c.tc : Thread Cert.InProjVReferenceIdeal.nD Cert.InProjVReferenceIdeal.τ).loc Cert.InProjVReferenceIdeal.main_arg0) = m' ((c.tc : Thread Cert.InProjVReferenceIdeal.nD Cert.InProjVReferenceIdeal.τ).loc Cert.InProjVReferenceIdeal.main_arg0)
          ∧ r.2.mem ((c.tc : Thread Cert.InProjVReferenceIdeal.nD Cert.InProjVReferenceIdeal.τ).loc Cert.InProjVReferenceIdeal.main_arg1) = m' ((c.tc : Thread Cert.InProjVReferenceIdeal.nD Cert.InProjVReferenceIdeal.τ).loc Cert.InProjVReferenceIdeal.main_arg1))

def preserves_InProjQi_InProjQiIdeal : Prop :=
  True

def algebraic_InProjQiIdeal_InProjQiReferenceIdeal [hInProjQiIdeal : Cert.InProjQiIdeal.Facts] [hInProjQiReferenceIdeal : Cert.InProjQiReferenceIdeal.Facts] : Prop :=
  ∀ (m : (ℓ : Loc Cert.InProjQiIdeal.nD Cert.InProjQiIdeal.τ Cert.InProjQiIdeal.sig) → Buf (Elt Ideal) ℓ) (g : Dev Cert.InProjQiIdeal.nD → PrngReg)
    (m' : (ℓ : Loc Cert.InProjQiReferenceIdeal.nD Cert.InProjQiReferenceIdeal.τ Cert.InProjQiReferenceIdeal.sig) → Buf (Elt Ideal) ℓ) (g' : Dev Cert.InProjQiReferenceIdeal.nD → PrngReg), Pre_InProjQiIdeal m →
    (∀ c : Dev Cert.InProjQiIdeal.nD,
      m' ((c.tc : Thread Cert.InProjQiReferenceIdeal.nD Cert.InProjQiReferenceIdeal.τ).loc Cert.InProjQiReferenceIdeal.main_arg0) = m ((c.tc : Thread Cert.InProjQiIdeal.nD Cert.InProjQiIdeal.τ).loc Cert.InProjQiIdeal.main_arg0)
      ∧ m' ((c.tc : Thread Cert.InProjQiReferenceIdeal.nD Cert.InProjQiReferenceIdeal.τ).loc Cert.InProjQiReferenceIdeal.main_arg1) = m ((c.tc : Thread Cert.InProjQiIdeal.nD Cert.InProjQiIdeal.τ).loc Cert.InProjQiIdeal.main_arg1)) →
    ∃ (v0 : (c : Dev Cert.InProjQiIdeal.nD) → Buf (Elt Ideal) ((c.tc : Thread Cert.InProjQiIdeal.nD Cert.InProjQiIdeal.τ).loc Cert.InProjQiIdeal.main_v2)),
      θ_run (Cert.InProjQiIdeal.defs (F := Ideal)) (onTc (τ := Cert.InProjQiIdeal.τ) (Cert.InProjQiIdeal.main (F := Ideal))) ⟨m, fun _ => 0, g⟩ (fun r => ∀ c : Dev Cert.InProjQiIdeal.nD,
          r.2.mem ((c.tc : Thread Cert.InProjQiIdeal.nD Cert.InProjQiIdeal.τ).loc Cert.InProjQiIdeal.main_v2) = v0 c
          ∧ r.2.mem ((c.tc : Thread Cert.InProjQiIdeal.nD Cert.InProjQiIdeal.τ).loc Cert.InProjQiIdeal.main_arg0) = m ((c.tc : Thread Cert.InProjQiIdeal.nD Cert.InProjQiIdeal.τ).loc Cert.InProjQiIdeal.main_arg0)
          ∧ r.2.mem ((c.tc : Thread Cert.InProjQiIdeal.nD Cert.InProjQiIdeal.τ).loc Cert.InProjQiIdeal.main_arg1) = m ((c.tc : Thread Cert.InProjQiIdeal.nD Cert.InProjQiIdeal.τ).loc Cert.InProjQiIdeal.main_arg1))
      ∧ θ_run (Cert.InProjQiReferenceIdeal.defs (F := Ideal)) (onTc (τ := Cert.InProjQiReferenceIdeal.τ) (Cert.InProjQiReferenceIdeal.main (F := Ideal))) ⟨m', fun _ => 0, g'⟩ (fun r => ∀ c : Dev Cert.InProjQiReferenceIdeal.nD,
          r.2.mem ((c.tc : Thread Cert.InProjQiReferenceIdeal.nD Cert.InProjQiReferenceIdeal.τ).loc Cert.InProjQiReferenceIdeal.main_v3) = v0 c
          ∧ r.2.mem ((c.tc : Thread Cert.InProjQiReferenceIdeal.nD Cert.InProjQiReferenceIdeal.τ).loc Cert.InProjQiReferenceIdeal.main_arg0) = m' ((c.tc : Thread Cert.InProjQiReferenceIdeal.nD Cert.InProjQiReferenceIdeal.τ).loc Cert.InProjQiReferenceIdeal.main_arg0)
          ∧ r.2.mem ((c.tc : Thread Cert.InProjQiReferenceIdeal.nD Cert.InProjQiReferenceIdeal.τ).loc Cert.InProjQiReferenceIdeal.main_arg1) = m' ((c.tc : Thread Cert.InProjQiReferenceIdeal.nD Cert.InProjQiReferenceIdeal.τ).loc Cert.InProjQiReferenceIdeal.main_arg1))

def preserves_InProjXr_InProjXrIdeal : Prop :=
  True

def algebraic_InProjXrIdeal_InProjXrReferenceIdeal [hInProjXrIdeal : Cert.InProjXrIdeal.Facts] [hInProjXrReferenceIdeal : Cert.InProjXrReferenceIdeal.Facts] : Prop :=
  ∀ (m : (ℓ : Loc Cert.InProjXrIdeal.nD Cert.InProjXrIdeal.τ Cert.InProjXrIdeal.sig) → Buf (Elt Ideal) ℓ) (g : Dev Cert.InProjXrIdeal.nD → PrngReg)
    (m' : (ℓ : Loc Cert.InProjXrReferenceIdeal.nD Cert.InProjXrReferenceIdeal.τ Cert.InProjXrReferenceIdeal.sig) → Buf (Elt Ideal) ℓ) (g' : Dev Cert.InProjXrReferenceIdeal.nD → PrngReg), Pre_InProjXrIdeal m →
    (∀ c : Dev Cert.InProjXrIdeal.nD,
      m' ((c.tc : Thread Cert.InProjXrReferenceIdeal.nD Cert.InProjXrReferenceIdeal.τ).loc Cert.InProjXrReferenceIdeal.main_arg0) = m ((c.tc : Thread Cert.InProjXrIdeal.nD Cert.InProjXrIdeal.τ).loc Cert.InProjXrIdeal.main_arg0)
      ∧ m' ((c.tc : Thread Cert.InProjXrReferenceIdeal.nD Cert.InProjXrReferenceIdeal.τ).loc Cert.InProjXrReferenceIdeal.main_arg1) = m ((c.tc : Thread Cert.InProjXrIdeal.nD Cert.InProjXrIdeal.τ).loc Cert.InProjXrIdeal.main_arg1)) →
    ∃ (v0 : (c : Dev Cert.InProjXrIdeal.nD) → Buf (Elt Ideal) ((c.tc : Thread Cert.InProjXrIdeal.nD Cert.InProjXrIdeal.τ).loc Cert.InProjXrIdeal.main_v2)),
      θ_run (Cert.InProjXrIdeal.defs (F := Ideal)) (onTc (τ := Cert.InProjXrIdeal.τ) (Cert.InProjXrIdeal.main (F := Ideal))) ⟨m, fun _ => 0, g⟩ (fun r => ∀ c : Dev Cert.InProjXrIdeal.nD,
          r.2.mem ((c.tc : Thread Cert.InProjXrIdeal.nD Cert.InProjXrIdeal.τ).loc Cert.InProjXrIdeal.main_v2) = v0 c
          ∧ r.2.mem ((c.tc : Thread Cert.InProjXrIdeal.nD Cert.InProjXrIdeal.τ).loc Cert.InProjXrIdeal.main_arg0) = m ((c.tc : Thread Cert.InProjXrIdeal.nD Cert.InProjXrIdeal.τ).loc Cert.InProjXrIdeal.main_arg0)
          ∧ r.2.mem ((c.tc : Thread Cert.InProjXrIdeal.nD Cert.InProjXrIdeal.τ).loc Cert.InProjXrIdeal.main_arg1) = m ((c.tc : Thread Cert.InProjXrIdeal.nD Cert.InProjXrIdeal.τ).loc Cert.InProjXrIdeal.main_arg1))
      ∧ θ_run (Cert.InProjXrReferenceIdeal.defs (F := Ideal)) (onTc (τ := Cert.InProjXrReferenceIdeal.τ) (Cert.InProjXrReferenceIdeal.main (F := Ideal))) ⟨m', fun _ => 0, g'⟩ (fun r => ∀ c : Dev Cert.InProjXrReferenceIdeal.nD,
          r.2.mem ((c.tc : Thread Cert.InProjXrReferenceIdeal.nD Cert.InProjXrReferenceIdeal.τ).loc Cert.InProjXrReferenceIdeal.main_v2) = v0 c
          ∧ r.2.mem ((c.tc : Thread Cert.InProjXrReferenceIdeal.nD Cert.InProjXrReferenceIdeal.τ).loc Cert.InProjXrReferenceIdeal.main_arg0) = m' ((c.tc : Thread Cert.InProjXrReferenceIdeal.nD Cert.InProjXrReferenceIdeal.τ).loc Cert.InProjXrReferenceIdeal.main_arg0)
          ∧ r.2.mem ((c.tc : Thread Cert.InProjXrReferenceIdeal.nD Cert.InProjXrReferenceIdeal.τ).loc Cert.InProjXrReferenceIdeal.main_arg1) = m' ((c.tc : Thread Cert.InProjXrReferenceIdeal.nD Cert.InProjXrReferenceIdeal.τ).loc Cert.InProjXrReferenceIdeal.main_arg1))

def preserves_InProjGr_InProjGrIdeal : Prop :=
  True

def algebraic_InProjGrIdeal_InProjGrReferenceIdeal [hInProjGrIdeal : Cert.InProjGrIdeal.Facts] [hInProjGrReferenceIdeal : Cert.InProjGrReferenceIdeal.Facts] : Prop :=
  ∀ (m : (ℓ : Loc Cert.InProjGrIdeal.nD Cert.InProjGrIdeal.τ Cert.InProjGrIdeal.sig) → Buf (Elt Ideal) ℓ) (g : Dev Cert.InProjGrIdeal.nD → PrngReg)
    (m' : (ℓ : Loc Cert.InProjGrReferenceIdeal.nD Cert.InProjGrReferenceIdeal.τ Cert.InProjGrReferenceIdeal.sig) → Buf (Elt Ideal) ℓ) (g' : Dev Cert.InProjGrReferenceIdeal.nD → PrngReg), Pre_InProjGrIdeal m →
    (∀ c : Dev Cert.InProjGrIdeal.nD,
      m' ((c.tc : Thread Cert.InProjGrReferenceIdeal.nD Cert.InProjGrReferenceIdeal.τ).loc Cert.InProjGrReferenceIdeal.main_arg0) = m ((c.tc : Thread Cert.InProjGrIdeal.nD Cert.InProjGrIdeal.τ).loc Cert.InProjGrIdeal.main_arg0)
      ∧ m' ((c.tc : Thread Cert.InProjGrReferenceIdeal.nD Cert.InProjGrReferenceIdeal.τ).loc Cert.InProjGrReferenceIdeal.main_arg1) = m ((c.tc : Thread Cert.InProjGrIdeal.nD Cert.InProjGrIdeal.τ).loc Cert.InProjGrIdeal.main_arg1)) →
    ∃ (v0 : (c : Dev Cert.InProjGrIdeal.nD) → Buf (Elt Ideal) ((c.tc : Thread Cert.InProjGrIdeal.nD Cert.InProjGrIdeal.τ).loc Cert.InProjGrIdeal.main_v2)),
      θ_run (Cert.InProjGrIdeal.defs (F := Ideal)) (onTc (τ := Cert.InProjGrIdeal.τ) (Cert.InProjGrIdeal.main (F := Ideal))) ⟨m, fun _ => 0, g⟩ (fun r => ∀ c : Dev Cert.InProjGrIdeal.nD,
          r.2.mem ((c.tc : Thread Cert.InProjGrIdeal.nD Cert.InProjGrIdeal.τ).loc Cert.InProjGrIdeal.main_v2) = v0 c
          ∧ r.2.mem ((c.tc : Thread Cert.InProjGrIdeal.nD Cert.InProjGrIdeal.τ).loc Cert.InProjGrIdeal.main_arg0) = m ((c.tc : Thread Cert.InProjGrIdeal.nD Cert.InProjGrIdeal.τ).loc Cert.InProjGrIdeal.main_arg0)
          ∧ r.2.mem ((c.tc : Thread Cert.InProjGrIdeal.nD Cert.InProjGrIdeal.τ).loc Cert.InProjGrIdeal.main_arg1) = m ((c.tc : Thread Cert.InProjGrIdeal.nD Cert.InProjGrIdeal.τ).loc Cert.InProjGrIdeal.main_arg1))
      ∧ θ_run (Cert.InProjGrReferenceIdeal.defs (F := Ideal)) (onTc (τ := Cert.InProjGrReferenceIdeal.τ) (Cert.InProjGrReferenceIdeal.main (F := Ideal))) ⟨m', fun _ => 0, g'⟩ (fun r => ∀ c : Dev Cert.InProjGrReferenceIdeal.nD,
          r.2.mem ((c.tc : Thread Cert.InProjGrReferenceIdeal.nD Cert.InProjGrReferenceIdeal.τ).loc Cert.InProjGrReferenceIdeal.main_v2) = v0 c
          ∧ r.2.mem ((c.tc : Thread Cert.InProjGrReferenceIdeal.nD Cert.InProjGrReferenceIdeal.τ).loc Cert.InProjGrReferenceIdeal.main_arg0) = m' ((c.tc : Thread Cert.InProjGrReferenceIdeal.nD Cert.InProjGrReferenceIdeal.τ).loc Cert.InProjGrReferenceIdeal.main_arg0)
          ∧ r.2.mem ((c.tc : Thread Cert.InProjGrReferenceIdeal.nD Cert.InProjGrReferenceIdeal.τ).loc Cert.InProjGrReferenceIdeal.main_arg1) = m' ((c.tc : Thread Cert.InProjGrReferenceIdeal.nD Cert.InProjGrReferenceIdeal.τ).loc Cert.InProjGrReferenceIdeal.main_arg1))

def preserves_InProjGa_InProjGaIdeal : Prop :=
  True

def algebraic_InProjGaIdeal_InProjGaReferenceIdeal [hInProjGaIdeal : Cert.InProjGaIdeal.Facts] [hInProjGaReferenceIdeal : Cert.InProjGaReferenceIdeal.Facts] : Prop :=
  ∀ (m : (ℓ : Loc Cert.InProjGaIdeal.nD Cert.InProjGaIdeal.τ Cert.InProjGaIdeal.sig) → Buf (Elt Ideal) ℓ) (g : Dev Cert.InProjGaIdeal.nD → PrngReg)
    (m' : (ℓ : Loc Cert.InProjGaReferenceIdeal.nD Cert.InProjGaReferenceIdeal.τ Cert.InProjGaReferenceIdeal.sig) → Buf (Elt Ideal) ℓ) (g' : Dev Cert.InProjGaReferenceIdeal.nD → PrngReg), Pre_InProjGaIdeal m →
    (∀ c : Dev Cert.InProjGaIdeal.nD,
      m' ((c.tc : Thread Cert.InProjGaReferenceIdeal.nD Cert.InProjGaReferenceIdeal.τ).loc Cert.InProjGaReferenceIdeal.main_arg0) = m ((c.tc : Thread Cert.InProjGaIdeal.nD Cert.InProjGaIdeal.τ).loc Cert.InProjGaIdeal.main_arg0)
      ∧ m' ((c.tc : Thread Cert.InProjGaReferenceIdeal.nD Cert.InProjGaReferenceIdeal.τ).loc Cert.InProjGaReferenceIdeal.main_arg1) = m ((c.tc : Thread Cert.InProjGaIdeal.nD Cert.InProjGaIdeal.τ).loc Cert.InProjGaIdeal.main_arg1)) →
    ∃ (v0 : (c : Dev Cert.InProjGaIdeal.nD) → Buf (Elt Ideal) ((c.tc : Thread Cert.InProjGaIdeal.nD Cert.InProjGaIdeal.τ).loc Cert.InProjGaIdeal.main_v2)),
      θ_run (Cert.InProjGaIdeal.defs (F := Ideal)) (onTc (τ := Cert.InProjGaIdeal.τ) (Cert.InProjGaIdeal.main (F := Ideal))) ⟨m, fun _ => 0, g⟩ (fun r => ∀ c : Dev Cert.InProjGaIdeal.nD,
          r.2.mem ((c.tc : Thread Cert.InProjGaIdeal.nD Cert.InProjGaIdeal.τ).loc Cert.InProjGaIdeal.main_v2) = v0 c
          ∧ r.2.mem ((c.tc : Thread Cert.InProjGaIdeal.nD Cert.InProjGaIdeal.τ).loc Cert.InProjGaIdeal.main_arg0) = m ((c.tc : Thread Cert.InProjGaIdeal.nD Cert.InProjGaIdeal.τ).loc Cert.InProjGaIdeal.main_arg0)
          ∧ r.2.mem ((c.tc : Thread Cert.InProjGaIdeal.nD Cert.InProjGaIdeal.τ).loc Cert.InProjGaIdeal.main_arg1) = m ((c.tc : Thread Cert.InProjGaIdeal.nD Cert.InProjGaIdeal.τ).loc Cert.InProjGaIdeal.main_arg1))
      ∧ θ_run (Cert.InProjGaReferenceIdeal.defs (F := Ideal)) (onTc (τ := Cert.InProjGaReferenceIdeal.τ) (Cert.InProjGaReferenceIdeal.main (F := Ideal))) ⟨m', fun _ => 0, g'⟩ (fun r => ∀ c : Dev Cert.InProjGaReferenceIdeal.nD,
          r.2.mem ((c.tc : Thread Cert.InProjGaReferenceIdeal.nD Cert.InProjGaReferenceIdeal.τ).loc Cert.InProjGaReferenceIdeal.main_v2) = v0 c
          ∧ r.2.mem ((c.tc : Thread Cert.InProjGaReferenceIdeal.nD Cert.InProjGaReferenceIdeal.τ).loc Cert.InProjGaReferenceIdeal.main_arg0) = m' ((c.tc : Thread Cert.InProjGaReferenceIdeal.nD Cert.InProjGaReferenceIdeal.τ).loc Cert.InProjGaReferenceIdeal.main_arg0)
          ∧ r.2.mem ((c.tc : Thread Cert.InProjGaReferenceIdeal.nD Cert.InProjGaReferenceIdeal.τ).loc Cert.InProjGaReferenceIdeal.main_arg1) = m' ((c.tc : Thread Cert.InProjGaReferenceIdeal.nD Cert.InProjGaReferenceIdeal.τ).loc Cert.InProjGaReferenceIdeal.main_arg1))

def preserves_InProjGb_InProjGbIdeal : Prop :=
  True

def algebraic_InProjGbIdeal_InProjGbReferenceIdeal [hInProjGbIdeal : Cert.InProjGbIdeal.Facts] [hInProjGbReferenceIdeal : Cert.InProjGbReferenceIdeal.Facts] : Prop :=
  ∀ (m : (ℓ : Loc Cert.InProjGbIdeal.nD Cert.InProjGbIdeal.τ Cert.InProjGbIdeal.sig) → Buf (Elt Ideal) ℓ) (g : Dev Cert.InProjGbIdeal.nD → PrngReg)
    (m' : (ℓ : Loc Cert.InProjGbReferenceIdeal.nD Cert.InProjGbReferenceIdeal.τ Cert.InProjGbReferenceIdeal.sig) → Buf (Elt Ideal) ℓ) (g' : Dev Cert.InProjGbReferenceIdeal.nD → PrngReg), Pre_InProjGbIdeal m →
    (∀ c : Dev Cert.InProjGbIdeal.nD,
      m' ((c.tc : Thread Cert.InProjGbReferenceIdeal.nD Cert.InProjGbReferenceIdeal.τ).loc Cert.InProjGbReferenceIdeal.main_arg0) = m ((c.tc : Thread Cert.InProjGbIdeal.nD Cert.InProjGbIdeal.τ).loc Cert.InProjGbIdeal.main_arg0)
      ∧ m' ((c.tc : Thread Cert.InProjGbReferenceIdeal.nD Cert.InProjGbReferenceIdeal.τ).loc Cert.InProjGbReferenceIdeal.main_arg1) = m ((c.tc : Thread Cert.InProjGbIdeal.nD Cert.InProjGbIdeal.τ).loc Cert.InProjGbIdeal.main_arg1)) →
    ∃ (v0 : (c : Dev Cert.InProjGbIdeal.nD) → Buf (Elt Ideal) ((c.tc : Thread Cert.InProjGbIdeal.nD Cert.InProjGbIdeal.τ).loc Cert.InProjGbIdeal.main_v2)),
      θ_run (Cert.InProjGbIdeal.defs (F := Ideal)) (onTc (τ := Cert.InProjGbIdeal.τ) (Cert.InProjGbIdeal.main (F := Ideal))) ⟨m, fun _ => 0, g⟩ (fun r => ∀ c : Dev Cert.InProjGbIdeal.nD,
          r.2.mem ((c.tc : Thread Cert.InProjGbIdeal.nD Cert.InProjGbIdeal.τ).loc Cert.InProjGbIdeal.main_v2) = v0 c
          ∧ r.2.mem ((c.tc : Thread Cert.InProjGbIdeal.nD Cert.InProjGbIdeal.τ).loc Cert.InProjGbIdeal.main_arg0) = m ((c.tc : Thread Cert.InProjGbIdeal.nD Cert.InProjGbIdeal.τ).loc Cert.InProjGbIdeal.main_arg0)
          ∧ r.2.mem ((c.tc : Thread Cert.InProjGbIdeal.nD Cert.InProjGbIdeal.τ).loc Cert.InProjGbIdeal.main_arg1) = m ((c.tc : Thread Cert.InProjGbIdeal.nD Cert.InProjGbIdeal.τ).loc Cert.InProjGbIdeal.main_arg1))
      ∧ θ_run (Cert.InProjGbReferenceIdeal.defs (F := Ideal)) (onTc (τ := Cert.InProjGbReferenceIdeal.τ) (Cert.InProjGbReferenceIdeal.main (F := Ideal))) ⟨m', fun _ => 0, g'⟩ (fun r => ∀ c : Dev Cert.InProjGbReferenceIdeal.nD,
          r.2.mem ((c.tc : Thread Cert.InProjGbReferenceIdeal.nD Cert.InProjGbReferenceIdeal.τ).loc Cert.InProjGbReferenceIdeal.main_v2) = v0 c
          ∧ r.2.mem ((c.tc : Thread Cert.InProjGbReferenceIdeal.nD Cert.InProjGbReferenceIdeal.τ).loc Cert.InProjGbReferenceIdeal.main_arg0) = m' ((c.tc : Thread Cert.InProjGbReferenceIdeal.nD Cert.InProjGbReferenceIdeal.τ).loc Cert.InProjGbReferenceIdeal.main_arg0)
          ∧ r.2.mem ((c.tc : Thread Cert.InProjGbReferenceIdeal.nD Cert.InProjGbReferenceIdeal.τ).loc Cert.InProjGbReferenceIdeal.main_arg1) = m' ((c.tc : Thread Cert.InProjGbReferenceIdeal.nD Cert.InProjGbReferenceIdeal.τ).loc Cert.InProjGbReferenceIdeal.main_arg1))

def preserves_InProjQ_InProjQIdeal : Prop :=
  True

def algebraic_InProjQIdeal_InProjQReferenceIdeal [hInProjQIdeal : Cert.InProjQIdeal.Facts] [hInProjQReferenceIdeal : Cert.InProjQReferenceIdeal.Facts] : Prop :=
  ∀ (m : (ℓ : Loc Cert.InProjQIdeal.nD Cert.InProjQIdeal.τ Cert.InProjQIdeal.sig) → Buf (Elt Ideal) ℓ) (g : Dev Cert.InProjQIdeal.nD → PrngReg)
    (m' : (ℓ : Loc Cert.InProjQReferenceIdeal.nD Cert.InProjQReferenceIdeal.τ Cert.InProjQReferenceIdeal.sig) → Buf (Elt Ideal) ℓ) (g' : Dev Cert.InProjQReferenceIdeal.nD → PrngReg), Pre_InProjQIdeal m →
    (∀ c : Dev Cert.InProjQIdeal.nD,
      m' ((c.tc : Thread Cert.InProjQReferenceIdeal.nD Cert.InProjQReferenceIdeal.τ).loc Cert.InProjQReferenceIdeal.main_arg0) = m ((c.tc : Thread Cert.InProjQIdeal.nD Cert.InProjQIdeal.τ).loc Cert.InProjQIdeal.main_arg0)
      ∧ m' ((c.tc : Thread Cert.InProjQReferenceIdeal.nD Cert.InProjQReferenceIdeal.τ).loc Cert.InProjQReferenceIdeal.main_arg1) = m ((c.tc : Thread Cert.InProjQIdeal.nD Cert.InProjQIdeal.τ).loc Cert.InProjQIdeal.main_arg1)
      ∧ m' ((c.tc : Thread Cert.InProjQReferenceIdeal.nD Cert.InProjQReferenceIdeal.τ).loc Cert.InProjQReferenceIdeal.main_arg2) = m ((c.tc : Thread Cert.InProjQIdeal.nD Cert.InProjQIdeal.τ).loc Cert.InProjQIdeal.main_arg2)) →
    ∃ (v0 : (c : Dev Cert.InProjQIdeal.nD) → Buf (Elt Ideal) ((c.tc : Thread Cert.InProjQIdeal.nD Cert.InProjQIdeal.τ).loc Cert.InProjQIdeal.main_v6)),
      θ_run (Cert.InProjQIdeal.defs (F := Ideal)) (onTc (τ := Cert.InProjQIdeal.τ) (Cert.InProjQIdeal.main (F := Ideal))) ⟨m, fun _ => 0, g⟩ (fun r => ∀ c : Dev Cert.InProjQIdeal.nD,
          r.2.mem ((c.tc : Thread Cert.InProjQIdeal.nD Cert.InProjQIdeal.τ).loc Cert.InProjQIdeal.main_v6) = v0 c
          ∧ r.2.mem ((c.tc : Thread Cert.InProjQIdeal.nD Cert.InProjQIdeal.τ).loc Cert.InProjQIdeal.main_arg0) = m ((c.tc : Thread Cert.InProjQIdeal.nD Cert.InProjQIdeal.τ).loc Cert.InProjQIdeal.main_arg0)
          ∧ r.2.mem ((c.tc : Thread Cert.InProjQIdeal.nD Cert.InProjQIdeal.τ).loc Cert.InProjQIdeal.main_arg1) = m ((c.tc : Thread Cert.InProjQIdeal.nD Cert.InProjQIdeal.τ).loc Cert.InProjQIdeal.main_arg1)
          ∧ r.2.mem ((c.tc : Thread Cert.InProjQIdeal.nD Cert.InProjQIdeal.τ).loc Cert.InProjQIdeal.main_arg2) = m ((c.tc : Thread Cert.InProjQIdeal.nD Cert.InProjQIdeal.τ).loc Cert.InProjQIdeal.main_arg2))
      ∧ θ_run (Cert.InProjQReferenceIdeal.defs (F := Ideal)) (onTc (τ := Cert.InProjQReferenceIdeal.τ) (Cert.InProjQReferenceIdeal.main (F := Ideal))) ⟨m', fun _ => 0, g'⟩ (fun r => ∀ c : Dev Cert.InProjQReferenceIdeal.nD,
          r.2.mem ((c.tc : Thread Cert.InProjQReferenceIdeal.nD Cert.InProjQReferenceIdeal.τ).loc Cert.InProjQReferenceIdeal.main_v18) = v0 c
          ∧ r.2.mem ((c.tc : Thread Cert.InProjQReferenceIdeal.nD Cert.InProjQReferenceIdeal.τ).loc Cert.InProjQReferenceIdeal.main_arg0) = m' ((c.tc : Thread Cert.InProjQReferenceIdeal.nD Cert.InProjQReferenceIdeal.τ).loc Cert.InProjQReferenceIdeal.main_arg0)
          ∧ r.2.mem ((c.tc : Thread Cert.InProjQReferenceIdeal.nD Cert.InProjQReferenceIdeal.τ).loc Cert.InProjQReferenceIdeal.main_arg1) = m' ((c.tc : Thread Cert.InProjQReferenceIdeal.nD Cert.InProjQReferenceIdeal.τ).loc Cert.InProjQReferenceIdeal.main_arg1)
          ∧ r.2.mem ((c.tc : Thread Cert.InProjQReferenceIdeal.nD Cert.InProjQReferenceIdeal.τ).loc Cert.InProjQReferenceIdeal.main_arg2) = m' ((c.tc : Thread Cert.InProjQReferenceIdeal.nD Cert.InProjQReferenceIdeal.τ).loc Cert.InProjQReferenceIdeal.main_arg2))

def preserves_InProjK_InProjKIdeal : Prop :=
  True

def algebraic_InProjKIdeal_InProjKReferenceIdeal [hInProjKIdeal : Cert.InProjKIdeal.Facts] [hInProjKReferenceIdeal : Cert.InProjKReferenceIdeal.Facts] : Prop :=
  ∀ (m : (ℓ : Loc Cert.InProjKIdeal.nD Cert.InProjKIdeal.τ Cert.InProjKIdeal.sig) → Buf (Elt Ideal) ℓ) (g : Dev Cert.InProjKIdeal.nD → PrngReg)
    (m' : (ℓ : Loc Cert.InProjKReferenceIdeal.nD Cert.InProjKReferenceIdeal.τ Cert.InProjKReferenceIdeal.sig) → Buf (Elt Ideal) ℓ) (g' : Dev Cert.InProjKReferenceIdeal.nD → PrngReg), Pre_InProjKIdeal m →
    (∀ c : Dev Cert.InProjKIdeal.nD,
      m' ((c.tc : Thread Cert.InProjKReferenceIdeal.nD Cert.InProjKReferenceIdeal.τ).loc Cert.InProjKReferenceIdeal.main_arg0) = m ((c.tc : Thread Cert.InProjKIdeal.nD Cert.InProjKIdeal.τ).loc Cert.InProjKIdeal.main_arg0)
      ∧ m' ((c.tc : Thread Cert.InProjKReferenceIdeal.nD Cert.InProjKReferenceIdeal.τ).loc Cert.InProjKReferenceIdeal.main_arg1) = m ((c.tc : Thread Cert.InProjKIdeal.nD Cert.InProjKIdeal.τ).loc Cert.InProjKIdeal.main_arg1)
      ∧ m' ((c.tc : Thread Cert.InProjKReferenceIdeal.nD Cert.InProjKReferenceIdeal.τ).loc Cert.InProjKReferenceIdeal.main_arg2) = m ((c.tc : Thread Cert.InProjKIdeal.nD Cert.InProjKIdeal.τ).loc Cert.InProjKIdeal.main_arg2)) →
    ∃ (v0 : (c : Dev Cert.InProjKIdeal.nD) → Buf (Elt Ideal) ((c.tc : Thread Cert.InProjKIdeal.nD Cert.InProjKIdeal.τ).loc Cert.InProjKIdeal.main_v6)),
      θ_run (Cert.InProjKIdeal.defs (F := Ideal)) (onTc (τ := Cert.InProjKIdeal.τ) (Cert.InProjKIdeal.main (F := Ideal))) ⟨m, fun _ => 0, g⟩ (fun r => ∀ c : Dev Cert.InProjKIdeal.nD,
          r.2.mem ((c.tc : Thread Cert.InProjKIdeal.nD Cert.InProjKIdeal.τ).loc Cert.InProjKIdeal.main_v6) = v0 c
          ∧ r.2.mem ((c.tc : Thread Cert.InProjKIdeal.nD Cert.InProjKIdeal.τ).loc Cert.InProjKIdeal.main_arg0) = m ((c.tc : Thread Cert.InProjKIdeal.nD Cert.InProjKIdeal.τ).loc Cert.InProjKIdeal.main_arg0)
          ∧ r.2.mem ((c.tc : Thread Cert.InProjKIdeal.nD Cert.InProjKIdeal.τ).loc Cert.InProjKIdeal.main_arg1) = m ((c.tc : Thread Cert.InProjKIdeal.nD Cert.InProjKIdeal.τ).loc Cert.InProjKIdeal.main_arg1)
          ∧ r.2.mem ((c.tc : Thread Cert.InProjKIdeal.nD Cert.InProjKIdeal.τ).loc Cert.InProjKIdeal.main_arg2) = m ((c.tc : Thread Cert.InProjKIdeal.nD Cert.InProjKIdeal.τ).loc Cert.InProjKIdeal.main_arg2))
      ∧ θ_run (Cert.InProjKReferenceIdeal.defs (F := Ideal)) (onTc (τ := Cert.InProjKReferenceIdeal.τ) (Cert.InProjKReferenceIdeal.main (F := Ideal))) ⟨m', fun _ => 0, g'⟩ (fun r => ∀ c : Dev Cert.InProjKReferenceIdeal.nD,
          r.2.mem ((c.tc : Thread Cert.InProjKReferenceIdeal.nD Cert.InProjKReferenceIdeal.τ).loc Cert.InProjKReferenceIdeal.main_v17) = v0 c
          ∧ r.2.mem ((c.tc : Thread Cert.InProjKReferenceIdeal.nD Cert.InProjKReferenceIdeal.τ).loc Cert.InProjKReferenceIdeal.main_arg0) = m' ((c.tc : Thread Cert.InProjKReferenceIdeal.nD Cert.InProjKReferenceIdeal.τ).loc Cert.InProjKReferenceIdeal.main_arg0)
          ∧ r.2.mem ((c.tc : Thread Cert.InProjKReferenceIdeal.nD Cert.InProjKReferenceIdeal.τ).loc Cert.InProjKReferenceIdeal.main_arg1) = m' ((c.tc : Thread Cert.InProjKReferenceIdeal.nD Cert.InProjKReferenceIdeal.τ).loc Cert.InProjKReferenceIdeal.main_arg1)
          ∧ r.2.mem ((c.tc : Thread Cert.InProjKReferenceIdeal.nD Cert.InProjKReferenceIdeal.τ).loc Cert.InProjKReferenceIdeal.main_arg2) = m' ((c.tc : Thread Cert.InProjKReferenceIdeal.nD Cert.InProjKReferenceIdeal.τ).loc Cert.InProjKReferenceIdeal.main_arg2))

def preserves_Rmsnorm_RmsnormIdeal : Prop :=
  True

def algebraic_RmsnormIdeal_RmsnormReferenceIdeal [hRmsnormIdeal : Cert.RmsnormIdeal.Facts] [hRmsnormReferenceIdeal : Cert.RmsnormReferenceIdeal.Facts] : Prop :=
  ∀ (m : (ℓ : Loc Cert.RmsnormIdeal.nD Cert.RmsnormIdeal.τ Cert.RmsnormIdeal.sig) → Buf (Elt Ideal) ℓ) (g : Dev Cert.RmsnormIdeal.nD → PrngReg)
    (m' : (ℓ : Loc Cert.RmsnormReferenceIdeal.nD Cert.RmsnormReferenceIdeal.τ Cert.RmsnormReferenceIdeal.sig) → Buf (Elt Ideal) ℓ) (g' : Dev Cert.RmsnormReferenceIdeal.nD → PrngReg), Pre_RmsnormIdeal m →
    (∀ c : Dev Cert.RmsnormIdeal.nD,
      m' ((c.tc : Thread Cert.RmsnormReferenceIdeal.nD Cert.RmsnormReferenceIdeal.τ).loc Cert.RmsnormReferenceIdeal.main_arg0) = m ((c.tc : Thread Cert.RmsnormIdeal.nD Cert.RmsnormIdeal.τ).loc Cert.RmsnormIdeal.main_arg0)
      ∧ m' ((c.tc : Thread Cert.RmsnormReferenceIdeal.nD Cert.RmsnormReferenceIdeal.τ).loc Cert.RmsnormReferenceIdeal.main_arg1) = m ((c.tc : Thread Cert.RmsnormIdeal.nD Cert.RmsnormIdeal.τ).loc Cert.RmsnormIdeal.main_arg1)) →
    ∃ (v0 : (c : Dev Cert.RmsnormIdeal.nD) → Buf (Elt Ideal) ((c.tc : Thread Cert.RmsnormIdeal.nD Cert.RmsnormIdeal.τ).loc Cert.RmsnormIdeal.main_v1)),
      θ_run (Cert.RmsnormIdeal.defs (F := Ideal)) (onTc (τ := Cert.RmsnormIdeal.τ) (Cert.RmsnormIdeal.main (F := Ideal))) ⟨m, fun _ => 0, g⟩ (fun r => ∀ c : Dev Cert.RmsnormIdeal.nD,
          r.2.mem ((c.tc : Thread Cert.RmsnormIdeal.nD Cert.RmsnormIdeal.τ).loc Cert.RmsnormIdeal.main_v1) = v0 c
          ∧ r.2.mem ((c.tc : Thread Cert.RmsnormIdeal.nD Cert.RmsnormIdeal.τ).loc Cert.RmsnormIdeal.main_arg0) = m ((c.tc : Thread Cert.RmsnormIdeal.nD Cert.RmsnormIdeal.τ).loc Cert.RmsnormIdeal.main_arg0)
          ∧ r.2.mem ((c.tc : Thread Cert.RmsnormIdeal.nD Cert.RmsnormIdeal.τ).loc Cert.RmsnormIdeal.main_arg1) = m ((c.tc : Thread Cert.RmsnormIdeal.nD Cert.RmsnormIdeal.τ).loc Cert.RmsnormIdeal.main_arg1))
      ∧ θ_run (Cert.RmsnormReferenceIdeal.defs (F := Ideal)) (onTc (τ := Cert.RmsnormReferenceIdeal.τ) (Cert.RmsnormReferenceIdeal.main (F := Ideal))) ⟨m', fun _ => 0, g'⟩ (fun r => ∀ c : Dev Cert.RmsnormReferenceIdeal.nD,
          r.2.mem ((c.tc : Thread Cert.RmsnormReferenceIdeal.nD Cert.RmsnormReferenceIdeal.τ).loc Cert.RmsnormReferenceIdeal.main_v13) = v0 c
          ∧ r.2.mem ((c.tc : Thread Cert.RmsnormReferenceIdeal.nD Cert.RmsnormReferenceIdeal.τ).loc Cert.RmsnormReferenceIdeal.main_arg0) = m' ((c.tc : Thread Cert.RmsnormReferenceIdeal.nD Cert.RmsnormReferenceIdeal.τ).loc Cert.RmsnormReferenceIdeal.main_arg0)
          ∧ r.2.mem ((c.tc : Thread Cert.RmsnormReferenceIdeal.nD Cert.RmsnormReferenceIdeal.τ).loc Cert.RmsnormReferenceIdeal.main_arg1) = m' ((c.tc : Thread Cert.RmsnormReferenceIdeal.nD Cert.RmsnormReferenceIdeal.τ).loc Cert.RmsnormReferenceIdeal.main_arg1))

def preserves_InProjKi_InProjKiIdeal : Prop :=
  True

def algebraic_InProjKiIdeal_InProjKiReferenceIdeal [hInProjKiIdeal : Cert.InProjKiIdeal.Facts] [hInProjKiReferenceIdeal : Cert.InProjKiReferenceIdeal.Facts] : Prop :=
  ∀ (m : (ℓ : Loc Cert.InProjKiIdeal.nD Cert.InProjKiIdeal.τ Cert.InProjKiIdeal.sig) → Buf (Elt Ideal) ℓ) (g : Dev Cert.InProjKiIdeal.nD → PrngReg)
    (m' : (ℓ : Loc Cert.InProjKiReferenceIdeal.nD Cert.InProjKiReferenceIdeal.τ Cert.InProjKiReferenceIdeal.sig) → Buf (Elt Ideal) ℓ) (g' : Dev Cert.InProjKiReferenceIdeal.nD → PrngReg), Pre_InProjKiIdeal m →
    (∀ c : Dev Cert.InProjKiIdeal.nD,
      m' ((c.tc : Thread Cert.InProjKiReferenceIdeal.nD Cert.InProjKiReferenceIdeal.τ).loc Cert.InProjKiReferenceIdeal.main_arg0) = m ((c.tc : Thread Cert.InProjKiIdeal.nD Cert.InProjKiIdeal.τ).loc Cert.InProjKiIdeal.main_arg0)
      ∧ m' ((c.tc : Thread Cert.InProjKiReferenceIdeal.nD Cert.InProjKiReferenceIdeal.τ).loc Cert.InProjKiReferenceIdeal.main_arg1) = m ((c.tc : Thread Cert.InProjKiIdeal.nD Cert.InProjKiIdeal.τ).loc Cert.InProjKiIdeal.main_arg1)) →
    ∃ (v0 : (c : Dev Cert.InProjKiIdeal.nD) → Buf (Elt Ideal) ((c.tc : Thread Cert.InProjKiIdeal.nD Cert.InProjKiIdeal.τ).loc Cert.InProjKiIdeal.main_v3)),
      θ_run (Cert.InProjKiIdeal.defs (F := Ideal)) (onTc (τ := Cert.InProjKiIdeal.τ) (Cert.InProjKiIdeal.main (F := Ideal))) ⟨m, fun _ => 0, g⟩ (fun r => ∀ c : Dev Cert.InProjKiIdeal.nD,
          r.2.mem ((c.tc : Thread Cert.InProjKiIdeal.nD Cert.InProjKiIdeal.τ).loc Cert.InProjKiIdeal.main_v3) = v0 c
          ∧ r.2.mem ((c.tc : Thread Cert.InProjKiIdeal.nD Cert.InProjKiIdeal.τ).loc Cert.InProjKiIdeal.main_arg0) = m ((c.tc : Thread Cert.InProjKiIdeal.nD Cert.InProjKiIdeal.τ).loc Cert.InProjKiIdeal.main_arg0)
          ∧ r.2.mem ((c.tc : Thread Cert.InProjKiIdeal.nD Cert.InProjKiIdeal.τ).loc Cert.InProjKiIdeal.main_arg1) = m ((c.tc : Thread Cert.InProjKiIdeal.nD Cert.InProjKiIdeal.τ).loc Cert.InProjKiIdeal.main_arg1))
      ∧ θ_run (Cert.InProjKiReferenceIdeal.defs (F := Ideal)) (onTc (τ := Cert.InProjKiReferenceIdeal.τ) (Cert.InProjKiReferenceIdeal.main (F := Ideal))) ⟨m', fun _ => 0, g'⟩ (fun r => ∀ c : Dev Cert.InProjKiReferenceIdeal.nD,
          r.2.mem ((c.tc : Thread Cert.InProjKiReferenceIdeal.nD Cert.InProjKiReferenceIdeal.τ).loc Cert.InProjKiReferenceIdeal.main_v7) = v0 c
          ∧ r.2.mem ((c.tc : Thread Cert.InProjKiReferenceIdeal.nD Cert.InProjKiReferenceIdeal.τ).loc Cert.InProjKiReferenceIdeal.main_arg0) = m' ((c.tc : Thread Cert.InProjKiReferenceIdeal.nD Cert.InProjKiReferenceIdeal.τ).loc Cert.InProjKiReferenceIdeal.main_arg0)
          ∧ r.2.mem ((c.tc : Thread Cert.InProjKiReferenceIdeal.nD Cert.InProjKiReferenceIdeal.τ).loc Cert.InProjKiReferenceIdeal.main_arg1) = m' ((c.tc : Thread Cert.InProjKiReferenceIdeal.nD Cert.InProjKiReferenceIdeal.τ).loc Cert.InProjKiReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v32) = v0 c
          ∧ r.2.mem ((c.tc : Thread Cert.ConvReferenceIdeal.nD Cert.ConvReferenceIdeal.τ).loc Cert.ConvReferenceIdeal.main_v33) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)
      ∧ m' ((c.tc : Thread Cert.GatesReferenceIdeal.nD Cert.GatesReferenceIdeal.τ).loc Cert.GatesReferenceIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v161_0)) (v1 : (c : Dev Cert.GatesIdeal.nD) → Buf (Elt Ideal) ((c.tc : Thread Cert.GatesIdeal.nD Cert.GatesIdeal.τ).loc Cert.GatesIdeal.main_v161_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v161_0) = v0 c
          ∧ r.2.mem ((c.tc : Thread Cert.GatesIdeal.nD Cert.GatesIdeal.τ).loc Cert.GatesIdeal.main_v161_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v33) = v0 c
          ∧ r.2.mem ((c.tc : Thread Cert.GatesReferenceIdeal.nD Cert.GatesReferenceIdeal.τ).loc Cert.GatesReferenceIdeal.main_v40) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6))

def Claim : Prop :=
  ∃ (hAttention : Cert.Attention.Facts) (hAttentionIdeal : Cert.AttentionIdeal.Facts) (hAttentionReferenceIdeal : Cert.AttentionReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hOutMerged : Cert.OutMerged.Facts) (hOutMergedIdeal : Cert.OutMergedIdeal.Facts) (hOutMergedReferenceIdeal : Cert.OutMergedReferenceIdeal.Facts) (hOutAttn : Cert.OutAttn.Facts) (hOutAttnIdeal : Cert.OutAttnIdeal.Facts) (hOutAttnReferenceIdeal : Cert.OutAttnReferenceIdeal.Facts) (hOutRg : Cert.OutRg.Facts) (hOutRgIdeal : Cert.OutRgIdeal.Facts) (hOutRgReferenceIdeal : Cert.OutRgReferenceIdeal.Facts) (hInProjV : Cert.InProjV.Facts) (hInProjVIdeal : Cert.InProjVIdeal.Facts) (hInProjVReferenceIdeal : Cert.InProjVReferenceIdeal.Facts) (hInProjQi : Cert.InProjQi.Facts) (hInProjQiIdeal : Cert.InProjQiIdeal.Facts) (hInProjQiReferenceIdeal : Cert.InProjQiReferenceIdeal.Facts) (hInProjXr : Cert.InProjXr.Facts) (hInProjXrIdeal : Cert.InProjXrIdeal.Facts) (hInProjXrReferenceIdeal : Cert.InProjXrReferenceIdeal.Facts) (hInProjGr : Cert.InProjGr.Facts) (hInProjGrIdeal : Cert.InProjGrIdeal.Facts) (hInProjGrReferenceIdeal : Cert.InProjGrReferenceIdeal.Facts) (hInProjGa : Cert.InProjGa.Facts) (hInProjGaIdeal : Cert.InProjGaIdeal.Facts) (hInProjGaReferenceIdeal : Cert.InProjGaReferenceIdeal.Facts) (hInProjGb : Cert.InProjGb.Facts) (hInProjGbIdeal : Cert.InProjGbIdeal.Facts) (hInProjGbReferenceIdeal : Cert.InProjGbReferenceIdeal.Facts) (hInProjQ : Cert.InProjQ.Facts) (hInProjQIdeal : Cert.InProjQIdeal.Facts) (hInProjQReferenceIdeal : Cert.InProjQReferenceIdeal.Facts) (hInProjK : Cert.InProjK.Facts) (hInProjKIdeal : Cert.InProjKIdeal.Facts) (hInProjKReferenceIdeal : Cert.InProjKReferenceIdeal.Facts) (hRmsnorm : Cert.Rmsnorm.Facts) (hRmsnormIdeal : Cert.RmsnormIdeal.Facts) (hRmsnormReferenceIdeal : Cert.RmsnormReferenceIdeal.Facts) (hInProjKi : Cert.InProjKi.Facts) (hInProjKiIdeal : Cert.InProjKiIdeal.Facts) (hInProjKiReferenceIdeal : Cert.InProjKiReferenceIdeal.Facts) (hConv : Cert.Conv.Facts) (hConvIdeal : Cert.ConvIdeal.Facts) (hConvReferenceIdeal : Cert.ConvReferenceIdeal.Facts) (hGates : Cert.Gates.Facts) (hGatesIdeal : Cert.GatesIdeal.Facts) (hGatesReferenceIdeal : Cert.GatesReferenceIdeal.Facts) (hPre_finite_and_some_selected : Cert.Pre_finite_and_some_selected.Facts),
    quiescent_Attention (hAttention := hAttention)
    ∧ quiescent_AttentionIdeal (hAttentionIdeal := hAttentionIdeal)
    ∧ quiescent_AttentionIdeal_pre_finite_and_some_selected (hAttentionIdeal := hAttentionIdeal) (hPre_finite_and_some_selected := hPre_finite_and_some_selected)
    ∧ quiescent_AttentionReferenceIdeal (hAttentionReferenceIdeal := hAttentionReferenceIdeal)
    ∧ quiescent_AttentionReferenceIdeal_pre_finite_and_some_selected (hAttentionReferenceIdeal := hAttentionReferenceIdeal) (hPre_finite_and_some_selected := hPre_finite_and_some_selected)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_OutMerged (hOutMerged := hOutMerged)
    ∧ quiescent_OutMergedIdeal (hOutMergedIdeal := hOutMergedIdeal)
    ∧ quiescent_OutMergedReferenceIdeal (hOutMergedReferenceIdeal := hOutMergedReferenceIdeal)
    ∧ quiescent_OutAttn (hOutAttn := hOutAttn)
    ∧ quiescent_OutAttnIdeal (hOutAttnIdeal := hOutAttnIdeal)
    ∧ quiescent_OutAttnReferenceIdeal (hOutAttnReferenceIdeal := hOutAttnReferenceIdeal)
    ∧ quiescent_OutRg (hOutRg := hOutRg)
    ∧ quiescent_OutRgIdeal (hOutRgIdeal := hOutRgIdeal)
    ∧ quiescent_OutRgReferenceIdeal (hOutRgReferenceIdeal := hOutRgReferenceIdeal)
    ∧ quiescent_InProjV (hInProjV := hInProjV)
    ∧ quiescent_InProjVIdeal (hInProjVIdeal := hInProjVIdeal)
    ∧ quiescent_InProjVReferenceIdeal (hInProjVReferenceIdeal := hInProjVReferenceIdeal)
    ∧ quiescent_InProjQi (hInProjQi := hInProjQi)
    ∧ quiescent_InProjQiIdeal (hInProjQiIdeal := hInProjQiIdeal)
    ∧ quiescent_InProjQiReferenceIdeal (hInProjQiReferenceIdeal := hInProjQiReferenceIdeal)
    ∧ quiescent_InProjXr (hInProjXr := hInProjXr)
    ∧ quiescent_InProjXrIdeal (hInProjXrIdeal := hInProjXrIdeal)
    ∧ quiescent_InProjXrReferenceIdeal (hInProjXrReferenceIdeal := hInProjXrReferenceIdeal)
    ∧ quiescent_InProjGr (hInProjGr := hInProjGr)
    ∧ quiescent_InProjGrIdeal (hInProjGrIdeal := hInProjGrIdeal)
    ∧ quiescent_InProjGrReferenceIdeal (hInProjGrReferenceIdeal := hInProjGrReferenceIdeal)
    ∧ quiescent_InProjGa (hInProjGa := hInProjGa)
    ∧ quiescent_InProjGaIdeal (hInProjGaIdeal := hInProjGaIdeal)
    ∧ quiescent_InProjGaReferenceIdeal (hInProjGaReferenceIdeal := hInProjGaReferenceIdeal)
    ∧ quiescent_InProjGb (hInProjGb := hInProjGb)
    ∧ quiescent_InProjGbIdeal (hInProjGbIdeal := hInProjGbIdeal)
    ∧ quiescent_InProjGbReferenceIdeal (hInProjGbReferenceIdeal := hInProjGbReferenceIdeal)
    ∧ quiescent_InProjQ (hInProjQ := hInProjQ)
    ∧ quiescent_InProjQIdeal (hInProjQIdeal := hInProjQIdeal)
    ∧ quiescent_InProjQReferenceIdeal (hInProjQReferenceIdeal := hInProjQReferenceIdeal)
    ∧ quiescent_InProjK (hInProjK := hInProjK)
    ∧ quiescent_InProjKIdeal (hInProjKIdeal := hInProjKIdeal)
    ∧ quiescent_InProjKReferenceIdeal (hInProjKReferenceIdeal := hInProjKReferenceIdeal)
    ∧ quiescent_Rmsnorm (hRmsnorm := hRmsnorm)
    ∧ quiescent_RmsnormIdeal (hRmsnormIdeal := hRmsnormIdeal)
    ∧ quiescent_RmsnormReferenceIdeal (hRmsnormReferenceIdeal := hRmsnormReferenceIdeal)
    ∧ quiescent_InProjKi (hInProjKi := hInProjKi)
    ∧ quiescent_InProjKiIdeal (hInProjKiIdeal := hInProjKiIdeal)
    ∧ quiescent_InProjKiReferenceIdeal (hInProjKiReferenceIdeal := hInProjKiReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Gates (hGates := hGates)
    ∧ quiescent_GatesIdeal (hGatesIdeal := hGatesIdeal)
    ∧ quiescent_GatesReferenceIdeal (hGatesReferenceIdeal := hGatesReferenceIdeal)
    ∧ preserves_Attention_AttentionIdeal
    ∧ algebraic_AttentionIdeal_AttentionReferenceIdeal_pre_finite_and_some_selected (hAttentionIdeal := hAttentionIdeal) (hAttentionReferenceIdeal := hAttentionReferenceIdeal) (hPre_finite_and_some_selected := hPre_finite_and_some_selected)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_OutMerged_OutMergedIdeal
    ∧ algebraic_OutMergedIdeal_OutMergedReferenceIdeal (hOutMergedIdeal := hOutMergedIdeal) (hOutMergedReferenceIdeal := hOutMergedReferenceIdeal)
    ∧ preserves_OutAttn_OutAttnIdeal
    ∧ algebraic_OutAttnIdeal_OutAttnReferenceIdeal (hOutAttnIdeal := hOutAttnIdeal) (hOutAttnReferenceIdeal := hOutAttnReferenceIdeal)
    ∧ preserves_OutRg_OutRgIdeal
    ∧ algebraic_OutRgIdeal_OutRgReferenceIdeal (hOutRgIdeal := hOutRgIdeal) (hOutRgReferenceIdeal := hOutRgReferenceIdeal)
    ∧ preserves_InProjV_InProjVIdeal
    ∧ algebraic_InProjVIdeal_InProjVReferenceIdeal (hInProjVIdeal := hInProjVIdeal) (hInProjVReferenceIdeal := hInProjVReferenceIdeal)
    ∧ preserves_InProjQi_InProjQiIdeal
    ∧ algebraic_InProjQiIdeal_InProjQiReferenceIdeal (hInProjQiIdeal := hInProjQiIdeal) (hInProjQiReferenceIdeal := hInProjQiReferenceIdeal)
    ∧ preserves_InProjXr_InProjXrIdeal
    ∧ algebraic_InProjXrIdeal_InProjXrReferenceIdeal (hInProjXrIdeal := hInProjXrIdeal) (hInProjXrReferenceIdeal := hInProjXrReferenceIdeal)
    ∧ preserves_InProjGr_InProjGrIdeal
    ∧ algebraic_InProjGrIdeal_InProjGrReferenceIdeal (hInProjGrIdeal := hInProjGrIdeal) (hInProjGrReferenceIdeal := hInProjGrReferenceIdeal)
    ∧ preserves_InProjGa_InProjGaIdeal
    ∧ algebraic_InProjGaIdeal_InProjGaReferenceIdeal (hInProjGaIdeal := hInProjGaIdeal) (hInProjGaReferenceIdeal := hInProjGaReferenceIdeal)
    ∧ preserves_InProjGb_InProjGbIdeal
    ∧ algebraic_InProjGbIdeal_InProjGbReferenceIdeal (hInProjGbIdeal := hInProjGbIdeal) (hInProjGbReferenceIdeal := hInProjGbReferenceIdeal)
    ∧ preserves_InProjQ_InProjQIdeal
    ∧ algebraic_InProjQIdeal_InProjQReferenceIdeal (hInProjQIdeal := hInProjQIdeal) (hInProjQReferenceIdeal := hInProjQReferenceIdeal)
    ∧ preserves_InProjK_InProjKIdeal
    ∧ algebraic_InProjKIdeal_InProjKReferenceIdeal (hInProjKIdeal := hInProjKIdeal) (hInProjKReferenceIdeal := hInProjKReferenceIdeal)
    ∧ preserves_Rmsnorm_RmsnormIdeal
    ∧ algebraic_RmsnormIdeal_RmsnormReferenceIdeal (hRmsnormIdeal := hRmsnormIdeal) (hRmsnormReferenceIdeal := hRmsnormReferenceIdeal)
    ∧ preserves_InProjKi_InProjKiIdeal
    ∧ algebraic_InProjKiIdeal_InProjKiReferenceIdeal (hInProjKiIdeal := hInProjKiIdeal) (hInProjKiReferenceIdeal := hInProjKiReferenceIdeal)
    ∧ preserves_Conv_ConvIdeal
    ∧ algebraic_ConvIdeal_ConvReferenceIdeal (hConvIdeal := hConvIdeal) (hConvReferenceIdeal := hConvReferenceIdeal)
    ∧ preserves_Gates_GatesIdeal
    ∧ algebraic_GatesIdeal_GatesReferenceIdeal (hGatesIdeal := hGatesIdeal) (hGatesReferenceIdeal := hGatesReferenceIdeal)
-- ==== Pre_finite_and_some_selected.lean ====
abbrev S512x4096 : Shape := ⟨2, ![512, 4096]⟩
abbrev S16x1024x8x128 : Shape := ⟨4, ![16, 1024, 8, 128]⟩
abbrev S512x1024 : Shape := ⟨2, ![512, 1024]⟩
abbrev S16x32x1056 : Shape := ⟨3, ![16, 32, 1056]⟩
abbrev S32x32x512 : Shape := ⟨3, ![32, 32, 512]⟩
abbrev S32 : Shape := ⟨1, ![32]⟩
abbrev S_ : Shape := ⟨0, ![]⟩
abbrev S16x32 : Shape := ⟨2, ![16, 32]⟩

class Facts : Prop where
  bcast_S_S16x32x1056 : S_.BroadcastsInDim S16x32x1056 (![] : Fin 0 → Fin S16x32x1056.rank)
  natLt_1_32 : 1 < 32
  reducesTo_S16x32x1056_S16x32_d2 : S16x32x1056.ReducesTo [2] S16x32
  h_S_ : 0 < S_.numel
  bcast_S_S16x32 : S_.BroadcastsInDim S16x32 (![] : Fin 0 → Fin S16x32.rank)
  reducesTo_S16x32_S_d0_1 : S16x32.ReducesTo [0, 1] S_
  bcast_S_S512x4096 : S_.BroadcastsInDim S512x4096 (![] : Fin 0 → Fin S512x4096.rank)
  reducesTo_S512x4096_S_d0_1 : S512x4096.ReducesTo [0, 1] S_
  bcast_S_S16x1024x8x128 : S_.BroadcastsInDim S16x1024x8x128 (![] : Fin 0 → Fin S16x1024x8x128.rank)
  reducesTo_S16x1024x8x128_S_d0_1_2_3 : S16x1024x8x128.ReducesTo [0, 1, 2, 3] S_
  bcast_S_S512x1024 : S_.BroadcastsInDim S512x1024 (![] : Fin 0 → Fin S512x1024.rank)
  reducesTo_S512x1024_S_d0_1 : S512x1024.ReducesTo [0, 1] S_
  bcast_S_S32x32x512 : S_.BroadcastsInDim S32x32x512 (![] : Fin 0 → Fin S32x32x512.rank)
  reducesTo_S32x32x512_S_d0_1_2 : S32x32x512.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S512x1024 .f32) (main_arg6 : FVec F S32x32x512 .f32) (main_arg7 : FVec F S32 .f32) (main_v6 : IVec S_ 1) (main_v15 : IVec S_ 1) : IVec S_ 1 :=
  let main_v16 : FVec F S512x1024 .f32 := Host.absf main_arg3
  let main_cst_6 : FVec F S_ .f32 := constant S_ .f32 0x7F800000#32
  let main_v17 : FVec F S512x1024 .f32 := broadcastInDim S512x1024 ![] bcast_S_S512x1024 main_cst_6
  let main_v18 : IVec S512x1024 1 := cmpf .olt main_v16 main_v17
  let main_c_7 : IVec S_ 1 := constantI S_ 1 1#1
  let main_v19 : IVec S_ 1 := (fun x v => Host.reduce IntOp.andi x v reducesTo_S512x1024_S_d0_1 h_S_) main_v18 main_c_7
  let main_v20 : IVec S_ 1 := andi main_v15 main_v19
  let main_v21 : FVec F S32x32x512 .f32 := Host.absf main_arg6
  let main_cst_8 : FVec F S_ .f32 := constant S_ .f32 0x7F800000#32
  let main_v22 : FVec F S32x32x512 .f32 := broadcastInDim S32x32x512 ![] bcast_S_S32x32x512 main_cst_8
  let main_v23 : IVec S32x32x512 1 := cmpf .olt main_v21 main_v22
  let main_c_9 : IVec S_ 1 := constantI S_ 1 1#1
  let main_v24 : IVec S_ 1 := (fun x v => Host.reduce IntOp.andi x v reducesTo_S32x32x512_S_d0_1_2 h_S_) main_v23 main_c_9
  let main_v25 : IVec S_ 1 := andi main_v20 main_v24
  let main_v26 : FVec F S32 .f32 := Host.absf main_arg7
  let main_cst_10 : FVec F S_ .f32 := constant S_ .f32 0x7F800000#32
  let main_v27 : FVec F S32 .f32 := broadcastInDim S32 ![] bcast_S_S32 main_cst_10
  let main_v28 : IVec S32 1 := cmpf .olt main_v26 main_v27
  let main_c_11 : IVec S_ 1 := constantI S_ 1 1#1
  let main_v29 : IVec S_ 1 := (fun x v => Host.reduce IntOp.andi x v reducesTo_S32_S_d0 h_S_) main_v28 main_c_11
  let main_v30 : IVec S_ 1 := andi main_v25 main_v29
  let main_v31 : IVec S_ 1 := andi main_v30 main_v6
  main_v31

def fn {F : FTy → Type} [FloatOps F] (main_arg0 : FVec F S512x4096 .f32) (main_arg1 : FVec F S16x1024x8x128 .f32) (main_arg2 : FVec F S16x1024x8x128 .f32) (main_arg3 : FVec F S512x1024 .f32) (main_arg4 : FVec F S512x1024 .f32) (main_arg5 : IVec S16x32x1056 8) (main_arg6 : FVec F S32x32x512 .f32) (main_arg7 : FVec F S32 .f32) : IVec S_ 1 :=
  let main_c : IVec S_ 8 := constantI S_ 8 0#8
  let main_v0 : IVec S16x32x1056 8 := broadcastInDim S16x32x1056 ![] bcast_S_S16x32x1056 main_c
  let main_v1 : IVec S16x32x1056 1 := cmpi .ne main_arg5 main_v0
  let main_v2 : IVec S16x32x1056 32 := (extui 32 · natLt_1_32) main_v1
  let main_c_0 : IVec S_ 32 := constantI S_ 32 2147483648#32
  let main_v3 : IVec S16x32 32 := (fun x v => Host.reduce IntOp.maxsi x v reducesTo_S16x32x1056_S16x32_d2 h_S_) main_v2 main_c_0
  let main_c_1 : IVec S_ 32 := constantI S_ 32 0#32
  let main_v4 : IVec S16x32 32 := broadcastInDim S16x32 ![] bcast_S_S16x32 main_c_1
  let main_v5 : IVec S16x32 1 := cmpi .sgt main_v3 main_v4
  let main_c_2 : IVec S_ 1 := constantI S_ 1 1#1
  let main_v6 : IVec S_ 1 := (fun x v => Host.reduce IntOp.andi x v reducesTo_S16x32_S_d0_1 h_S_) main_v5 main_c_2
  let main_v7 : FVec F S512x4096 .f32 := Host.absf main_arg0
  let main_cst : FVec F S_ .f32 := constant S_ .f32 0x7F800000#32
  let main_v8 : FVec F S512x4096 .f32 := broadcastInDim S512x4096 ![] bcast_S_S512x4096 main_cst
  let main_v9 : IVec S512x4096 1 := cmpf .olt main_v7 main_v8
  let main_c_3 : IVec S_ 1 := constantI S_ 1 1#1
  let main_v10 : IVec S_ 1 := (fun x v => Host.reduce IntOp.andi x v reducesTo_S512x4096_S_d0_1 h_S_) main_v9 main_c_3
  let main_v11 : FVec F S16x1024x8x128 .f32 := Host.absf main_arg1
  let main_cst_4 : FVec F S_ .f32 := constant S_ .f32 0x7F800000#32
  let main_v12 : FVec F S16x1024x8x128 .f32 := broadcastInDim S16x1024x8x128 ![] bcast_S_S16x1024x8x128 main_cst_4
  let main_v13 : IVec S16x1024x8x128 1 := cmpf .olt main_v11 main_v12
  let main_c_5 : IVec S_ 1 := constantI S_ 1 1#1
  let main_v14 : IVec S_ 1 := (fun x v => Host.reduce IntOp.andi x v reducesTo_S16x1024x8x128_S_d0_1_2_3 h_S_) main_v13 main_c_5
  let main_v15 : IVec S_ 1 := andi main_v10 main_v14
  fn_part1 (F := F) main_arg3 main_arg6 main_arg7 main_v6 main_v15
-- ==== Attention.lean ====
abbrev S512x4096 : Shape := ⟨2, ![512, 4096]⟩
abbrev S16x1024x8x128 : Shape := ⟨4, ![16, 1024, 8, 128]⟩
abbrev S512x1024 : Shape := ⟨2, ![512, 1024]⟩
abbrev S16x32x1056 : Shape := ⟨3, ![16, 32, 1056]⟩
abbrev S32x32x512 : Shape := ⟨3, ![32, 32, 512]⟩
abbrev S32 : Shape := ⟨1, ![32]⟩
abbrev S_ : Shape := ⟨0, ![]⟩
abbrev S16x32x1280 : Shape := ⟨3, ![16, 32, 1280]⟩
abbrev S16x32x5x256 : Shape := ⟨4, ![16, 32, 5, 256]⟩
abbrev S16x5x32x256 : Shape := ⟨4, ![16, 5, 32, 256]⟩
abbrev S32x1x1 : Shape := ⟨3, ![32, 1, 1]⟩
abbrev S1x32x32x512 : Shape := ⟨4, ![1, 32, 32, 512]⟩
abbrev S16x32x1024 : Shape := ⟨3, ![16, 32, 1024]⟩
abbrev S16x1024x1024 : Shape := ⟨3, ![16, 1024, 1024]⟩
abbrev S16x224x1024 : Shape := ⟨3, ![16, 224, 1024]⟩
abbrev S16x1280x1024 : Shape := ⟨3, ![16, 1280, 1024]⟩
abbrev S32x512 : Shape := ⟨2, ![32, 512]⟩
abbrev S1x1280x128 : Shape := ⟨3, ![1, 1280, 128]⟩
abbrev S1x5x32x256 : Shape := ⟨4, ![1, 5, 32, 256]⟩
abbrev S1x4x32x512 : Shape := ⟨4, ![1, 4, 32, 512]⟩
abbrev S128x128 : Shape := ⟨2, ![128, 128]⟩
abbrev S32x128 : Shape := ⟨2, ![32, 128]⟩
abbrev S1x256x128 : Shape := ⟨3, ![1, 256, 128]⟩
abbrev S256x128 : Shape := ⟨2, ![256, 128]⟩
abbrev S128x256 : Shape := ⟨2, ![128, 256]⟩
abbrev S1x1x32x256 : Shape := ⟨4, ![1, 1, 32, 256]⟩
abbrev S32x256 : Shape := ⟨2, ![32, 256]⟩
abbrev S128 : Shape := ⟨1, ![128]⟩
abbrev S128x1 : Shape := ⟨2, ![128, 1]⟩

abbrev nBuf : Space → Nat
  | .hbm => 46
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S16x1024x8x128, .f32⟩
  | .hbm, ⟨2, _⟩ => ⟨S16x1024x8x128, .f32⟩
  | .hbm, ⟨3, _⟩ => ⟨S512x1024, .f32⟩
  | .hbm, ⟨4, _⟩ => ⟨S512x1024, .f32⟩
  | .hbm, ⟨5, _⟩ => ⟨S16x32x1056, .i8⟩
  | .hbm, ⟨6, _⟩ => ⟨S32x32x512, .f32⟩
  | .hbm, ⟨7, _⟩ => ⟨S32, .f32⟩
  | .hbm, ⟨8, _⟩ => ⟨S_, .i32⟩
  | .hbm, ⟨9, _⟩ => ⟨S_, .i8⟩
  | .hbm, ⟨10, _⟩ => ⟨S16x32x1280, .i8⟩
  | .hbm, ⟨11, _⟩ => ⟨S16x32x5x256, .i8⟩
  | .hbm, ⟨12, _⟩ => ⟨S16x5x32x256, .i8⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x4096, .f32⟩
  | .hbm, ⟨21, _⟩ => ⟨S512x4096, .f32⟩
  | .hbm, ⟨22, _⟩ => ⟨S512x4096, .bf16⟩
  | .hbm, ⟨23, _⟩ => ⟨S32x32x512, .f32⟩
  | .hbm, ⟨24, _⟩ => ⟨S32x32x512, .f32⟩
  | .hbm, ⟨25, _⟩ => ⟨S32, .f32⟩
  | .hbm, ⟨26, _⟩ => ⟨S32, .f32⟩
  | .hbm, ⟨27, _⟩ => ⟨S32x1x1, .f32⟩
  | .hbm, ⟨28, _⟩ => ⟨S32x32x512, .f32⟩
  | .hbm, ⟨29, _⟩ => ⟨S32x32x512, .f32⟩
  | .hbm, ⟨30, _⟩ => ⟨S1x32x32x512, .f32⟩
  | .hbm, ⟨31, _⟩ => ⟨S512x1024, .bf16⟩
  | .hbm, ⟨32, _⟩ => ⟨S16x32x1024, .bf16⟩
  | .hbm, ⟨33, _⟩ => ⟨S16x1024x1024, .f32⟩
  | .hbm, ⟨34, _⟩ => ⟨S16x1024x1024, .bf16⟩
  | .hbm, ⟨35, _⟩ => ⟨S_, .bf16⟩
  | .hbm, ⟨36, _⟩ => ⟨S16x224x1024, .bf16⟩
  | .hbm, ⟨37, _⟩ => ⟨S16x1280x1024, .bf16⟩
  | .hbm, ⟨38, _⟩ => ⟨S512x1024, .bf16⟩
  | .hbm, ⟨39, _⟩ => ⟨S16x32x1024, .bf16⟩
  | .hbm, ⟨40, _⟩ => ⟨S16x1024x1024, .f32⟩
  | .hbm, ⟨41, _⟩ => ⟨S16x1024x1024, .bf16⟩
  | .hbm, ⟨42, _⟩ => ⟨S_, .bf16⟩
  | .hbm, ⟨43, _⟩ => ⟨S16x224x1024, .bf16⟩
  | .hbm, ⟨44, _⟩ => ⟨S16x1280x1024, .bf16⟩
  | .hbm, ⟨45, _⟩ => ⟨S512x4096, .bf16⟩
  | .local _ .vmem, ⟨0, _⟩ => ⟨S32x512, .bf16⟩
  | .local _ .vmem, ⟨1, _⟩ => ⟨S32x512, .bf16⟩
  | .local _ .vmem, ⟨2, _⟩ => ⟨S1x1280x128, .bf16⟩
  | .local _ .vmem, ⟨3, _⟩ => ⟨S1x1280x128, .bf16⟩
  | .local _ .vmem, ⟨4, _⟩ => ⟨S1x1280x128, .bf16⟩
  | .local _ .vmem, ⟨5, _⟩ => ⟨S1x1280x128, .bf16⟩
  | .local _ .vmem, ⟨6, _⟩ => ⟨S1x5x32x256, .i8⟩
  | .local _ .vmem, ⟨7, _⟩ => ⟨S1x5x32x256, .i8⟩
  | .local _ .vmem, ⟨8, _⟩ => ⟨S1x4x32x512, .f32⟩
  | .local _ .vmem, ⟨9, _⟩ => ⟨S1x4x32x512, .f32⟩
  | .local _ .vmem, ⟨10, _⟩ => ⟨S32x512, .bf16⟩
  | .local _ .vmem, ⟨11, _⟩ => ⟨S32x512, .bf16⟩
  | .local _ .vmem, ⟨12, _⟩ => ⟨S128x128, .bf16⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_25 : BitVec 32 := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_23 : BitVec 32 := 1#32
  let v52 : BitVec 32 := Scalar.subi v19 c1_i32_23
  let c0_i32_24 : BitVec 32 := 0#32
  let v53 : BitVec 32 := Scalar.maxsi v52 c0_i32_24
  let v54 : BitVec 32 := Scalar.subi v53 c0_i32_25
  let c1_i32_27 : BitVec 32 := 1#32
  let v56 : BitVec 32 := Scalar.divsi v54 c1_i32_27
  let v57 : BitVec 32 := Scalar.muli v56 c1_i32_27
  let v58 : BitVec 32 := Scalar.addi c0_i32_25 v57
  let c1_i32_28 : BitVec 32 := 1#32
  ⟨c0_i32_25, v58, c1_i32_28⟩
def k0_mult1 (i : grid0.Coords) (k0_t1 : Fin (k0_t1_loop i).trips) : BitVec 32 :=
  let c0_i32_25 : BitVec 32 := 0#32
  let c1_i32_28 : BitVec 32 := 1#32
  let arg12 : BitVec 32 := Scf.iv c0_i32_25 c1_i32_28 k0_t1
  let c256_i32_86 : BitVec 32 := 256#32
  let v157 : BitVec 32 := Scalar.muli arg12 c256_i32_86
  v157
def k0_off1 (i : grid0.Coords) (k0_t1 : Fin (k0_t1_loop i).trips) : Fin 3 → Nat :=
  let c0_87 : Index := 0#32
  let c0_i32_25 : BitVec 32 := 0#32
  let c1_i32_28 : BitVec 32 := 1#32
  let arg12 : BitVec 32 := Scf.iv c0_i32_25 c1_i32_28 k0_t1
  let c256_i32_86 : BitVec 32 := 256#32
  let v157 : BitVec 32 := Scalar.muli arg12 c256_i32_86
  let v158 : BitVec 32 := v157
  let v159 : Index := Scalar.indexCast v158
  let c0_88 : Index := 0#32
  ![0, v159.toNat, 0]
def k0_off2 (i : grid0.Coords) (k0_t1 : Fin (k0_t1_loop i).trips) : Fin 4 → Nat :=
  let c0_94 : Index := 0#32
  let c0_i32_25 : BitVec 32 := 0#32
  let c1_i32_28 : BitVec 32 := 1#32
  let arg12 : BitVec 32 := Scf.iv c0_i32_25 c1_i32_28 k0_t1
  let v167 : Index := Scalar.indexCast arg12
  let c0_95 : Index := 0#32
  let c0_96 : Index := 0#32
  ![0, v167.toNat, 0, 0]
@[reducible] def k0_t2_loop (i : grid0.Coords) : Scf.Loop 32 :=
  let c0_i32_25 : BitVec 32 := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_23 : BitVec 32 := 1#32
  let v52 : BitVec 32 := Scalar.subi v19 c1_i32_23
  let c0_i32_24 : BitVec 32 := 0#32
  let v53 : BitVec 32 := Scalar.maxsi v52 c0_i32_24
  let v54 : BitVec 32 := Scalar.subi v53 c0_i32_25
  let c1_i32_27 : BitVec 32 := 1#32
  let v56 : BitVec 32 := Scalar.divsi v54 c1_i32_27
  let v57 : BitVec 32 := Scalar.muli v56 c1_i32_27
  let v58 : BitVec 32 := Scalar.addi c0_i32_25 v57
  let v55 : BitVec 32 := Scalar.addi c0_i32_25 v54
  let c1_i32_29 : BitVec 32 := 1#32
  ⟨v58, v55, c1_i32_29⟩
def k0_mult2 (i : grid0.Coords) (k0_t2 : Fin (k0_t2_loop i).trips) : BitVec 32 :=
  let c0_i32_25 : BitVec 32 := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_23 : BitVec 32 := 1#32
  let v52 : BitVec 32 := Scalar.subi v19 c1_i32_23
  let c0_i32_24 : BitVec 32 := 0#32
  let v53 : BitVec 32 := Scalar.maxsi v52 c0_i32_24
  let v54 : BitVec 32 := Scalar.subi v53 c0_i32_25
  let c1_i32_27 : BitVec 32 := 1#32
  let v56 : BitVec 32 := Scalar.divsi v54 c1_i32_27
  let v57 : BitVec 32 := Scalar.muli v56 c1_i32_27
  let v58 : BitVec 32 := Scalar.addi c0_i32_25 v57
  let c1_i32_29 : BitVec 32 := 1#32
  let arg12 : BitVec 32 := Scf.iv v58 c1_i32_29 k0_t2
  let c256_i32_86 : BitVec 32 := 256#32
  let v157 : BitVec 32 := Scalar.muli arg12 c256_i32_86
  v157
def k0_off3 (i : grid0.Coords) (k0_t2 : Fin (k0_t2_loop i).trips) : Fin 3 → Nat :=
  let c0_87 : Index := 0#32
  let c0_i32_25 : BitVec 32 := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_23 : BitVec 32 := 1#32
  let v52 : BitVec 32 := Scalar.subi v19 c1_i32_23
  let c0_i32_24 : BitVec 32 := 0#32
  let v53 : BitVec 32 := Scalar.maxsi v52 c0_i32_24
  let v54 : BitVec 32 := Scalar.subi v53 c0_i32_25
  let c1_i32_27 : BitVec 32 := 1#32
  let v56 : BitVec 32 := Scalar.divsi v54 c1_i32_27
  let v57 : BitVec 32 := Scalar.muli v56 c1_i32_27
  let v58 : BitVec 32 := Scalar.addi c0_i32_25 v57
  let c1_i32_29 : BitVec 32 := 1#32
  let arg12 : BitVec 32 := Scf.iv v58 c1_i32_29 k0_t2
  let c256_i32_86 : BitVec 32 := 256#32
  let v157 : BitVec 32 := Scalar.muli arg12 c256_i32_86
  let v158 : BitVec 32 := v157
  let v159 : Index := Scalar.indexCast v158
  let c0_88 : Index := 0#32
  ![0, v159.toNat, 0]
def k0_off4 (i : grid0.Coords) (k0_t2 : Fin (k0_t2_loop i).trips) : Fin 4 → Nat :=
  let c0_94 : Index := 0#32
  let c0_i32_25 : BitVec 32 := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_23 : BitVec 32 := 1#32
  let v52 : BitVec 32 := Scalar.subi v19 c1_i32_23
  let c0_i32_24 : BitVec 32 := 0#32
  let v53 : BitVec 32 := Scalar.maxsi v52 c0_i32_24
  let v54 : BitVec 32 := Scalar.subi v53 c0_i32_25
  let c1_i32_27 : BitVec 32 := 1#32
  let v56 : BitVec 32 := Scalar.divsi v54 c1_i32_27
  let v57 : BitVec 32 := Scalar.muli v56 c1_i32_27
  let v58 : BitVec 32 := Scalar.addi c0_i32_25 v57
  let c1_i32_29 : BitVec 32 := 1#32
  let arg12 : BitVec 32 := Scf.iv v58 c1_i32_29 k0_t2
  let v167 : Index := Scalar.indexCast arg12
  let c0_95 : Index := 0#32
  let c0_96 : Index := 0#32
  ![0, v167.toNat, 0, 0]
def k0_cond1 (i : grid0.Coords) : BitVec 1 :=
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_30 : BitVec 32 := 1#32
  let v61 : BitVec 1 := Scalar.cmpi .sge v19 c1_i32_30
  let v62 : BitVec 32 := Scalar.extui v61
  let c0_i32_31 : BitVec 32 := 0#32
  let v63 : BitVec 1 := Scalar.cmpi .ne v62 c0_i32_31
  v63

def k0_mult3 (i : grid0.Coords) : BitVec 32 :=
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_86 : BitVec 32 := 1#32
  let v157 : BitVec 32 := Scalar.subi v19 c1_i32_86
  let c256_i32_87 : BitVec 32 := 256#32
  let v158 : BitVec 32 := Scalar.muli v157 c256_i32_87
  v158
def k0_off5 (i : grid0.Coords) : Fin 3 → Nat :=
  let c0_88 : Index := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_86 : BitVec 32 := 1#32
  let v157 : BitVec 32 := Scalar.subi v19 c1_i32_86
  let c256_i32_87 : BitVec 32 := 256#32
  let v158 : BitVec 32 := Scalar.muli v157 c256_i32_87
  let v159 : BitVec 32 := v158
  let v160 : Index := Scalar.indexCast v159
  let c0_89 : Index := 0#32
  ![0, v160.toNat, 0]
def k0_off6 (i : grid0.Coords) : Fin 4 → Nat :=
  let c0_95 : Index := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c1_i32_86 : BitVec 32 := 1#32
  let v157 : BitVec 32 := Scalar.subi v19 c1_i32_86
  let v168 : Index := Scalar.indexCast v157
  let c0_96 : Index := 0#32
  let c0_97 : Index := 0#32
  ![0, v168.toNat, 0, 0]
def k0_mult4 (i : grid0.Coords) : BitVec 32 :=
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c256_i32_32 : BitVec 32 := 256#32
  let v64 : BitVec 32 := Scalar.muli v19 c256_i32_32
  v64
def k0_off7 (i : grid0.Coords) : Fin 3 → Nat :=
  let c0_33 : Index := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let c256_i32_32 : BitVec 32 := 256#32
  let v64 : BitVec 32 := Scalar.muli v19 c256_i32_32
  let v65 : BitVec 32 := v64
  let v66 : Index := Scalar.indexCast v65
  let c0_34 : Index := 0#32
  ![0, v66.toNat, 0]
def k0_off8 (i : grid0.Coords) : Fin 4 → Nat :=
  let c0_40 : Index := 0#32
  let c0_i32 : BitVec 32 := 0#32
  let arg0 : BitVec 32 := BitVec.ofNat 32 (i 0).val
  let v0 : BitVec 32 := Scalar.muli c0_i32 arg0
  let c1056_i32 : BitVec 32 := 1056#32
  let v1 : BitVec 32 := Scalar.addi v0 c1056_i32
  let c1_i32 : BitVec 32 := 1#32
  let v2 : BitVec 32 := Scalar.subi v1 c1_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c256_i32 : BitVec 32 := 256#32
  let c0_i32_2 : BitVec 32 := 0#32
  let v9 : BitVec 1 := Scalar.cmpi .sgt c256_i32 c0_i32_2
  let v10 : BitVec 32 := Scalar.extui v9
  let c0_i32_3 : BitVec 32 := 0#32
  let v11 : BitVec 1 := Scalar.cmpi .slt c256_i32 c0_i32_3
  let v12 : BitVec 32 := Scalar.extui v11
  let v13 : BitVec 32 := Scalar.subi v10 v12
  let v14 : BitVec 1 := Scalar.cmpi .ne v8 v13
  let v15 : BitVec 32 := Scalar.remsi v2 c256_i32
  let c0_i32_4 : BitVec 32 := 0#32
  let v16 : BitVec 1 := Scalar.cmpi .ne v15 c0_i32_4
  let v17 : BitVec 1 := Scalar.andi v14 v16
  let v3 : BitVec 32 := Scalar.divsi v2 c256_i32
  let c1_i32_5 : BitVec 32 := 1#32
  let v18 : BitVec 32 := Scalar.subi v3 c1_i32_5
  let v19 : BitVec 32 := Scalar.select v17 v18 v3
  let v74 : Index := Scalar.indexCast v19
  let c0_41 : Index := 0#32
  let c0_42 : Index := 0#32
  ![0, v74.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1280x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x32x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttentionIdeal.lean ====
variable {F : FTy → Type} [FloatOps F] [Named F]
def κ : String → Option EReal := fun
  | "mask" => some ⊥
  | _ => none
-- ==== AttentionReferenceIdeal.lean ====
abbrev S512x4096 : Shape := ⟨2, ![512, 4096]⟩
abbrev S16x1024x8x128 : Shape := ⟨4, ![16, 1024, 8, 128]⟩
abbrev S512x1024 : Shape := ⟨2, ![512, 1024]⟩
abbrev S16x32x1056 : Shape := ⟨3, ![16, 32, 1056]⟩
abbrev S32x32x512 : Shape := ⟨3, ![32, 32, 512]⟩
abbrev S32 : Shape := ⟨1, ![32]⟩
abbrev S16x32x8x4x128 : Shape := ⟨5, ![16, 32, 8, 4, 128]⟩
abbrev S16x32x8x128 : Shape := ⟨4, ![16, 32, 8, 128]⟩
abbrev S16x1056x8x128 : Shape := ⟨4, ![16, 1056, 8, 128]⟩
abbrev S16x8x1056x32x4 : Shape := ⟨5, ![16, 8, 1056, 32, 4]⟩
abbrev S16x32x8x4x1056 : Shape := ⟨5, ![16, 32, 8, 4, 1056]⟩
abbrev S_ : Shape := ⟨0, ![]⟩
abbrev S32x1x1 : Shape := ⟨3, ![32, 1, 1]⟩
abbrev S32x32x768 : Shape := ⟨3, ![32, 32, 768]⟩
abbrev S32x32x288 : Shape := ⟨3, ![32, 32, 288]⟩
abbrev S32x32x1056 : Shape := ⟨3, ![32, 32, 1056]⟩
abbrev S8x4x32x1056 : Shape := ⟨4, ![8, 4, 32, 1056]⟩
abbrev S32x8x4x1056 : Shape := ⟨4, ![32, 8, 4, 1056]⟩
abbrev S16x32x1x1x1056 : Shape := ⟨5, ![16, 32, 1, 1, 1056]⟩
abbrev S1x32x8x4x1056 : Shape := ⟨5, ![1, 32, 8, 4, 1056]⟩
abbrev S16x32x8x4 : Shape := ⟨4, ![16, 32, 8, 4]⟩
abbrev S16x32x8x4x1 : Shape := ⟨5, ![16, 32, 8, 4, 1]⟩
abbrev S16x8x128x32x4 : Shape := ⟨5, ![16, 8, 128, 32, 4]⟩

abbrev nBuf : Space → Nat
  | .hbm => 55
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S16x1024x8x128, .f32⟩
  | .hbm, ⟨2, _⟩ => ⟨S16x1024x8x128, .f32⟩
  | .hbm, ⟨3, _⟩ => ⟨S512x1024, .f32⟩
  | .hbm, ⟨4, _⟩ => ⟨S512x1024, .f32⟩
  | .hbm, ⟨5, _⟩ => ⟨S16x32x1056, .i8⟩
  | .hbm, ⟨6, _⟩ => ⟨S32x32x512, .f32⟩
  | .hbm, ⟨7, _⟩ => ⟨S32, .f32⟩
  | .hbm, ⟨8, _⟩ => ⟨S16x32x8x4x128, .f32⟩
  | .hbm, ⟨9, _⟩ => ⟨S16x32x8x128, .f32⟩
  | .hbm, ⟨10, _⟩ => ⟨S16x1056x8x128, .f32⟩
  | .hbm, ⟨11, _⟩ => ⟨S16x32x8x128, .f32⟩
  | .hbm, ⟨12, _⟩ => ⟨S16x1056x8x128, .f32⟩
  | .hbm, ⟨13, _⟩ => ⟨S16x8x1056x32x4, .f32⟩
  | .hbm, ⟨14, _⟩ => ⟨S16x32x8x4x1056, .f32⟩
  | .hbm, ⟨15, _⟩ => ⟨S_, .f32⟩
  | .hbm, ⟨16, _⟩ => ⟨S_, .f32⟩
  | .hbm, ⟨17, _⟩ => ⟨S16x32x8x4x1056, .f32⟩
  | .hbm, ⟨18, _⟩ => ⟨S16x32x8x4x1056, .f32⟩
  | .hbm, ⟨19, _⟩ => ⟨S32x1x1, .f32⟩
  | .hbm, ⟨20, _⟩ => ⟨S32x32x768, .f32⟩
  | .hbm, ⟨21, _⟩ => ⟨S32x32x288, .f32⟩
  | .hbm, ⟨22, _⟩ => ⟨S32x32x1056, .f32⟩
  | .hbm, ⟨23, _⟩ => ⟨S8x4x32x1056, .f32⟩
  | .hbm, ⟨24, _⟩ => ⟨S32x8x4x1056, .f32⟩
  | .hbm, ⟨25, _⟩ => ⟨S16x32x1x1x1056, .i8⟩
  | .hbm, ⟨26, _⟩ => ⟨S_, .i8⟩
  | .hbm, ⟨27, _⟩ => ⟨S16x32x1x1x1056, .i8⟩
  | .hbm, ⟨28, _⟩ => ⟨S16x32x1x1x1056, .i1⟩
  | .hbm, ⟨29, _⟩ => ⟨S1x32x8x4x1056, .f32⟩
  | .hbm, ⟨30, _⟩ => ⟨S16x32x8x4x1056, .f32⟩
  | .hbm, ⟨31, _⟩ => ⟨S16x32x8x4x1056, .f32⟩
  | .hbm, ⟨32, _⟩ => ⟨S_, .f32⟩
  | .hbm, ⟨33, _⟩ => ⟨S_, .f32⟩
  | .hbm, ⟨34, _⟩ => ⟨S16x32x8x4x1056, .i1⟩
  | .hbm, ⟨35, _⟩ => ⟨S16x32x8x4x1056, .f32⟩
  | .hbm, ⟨36, _⟩ => ⟨S16x32x8x4x1056, .f32⟩
  | .hbm, ⟨37, _⟩ => ⟨S_, .f32⟩
  | .hbm, ⟨38, _⟩ => ⟨S16x32x8x4, .f32⟩
  | .hbm, ⟨39, _⟩ => ⟨S_, .f32⟩
  | .hbm, ⟨40, _⟩ => ⟨S16x32x8x4, .f32⟩
  | .hbm, ⟨41, _⟩ => ⟨S16x32x8x4, .f32⟩
  | .hbm, ⟨42, _⟩ => ⟨S16x32x8x4x1, .f32⟩
  | .hbm, ⟨43, _⟩ => ⟨S16x32x8x4x1056, .f32⟩
  | .hbm, ⟨44, _⟩ => ⟨S16x32x8x4x1056, .f32⟩
  | .hbm, ⟨45, _⟩ => ⟨S16x32x8x4x1056, .f32⟩
  | .hbm, ⟨46, _⟩ => ⟨S_, .f32⟩
  | .hbm, ⟨47, _⟩ => ⟨S16x32x8x4, .f32⟩
  | .hbm, ⟨48, _⟩ => ⟨S16x32x8x4x1, .f32⟩
  | .hbm, ⟨49, _⟩ => ⟨S16x32x8x4x1056, .f32⟩
  | .hbm, ⟨50, _⟩ => ⟨S16x32x8x4x1056, .f32⟩
  | .hbm, ⟨51, _⟩ => ⟨S16x8x128x32x4, .f32⟩
  | .hbm, ⟨52, _⟩ => ⟨S16x32x8x4x128, .f32⟩
  | .hbm, ⟨53, _⟩ => ⟨S512x4096, .f32⟩
  | .hbm, ⟨54, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== FfnUp.lean ====
abbrev S16896x4096 : Shape := ⟨2, ![16896, 4096]⟩
abbrev S4096x11008 : Shape := ⟨2, ![4096, 11008]⟩
abbrev S16896x11008 : Shape := ⟨2, ![16896, 11008]⟩
abbrev S1536x4096 : Shape := ⟨2, ![1536, 4096]⟩
abbrev S4096x256 : Shape := ⟨2, ![4096, 256]⟩
abbrev S1536x256 : Shape := ⟨2, ![1536, 256]⟩

abbrev nBuf : Space → Nat
  | .hbm => 6
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x11008, .f32⟩
  | .hbm, ⟨2, _⟩ => ⟨S4096x11008, .f32⟩
  | .hbm, ⟨3, _⟩ => ⟨S4096x11008, .bf16⟩
  | .hbm, ⟨4, _⟩ => ⟨S4096x11008, .bf16⟩
  | .hbm, ⟨5, _⟩ => ⟨S16896x11008, .bf16⟩
  | .local _ .vmem, ⟨0, _⟩ => ⟨S1536x4096, .bf16⟩
  | .local _ .vmem, ⟨1, _⟩ => ⟨S1536x4096, .bf16⟩
  | .local _ .vmem, ⟨2, _⟩ => ⟨S4096x256, .bf16⟩
  | .local _ .vmem, ⟨3, _⟩ => ⟨S4096x256, .bf16⟩
  | .local _ .vmem, ⟨4, _⟩ => ⟨S1536x256, .bf16⟩
  | .local _ .vmem, ⟨5, _⟩ => ⟨S1536x256, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![43, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpReferenceIdeal.lean ====
abbrev S16896x4096 : Shape := ⟨2, ![16896, 4096]⟩
abbrev S4096x11008 : Shape := ⟨2, ![4096, 11008]⟩
abbrev S16896x11008 : Shape := ⟨2, ![16896, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x11008, .f32⟩
  | .hbm, ⟨2, _⟩ => ⟨S4096x11008, .f32⟩
  | .hbm, ⟨3, _⟩ => ⟨S16896x4096, .f32⟩
  | .hbm, ⟨4, _⟩ => ⟨S16896x11008, .f32⟩
  | .hbm, ⟨5, _⟩ => ⟨S16896x11008, .f32⟩
  | .hbm, ⟨6, _⟩ => ⟨S16896x11008, .f32⟩
  | .hbm, ⟨7, _⟩ => ⟨S_, .f32⟩
  | .hbm, ⟨8, _⟩ => ⟨S16896x11008, .f32⟩
  | .hbm, ⟨9, _⟩ => ⟨S16896x11008, .f32⟩
  | .hbm, ⟨10, _⟩ => ⟨S_, .f32⟩
  | .hbm, ⟨11, _⟩ => ⟨S16896x11008, .f32⟩
  | .hbm, ⟨12, _⟩ => ⟨S16896x11008, .f32⟩
  | .hbm, ⟨13, _⟩ => ⟨S16896x11008, .f32⟩
  | .hbm, ⟨14, _⟩ => ⟨S16896x11008, .f32⟩
  | .hbm, ⟨15, _⟩ => ⟨S16896x11008, .f32⟩
  | .hbm, ⟨16, _⟩ => ⟨S16896x11008, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnDown.lean ====
abbrev S16896x11008 : Shape := ⟨2, ![16896, 11008]⟩
abbrev S11008x4096 : Shape := ⟨2, ![11008, 4096]⟩
abbrev S16896x4096 : Shape := ⟨2, ![16896, 4096]⟩
abbrev S384x11008 : Shape := ⟨2, ![384, 11008]⟩
abbrev S11008x512 : Shape := ⟨2, ![11008, 512]⟩
abbrev S384x512 : Shape := ⟨2, ![384, 512]⟩

abbrev nBuf : Space → Nat
  | .hbm => 5
  | .vmem => 8
  | .smem => 0
  | _ => 0

abbrev bufTy : (tb : Table) → Fin (tcTables nBuf tb) → BufTy
  | .hbm, ⟨0, _⟩ => ⟨S16896x11008, .bf16⟩
  | .hbm, ⟨1, _⟩ => ⟨S11008x4096, .f32⟩
  | .hbm, ⟨2, _⟩ => ⟨S16896x4096, .f32⟩
  | .hbm, ⟨3, _⟩ => ⟨S11008x4096, .bf16⟩
  | .hbm, ⟨4, _⟩ => ⟨S16896x4096, .f32⟩
  | .local _ .vmem, ⟨0, _⟩ => ⟨S384x11008, .bf16⟩
  | .local _ .vmem, ⟨1, _⟩ => ⟨S384x11008, .bf16⟩
  | .local _ .vmem, ⟨2, _⟩ => ⟨S11008x512, .bf16⟩
  | .local _ .vmem, ⟨3, _⟩ => ⟨S11008x512, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | _, _ => ⟨S16896x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S16896x11008 : Shape := ⟨2, ![16896, 11008]⟩
abbrev S11008x4096 : Shape := ⟨2, ![11008, 4096]⟩
abbrev S16896x4096 : Shape := ⟨2, ![16896, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16896x11008, .bf16⟩
  | .hbm, ⟨1, _⟩ => ⟨S11008x4096, .f32⟩
  | .hbm, ⟨2, _⟩ => ⟨S16896x4096, .f32⟩
  | .hbm, ⟨3, _⟩ => ⟨S16896x11008, .f32⟩
  | .hbm, ⟨4, _⟩ => ⟨S16896x4096, .f32⟩
  | .hbm, ⟨5, _⟩ => ⟨S16896x4096, .f32⟩
  | _, _ => ⟨S16896x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutMerged.lean ====
abbrev S16896x4096 : Shape := ⟨2, ![16896, 4096]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S4096x4096, .bf16⟩
  | .hbm, ⟨4, _⟩ => ⟨S16896x4096, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutMergedReferenceIdeal.lean ====
abbrev S16896x4096 : Shape := ⟨2, ![16896, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S16896x4096, .f32⟩
  | .hbm, ⟨4, _⟩ => ⟨S16896x4096, .f32⟩
  | .hbm, ⟨5, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutAttn.lean ====
abbrev S16896x4096 : Shape := ⟨2, ![16896, 4096]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S4096x4096, .bf16⟩
  | .hbm, ⟨4, _⟩ => ⟨S16896x4096, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutAttnReferenceIdeal.lean ====
abbrev S16896x4096 : Shape := ⟨2, ![16896, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S16896x4096, .f32⟩
  | .hbm, ⟨4, _⟩ => ⟨S16896x4096, .f32⟩
  | .hbm, ⟨5, _⟩ => ⟨S_, .f32⟩
  | .hbm, ⟨6, _⟩ => ⟨S16896x4096, .f32⟩
  | .hbm, ⟨7, _⟩ => ⟨S16896x4096, .f32⟩
  | .hbm, ⟨8, _⟩ => ⟨S_, .f32⟩
  | .hbm, ⟨9, _⟩ => ⟨S16896x4096, .f32⟩
  | .hbm, ⟨10, _⟩ => ⟨S16896x4096, .f32⟩
  | .hbm, ⟨11, _⟩ => ⟨S16896x4096, .f32⟩
  | .hbm, ⟨12, _⟩ => ⟨S16896x4096, .f32⟩
  | .hbm, ⟨13, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== OutRg.lean ====
abbrev S16896x5376 : Shape := ⟨2, ![16896, 5376]⟩
abbrev S5376x4096 : Shape := ⟨2, ![5376, 4096]⟩
abbrev S16896x4096 : Shape := ⟨2, ![16896, 4096]⟩
abbrev S512x5376 : Shape := ⟨2, ![512, 5376]⟩
abbrev S5376x1024 : Shape := ⟨2, ![5376, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16896x5376, .bf16⟩
  | .hbm, ⟨1, _⟩ => ⟨S5376x4096, .f32⟩
  | .hbm, ⟨2, _⟩ => ⟨S16896x4096, .f32⟩
  | .hbm, ⟨3, _⟩ => ⟨S16896x4096, .f32⟩
  | .hbm, ⟨4, _⟩ => ⟨S5376x4096, .bf16⟩
  | .hbm, ⟨5, _⟩ => ⟨S16896x4096, .bf16⟩
  | .local _ .vmem, ⟨0, _⟩ => ⟨S512x5376, .bf16⟩
  | .local _ .vmem, ⟨1, _⟩ => ⟨S512x5376, .bf16⟩
  | .local _ .vmem, ⟨2, _⟩ => ⟨S5376x1024, .bf16⟩
  | .local _ .vmem, ⟨3, _⟩ => ⟨S5376x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16896x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRgReferenceIdeal.lean ====
abbrev S16896x5376 : Shape := ⟨2, ![16896, 5376]⟩
abbrev S5376x4096 : Shape := ⟨2, ![5376, 4096]⟩
abbrev S16896x4096 : Shape := ⟨2, ![16896, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16896x5376, .bf16⟩
  | .hbm, ⟨1, _⟩ => ⟨S5376x4096, .f32⟩
  | .hbm, ⟨2, _⟩ => ⟨S16896x4096, .f32⟩
  | .hbm, ⟨3, _⟩ => ⟨S16896x4096, .f32⟩
  | .hbm, ⟨4, _⟩ => ⟨S16896x4096, .f32⟩
  | .hbm, ⟨5, _⟩ => ⟨S16896x4096, .f32⟩
  | .hbm, ⟨6, _⟩ => ⟨S_, .f32⟩
  | .hbm, ⟨7, _⟩ => ⟨S16896x4096, .f32⟩
  | .hbm, ⟨8, _⟩ => ⟨S16896x4096, .f32⟩
  | .hbm, ⟨9, _⟩ => ⟨S_, .f32⟩
  | .hbm, ⟨10, _⟩ => ⟨S16896x4096, .f32⟩
  | .hbm, ⟨11, _⟩ => ⟨S16896x4096, .f32⟩
  | .hbm, ⟨12, _⟩ => ⟨S16896x5376, .f32⟩
  | .hbm, ⟨13, _⟩ => ⟨S16896x4096, .f32⟩
  | .hbm, ⟨14, _⟩ => ⟨S16896x4096, .f32⟩
  | .hbm, ⟨15, _⟩ => ⟨S16896x4096, .f32⟩
  | .hbm, ⟨16, _⟩ => ⟨S16896x4096, .bf16⟩
  | _, _ => ⟨S16896x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== InProjV.lean ====
abbrev S16896x4096 : Shape := ⟨2, ![16896, 4096]⟩
abbrev S4096x29344 : Shape := ⟨2, ![4096, 29344]⟩
abbrev S4096x1024 : Shape := ⟨2, ![4096, 1024]⟩
abbrev S16896x1024 : Shape := ⟨2, ![16896, 1024]⟩
abbrev S768x4096 : Shape := ⟨2, ![768, 4096]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x1024, .f32⟩
  | .hbm, ⟨3, _⟩ => ⟨S4096x1024, .bf16⟩
  | .hbm, ⟨4, _⟩ => ⟨S16896x1024, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjVReferenceIdeal.lean ====
abbrev S16896x4096 : Shape := ⟨2, ![16896, 4096]⟩
abbrev S4096x29344 : Shape := ⟨2, ![4096, 29344]⟩
abbrev S16896x29344 : Shape := ⟨2, ![16896, 29344]⟩
abbrev S16896x1024 : Shape := ⟨2, ![16896, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x1024, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjQi.lean ====
abbrev S16896x4096 : Shape := ⟨2, ![16896, 4096]⟩
abbrev S4096x29344 : Shape := ⟨2, ![4096, 29344]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x4096, .f32⟩
  | .hbm, ⟨3, _⟩ => ⟨S4096x4096, .bf16⟩
  | .hbm, ⟨4, _⟩ => ⟨S16896x4096, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQiReferenceIdeal.lean ====
abbrev S16896x4096 : Shape := ⟨2, ![16896, 4096]⟩
abbrev S4096x29344 : Shape := ⟨2, ![4096, 29344]⟩
abbrev S16896x29344 : Shape := ⟨2, ![16896, 29344]⟩

abbrev nBuf : Space → Nat
  | .hbm => 6
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x4096, .f32⟩
  | .hbm, ⟨5, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjXr.lean ====
abbrev S16896x4096 : Shape := ⟨2, ![16896, 4096]⟩
abbrev S4096x29344 : Shape := ⟨2, ![4096, 29344]⟩
abbrev S4096x5376 : Shape := ⟨2, ![4096, 5376]⟩
abbrev S16896x5376 : Shape := ⟨2, ![16896, 5376]⟩
abbrev S768x4096 : Shape := ⟨2, ![768, 4096]⟩
abbrev S4096x768 : Shape := ⟨2, ![4096, 768]⟩
abbrev S768x768 : Shape := ⟨2, ![768, 768]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x5376, .f32⟩
  | .hbm, ⟨3, _⟩ => ⟨S4096x5376, .bf16⟩
  | .hbm, ⟨4, _⟩ => ⟨S16896x5376, .f32⟩
  | .local _ .vmem, ⟨0, _⟩ => ⟨S768x4096, .bf16⟩
  | .local _ .vmem, ⟨1, _⟩ => ⟨S768x4096, .bf16⟩
  | .local _ .vmem, ⟨2, _⟩ => ⟨S4096x768, .bf16⟩
  | .local _ .vmem, ⟨3, _⟩ => ⟨S4096x768, .bf16⟩
  | .local _ .vmem, ⟨4, _⟩ => ⟨S768x768, .f32⟩
  | .local _ .vmem, ⟨5, _⟩ => ⟨S768x768, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjXrReferenceIdeal.lean ====
abbrev S16896x4096 : Shape := ⟨2, ![16896, 4096]⟩
abbrev S4096x29344 : Shape := ⟨2, ![4096, 29344]⟩
abbrev S16896x29344 : Shape := ⟨2, ![16896, 29344]⟩
abbrev S16896x5376 : Shape := ⟨2, ![16896, 5376]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x5376, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjGr.lean ====
abbrev S16896x4096 : Shape := ⟨2, ![16896, 4096]⟩
abbrev S4096x29344 : Shape := ⟨2, ![4096, 29344]⟩
abbrev S4096x5376 : Shape := ⟨2, ![4096, 5376]⟩
abbrev S16896x5376 : Shape := ⟨2, ![16896, 5376]⟩
abbrev S768x4096 : Shape := ⟨2, ![768, 4096]⟩
abbrev S4096x768 : Shape := ⟨2, ![4096, 768]⟩
abbrev S768x768 : Shape := ⟨2, ![768, 768]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x5376, .f32⟩
  | .hbm, ⟨3, _⟩ => ⟨S4096x5376, .bf16⟩
  | .hbm, ⟨4, _⟩ => ⟨S16896x5376, .f32⟩
  | .local _ .vmem, ⟨0, _⟩ => ⟨S768x4096, .bf16⟩
  | .local _ .vmem, ⟨1, _⟩ => ⟨S768x4096, .bf16⟩
  | .local _ .vmem, ⟨2, _⟩ => ⟨S4096x768, .bf16⟩
  | .local _ .vmem, ⟨3, _⟩ => ⟨S4096x768, .bf16⟩
  | .local _ .vmem, ⟨4, _⟩ => ⟨S768x768, .f32⟩
  | .local _ .vmem, ⟨5, _⟩ => ⟨S768x768, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGrReferenceIdeal.lean ====
abbrev S16896x4096 : Shape := ⟨2, ![16896, 4096]⟩
abbrev S4096x29344 : Shape := ⟨2, ![4096, 29344]⟩
abbrev S16896x29344 : Shape := ⟨2, ![16896, 29344]⟩
abbrev S16896x5376 : Shape := ⟨2, ![16896, 5376]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x5376, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjGa.lean ====
abbrev S16896x4096 : Shape := ⟨2, ![16896, 4096]⟩
abbrev S4096x29344 : Shape := ⟨2, ![4096, 29344]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x4096, .f32⟩
  | .hbm, ⟨3, _⟩ => ⟨S4096x4096, .bf16⟩
  | .hbm, ⟨4, _⟩ => ⟨S16896x4096, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGaReferenceIdeal.lean ====
abbrev S16896x4096 : Shape := ⟨2, ![16896, 4096]⟩
abbrev S4096x29344 : Shape := ⟨2, ![4096, 29344]⟩
abbrev S16896x29344 : Shape := ⟨2, ![16896, 29344]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjGb.lean ====
abbrev S16896x4096 : Shape := ⟨2, ![16896, 4096]⟩
abbrev S4096x29344 : Shape := ⟨2, ![4096, 29344]⟩
abbrev S4096x4096 : Shape := ⟨2, ![4096, 4096]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x4096, .f32⟩
  | .hbm, ⟨3, _⟩ => ⟨S4096x4096, .bf16⟩
  | .hbm, ⟨4, _⟩ => ⟨S16896x4096, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGbReferenceIdeal.lean ====
abbrev S16896x4096 : Shape := ⟨2, ![16896, 4096]⟩
abbrev S4096x29344 : Shape := ⟨2, ![4096, 29344]⟩
abbrev S16896x29344 : Shape := ⟨2, ![16896, 29344]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProjQ.lean ====
abbrev S16896x4096 : Shape := ⟨2, ![16896, 4096]⟩
abbrev S4096x29344 : Shape := ⟨2, ![4096, 29344]⟩
abbrev S128 : Shape := ⟨1, ![128]⟩
abbrev S1x128 : Shape := ⟨2, ![1, 128]⟩
abbrev S32x128 : Shape := ⟨2, ![32, 128]⟩
abbrev S4096 : Shape := ⟨1, ![4096]⟩
abbrev S4096x4096 : Shape := ⟨2, ![4096, 4096]⟩
abbrev S1x4096 : Shape := ⟨2, ![1, 4096]⟩
abbrev S768x4096 : Shape := ⟨2, ![768, 4096]⟩
abbrev S4096x1024 : Shape := ⟨2, ![4096, 1024]⟩
abbrev S1x1024 : Shape := ⟨2, ![1, 1024]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩

abbrev nBuf : Space → Nat
  | .hbm => 10
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S128, .f32⟩
  | .hbm, ⟨3, _⟩ => ⟨S1x128, .f32⟩
  | .hbm, ⟨4, _⟩ => ⟨S32x128, .f32⟩
  | .hbm, ⟨5, _⟩ => ⟨S4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S16896x4096, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S768x1024, .bf16⟩
  | .local _ .vmem, ⟨7, _⟩ => ⟨S768x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjQReferenceIdeal.lean ====
abbrev S16896x4096 : Shape := ⟨2, ![16896, 4096]⟩
abbrev S4096x29344 : Shape := ⟨2, ![4096, 29344]⟩
abbrev S128 : Shape := ⟨1, ![128]⟩
abbrev S16896x29344 : Shape := ⟨2, ![16896, 29344]⟩
abbrev S16896x32x128 : Shape := ⟨3, ![16896, 32, 128]⟩
abbrev S_ : Shape := ⟨0, ![]⟩
abbrev S16896x32 : Shape := ⟨2, ![16896, 32]⟩
abbrev S16896x32x1 : Shape := ⟨3, ![16896, 32, 1]⟩
abbrev S1x1x128 : Shape := ⟨3, ![1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S128, .f32⟩
  | .hbm, ⟨3, _⟩ => ⟨S16896x4096, .f32⟩
  | .hbm, ⟨4, _⟩ => ⟨S16896x29344, .f32⟩
  | .hbm, ⟨5, _⟩ => ⟨S16896x4096, .f32⟩
  | .hbm, ⟨6, _⟩ => ⟨S16896x32x128, .f32⟩
  | .hbm, ⟨7, _⟩ => ⟨S16896x32x128, .f32⟩
  | .hbm, ⟨8, _⟩ => ⟨S_, .f32⟩
  | .hbm, ⟨9, _⟩ => ⟨S16896x32, .f32⟩
  | .hbm, ⟨10, _⟩ => ⟨S16896x32x1, .f32⟩
  | .hbm, ⟨11, _⟩ => ⟨S_, .f32⟩
  | .hbm, ⟨12, _⟩ => ⟨S16896x32x1, .f32⟩
  | .hbm, ⟨13, _⟩ => ⟨S16896x32x1, .f32⟩
  | .hbm, ⟨14, _⟩ => ⟨S_, .f32⟩
  | .hbm, ⟨15, _⟩ => ⟨S16896x32x1, .f32⟩
  | .hbm, ⟨16, _⟩ => ⟨S16896x32x1, .f32⟩
  | .hbm, ⟨17, _⟩ => ⟨S16896x32x1, .f32⟩
  | .hbm, ⟨18, _⟩ => ⟨S16896x32x128, .f32⟩
  | .hbm, ⟨19, _⟩ => ⟨S16896x32x128, .f32⟩
  | .hbm, ⟨20, _⟩ => ⟨S1x1x128, .f32⟩
  | .hbm, ⟨21, _⟩ => ⟨S16896x32x128, .f32⟩
  | .hbm, ⟨22, _⟩ => ⟨S16896x32x128, .f32⟩
  | .hbm, ⟨23, _⟩ => ⟨S16896x4096, .f32⟩
  | .hbm, ⟨24, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== InProjK.lean ====
abbrev S16896x4096 : Shape := ⟨2, ![16896, 4096]⟩
abbrev S4096x29344 : Shape := ⟨2, ![4096, 29344]⟩
abbrev S128 : Shape := ⟨1, ![128]⟩
abbrev S1x128 : Shape := ⟨2, ![1, 128]⟩
abbrev S8x128 : Shape := ⟨2, ![8, 128]⟩
abbrev S1024 : Shape := ⟨1, ![1024]⟩
abbrev S4096x1024 : Shape := ⟨2, ![4096, 1024]⟩
abbrev S1x1024 : Shape := ⟨2, ![1, 1024]⟩
abbrev S16896x1024 : Shape := ⟨2, ![16896, 1024]⟩
abbrev S768x4096 : Shape := ⟨2, ![768, 4096]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩

abbrev nBuf : Space → Nat
  | .hbm => 10
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S128, .f32⟩
  | .hbm, ⟨3, _⟩ => ⟨S1x128, .f32⟩
  | .hbm, ⟨4, _⟩ => ⟨S8x128, .f32⟩
  | .hbm, ⟨5, _⟩ => ⟨S1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S16896x1024, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S1x1024, .f32⟩
  | .local _ .vmem, ⟨4, _⟩ => ⟨S768x1024, .f32⟩
  | .local _ .vmem, ⟨5, _⟩ => ⟨S768x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjKReferenceIdeal.lean ====
abbrev S16896x4096 : Shape := ⟨2, ![16896, 4096]⟩
abbrev S4096x29344 : Shape := ⟨2, ![4096, 29344]⟩
abbrev S128 : Shape := ⟨1, ![128]⟩
abbrev S16896x29344 : Shape := ⟨2, ![16896, 29344]⟩
abbrev S16896x1024 : Shape := ⟨2, ![16896, 1024]⟩
abbrev S16896x8x128 : Shape := ⟨3, ![16896, 8, 128]⟩
abbrev S_ : Shape := ⟨0, ![]⟩
abbrev S16896x8 : Shape := ⟨2, ![16896, 8]⟩
abbrev S16896x8x1 : Shape := ⟨3, ![16896, 8, 1]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S128, .f32⟩
  | .hbm, ⟨3, _⟩ => ⟨S16896x4096, .f32⟩
  | .hbm, ⟨4, _⟩ => ⟨S16896x29344, .f32⟩
  | .hbm, ⟨5, _⟩ => ⟨S16896x1024, .f32⟩
  | .hbm, ⟨6, _⟩ => ⟨S16896x8x128, .f32⟩
  | .hbm, ⟨7, _⟩ => ⟨S16896x8x128, .f32⟩
  | .hbm, ⟨8, _⟩ => ⟨S_, .f32⟩
  | .hbm, ⟨9, _⟩ => ⟨S16896x8, .f32⟩
  | .hbm, ⟨10, _⟩ => ⟨S16896x8x1, .f32⟩
  | .hbm, ⟨11, _⟩ => ⟨S_, .f32⟩
  | .hbm, ⟨12, _⟩ => ⟨S16896x8x1, .f32⟩
  | .hbm, ⟨13, _⟩ => ⟨S16896x8x1, .f32⟩
  | .hbm, ⟨14, _⟩ => ⟨S_, .f32⟩
  | .hbm, ⟨15, _⟩ => ⟨S16896x8x1, .f32⟩
  | .hbm, ⟨16, _⟩ => ⟨S16896x8x1, .f32⟩
  | .hbm, ⟨17, _⟩ => ⟨S16896x8x1, .f32⟩
  | .hbm, ⟨18, _⟩ => ⟨S16896x8x128, .f32⟩
  | .hbm, ⟨19, _⟩ => ⟨S16896x8x128, .f32⟩
  | .hbm, ⟨20, _⟩ => ⟨S1x1x128, .f32⟩
  | .hbm, ⟨21, _⟩ => ⟨S16896x8x128, .f32⟩
  | .hbm, ⟨22, _⟩ => ⟨S16896x8x128, .f32⟩
  | .hbm, ⟨23, _⟩ => ⟨S16896x1024, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Rmsnorm.lean ====
abbrev S16896x4096 : Shape := ⟨2, ![16896, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsnormReferenceIdeal.lean ====
abbrev S16896x4096 : Shape := ⟨2, ![16896, 4096]⟩
abbrev S4096 : Shape := ⟨1, ![4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16896x4096, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x4096, .f32⟩
  | .hbm, ⟨14, _⟩ => ⟨S16896x4096, .f32⟩
  | .hbm, ⟨15, _⟩ => ⟨S1x4096, .f32⟩
  | .hbm, ⟨16, _⟩ => ⟨S16896x4096, .f32⟩
  | .hbm, ⟨17, _⟩ => ⟨S16896x4096, .f32⟩
  | .hbm, ⟨18, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InProjKi.lean ====
abbrev S16896x4096 : Shape := ⟨2, ![16896, 4096]⟩
abbrev S4096x29344 : Shape := ⟨2, ![4096, 29344]⟩
abbrev S4096x160 : Shape := ⟨2, ![4096, 160]⟩
abbrev S_ : Shape := ⟨0, ![]⟩
abbrev S4096x256 : Shape := ⟨2, ![4096, 256]⟩
abbrev S16896x256 : Shape := ⟨2, ![16896, 256]⟩
abbrev S768x4096 : Shape := ⟨2, ![768, 4096]⟩
abbrev S768x256 : Shape := ⟨2, ![768, 256]⟩

abbrev nBuf : Space → Nat
  | .hbm => 8
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S4096x160, .f32⟩
  | .hbm, ⟨3, _⟩ => ⟨S4096x160, .bf16⟩
  | .hbm, ⟨4, _⟩ => ⟨S_, .i32⟩
  | .hbm, ⟨5, _⟩ => ⟨S_, .bf16⟩
  | .hbm, ⟨6, _⟩ => ⟨S4096x256, .bf16⟩
  | .hbm, ⟨7, _⟩ => ⟨S16896x256, .f32⟩
  | .local _ .vmem, ⟨0, _⟩ => ⟨S768x4096, .bf16⟩
  | .local _ .vmem, ⟨1, _⟩ => ⟨S768x4096, .bf16⟩
  | .local _ .vmem, ⟨2, _⟩ => ⟨S4096x256, .bf16⟩
  | .local _ .vmem, ⟨3, _⟩ => ⟨S768x256, .f32⟩
  | .local _ .vmem, ⟨4, _⟩ => ⟨S768x256, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjKiReferenceIdeal.lean ====
abbrev S16896x4096 : Shape := ⟨2, ![16896, 4096]⟩
abbrev S4096x29344 : Shape := ⟨2, ![4096, 29344]⟩
abbrev S16896x29344 : Shape := ⟨2, ![16896, 29344]⟩
abbrev S16896x128 : Shape := ⟨2, ![16896, 128]⟩
abbrev S16896x32 : Shape := ⟨2, ![16896, 32]⟩
abbrev S16896x160 : Shape := ⟨2, ![16896, 160]⟩
abbrev S_ : Shape := ⟨0, ![]⟩
abbrev S16896x256 : Shape := ⟨2, ![16896, 256]⟩

abbrev nBuf : Space → Nat
  | .hbm => 12
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x29344, .f32⟩
  | .hbm, ⟨2, _⟩ => ⟨S16896x4096, .f32⟩
  | .hbm, ⟨3, _⟩ => ⟨S16896x29344, .f32⟩
  | .hbm, ⟨4, _⟩ => ⟨S16896x128, .f32⟩
  | .hbm, ⟨5, _⟩ => ⟨S16896x4096, .f32⟩
  | .hbm, ⟨6, _⟩ => ⟨S16896x29344, .f32⟩
  | .hbm, ⟨7, _⟩ => ⟨S16896x32, .f32⟩
  | .hbm, ⟨8, _⟩ => ⟨S16896x160, .f32⟩
  | .hbm, ⟨9, _⟩ => ⟨S_, .i32⟩
  | .hbm, ⟨10, _⟩ => ⟨S_, .f32⟩
  | .hbm, ⟨11, _⟩ => ⟨S16896x256, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Conv.lean ====
abbrev S16896x5376 : Shape := ⟨2, ![16896, 5376]⟩
abbrev S1x3x5376 : Shape := ⟨3, ![1, 3, 5376]⟩
abbrev S4x5376 : Shape := ⟨2, ![4, 5376]⟩
abbrev S5376 : Shape := ⟨1, ![5376]⟩
abbrev S_ : Shape := ⟨0, ![]⟩
abbrev S1x8x5376 : Shape := ⟨3, ![1, 8, 5376]⟩
abbrev S1x5376 : Shape := ⟨2, ![1, 5376]⟩
abbrev S16384x5376 : Shape := ⟨2, ![16384, 5376]⟩
abbrev S128x5376 : Shape := ⟨2, ![128, 5376]⟩
abbrev S8x5376 : Shape := ⟨2, ![8, 5376]⟩
abbrev S136x5376 : Shape := ⟨2, ![136, 5376]⟩

abbrev nBuf : Space → Nat
  | .hbm => 10
  | .vmem => 12
  | .smem => 0
  | _ => 0

abbrev bufTy : (tb : Table) → Fin (tcTables nBuf tb) → BufTy
  | .hbm, ⟨0, _⟩ => ⟨S16896x5376, .f32⟩
  | .hbm, ⟨1, _⟩ => ⟨S1x3x5376, .f32⟩
  | .hbm, ⟨2, _⟩ => ⟨S4x5376, .f32⟩
  | .hbm, ⟨3, _⟩ => ⟨S5376, .f32⟩
  | .hbm, ⟨4, _⟩ => ⟨S_, .i32⟩
  | .hbm, ⟨5, _⟩ => ⟨S_, .f32⟩
  | .hbm, ⟨6, _⟩ => ⟨S1x8x5376, .f32⟩
  | .hbm, ⟨7, _⟩ => ⟨S1x5376, .f32⟩
  | .hbm, ⟨8, _⟩ => ⟨S16384x5376, .f32⟩
  | .hbm, ⟨9, _⟩ => ⟨S16384x5376, .bf16⟩
  | .local _ .vmem, ⟨0, _⟩ => ⟨S128x5376, .f32⟩
  | .local _ .vmem, ⟨1, _⟩ => ⟨S128x5376, .f32⟩
  | .local _ .vmem, ⟨2, _⟩ => ⟨S8x5376, .f32⟩
  | .local _ .vmem, ⟨3, _⟩ => ⟨S8x5376, .f32⟩
  | .local _ .vmem, ⟨4, _⟩ => ⟨S1x8x5376, .f32⟩
  | .local _ .vmem, ⟨5, _⟩ => ⟨S4x5376, .f32⟩
  | .local _ .vmem, ⟨6, _⟩ => ⟨S1x5376, .f32⟩
  | .local _ .vmem, ⟨7, _⟩ => ⟨S128x5376, .f32⟩
  | .local _ .vmem, ⟨8, _⟩ => ⟨S128x5376, .f32⟩
  | .local _ .vmem, ⟨9, _⟩ => ⟨S128x5376, .bf16⟩
  | .local _ .vmem, ⟨10, _⟩ => ⟨S128x5376, .bf16⟩
  | .local _ .vmem, ⟨11, _⟩ => ⟨S136x5376, .f32⟩
  | _, _ => ⟨S16896x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c16_i32 : BitVec 32 := 16#32
  let v3 : BitVec 32 := Scalar.muli v2 c16_i32
  let c1_i32 : BitVec 32 := 1#32
  let v4 : BitVec 32 := Scalar.subi v3 c1_i32
  let c0_i32_0 : BitVec 32 := 0#32
  let v5 : BitVec 32 := Scalar.maxsi v4 c0_i32_0
  let c0_i32_1 : BitVec 32 := 0#32
  let c0_i32_2 : BitVec 32 := 0#32
  ![v5.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x5376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x5376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x5376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x5376 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvReferenceIdeal.lean ====
abbrev S16896x5376 : Shape := ⟨2, ![16896, 5376]⟩
abbrev S1x3x5376 : Shape := ⟨3, ![1, 3, 5376]⟩
abbrev S4x5376 : Shape := ⟨2, ![4, 5376]⟩
abbrev S5376 : Shape := ⟨1, ![5376]⟩
abbrev S3x5376 : Shape := ⟨2, ![3, 5376]⟩
abbrev S16384x5376 : Shape := ⟨2, ![16384, 5376]⟩
abbrev S16387x5376 : Shape := ⟨2, ![16387, 5376]⟩
abbrev S1x5376 : Shape := ⟨2, ![1, 5376]⟩

abbrev nBuf : Space → Nat
  | .hbm => 38
  | .vmem => 0
  | .smem => 0
  | _ => 0

abbrev bufTy : (tb : Table) → Fin (tcTables nBuf tb) → BufTy
  | .hbm, ⟨0, _⟩ => ⟨S16896x5376, .f32⟩
  | .hbm, ⟨1, _⟩ => ⟨S1x3x5376, .f32⟩
  | .hbm, ⟨2, _⟩ => ⟨S4x5376, .f32⟩
  | .hbm, ⟨3, _⟩ => ⟨S5376, .f32⟩
  | .hbm, ⟨4, _⟩ => ⟨S3x5376, .f32⟩
  | .hbm, ⟨5, _⟩ => ⟨S16384x5376, .f32⟩
  | .hbm, ⟨6, _⟩ => ⟨S16387x5376, .f32⟩
  | .hbm, ⟨7, _⟩ => ⟨S16384x5376, .f32⟩
  | .hbm, ⟨8, _⟩ => ⟨S1x5376, .f32⟩
  | .hbm, ⟨9, _⟩ => ⟨S5376, .f32⟩
  | .hbm, ⟨10, _⟩ => ⟨S1x5376, .f32⟩
  | .hbm, ⟨11, _⟩ => ⟨S16384x5376, .f32⟩
  | .hbm, ⟨12, _⟩ => ⟨S16384x5376, .f32⟩
  | .hbm, ⟨13, _⟩ => ⟨S1x5376, .f32⟩
  | .hbm, ⟨14, _⟩ => ⟨S16384x5376, .f32⟩
  | .hbm, ⟨15, _⟩ => ⟨S16384x5376, .f32⟩
  | .hbm, ⟨16, _⟩ => ⟨S16384x5376, .f32⟩
  | .hbm, ⟨17, _⟩ => ⟨S1x5376, .f32⟩
  | .hbm, ⟨18, _⟩ => ⟨S5376, .f32⟩
  | .hbm, ⟨19, _⟩ => ⟨S1x5376, .f32⟩
  | .hbm, ⟨20, _⟩ => ⟨S16384x5376, .f32⟩
  | .hbm, ⟨21, _⟩ => ⟨S16384x5376, .f32⟩
  | .hbm, ⟨22, _⟩ => ⟨S16384x5376, .f32⟩
  | .hbm, ⟨23, _⟩ => ⟨S16384x5376, .f32⟩
  | .hbm, ⟨24, _⟩ => ⟨S1x5376, .f32⟩
  | .hbm, ⟨25, _⟩ => ⟨S5376, .f32⟩
  | .hbm, ⟨26, _⟩ => ⟨S1x5376, .f32⟩
  | .hbm, ⟨27, _⟩ => ⟨S16384x5376, .f32⟩
  | .hbm, ⟨28, _⟩ => ⟨S16384x5376, .f32⟩
  | .hbm, ⟨29, _⟩ => ⟨S16384x5376, .f32⟩
  | .hbm, ⟨30, _⟩ => ⟨S16384x5376, .f32⟩
  | .hbm, ⟨31, _⟩ => ⟨S1x5376, .f32⟩
  | .hbm, ⟨32, _⟩ => ⟨S5376, .f32⟩
  | .hbm, ⟨33, _⟩ => ⟨S1x5376, .f32⟩
  | .hbm, ⟨34, _⟩ => ⟨S16384x5376, .f32⟩
  | .hbm, ⟨35, _⟩ => ⟨S16384x5376, .f32⟩
  | .hbm, ⟨36, _⟩ => ⟨S16384x5376, .f32⟩
  | .hbm, ⟨37, _⟩ => ⟨S16384x5376, .bf16⟩
  | _, _ => ⟨S16896x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Gates.lean ====
abbrev S16384x5376 : Shape := ⟨2, ![16384, 5376]⟩
abbrev S16x336x336 : Shape := ⟨3, ![16, 336, 336]⟩
abbrev S5376 : Shape := ⟨1, ![5376]⟩
abbrev S1x336x336 : Shape := ⟨3, ![1, 336, 336]⟩
abbrev S336x336 : Shape := ⟨2, ![336, 336]⟩
abbrev S_ : Shape := ⟨0, ![]⟩
abbrev S336x5376 : Shape := ⟨2, ![336, 5376]⟩
abbrev S5376x5376 : Shape := ⟨2, ![5376, 5376]⟩
abbrev S896x256 : Shape := ⟨2, ![896, 256]⟩
abbrev S1x896x256 : Shape := ⟨3, ![1, 896, 256]⟩
abbrev S16x896x256 : Shape := ⟨3, ![16, 896, 256]⟩
abbrev S5x896x256 : Shape := ⟨3, ![5, 896, 256]⟩
abbrev S21x896x256 : Shape := ⟨3, ![21, 896, 256]⟩
abbrev S1x5376 : Shape := ⟨2, ![1, 5376]⟩
abbrev S1024x5376 : Shape := ⟨2, ![1024, 5376]⟩
abbrev S1024x256 : Shape := ⟨2, ![1024, 256]⟩
abbrev S1x256 : Shape := ⟨2, ![1, 256]⟩
abbrev S256x896 : Shape := ⟨2, ![256, 896]⟩
abbrev S256x256 : Shape := ⟨2, ![256, 256]⟩

abbrev nBuf : Space → Nat
  | .hbm => 234
  | .vmem => 18
  | .smem => 0
  | _ => 0

abbrev hbmTy0_0 (i : Nat) : BufTy := match i % 128 with
  | 0 => ⟨S16384x5376, .bf16⟩
  | 1 => ⟨S16384x5376, .f32⟩
  | 2 => ⟨S16x336x336, .f32⟩
  | 3 => ⟨S16x336x336, .f32⟩
  | 4 => ⟨S5376, .f32⟩
  | 5 => ⟨S5376, .f32⟩
  | 6 => ⟨S5376, .f32⟩
  | 7 => ⟨S1x336x336, .f32⟩
  | 8 => ⟨S336x336, .f32⟩
  | 9 => ⟨S1x336x336, .f32⟩
  | 10 => ⟨S336x336, .f32⟩
  | 11 => ⟨S1x336x336, .f32⟩
  | 12 => ⟨S336x336, .f32⟩
  | 13 => ⟨S1x336x336, .f32⟩
  | 14 => ⟨S336x336, .f32⟩
  | 15 => ⟨S1x336x336, .f32⟩
  | 16 => ⟨S336x336, .f32⟩
  | 17 => ⟨S1x336x336, .f32⟩
  | 18 => ⟨S336x336, .f32⟩
  | 19 => ⟨S1x336x336, .f32⟩
  | 20 => ⟨S336x336, .f32⟩
  | 21 => ⟨S1x336x336, .f32⟩
  | 22 => ⟨S336x336, .f32⟩
  | 23 => ⟨S1x336x336, .f32⟩
  | 24 => ⟨S336x336, .f32⟩
  | 25 => ⟨S1x336x336, .f32⟩
  | 26 => ⟨S336x336, .f32⟩
  | 27 => ⟨S1x336x336, .f32⟩
  | 28 => ⟨S336x336, .f32⟩
  | 29 => ⟨S1x336x336, .f32⟩
  | 30 => ⟨S336x336, .f32⟩
  | 31 => ⟨S1x336x336, .f32⟩
  | 32 => ⟨S336x336, .f32⟩
  | 33 => ⟨S1x336x336, .f32⟩
  | 34 => ⟨S336x336, .f32⟩
  | 35 => ⟨S1x336x336, .f32⟩
  | 36 => ⟨S336x336, .f32⟩
  | 37 => ⟨S1x336x336, .f32⟩
  | 38 => ⟨S336x336, .f32⟩
  | 39 => ⟨S_, .f32⟩
  | 40 => ⟨S336x5376, .f32⟩
  | 41 => ⟨S_, .f32⟩
  | 42 => ⟨S336x5376, .f32⟩
  | 43 => ⟨S_, .f32⟩
  | 44 => ⟨S336x5376, .f32⟩
  | 45 => ⟨S_, .f32⟩
  | 46 => ⟨S336x5376, .f32⟩
  | 47 => ⟨S_, .f32⟩
  | 48 => ⟨S336x5376, .f32⟩
  | 49 => ⟨S_, .f32⟩
  | 50 => ⟨S336x5376, .f32⟩
  | 51 => ⟨S_, .f32⟩
  | 52 => ⟨S336x5376, .f32⟩
  | 53 => ⟨S_, .f32⟩
  | 54 => ⟨S336x5376, .f32⟩
  | 55 => ⟨S_, .f32⟩
  | 56 => ⟨S336x5376, .f32⟩
  | 57 => ⟨S_, .f32⟩
  | 58 => ⟨S336x5376, .f32⟩
  | 59 => ⟨S_, .f32⟩
  | 60 => ⟨S336x5376, .f32⟩
  | 61 => ⟨S_, .f32⟩
  | 62 => ⟨S336x5376, .f32⟩
  | 63 => ⟨S_, .f32⟩
  | 64 => ⟨S336x5376, .f32⟩
  | 65 => ⟨S_, .f32⟩
  | 66 => ⟨S336x5376, .f32⟩
  | 67 => ⟨S_, .f32⟩
  | 68 => ⟨S336x5376, .f32⟩
  | 69 => ⟨S_, .f32⟩
  | 70 => ⟨S336x5376, .f32⟩
  | 71 => ⟨S5376x5376, .f32⟩
  | 72 => ⟨S896x256, .f32⟩
  | 73 => ⟨S896x256, .f32⟩
  | 74 => ⟨S896x256, .f32⟩
  | 75 => ⟨S896x256, .f32⟩
  | 76 => ⟨S896x256, .f32⟩
  | 77 => ⟨S896x256, .f32⟩
  | 78 => ⟨S896x256, .f32⟩
  | 79 => ⟨S896x256, .f32⟩
  | 80 => ⟨S896x256, .f32⟩
  | 81 => ⟨S896x256, .f32⟩
  | 82 => ⟨S896x256, .f32⟩
  | 83 => ⟨S896x256, .f32⟩
  | 84 => ⟨S896x256, .f32⟩
  | 85 => ⟨S896x256, .f32⟩
  | 86 => ⟨S896x256, .f32⟩
  | 87 => ⟨S896x256, .f32⟩
  | 88 => ⟨S896x256, .f32⟩
  | 89 => ⟨S896x256, .f32⟩
  | 90 => ⟨S896x256, .f32⟩
  | 91 => ⟨S896x256, .f32⟩
  | 92 => ⟨S896x256, .f32⟩
  | 93 => ⟨S1x896x256, .f32⟩
  | 94 => ⟨S1x896x256, .f32⟩
  | 95 => ⟨S1x896x256, .f32⟩
  | 96 => ⟨S1x896x256, .f32⟩
  | 97 => ⟨S1x896x256, .f32⟩
  | 98 => ⟨S1x896x256, .f32⟩
  | 99 => ⟨S1x896x256, .f32⟩
  | 100 => ⟨S1x896x256, .f32⟩
  | 101 => ⟨S1x896x256, .f32⟩
  | 102 => ⟨S1x896x256, .f32⟩
  | 103 => ⟨S1x896x256, .f32⟩
  | 104 => ⟨S1x896x256, .f32⟩
  | 105 => ⟨S1x896x256, .f32⟩
  | 106 => ⟨S1x896x256, .f32⟩
  | 107 => ⟨S1x896x256, .f32⟩
  | 108 => ⟨S1x896x256, .f32⟩
  | 109 => ⟨S1x896x256, .f32⟩
  | 110 => ⟨S1x896x256, .f32⟩
  | 111 => ⟨S1x896x256, .f32⟩
  | 112 => ⟨S1x896x256, .f32⟩
  | 113 => ⟨S1x896x256, .f32⟩
  | 114 => ⟨S16x896x256, .f32⟩
  | 115 => ⟨S5x896x256, .f32⟩
  | 116 => ⟨S21x896x256, .f32⟩
  | 117 => ⟨S21x896x256, .bf16⟩
  | 118 => ⟨S1x336x336, .f32⟩
  | 119 => ⟨S336x336, .f32⟩
  | 120 => ⟨S1x336x336, .f32⟩
  | 121 => ⟨S336x336, .f32⟩
  | 122 => ⟨S1x336x336, .f32⟩
  | 123 => ⟨S336x336, .f32⟩
  | 124 => ⟨S1x336x336, .f32⟩
  | 125 => ⟨S336x336, .f32⟩
  | 126 => ⟨S1x336x336, .f32⟩
  | 127 => ⟨S336x336, .f32⟩
  | _ => ⟨S16384x5376, .bf16⟩

abbrev hbmTy0_1 (i : Nat) : BufTy := match i % 128 with
  | 0 => ⟨S1x336x336, .f32⟩
  | 1 => ⟨S336x336, .f32⟩
  | 2 => ⟨S1x336x336, .f32⟩
  | 3 => ⟨S336x336, .f32⟩
  | 4 => ⟨S1x336x336, .f32⟩
  | 5 => ⟨S336x336, .f32⟩
  | 6 => ⟨S1x336x336, .f32⟩
  | 7 => ⟨S336x336, .f32⟩
  | 8 => ⟨S1x336x336, .f32⟩
  | 9 => ⟨S336x336, .f32⟩
  | 10 => ⟨S1x336x336, .f32⟩
  | 11 => ⟨S336x336, .f32⟩
  | 12 => ⟨S1x336x336, .f32⟩
  | 13 => ⟨S336x336, .f32⟩
  | 14 => ⟨S1x336x336, .f32⟩
  | 15 => ⟨S336x336, .f32⟩
  | 16 => ⟨S1x336x336, .f32⟩
  | 17 => ⟨S336x336, .f32⟩
  | 18 => ⟨S1x336x336, .f32⟩
  | 19 => ⟨S336x336, .f32⟩
  | 20 => ⟨S1x336x336, .f32⟩
  | 21 => ⟨S336x336, .f32⟩
  | 22 => ⟨S_, .f32⟩
  | 23 => ⟨S336x5376, .f32⟩
  | 24 => ⟨S_, .f32⟩
  | 25 => ⟨S336x5376, .f32⟩
  | 26 => ⟨S_, .f32⟩
  | 27 => ⟨S336x5376, .f32⟩
  | 28 => ⟨S_, .f32⟩
  | 29 => ⟨S336x5376, .f32⟩
  | 30 => ⟨S_, .f32⟩
  | 31 => ⟨S336x5376, .f32⟩
  | 32 => ⟨S_, .f32⟩
  | 33 => ⟨S336x5376, .f32⟩
  | 34 => ⟨S_, .f32⟩
  | 35 => ⟨S336x5376, .f32⟩
  | 36 => ⟨S_, .f32⟩
  | 37 => ⟨S336x5376, .f32⟩
  | 38 => ⟨S_, .f32⟩
  | 39 => ⟨S336x5376, .f32⟩
  | 40 => ⟨S_, .f32⟩
  | 41 => ⟨S336x5376, .f32⟩
  | 42 => ⟨S_, .f32⟩
  | 43 => ⟨S336x5376, .f32⟩
  | 44 => ⟨S_, .f32⟩
  | 45 => ⟨S336x5376, .f32⟩
  | 46 => ⟨S_, .f32⟩
  | 47 => ⟨S336x5376, .f32⟩
  | 48 => ⟨S_, .f32⟩
  | 49 => ⟨S336x5376, .f32⟩
  | 50 => ⟨S_, .f32⟩
  | 51 => ⟨S336x5376, .f32⟩
  | 52 => ⟨S_, .f32⟩
  | 53 => ⟨S336x5376, .f32⟩
  | 54 => ⟨S5376x5376, .f32⟩
  | 55 => ⟨S896x256, .f32⟩
  | 56 => ⟨S896x256, .f32⟩
  | 57 => ⟨S896x256, .f32⟩
  | 58 => ⟨S896x256, .f32⟩
  | 59 => ⟨S896x256, .f32⟩
  | 60 => ⟨S896x256, .f32⟩
  | 61 => ⟨S896x256, .f32⟩
  | 62 => ⟨S896x256, .f32⟩
  | 63 => ⟨S896x256, .f32⟩
  | 64 => ⟨S896x256, .f32⟩
  | 65 => ⟨S896x256, .f32⟩
  | 66 => ⟨S896x256, .f32⟩
  | 67 => ⟨S896x256, .f32⟩
  | 68 => ⟨S896x256, .f32⟩
  | 69 => ⟨S896x256, .f32⟩
  | 70 => ⟨S896x256, .f32⟩
  | 71 => ⟨S896x256, .f32⟩
  | 72 => ⟨S896x256, .f32⟩
  | 73 => ⟨S896x256, .f32⟩
  | 74 => ⟨S896x256, .f32⟩
  | 75 => ⟨S896x256, .f32⟩
  | 76 => ⟨S1x896x256, .f32⟩
  | 77 => ⟨S1x896x256, .f32⟩
  | 78 => ⟨S1x896x256, .f32⟩
  | 79 => ⟨S1x896x256, .f32⟩
  | 80 => ⟨S1x896x256, .f32⟩
  | 81 => ⟨S1x896x256, .f32⟩
  | 82 => ⟨S1x896x256, .f32⟩
  | 83 => ⟨S1x896x256, .f32⟩
  | 84 => ⟨S1x896x256, .f32⟩
  | 85 => ⟨S1x896x256, .f32⟩
  | 86 => ⟨S1x896x256, .f32⟩
  | 87 => ⟨S1x896x256, .f32⟩
  | 88 => ⟨S1x896x256, .f32⟩
  | 89 => ⟨S1x896x256, .f32⟩
  | 90 => ⟨S1x896x256, .f32⟩
  | 91 => ⟨S1x896x256, .f32⟩
  | 92 => ⟨S1x896x256, .f32⟩
  | 93 => ⟨S1x896x256, .f32⟩
  | 94 => ⟨S1x896x256, .f32⟩
  | 95 => ⟨S1x896x256, .f32⟩
  | 96 => ⟨S1x896x256, .f32⟩
  | 97 => ⟨S16x896x256, .f32⟩
  | 98 => ⟨S5x896x256, .f32⟩
  | 99 => ⟨S21x896x256, .f32⟩
  | 100 => ⟨S21x896x256, .bf16⟩
  | 101 => ⟨S1x5376, .f32⟩
  | 102 => ⟨S1x5376, .f32⟩
  | 103 => ⟨S1x5376, .f32⟩
  | 104 => ⟨S16384x5376, .f32⟩
  | 105 => ⟨S16384x5376, .f32⟩
  | _ => ⟨S16384x5376, .bf16⟩

abbrev hbmTy (i : Nat) : BufTy := match i / 128 with
  | 0 => hbmTy0_0 i
  | 1 => hbmTy0_1 i
  | _ => ⟨S16384x5376, .bf16⟩

abbrev bufTy : (tb : Table) → Fin (tcTables nBuf tb) → BufTy
  | .hbm, ⟨i, _⟩ => hbmTy i
  | .local _ .vmem, ⟨0, _⟩ => ⟨S1024x5376, .bf16⟩
  | .local _ .vmem, ⟨1, _⟩ => ⟨S1024x5376, .bf16⟩
  | .local _ .vmem, ⟨2, _⟩ => ⟨S1x896x256, .bf16⟩
  | .local _ .vmem, ⟨3, _⟩ => ⟨S1x896x256, .bf16⟩
  | .local _ .vmem, ⟨4, _⟩ => ⟨S1x896x256, .bf16⟩
  | .local _ .vmem, ⟨5, _⟩ => ⟨S1x896x256, .bf16⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S16384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_cst : Ref sig .tc := ⟨.hbm, 39, rfl⟩
abbrev main_call0_v16 : Ref sig .tc := ⟨.hbm, 40, rfl⟩
abbrev main_call0_cst_0 : Ref sig .tc := ⟨.hbm, 41, rfl⟩
abbrev main_call0_v17 : Ref sig .tc := ⟨.hbm, 42, rfl⟩
abbrev main_call0_cst_1 : Ref sig .tc := ⟨.hbm, 43, rfl⟩
abbrev main_call0_v18 : Ref sig .tc := ⟨.hbm, 44, rfl⟩
abbrev main_call0_cst_2 : Ref sig .tc := ⟨.hbm, 45, rfl⟩
abbrev main_call0_v19 : Ref sig .tc := ⟨.hbm, 46, rfl⟩
abbrev main_call0_cst_3 : Ref sig .tc := ⟨.hbm, 47, rfl⟩
abbrev main_call0_v20 : Ref sig .tc := ⟨.hbm, 48, rfl⟩
abbrev main_call0_cst_4 : Ref sig .tc := ⟨.hbm, 49, rfl⟩
abbrev main_call0_v21 : Ref sig .tc := ⟨.hbm, 50, rfl⟩
abbrev main_call0_cst_5 : Ref sig .tc := ⟨.hbm, 51, rfl⟩
abbrev main_call0_v22 : Ref sig .tc := ⟨.hbm, 52, rfl⟩
abbrev main_call0_cst_6 : Ref sig .tc := ⟨.hbm, 53, rfl⟩
abbrev main_call0_v23 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_cst_9 : Ref sig .tc := ⟨.hbm, 59, rfl⟩
abbrev main_call0_v26 : Ref sig .tc := ⟨.hbm, 60, rfl⟩
abbrev main_call0_cst_10 : Ref sig .tc := ⟨.hbm, 61, rfl⟩
abbrev main_call0_v27 : Ref sig .tc := ⟨.hbm, 62, rfl⟩
abbrev main_call0_cst_11 : Ref sig .tc := ⟨.hbm, 63, rfl⟩
abbrev main_call0_v28 : Ref sig .tc := ⟨.hbm, 64, rfl⟩
abbrev main_call0_cst_12 : Ref sig .tc := ⟨.hbm, 65, rfl⟩
abbrev main_call0_v29 : Ref sig .tc := ⟨.hbm, 66, rfl⟩
abbrev main_call0_cst_13 : Ref sig .tc := ⟨.hbm, 67, rfl⟩
abbrev main_call0_v30 : Ref sig .tc := ⟨.hbm, 68, rfl⟩
abbrev main_call0_cst_14 : Ref sig .tc := ⟨.hbm, 69, rfl⟩
abbrev main_call0_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call1_cst : Ref sig .tc := ⟨.hbm, 150, rfl⟩
abbrev main_call1_v16 : Ref sig .tc := ⟨.hbm, 151, rfl⟩
abbrev main_call1_cst_0 : Ref sig .tc := ⟨.hbm, 152, rfl⟩
abbrev main_call1_v17 : Ref sig .tc := ⟨.hbm, 153, rfl⟩
abbrev main_call1_cst_1 : Ref sig .tc := ⟨.hbm, 154, rfl⟩
abbrev main_call1_v18 : Ref sig .tc := ⟨.hbm, 155, rfl⟩
abbrev main_call1_cst_2 : Ref sig .tc := ⟨.hbm, 156, rfl⟩
abbrev main_call1_v19 : Ref sig .tc := ⟨.hbm, 157, rfl⟩
abbrev main_call1_cst_3 : Ref sig .tc := ⟨.hbm, 158, rfl⟩
abbrev main_call1_v20 : Ref sig .tc := ⟨.hbm, 159, rfl⟩
abbrev main_call1_cst_4 : Ref sig .tc := ⟨.hbm, 160, rfl⟩
abbrev main_call1_v21 : Ref sig .tc := ⟨.hbm, 161, rfl⟩
abbrev main_call1_cst_5 : Ref sig .tc := ⟨.hbm, 162, rfl⟩
abbrev main_call1_v22 : Ref sig .tc := ⟨.hbm, 163, rfl⟩
abbrev main_call1_cst_6 : Ref sig .tc := ⟨.hbm, 164, rfl⟩
abbrev main_call1_v23 : Ref sig .tc := ⟨.hbm, 165, rfl⟩
abbrev main_call1_cst_7 : Ref sig .tc := ⟨.hbm, 166, rfl⟩
abbrev main_call1_v24 : Ref sig .tc := ⟨.hbm, 167, rfl⟩
abbrev main_call1_cst_8 : Ref sig .tc := ⟨.hbm, 168, rfl⟩
abbrev main_call1_v25 : Ref sig .tc := ⟨.hbm, 169, rfl⟩
abbrev main_call1_cst_9 : Ref sig .tc := ⟨.hbm, 170, rfl⟩
abbrev main_call1_v26 : Ref sig .tc := ⟨.hbm, 171, rfl⟩
abbrev main_call1_cst_10 : Ref sig .tc := ⟨.hbm, 172, rfl⟩
abbrev main_call1_v27 : Ref sig .tc := ⟨.hbm, 173, rfl⟩
abbrev main_call1_cst_11 : Ref sig .tc := ⟨.hbm, 174, rfl⟩
abbrev main_call1_v28 : Ref sig .tc := ⟨.hbm, 175, rfl⟩
abbrev main_call1_cst_12 : Ref sig .tc := ⟨.hbm, 176, rfl⟩
abbrev main_call1_v29 : Ref sig .tc := ⟨.hbm, 177, rfl⟩
abbrev main_call1_cst_13 : Ref sig .tc := ⟨.hbm, 178, rfl⟩
abbrev main_call1_v30 : Ref sig .tc := ⟨.hbm, 179, rfl⟩
abbrev main_call1_cst_14 : Ref sig .tc := ⟨.hbm, 180, rfl⟩
abbrev main_call1_v31 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161_0 : Ref sig .tc := ⟨.hbm, 232, rfl⟩
abbrev main_v161_1 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 21], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c336_i32 : BitVec 32 := 336#32
  let c0_i32_1 : BitVec 32 := 0#32
  let v7 : BitVec 1 := Scalar.cmpi .sgt c336_i32 c0_i32_1
  let v8 : BitVec 32 := Scalar.extui v7
  let c0_i32_2 : BitVec 32 := 0#32
  let v9 : BitVec 1 := Scalar.cmpi .slt c336_i32 c0_i32_2
  let v10 : BitVec 32 := Scalar.extui v9
  let v11 : BitVec 32 := Scalar.subi v8 v10
  let v12 : BitVec 1 := Scalar.cmpi .ne v6 v11
  let v13 : BitVec 32 := Scalar.remsi v0 c336_i32
  let c0_i32_3 : BitVec 32 := 0#32
  let v14 : BitVec 1 := Scalar.cmpi .ne v13 c0_i32_3
  let v15 : BitVec 1 := Scalar.andi v12 v14
  let v1 : BitVec 32 := Scalar.divsi v0 c336_i32
  let c1_i32 : BitVec 32 := 1#32
  let v16 : BitVec 32 := Scalar.subi v1 c1_i32
  let v17 : BitVec 32 := Scalar.select v15 v16 v1
  let c336_i32_4 : BitVec 32 := 336#32
  let v18 : BitVec 32 := Scalar.muli v17 c336_i32_4
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c128_i32 : BitVec 32 := 128#32
  let c0_i32_7 : BitVec 32 := 0#32
  let v25 : BitVec 1 := Scalar.cmpi .sgt c128_i32 c0_i32_7
  let v26 : BitVec 32 := Scalar.extui v25
  let c0_i32_8 : BitVec 32 := 0#32
  let v27 : BitVec 1 := Scalar.cmpi .slt c128_i32 c0_i32_8
  let v28 : BitVec 32 := Scalar.extui v27
  let v29 : BitVec 32 := Scalar.subi v26 v28
  let v30 : BitVec 1 := Scalar.cmpi .ne v24 v29
  let v31 : BitVec 32 := Scalar.remsi v18 c128_i32
  let c0_i32_9 : BitVec 32 := 0#32
  let v32 : BitVec 1 := Scalar.cmpi .ne v31 c0_i32_9
  let v33 : BitVec 1 := Scalar.andi v30 v32
  let v19 : BitVec 32 := Scalar.divsi v18 c128_i32
  let c1_i32_10 : BitVec 32 := 1#32
  let v34 : BitVec 32 := Scalar.subi v19 c1_i32_10
  let v35 : BitVec 32 := Scalar.select v33 v34 v19
  let c128_i32_11 : BitVec 32 := 128#32
  let v36 : BitVec 32 := Scalar.muli v35 c128_i32_11
  let c4480_i32 : BitVec 32 := 4480#32
  let v37 : BitVec 32 := Scalar.minsi v36 c4480_i32
  v37
def k0_off1 (i : grid0.Coords) : Fin 2 → Nat :=
  let c0_17 : Index := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c336_i32 : BitVec 32 := 336#32
  let c0_i32_1 : BitVec 32 := 0#32
  let v7 : BitVec 1 := Scalar.cmpi .sgt c336_i32 c0_i32_1
  let v8 : BitVec 32 := Scalar.extui v7
  let c0_i32_2 : BitVec 32 := 0#32
  let v9 : BitVec 1 := Scalar.cmpi .slt c336_i32 c0_i32_2
  let v10 : BitVec 32 := Scalar.extui v9
  let v11 : BitVec 32 := Scalar.subi v8 v10
  let v12 : BitVec 1 := Scalar.cmpi .ne v6 v11
  let v13 : BitVec 32 := Scalar.remsi v0 c336_i32
  let c0_i32_3 : BitVec 32 := 0#32
  let v14 : BitVec 1 := Scalar.cmpi .ne v13 c0_i32_3
  let v15 : BitVec 1 := Scalar.andi v12 v14
  let v1 : BitVec 32 := Scalar.divsi v0 c336_i32
  let c1_i32 : BitVec 32 := 1#32
  let v16 : BitVec 32 := Scalar.subi v1 c1_i32
  let v17 : BitVec 32 := Scalar.select v15 v16 v1
  let c336_i32_4 : BitVec 32 := 336#32
  let v18 : BitVec 32 := Scalar.muli v17 c336_i32_4
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c128_i32 : BitVec 32 := 128#32
  let c0_i32_7 : BitVec 32 := 0#32
  let v25 : BitVec 1 := Scalar.cmpi .sgt c128_i32 c0_i32_7
  let v26 : BitVec 32 := Scalar.extui v25
  let c0_i32_8 : BitVec 32 := 0#32
  let v27 : BitVec 1 := Scalar.cmpi .slt c128_i32 c0_i32_8
  let v28 : BitVec 32 := Scalar.extui v27
  let v29 : BitVec 32 := Scalar.subi v26 v28
  let v30 : BitVec 1 := Scalar.cmpi .ne v24 v29
  let v31 : BitVec 32 := Scalar.remsi v18 c128_i32
  let c0_i32_9 : BitVec 32 := 0#32
  let v32 : BitVec 1 := Scalar.cmpi .ne v31 c0_i32_9
  let v33 : BitVec 1 := Scalar.andi v30 v32
  let v19 : BitVec 32 := Scalar.divsi v18 c128_i32
  let c1_i32_10 : BitVec 32 := 1#32
  let v34 : BitVec 32 := Scalar.subi v19 c1_i32_10
  let v35 : BitVec 32 := Scalar.select v33 v34 v19
  let c128_i32_11 : BitVec 32 := 128#32
  let v36 : BitVec 32 := Scalar.muli v35 c128_i32_11
  let c4480_i32 : BitVec 32 := 4480#32
  let v37 : BitVec 32 := Scalar.minsi v36 c4480_i32
  let v38 : BitVec 32 := v37
  let v45 : Index := Scalar.indexCast v38
  ![0, v45.toNat]
def k0_off2 (i : grid0.Coords) : Fin 2 → Nat :=
  let c256 : Index := 256#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c336_i32 : BitVec 32 := 336#32
  let c0_i32_1 : BitVec 32 := 0#32
  let v7 : BitVec 1 := Scalar.cmpi .sgt c336_i32 c0_i32_1
  let v8 : BitVec 32 := Scalar.extui v7
  let c0_i32_2 : BitVec 32 := 0#32
  let v9 : BitVec 1 := Scalar.cmpi .slt c336_i32 c0_i32_2
  let v10 : BitVec 32 := Scalar.extui v9
  let v11 : BitVec 32 := Scalar.subi v8 v10
  let v12 : BitVec 1 := Scalar.cmpi .ne v6 v11
  let v13 : BitVec 32 := Scalar.remsi v0 c336_i32
  let c0_i32_3 : BitVec 32 := 0#32
  let v14 : BitVec 1 := Scalar.cmpi .ne v13 c0_i32_3
  let v15 : BitVec 1 := Scalar.andi v12 v14
  let v1 : BitVec 32 := Scalar.divsi v0 c336_i32
  let c1_i32 : BitVec 32 := 1#32
  let v16 : BitVec 32 := Scalar.subi v1 c1_i32
  let v17 : BitVec 32 := Scalar.select v15 v16 v1
  let c336_i32_4 : BitVec 32 := 336#32
  let v18 : BitVec 32 := Scalar.muli v17 c336_i32_4
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c128_i32 : BitVec 32 := 128#32
  let c0_i32_7 : BitVec 32 := 0#32
  let v25 : BitVec 1 := Scalar.cmpi .sgt c128_i32 c0_i32_7
  let v26 : BitVec 32 := Scalar.extui v25
  let c0_i32_8 : BitVec 32 := 0#32
  let v27 : BitVec 1 := Scalar.cmpi .slt c128_i32 c0_i32_8
  let v28 : BitVec 32 := Scalar.extui v27
  let v29 : BitVec 32 := Scalar.subi v26 v28
  let v30 : BitVec 1 := Scalar.cmpi .ne v24 v29
  let v31 : BitVec 32 := Scalar.remsi v18 c128_i32
  let c0_i32_9 : BitVec 32 := 0#32
  let v32 : BitVec 1 := Scalar.cmpi .ne v31 c0_i32_9
  let v33 : BitVec 1 := Scalar.andi v30 v32
  let v19 : BitVec 32 := Scalar.divsi v18 c128_i32
  let c1_i32_10 : BitVec 32 := 1#32
  let v34 : BitVec 32 := Scalar.subi v19 c1_i32_10
  let v35 : BitVec 32 := Scalar.select v33 v34 v19
  let c128_i32_11 : BitVec 32 := 128#32
  let v36 : BitVec 32 := Scalar.muli v35 c128_i32_11
  let c4480_i32 : BitVec 32 := 4480#32
  let v37 : BitVec 32 := Scalar.minsi v36 c4480_i32
  let v38 : BitVec 32 := v37
  let v83 : Index := Scalar.indexCast v38
  ![256, v83.toNat]
def k0_off3 (i : grid0.Coords) : Fin 2 → Nat :=
  let c512 : Index := 512#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c336_i32 : BitVec 32 := 336#32
  let c0_i32_1 : BitVec 32 := 0#32
  let v7 : BitVec 1 := Scalar.cmpi .sgt c336_i32 c0_i32_1
  let v8 : BitVec 32 := Scalar.extui v7
  let c0_i32_2 : BitVec 32 := 0#32
  let v9 : BitVec 1 := Scalar.cmpi .slt c336_i32 c0_i32_2
  let v10 : BitVec 32 := Scalar.extui v9
  let v11 : BitVec 32 := Scalar.subi v8 v10
  let v12 : BitVec 1 := Scalar.cmpi .ne v6 v11
  let v13 : BitVec 32 := Scalar.remsi v0 c336_i32
  let c0_i32_3 : BitVec 32 := 0#32
  let v14 : BitVec 1 := Scalar.cmpi .ne v13 c0_i32_3
  let v15 : BitVec 1 := Scalar.andi v12 v14
  let v1 : BitVec 32 := Scalar.divsi v0 c336_i32
  let c1_i32 : BitVec 32 := 1#32
  let v16 : BitVec 32 := Scalar.subi v1 c1_i32
  let v17 : BitVec 32 := Scalar.select v15 v16 v1
  let c336_i32_4 : BitVec 32 := 336#32
  let v18 : BitVec 32 := Scalar.muli v17 c336_i32_4
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c128_i32 : BitVec 32 := 128#32
  let c0_i32_7 : BitVec 32 := 0#32
  let v25 : BitVec 1 := Scalar.cmpi .sgt c128_i32 c0_i32_7
  let v26 : BitVec 32 := Scalar.extui v25
  let c0_i32_8 : BitVec 32 := 0#32
  let v27 : BitVec 1 := Scalar.cmpi .slt c128_i32 c0_i32_8
  let v28 : BitVec 32 := Scalar.extui v27
  let v29 : BitVec 32 := Scalar.subi v26 v28
  let v30 : BitVec 1 := Scalar.cmpi .ne v24 v29
  let v31 : BitVec 32 := Scalar.remsi v18 c128_i32
  let c0_i32_9 : BitVec 32 := 0#32
  let v32 : BitVec 1 := Scalar.cmpi .ne v31 c0_i32_9
  let v33 : BitVec 1 := Scalar.andi v30 v32
  let v19 : BitVec 32 := Scalar.divsi v18 c128_i32
  let c1_i32_10 : BitVec 32 := 1#32
  let v34 : BitVec 32 := Scalar.subi v19 c1_i32_10
  let v35 : BitVec 32 := Scalar.select v33 v34 v19
  let c128_i32_11 : BitVec 32 := 128#32
  let v36 : BitVec 32 := Scalar.muli v35 c128_i32_11
  let c4480_i32 : BitVec 32 := 4480#32
  let v37 : BitVec 32 := Scalar.minsi v36 c4480_i32
  let v38 : BitVec 32 := v37
  let v121 : Index := Scalar.indexCast v38
  ![512, v121.toNat]
def k0_off4 (i : grid0.Coords) : Fin 2 → Nat :=
  let c768 : Index := 768#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c336_i32 : BitVec 32 := 336#32
  let c0_i32_1 : BitVec 32 := 0#32
  let v7 : BitVec 1 := Scalar.cmpi .sgt c336_i32 c0_i32_1
  let v8 : BitVec 32 := Scalar.extui v7
  let c0_i32_2 : BitVec 32 := 0#32
  let v9 : BitVec 1 := Scalar.cmpi .slt c336_i32 c0_i32_2
  let v10 : BitVec 32 := Scalar.extui v9
  let v11 : BitVec 32 := Scalar.subi v8 v10
  let v12 : BitVec 1 := Scalar.cmpi .ne v6 v11
  let v13 : BitVec 32 := Scalar.remsi v0 c336_i32
  let c0_i32_3 : BitVec 32 := 0#32
  let v14 : BitVec 1 := Scalar.cmpi .ne v13 c0_i32_3
  let v15 : BitVec 1 := Scalar.andi v12 v14
  let v1 : BitVec 32 := Scalar.divsi v0 c336_i32
  let c1_i32 : BitVec 32 := 1#32
  let v16 : BitVec 32 := Scalar.subi v1 c1_i32
  let v17 : BitVec 32 := Scalar.select v15 v16 v1
  let c336_i32_4 : BitVec 32 := 336#32
  let v18 : BitVec 32 := Scalar.muli v17 c336_i32_4
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c128_i32 : BitVec 32 := 128#32
  let c0_i32_7 : BitVec 32 := 0#32
  let v25 : BitVec 1 := Scalar.cmpi .sgt c128_i32 c0_i32_7
  let v26 : BitVec 32 := Scalar.extui v25
  let c0_i32_8 : BitVec 32 := 0#32
  let v27 : BitVec 1 := Scalar.cmpi .slt c128_i32 c0_i32_8
  let v28 : BitVec 32 := Scalar.extui v27
  let v29 : BitVec 32 := Scalar.subi v26 v28
  let v30 : BitVec 1 := Scalar.cmpi .ne v24 v29
  let v31 : BitVec 32 := Scalar.remsi v18 c128_i32
  let c0_i32_9 : BitVec 32 := 0#32
  let v32 : BitVec 1 := Scalar.cmpi .ne v31 c0_i32_9
  let v33 : BitVec 1 := Scalar.andi v30 v32
  let v19 : BitVec 32 := Scalar.divsi v18 c128_i32
  let c1_i32_10 : BitVec 32 := 1#32
  let v34 : BitVec 32 := Scalar.subi v19 c1_i32_10
  let v35 : BitVec 32 := Scalar.select v33 v34 v19
  let c128_i32_11 : BitVec 32 := 128#32
  let v36 : BitVec 32 := Scalar.muli v35 c128_i32_11
  let c4480_i32 : BitVec 32 := 4480#32
  let v37 : BitVec 32 := Scalar.minsi v36 c4480_i32
  let v38 : BitVec 32 := v37
  let v159 : Index := Scalar.indexCast v38
  ![768, v159.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x896x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x896x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GatesReferenceIdeal.lean ====
abbrev S16384x5376 : Shape := ⟨2, ![16384, 5376]⟩
abbrev S16x336x336 : Shape := ⟨3, ![16, 336, 336]⟩
abbrev S5376 : Shape := ⟨1, ![5376]⟩
abbrev S16384x16x336 : Shape := ⟨3, ![16384, 16, 336]⟩
abbrev S16x336x16384 : Shape := ⟨3, ![16, 336, 16384]⟩
abbrev S1x5376 : Shape := ⟨2, ![1, 5376]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S16384x5376, .bf16⟩
  | .hbm, ⟨1, _⟩ => ⟨S16384x5376, .f32⟩
  | .hbm, ⟨2, _⟩ => ⟨S16x336x336, .f32⟩
  | .hbm, ⟨3, _⟩ => ⟨S16x336x336, .f32⟩
  | .hbm, ⟨4, _⟩ => ⟨S5376, .f32⟩
  | .hbm, ⟨5, _⟩ => ⟨S5376, .f32⟩
  | .hbm, ⟨6, _⟩ => ⟨S5376, .f32⟩
  | .hbm, ⟨7, _⟩ => ⟨S16384x5376, .f32⟩
  | .hbm, ⟨8, _⟩ => ⟨S16384x16x336, .f32⟩
  | .hbm, ⟨9, _⟩ => ⟨S16x336x16384, .f32⟩
  | .hbm, ⟨10, _⟩ => ⟨S16384x16x336, .f32⟩
  | .hbm, ⟨11, _⟩ => ⟨S16384x5376, .f32⟩
  | .hbm, ⟨12, _⟩ => ⟨S1x5376, .f32⟩
  | .hbm, ⟨13, _⟩ => ⟨S16384x5376, .f32⟩
  | .hbm, ⟨14, _⟩ => ⟨S16384x5376, .f32⟩
  | .hbm, ⟨15, _⟩ => ⟨S16384x5376, .f32⟩
  | .hbm, ⟨16, _⟩ => ⟨S16384x5376, .f32⟩
  | .hbm, ⟨17, _⟩ => ⟨S_, .f32⟩
  | .hbm, ⟨18, _⟩ => ⟨S16384x5376, .f32⟩
  | .hbm, ⟨19, _⟩ => ⟨S16384x5376, .f32⟩
  | .hbm, ⟨20, _⟩ => ⟨S_, .f32⟩
  | .hbm, ⟨21, _⟩ => ⟨S16384x5376, .f32⟩
  | .hbm, ⟨22, _⟩ => ⟨S16384x5376, .f32⟩
  | .hbm, ⟨23, _⟩ => ⟨S16x336x16384, .f32⟩
  | .hbm, ⟨24, _⟩ => ⟨S16384x16x336, .f32⟩
  | .hbm, ⟨25, _⟩ => ⟨S16384x5376, .f32⟩
  | .hbm, ⟨26, _⟩ => ⟨S1x5376, .f32⟩
  | .hbm, ⟨27, _⟩ => ⟨S16384x5376, .f32⟩
  | .hbm, ⟨28, _⟩ => ⟨S16384x5376, .f32⟩
  | .hbm, ⟨29, _⟩ => ⟨S16384x5376, .f32⟩
  | .hbm, ⟨30, _⟩ => ⟨S16384x5376, .f32⟩
  | .hbm, ⟨31, _⟩ => ⟨S_, .f32⟩
  | .hbm, ⟨32, _⟩ => ⟨S16384x5376, .f32⟩
  | .hbm, ⟨33, _⟩ => ⟨S16384x5376, .f32⟩
  | .hbm, ⟨34, _⟩ => ⟨S_, .f32⟩
  | .hbm, ⟨35, _⟩ => ⟨S16384x5376, .f32⟩
  | .hbm, ⟨36, _⟩ => ⟨S16384x5376, .f32⟩
  | .hbm, ⟨37, _⟩ => ⟨S_, .f32⟩
  | .hbm, ⟨38, _⟩ => ⟨S16384x5376, .f32⟩
  | .hbm, ⟨39, _⟩ => ⟨S16384x5376, .f32⟩
  | .hbm, ⟨40, _⟩ => ⟨S5376, .f32⟩
  | .hbm, ⟨41, _⟩ => ⟨S_, .f32⟩
  | .hbm, ⟨42, _⟩ => ⟨S5376, .f32⟩
  | .hbm, ⟨43, _⟩ => ⟨S5376, .f32⟩
  | .hbm, ⟨44, _⟩ => ⟨S5376, .f32⟩
  | .hbm, ⟨45, _⟩ => ⟨S5376, .f32⟩
  | .hbm, ⟨46, _⟩ => ⟨S5376, .i1⟩
  | .hbm, ⟨47, _⟩ => ⟨S5376, .f32⟩
  | .hbm, ⟨48, _⟩ => ⟨S5376, .f32⟩
  | .hbm, ⟨49, _⟩ => ⟨S5376, .f32⟩
  | .hbm, ⟨50, _⟩ => ⟨S5376, .f32⟩
  | .hbm, ⟨51, _⟩ => ⟨S5376, .f32⟩
  | .hbm, ⟨52, _⟩ => ⟨S5376, .f32⟩
  | .hbm, ⟨53, _⟩ => ⟨S5376, .f32⟩
  | .hbm, ⟨54, _⟩ => ⟨S5376, .f32⟩
  | .hbm, ⟨55, _⟩ => ⟨S1x5376, .f32⟩
  | .hbm, ⟨56, _⟩ => ⟨S16384x5376, .f32⟩
  | .hbm, ⟨57, _⟩ => ⟨S16384x5376, .f32⟩
  | .hbm, ⟨58, _⟩ => ⟨S16384x5376, .f32⟩
  | .hbm, ⟨59, _⟩ => ⟨S_, .f32⟩
  | .hbm, ⟨60, _⟩ => ⟨S16384x5376, .f32⟩
  | .hbm, ⟨61, _⟩ => ⟨S16384x5376, .f32⟩
  | .hbm, ⟨62, _⟩ => ⟨S16384x5376, .f32⟩
  | .hbm, ⟨63, _⟩ => ⟨S16384x5376, .f32⟩
  | .hbm, ⟨64, _⟩ => ⟨S16384x5376, .f32⟩
  | .hbm, ⟨65, _⟩ => ⟨S16384x5376, .f32⟩
  | .hbm, ⟨66, _⟩ => ⟨S16384x5376, .f32⟩
  | _, _ => ⟨S16384x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.OnlineSoftmax.lean ====
module

public import Idealize.ShloMosaic.PureOps.Ideal
public import Idealize.ShloMosaic.Lib.Pointwise

@[expose] public section

set_option maxRecDepth 16384

/-!
# The running softmax, on extended reals

A row's keys come in tiles.  After some tiles the kernel holds a maximum `m`, a denominator `l` and an accumulator `a`.
What they mean is said by sums that mention no maximum: `L = ∑ 2 ^ s` and `A = ∑ 2 ^ s * v` over the keys seen.
-/

noncomputable section

namespace Cert.Online

open Idealize.ShloMosaic

/-- The state `(m, l, a)` of a row stands for the plain sums `L` and `A`: either no key has been selected yet, or the
maximum is a real number and `l`, `a` are `L`, `A` scaled by two to the minus that maximum. -/
def Stands (m l a L A : EReal) : Prop :=
  (m = ⊥ ∧ l = 0 ∧ a = 0 ∧ L = 0 ∧ A = 0) ∨
    ∃ r : ℝ, m = r ∧ l = L * ((2 : ℝ) ^ (-r) : ℝ) ∧ a = A * ((2 : ℝ) ^ (-r) : ℝ)

/-- Two to a real power is the real power. -/
theorem exp2_coe (x : ℝ) : Ideal.exp2 (x : EReal) = ((2 : ℝ) ^ x : ℝ) := Ideal.exp2_coe x

/-- Two to the power of `s - r` is two to the `s` times two to the `-r`, for a real `r` and an `s` that is not `⊤`. -/
theorem exp2_sub {s : EReal} (hs : s ≠ ⊤) (r : ℝ) :
    Ideal.exp2 (s - r) = Ideal.exp2 s * ((2 : ℝ) ^ (-r) : ℝ) := by
  induction s using EReal.rec with
  | bot => simp
  | top => exact absurd rfl hs
  | coe x =>
    rw [← EReal.coe_sub, exp2_coe, exp2_coe, ← EReal.coe_mul, sub_eq_add_neg, Real.rpow_add two_pos]

/-- A finite sum times a nonnegative real is the sum of the products, whatever the terms are. -/
theorem sum_mul_coe {ι : Type*} (S : Finset ι) (f : ι → EReal) {c : ℝ} (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, EReal.right_distrib_of_nonneg_of_ne_top (by exact_mod_cast hc) (EReal.coe_ne_top c), ih]

/-- Two to any power but `⊤` is a nonnegative real. -/
theorem exp2_real {s : EReal} (hs : s ≠ ⊤) : ∃ x : ℝ, 0 ≤ x ∧ Ideal.exp2 s = x := by
  induction s using EReal.rec with
  | bot => exact ⟨0, le_refl _, by simp⟩
  | top => exact absurd rfl hs
  | coe x => exact ⟨(2 : ℝ) ^ x, by positivity, exp2_coe x⟩

/-- A sum scaled to the maximum `r` is rescaled to the maximum `r'`. -/
theorem rescale (L : EReal) (r r' : ℝ) :
    Ideal.exp2 ((r : EReal) - r') * (L * ((2 : ℝ) ^ (-r) : ℝ)) = L * ((2 : ℝ) ^ (-r') : ℝ) := by
  rw [← EReal.coe_sub, exp2_coe, mul_comm, mul_assoc, ← EReal.coe_mul, ← Real.rpow_add two_pos]
  congr 3
  ring

/-- One tile more: the new maximum, the rescaled denominator and the rescaled accumulator stand for the longer sums. -/
theorem step {ι : Type*} [Fintype ι] {m l a L A : EReal} (h : Stands m l a L A) (s v : ι → EReal) (hs : ∀ k, s k ≠ ⊤)
    {m' l' a' : EReal} (hm : m' = max m (Finset.univ.sup s))
    (hl : l' = Ideal.exp2 (m - m') * l + ∑ k, Ideal.exp2 (s k - m'))
    (ha : a' = Ideal.exp2 (m - m') * a + ∑ k, Ideal.exp2 (s k - m') * v k) :
    Stands m' l' a' (L + ∑ k, Ideal.exp2 (s k)) (A + ∑ k, Ideal.exp2 (s k) * v k) := by
  have hsup : Finset.univ.sup s ≠ ⊤ := by
    rw [← lt_top_iff_ne_top, Finset.sup_lt_iff (bot_lt_top)]
    exact fun k _ => lt_top_iff_ne_top.2 (hs k)
  have hle : ∀ k, s k ≤ m' := fun k => hm ▸ (Finset.le_sup (Finset.mem_univ k)).trans (le_max_right _ _)
  have hmt : m ≠ ⊤ := by
    rcases h with h | ⟨r, h, _⟩
    · rw [h.1]; exact bot_ne_top
    · rw [h]; exact EReal.coe_ne_top r
  have hmt' : m' ≠ ⊤ := by
    rw [hm]; exact ne_of_lt (max_lt (lt_top_iff_ne_top.2 hmt) (lt_top_iff_ne_top.2 hsup))
  induction m' using EReal.rec with
  | top => exact absurd rfl hmt'
  | bot =>
    have hb : ∀ k, s k = ⊥ := fun k => le_bot_iff.1 (hle k)
    have hmb : m = ⊥ := le_bot_iff.1 (hm ▸ le_max_left _ _)
    rcases h with ⟨-, h1, h2, h3, h4⟩ | ⟨r, h, _⟩
    · left
      subst h1 h2 h3 h4
      refine ⟨rfl, ?_, ?_, ?_, ?_⟩
      · rw [hl]; simp [hb, hmb]
      · rw [ha]; simp [hb, hmb]
      · simp [hb]
      · simp [hb]
    · exact absurd (h.symm.trans hmb) (EReal.coe_ne_bot r)
  | coe r' =>
    right
    have hp : (0 : ℝ) ≤ (2 : ℝ) ^ (-r') := by positivity
    have e1 : ∑ k, Ideal.exp2 (s k - (r' : EReal)) = (∑ k, Ideal.exp2 (s k)) * ((2 : ℝ) ^ (-r') : ℝ) := by
      rw [sum_mul_coe _ _ hp]
      exact Finset.sum_congr rfl fun k _ => exp2_sub (hs k) r'
    have e2 : ∑ k, Ideal.exp2 (s k - (r' : EReal)) * v k = (∑ k, Ideal.exp2 (s k) * v k) * ((2 : ℝ) ^ (-r') : ℝ) := by
      rw [sum_mul_coe _ _ hp]
      refine Finset.sum_congr rfl fun k _ => ?_
      rw [exp2_sub (hs k) r', mul_assoc, mul_assoc, mul_comm (v k)]
    refine ⟨r', rfl, ?_, ?_⟩
    all_goals
      rw [EReal.right_distrib_of_nonneg_of_ne_top (by exact_mod_cast hp) (EReal.coe_ne_top _)]
    · rw [hl, e1]
      congr 1
      rcases h with ⟨h0, h1, h2, h3, h4⟩ | ⟨r, h0, h1, h2⟩
      · simp [h1, h3]
      · rw [h0, h1, rescale]
    · rw [ha, e2]
      congr 1
      rcases h with ⟨h0, h1, h2, h3, h4⟩ | ⟨r, h0, h1, h2⟩
      · simp [h2, h4]
      · rw [h0, h2, rescale]

/-- A finite sum of reals, read among the extended reals, is the sum of their readings. -/
theorem coe_sum {ι : Type*} (S : Finset ι) (x : ι → ℝ) : ((∑ k ∈ S, x k : ℝ) : EReal) = ∑ k ∈ S, (x k : EReal) := by
  classical
  induction S using Finset.induction_on with
  | empty => simp
  | insert a S ha ih => rw [Finset.sum_insert ha, Finset.sum_insert ha, EReal.coe_add, ih]

/-- A sum of nonnegative reals, one of them not zero, is a positive real. -/
theorem sum_real {ι : Type*} [Fintype ι] (w : ι → EReal) (hw : ∀ k, ∃ x : ℝ, 0 ≤ x ∧ w k = x) (hpos : ∃ k, w k ≠ 0) :
    ∃ z : ℝ, 0 < z ∧ ∑ k, w k = z := by
  choose x hx hwx using hw
  obtain ⟨k, hk⟩ := hpos
  refine ⟨∑ k, x k, Finset.sum_pos' (fun k _ => hx k) ⟨k, Finset.mem_univ k, lt_of_le_of_ne (hx k) fun h => hk ?_⟩, ?_⟩
  · rw [hwx, ← h]; rfl
  · rw [coe_sum]
    exact Finset.sum_congr rfl fun k _ => hwx k

/-- At the end the quotient of the accumulator by the denominator is the mean of the values weighted by the softmax,
for weights `p` that are the powers of two up to one positive factor. -/
theorem finish {ι : Type*} [Fintype ι] {m l a : EReal} (w v p : ι → EReal) (hw : ∀ k, ∃ x : ℝ, 0 ≤ x ∧ w k = x)
    (hpos : ∃ k, w k ≠ 0) {c : ℝ} (hc : 0 < c) (hp : ∀ k, p k = w k * (c : EReal))
    (h : Stands m l a (∑ k, w k) (∑ k, w k * v k)) :
    Ideal.div a l = ∑ k, Ideal.div (p k) (∑ k, p k) * v k := by
  obtain ⟨z, hz, hL⟩ := sum_real w hw hpos
  have hP : ∑ k, p k = ((z * c : ℝ) : EReal) := by
    rw [EReal.coe_mul, ← hL, sum_mul_coe _ _ hc.le]
    exact Finset.sum_congr rfl fun k _ => hp k
  rcases h with ⟨-, -, -, h3, -⟩ | ⟨r, -, h1, h2⟩
  · rw [hL] at h3
    exact absurd (EReal.coe_eq_zero.1 h3) hz.ne'
  · have hr : (0 : ℝ) < (2 : ℝ) ^ (-r) := by positivity
    have hx : ∀ k, Ideal.div (p k) (∑ k, p k) * v k = w k * v k * ((z⁻¹ : ℝ) : EReal) := by
      intro k
      obtain ⟨x, -, hx⟩ := hw k
      rw [hP, hp, hx, Ideal.div_coe (mul_pos hz hc).ne', ← EReal.coe_mul, ← EReal.coe_mul, mul_right_comm (x : EReal),
        ← EReal.coe_mul]
      congr 2
      field_simp
    rw [Finset.sum_congr rfl fun k _ => hx k, ← sum_mul_coe _ _ (by positivity), h1, h2, hL, ← EReal.coe_mul,
      Ideal.div_coe (mul_pos hz hr).ne', mul_assoc, ← EReal.coe_mul]
    congr 2
    field_simp

end Cert.Online

end
-- ==== Proof.AttentionTile.lean ====
module

public import proofs.«01_k».proof.Proof.OnlineSoftmax
public import proofs.«01_k».proof.Proof.Gen.AttentionIdeal.Skeleton
public import Idealize.ShloMosaic.Lib.Pointwise

@[expose] public section

set_option maxRecDepth 16384

/-!
# One tile of keys in the attention kernel

The kernel treats its five tiles of 256 keys alike once the scores are there.  This module names the three updates and
reads them row by row.
-/

noncomputable section

namespace Cert.AttentionIdeal.Algebra

open Cert.AttentionIdeal Cert.AttentionIdeal.Gen Idealize.ShloMosaic Idealize.ShloMosaic.TcCoe Idealize.SL.Sem

/-- The maximum after a tile with scores `s`. -/
def newM (s : FVec Ideal S128x256 .f32) (mo : FVec Ideal S128x128 .f32) : FVec Ideal S128x128 .f32 :=
  maximumf mo (broadcastTo S128x128 (shapeCast S128x1 (shapeCast S128x1 (multiReduction .maximumf [1] S128
    (maximumf (extractStridedSlice S128x128 ![0, 0] s slices_S128x256_o0_0_S128x128)
      (extractStridedSlice S128x128 ![0, 128] s slices_S128x256_o0_128_S128x128)) 0xFF800000#32 reduces_S128x128_S128 (.inl rfl) rfl)
    shapeCasts_S128_S128x1) shapeCasts_S128x1_S128x1) broadcasts_S128x1_S128x128)

/-- The factor by which a tile rescales what the earlier ones left. -/
def alpha (mo mn : FVec Ideal S128x128 .f32) : FVec Ideal S128x128 .f32 := exp2 (subf mo mn)

/-- The weights of a tile's keys under the new maximum. -/
def weights (s : FVec Ideal S128x256 .f32) (mn : FVec Ideal S128x128 .f32) : FVec Ideal S128x256 .f32 :=
  exp2 (subf s (concatenate S128x256 1 [⟨S128x128, mn⟩, ⟨S128x128, mn⟩] concatenates_S128x128_S128x128_S128x256_d1))

/-- The denominator after a tile. -/
def newL (s : FVec Ideal S128x256 .f32) (mo lo : FVec Ideal S128x128 .f32) : FVec Ideal S128x128 .f32 :=
  addf (mulf (alpha mo (newM s mo)) lo) (broadcastTo S128x128 (shapeCast S128x1 (shapeCast S128x1 (multiReduction .add [1] S128
    (addf (extractStridedSlice S128x128 ![0, 0] (weights s (newM s mo)) slices_S128x256_o0_0_S128x128)
      (extractStridedSlice S128x128 ![0, 128] (weights s (newM s mo)) slices_S128x256_o0_128_S128x128)) 0x00000000#32 reduces_S128x128_S128 (.inl rfl) rfl)
    shapeCasts_S128_S128x1) shapeCasts_S128x1_S128x1) broadcasts_S128x1_S128x128)

/-- The accumulator after a tile. -/
def newA (s : FVec Ideal S128x256 .f32) (v : FVec Ideal S256x128 .bf16) (mo ao : FVec Ideal S128x128 .f32) : FVec Ideal S128x128 .f32 :=
  addf (mulf (alpha mo (newM s mo)) ao) (matmul dot_S128x256_S256x128_S128x128_1_0_0_1_n_n none
    (truncf .bf16 (weights s (newM s mo)) bitsLt_bf16_f32) v (constant S128x128 .f32 0x00000000#32))

/-- The least float pattern means `⊥`. -/
theorem ofBits_negInf : Ideal.ofBits .f32 4286578688#32 = ⊥ := by simp [Ideal.ofBits, Ideal.ieee]

/-- The greater of the two halves' maxima is the maximum over all 256 keys. -/
theorem fold_halves (f : Fin 256 → EReal) :
    Finset.fold max ⊥ (fun x : Fin 128 => max (f ⟨x.val, by omega⟩) (f ⟨128 + x.val, by omega⟩)) Finset.univ
      = Finset.univ.sup f := by
  change Finset.univ.sup _ = _
  apply le_antisymm
  · exact Finset.sup_le fun x _ => max_le (Finset.le_sup (Finset.mem_univ _)) (Finset.le_sup (Finset.mem_univ _))
  · refine Finset.sup_le fun k _ => ?_
    by_cases hk : k.val < 128
    · exact (le_max_left _ _).trans (Finset.le_sup (f := fun x : Fin 128 => max (f ⟨x.val, by omega⟩) (f ⟨128 + x.val, by omega⟩))
        (Finset.mem_univ ⟨k.val, hk⟩))
    · have e : f k = f ⟨128 + (k.val - 128), by omega⟩ := congrArg f (Fin.ext (by simp; omega))
      rw [e]
      exact (le_max_right _ _).trans (Finset.le_sup (f := fun x : Fin 128 => max (f ⟨x.val, by omega⟩) (f ⟨128 + x.val, by omega⟩))
        (Finset.mem_univ ⟨k.val - 128, by omega⟩))

/-- The new maximum of a row: the old one or the greatest score of the tile. -/
theorem newM_at (s : FVec Ideal S128x256 .f32) (mo : FVec Ideal S128x128 .f32) (r c : Fin 128) :
    newM s mo (ix2 r c) = max (mo (ix2 r c)) (Finset.univ.sup fun k : Fin 256 => s (ix2 r k)) := by
  pointwise [newM]
  rw [ofBits_negInf, fold_halves fun k => s (ix2 r k)]

/-- If the old maxima of a row are alike in every lane, so are the new ones. -/
theorem newM_lane (s : FVec Ideal S128x256 .f32) {mo : FVec Ideal S128x128 .f32} (h : ∀ r c c' : Fin 128, mo (ix2 r c) = mo (ix2 r c'))
    (r c c' : Fin 128) : newM s mo (ix2 r c) = newM s mo (ix2 r c') := by
  rw [newM_at, newM_at, h r c c']

/-- The new denominator of a row. -/
theorem newL_at (s : FVec Ideal S128x256 .f32) {mo : FVec Ideal S128x128 .f32} (lo : FVec Ideal S128x128 .f32)
    (h : ∀ r c c' : Fin 128, mo (ix2 r c) = mo (ix2 r c')) (r c : Fin 128) :
    newL s mo lo (ix2 r c) = Ideal.exp2 (mo (ix2 r c) - newM s mo (ix2 r c)) * lo (ix2 r c)
      + ∑ k : Fin 256, Ideal.exp2 (s (ix2 r k) - newM s mo (ix2 r c)) := by
  pointwise [newL, alpha, weights]
  rw [Fin.sum_univ_two_halves 128 128 rfl fun k : Fin 256 => Ideal.exp2 (s (ix2 r k) - newM s mo (ix2 r c)), ← Finset.sum_add_distrib]
  refine congrArg₂ _ rfl (Finset.sum_congr rfl fun x _ => ?_)
  rw [newM_lane s h r x c]
  rfl

/-- The new accumulator of a row. -/
theorem newA_at (s : FVec Ideal S128x256 .f32) (v : FVec Ideal S256x128 .bf16) {mo : FVec Ideal S128x128 .f32} (ao : FVec Ideal S128x128 .f32)
    (h : ∀ r c c' : Fin 128, mo (ix2 r c) = mo (ix2 r c')) (r c : Fin 128) :
    newA s v mo ao (ix2 r c) = Ideal.exp2 (mo (ix2 r c) - newM s mo (ix2 r c)) * ao (ix2 r c)
      + ∑ k : Fin 256, Ideal.exp2 (s (ix2 r k) - newM s mo (ix2 r c)) * v (ix2 k c) := by
  pointwise [newA, alpha, weights]
  rw [Fin.sum_univ_two_halves 128 128 rfl fun k : Fin 256 => Ideal.exp2 (s (ix2 r k) - newM s mo (ix2 r c)) * v (ix2 k c)]
  refine congrArg₂ _ rfl (congrArg₂ _ (Finset.sum_congr rfl fun x _ => ?_) (Finset.sum_congr rfl fun x _ => ?_))
  · rw [newM_lane s h r x c]; rfl
  · rw [newM_lane s h r x c]; rfl

/-- What the three scratch buffers mean: in every row `r` and lane `c` the state stands for the sums `W r` and `A r c`,
and the maximum does not depend on the lane. -/
def Inv (m l a : FVec Ideal S128x128 .f32) (W : Fin 128 → EReal) (A : Fin 128 → Fin 128 → EReal) : Prop :=
  (∀ r c c' : Fin 128, m (ix2 r c) = m (ix2 r c')) ∧
    ∀ r c : Fin 128, Online.Stands (m (ix2 r c)) (l (ix2 r c)) (a (ix2 r c)) (W r) (A r c)

/-- A tile keeps the meaning of the scratch buffers. -/
theorem Inv.step {m l a : FVec Ideal S128x128 .f32} {W : Fin 128 → EReal} {A : Fin 128 → Fin 128 → EReal} (h : Inv m l a W A)
    (s : FVec Ideal S128x256 .f32) (v : FVec Ideal S256x128 .bf16) (hs : ∀ (r : Fin 128) (k : Fin 256), s (ix2 r k) ≠ ⊤) :
    Inv (newM s m) (newL s m l) (newA s v m a) (fun r => W r + ∑ k : Fin 256, Ideal.exp2 (s (ix2 r k)))
      (fun r c => A r c + ∑ k : Fin 256, Ideal.exp2 (s (ix2 r k)) * v (ix2 k c)) :=
  ⟨newM_lane s h.1, fun r c => Online.step (h.2 r c) (fun k => s (ix2 r k)) (fun k => v (ix2 k c)) (hs r)
    (newM_at s m r c) (newL_at s l h.1 r c) (newA_at s v a h.1 r c)⟩

/-- The named constant means `⊥`. -/
theorem named_mask : Named.named (F := Ideal) (φ := .f32) κ "mask" 0xF149F2CA#32 = (⊥ : EReal) := rfl

/-- What the scratch buffers hold before the first tile stands for empty sums. -/
theorem Inv.init : Inv (k0_pay35 (F := Ideal)) (k0_pay36 (F := Ideal)) (k0_pay37 (F := Ideal)) (fun _ => 0) (fun _ _ => 0) := by
  refine ⟨fun r c c' => ?_, fun r c => .inl ⟨?_, ?_, ?_, rfl, rfl⟩⟩
  all_goals pointwise [k0_pay35, k0_pay36, k0_pay37]
  exact named_mask

end Cert.AttentionIdeal.Algebra

end
-- ==== Proof.AttentionLoop.lean ====
module

public import proofs.«01_k».proof.Proof.Gen.AttentionIdeal.Value
public import Idealize.ShloMosaic.Lib.Pipeline.ValueKit
public import Idealize.ShloMosaic.Lib.Pointwise
public import proofs.«01_k».proof.Proof.AttentionTile

@[expose] public section

set_option maxRecDepth 16384

noncomputable section

namespace Cert.AttentionIdeal.Algebra

open Cert.AttentionIdeal Cert.AttentionIdeal.Gen Idealize.ShloMosaic Idealize.ShloMosaic.TcCoe Idealize.SL.Sem

variable (c : Dev nD) (i : grid0.Coords)
  (arg2 : Memref sig .tc .vmem S32x512 .bf16) (harg2 : arg2.IsWhole)
  (arg3 : Memref sig .tc .vmem S1x1280x128 .bf16) (harg3 : arg3.IsWhole)
  (arg4 : Memref sig .tc .vmem S1x1280x128 .bf16) (harg4 : arg4.IsWhole)
  (arg5 : Memref sig .tc .vmem S1x5x32x256 .i8) (harg5 : arg5.IsWhole)
  (arg6 : Memref sig .tc .vmem S1x4x32x512 .f32) (harg6 : arg6.IsWhole)
  (arg7 : Memref sig .tc .vmem S32x512 .bf16) (harg7 : arg7.IsWhole)
  (arg8 : Memref sig .tc .vmem S128x128 .bf16) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x128 .f32) (harg11 : arg11.IsWhole)

/-- Zero offsets, as the generated loads spell them. -/
theorem hz2 : (![0, 0] : Fin 2 → ℕ) = fun _ => 0 := by funext a; fin_cases a <;> rfl

theorem readAt_writes_whole {e : EltTy} (v : View sig .tc .vmem S128x128 e) (L L' : List (View.Piece (Elt Ideal) S128x128 e)) :
    v.readAt (Elt Ideal) (Rect.unit (s := S128x128) ![0, 0] S128x128.size inb_S128x128_S128x128_0_0).toLoadRect
      (v.writes (Elt Ideal) (v.writes (Elt Ideal) v.junk L) L') = View.canon (L' ++ L) := by
  rw [← View.writes_append, View.readAt_writes_junk_eq_canon]
  exact View.ld_unit_zero (S := S128x128) hz2 inb_S128x128_S128x128_0_0 (View.canon (L' ++ L))

theorem readCov_whole {e : EltTy} (v : View sig .tc .vmem S128x128 e) (L : List (View.Piece (Elt Ideal) S128x128 e)) :
    v.readCov L (Rect.unit (s := S128x128) ![0, 0] S128x128.size inb_S128x128_S128x128_0_0).toLoadRect = View.canon L := by
  rw [View.readCov_eq_canon']
  exact View.ld_unit_zero (S := S128x128) hz2 inb_S128x128_S128x128_0_0 (View.canon L)

variable (v19 : BitVec 32) (v31 : FVec Ideal S32x128 .bf16) (X3 : BufTy.Contents (Elt Ideal) arg3.view.ty) (X4 : BufTy.Contents (Elt Ideal) arg4.view.ty)
  (X5 : BufTy.Contents (Elt Ideal) arg5.view.ty) (X8 : BufTy.Contents (Elt Ideal) arg8.view.ty)

/-- The scores of trip `k`'s tile. -/
def tripS (k : Fin (k0_t1_loop i).trips) : FVec Ideal S128x256 .f32 :=
  k0_pay8 (View.readAt (Elt Ideal) arg3.view (Rect.unit (s := S1x1280x128) (k0_off1 i k) S1x256x128.size (k0_off1_inb i k)).toLoadRect X3)
    (View.readAt (Elt Ideal) arg8.view (Rect.unit (s := S128x128) ![0, 0] S128x128.size inb_S128x128_S128x128_0_0).toLoadRect X8)
    (View.readAt (Elt Ideal) arg5.view (Rect.unit (s := S1x5x32x256) (k0_off2 i k) S1x1x32x256.size (k0_off2_inb i k)).toLoadRect X5)

/-- The values of trip `k`'s tile. -/
def tripV (k : Fin (k0_t1_loop i).trips) : FVec Ideal S256x128 .bf16 :=
  k0_pay7 (View.readAt (Elt Ideal) arg4.view (Rect.unit (s := S1x1280x128) (k0_off1 i k) S1x256x128.size (k0_off1_inb i k)).toLoadRect X4)

theorem pay_m (a : FVec Ideal S1x256x128 .bf16) (q : FVec Ideal S128x128 .bf16) (b : Vec Ideal S1x1x32x256 .i8) (m : FVec Ideal S128x128 .f32) :
    k0_pay40 (k0_pay9 a q b m) = newM (k0_pay8 a q b) m := by
  unfold k0_pay40; dsimp only; rw [shapeCast_self]; rfl

theorem pay_l (a : FVec Ideal S1x256x128 .bf16) (q : FVec Ideal S128x128 .bf16) (b : Vec Ideal S1x1x32x256 .i8) (m l : FVec Ideal S128x128 .f32) :
    k0_pay38 (k0_pay10 a q b m) (k0_pay11 a q b m) l = newL (k0_pay8 a q b) m l := by
  unfold k0_pay38; dsimp only; rw [shapeCast_self]; rfl

theorem pay_a (a : FVec Ideal S1x256x128 .bf16) (v : FVec Ideal S256x128 .bf16) (q : FVec Ideal S128x128 .bf16) (b : Vec Ideal S1x1x32x256 .i8) (m l : FVec Ideal S128x128 .f32) :
    k0_pay39 v (k0_pay10 a q b m) (k0_pay11 a q b m) l = newA (k0_pay8 a q b) v m l := by
  unfold k0_pay39; dsimp only; rw [shapeCast_self]; rfl

/-- One trip of the loop: each scratch buffer receives one store of the whole, the tile's update of what was there. -/
theorem trip_eq (k : Fin (k0_t1_loop i).trips) (acc : BitVec 32)
  (f9 : BufTy.Contents (Elt Ideal) arg9.view.ty) (f10 : BufTy.Contents (Elt Ideal) arg10.view.ty) (f11 : BufTy.Contents (Elt Ideal) arg11.view.ty) :
    tripL_k0_t1 (F := Ideal) Variants.none c none i arg2 harg2 arg3 harg3 arg4 harg4 arg5 harg5 arg6 harg6 arg7 harg7 arg8 harg8 arg9 harg9 arg10 harg10 arg11 harg11 v19 v31 X3 X4 X5 X8 k acc f9 f10 f11 =
      ([⟨Rect.unit (s := S128x128) ![0, 0] S128x128.size inb_S128x128_S128x128_0_0, newM (tripS i arg3 arg5 arg8 X3 X5 X8 k) (View.readAt (Elt Ideal) arg9.view (Rect.unit (s := S128x128) ![0, 0] S128x128.size inb_S128x128_S128x128_0_0).toLoadRect f9)⟩],
       [⟨Rect.unit (s := S128x128) ![0, 0] S128x128.size inb_S128x128_S128x128_0_0, newL (tripS i arg3 arg5 arg8 X3 X5 X8 k) (View.readAt (Elt Ideal) arg9.view (Rect.unit (s := S128x128) ![0, 0] S128x128.size inb_S128x128_S128x128_0_0).toLoadRect f9)
          (View.readAt (Elt Ideal) arg10.view (Rect.unit (s := S128x128) ![0, 0] S128x128.size inb_S128x128_S128x128_0_0).toLoadRect f10)⟩],
       [⟨Rect.unit (s := S128x128) ![0, 0] S128x128.size inb_S128x128_S128x128_0_0, newA (tripS i arg3 arg5 arg8 X3 X5 X8 k) (tripV i arg4 X4 k) (View.readAt (Elt Ideal) arg9.view (Rect.unit (s := S128x128) ![0, 0] S128x128.size inb_S128x128_S128x128_0_0).toLoadRect f9)
          (View.readAt (Elt Ideal) arg11.view (Rect.unit (s := S128x128) ![0, 0] S128x128.size inb_S128x128_S128x128_0_0).toLoadRect f11)⟩]) := by
  unfold tripL_k0_t1 trip_k0_t1
  dsimp only
  sl_unfold_words
  exact Prod.ext (congrArg (fun w => [(⟨Rect.unit (s := S128x128) ![0, 0] S128x128.size inb_S128x128_S128x128_0_0, w⟩ : View.Piece (Elt Ideal) S128x128 .f32)]) (pay_m _ _ _ _))
    (Prod.ext (congrArg (fun w => [(⟨Rect.unit (s := S128x128) ![0, 0] S128x128.size inb_S128x128_S128x128_0_0, w⟩ : View.Piece (Elt Ideal) S128x128 .f32)]) (pay_l _ _ _ _ _))
      (congrArg (fun w => [(⟨Rect.unit (s := S128x128) ![0, 0] S128x128.size inb_S128x128_S128x128_0_0, w⟩ : View.Piece (Elt Ideal) S128x128 .f32)]) (pay_a _ _ _ _ _ _)))

variable (L9 : List (View.Piece (Elt Ideal) S128x128 .f32)) (L10 : List (View.Piece (Elt Ideal) S128x128 .f32)) (L11 : List (View.Piece (Elt Ideal) S128x128 .f32))

/-- The loop's stores before trip `n`, over buffers that hold the stores `L9`, `L10`, `L11`. -/
abbrev St (n : ℕ) := st_k0_t1 (F := Ideal) Variants.none c none i arg2 harg2 arg3 harg3 arg4 harg4 arg5 harg5 arg6 harg6 arg7 harg7 arg8 harg8 arg9 harg9 arg10 harg10 arg11 harg11 v19 v31 X3 X4 X5 X8
  (arg9.view.writes (Elt Ideal) arg9.view.junk L9) (arg10.view.writes (Elt Ideal) arg10.view.junk L10) (arg11.view.writes (Elt Ideal) arg11.view.junk L11) 0#32 n

/-- A trip changes what the three scratch buffers hold by one tile's update. -/
theorem St_succ (k : Fin (k0_t1_loop i).trips) :
    (View.canon ((St c i arg2 harg2 arg3 harg3 arg4 harg4 arg5 harg5 arg6 harg6 arg7 harg7 arg8 harg8 arg9 harg9 arg10 harg10 arg11 harg11 v19 v31 X3 X4 X5 X8 L9 L10 L11 (k.val + 1)).2.1 ++ L9)
        = newM (tripS i arg3 arg5 arg8 X3 X5 X8 k) (View.canon ((St c i arg2 harg2 arg3 harg3 arg4 harg4 arg5 harg5 arg6 harg6 arg7 harg7 arg8 harg8 arg9 harg9 arg10 harg10 arg11 harg11 v19 v31 X3 X4 X5 X8 L9 L10 L11 k.val).2.1 ++ L9)))
    ∧ (View.canon ((St c i arg2 harg2 arg3 harg3 arg4 harg4 arg5 harg5 arg6 harg6 arg7 harg7 arg8 harg8 arg9 harg9 arg10 harg10 arg11 harg11 v19 v31 X3 X4 X5 X8 L9 L10 L11 (k.val + 1)).2.2.1 ++ L10)
        = newL (tripS i arg3 arg5 arg8 X3 X5 X8 k) (View.canon ((St c i arg2 harg2 arg3 harg3 arg4 harg4 arg5 harg5 arg6 harg6 arg7 harg7 arg8 harg8 arg9 harg9 arg10 harg10 arg11 harg11 v19 v31 X3 X4 X5 X8 L9 L10 L11 k.val).2.1 ++ L9))
          (View.canon ((St c i arg2 harg2 arg3 harg3 arg4 harg4 arg5 harg5 arg6 harg6 arg7 harg7 arg8 harg8 arg9 harg9 arg10 harg10 arg11 harg11 v19 v31 X3 X4 X5 X8 L9 L10 L11 k.val).2.2.1 ++ L10)))
    ∧ (View.canon ((St c i arg2 harg2 arg3 harg3 arg4 harg4 arg5 harg5 arg6 harg6 arg7 harg7 arg8 harg8 arg9 harg9 arg10 harg10 arg11 harg11 v19 v31 X3 X4 X5 X8 L9 L10 L11 (k.val + 1)).2.2.2 ++ L11)
        = newA (tripS i arg3 arg5 arg8 X3 X5 X8 k) (tripV i arg4 X4 k) (View.canon ((St c i arg2 harg2 arg3 harg3 arg4 harg4 arg5 harg5 arg6 harg6 arg7 harg7 arg8 harg8 arg9 harg9 arg10 harg10 arg11 harg11 v19 v31 X3 X4 X5 X8 L9 L10 L11 k.val).2.1 ++ L9))
          (View.canon ((St c i arg2 harg2 arg3 harg3 arg4 harg4 arg5 harg5 arg6 harg6 arg7 harg7 arg8 harg8 arg9 harg9 arg10 harg10 arg11 harg11 v19 v31 X3 X4 X5 X8 L9 L10 L11 k.val).2.2.2 ++ L11))) := by
  unfold St
  rw [st_k0_t1_succ, trip_eq]
  dsimp only
  rw [readAt_writes_whole, readAt_writes_whole, readAt_writes_whole]
  refine ⟨?_, ?_, ?_⟩
  all_goals
    simp only [List.cons_append, List.nil_append]
    exact View.canon_cons_unit_zero hz2 _ _ _

end Cert.AttentionIdeal.Algebra

end
-- ==== Proof.AttentionScores.lean ====
module

public import proofs.«01_k».proof.Proof.Gen.AttentionIdeal.Value
public import Idealize.ShloMosaic.Lib.Pipeline.ValueKit
public import Idealize.ShloMosaic.Lib.Pointwise
public import proofs.«01_k».proof.Proof.AttentionLoop

@[expose] public section

set_option maxRecDepth 16384

noncomputable section

namespace Cert.AttentionIdeal.Algebra

open Cert.AttentionIdeal Cert.AttentionIdeal.Gen Idealize.ShloMosaic Idealize.ShloMosaic.TcCoe Idealize.SL.Sem

/-- The loop over unbiased tiles makes three trips, whatever the grid point. -/
theorem trips1 : ∀ i : grid0.Coords, (k0_t1_loop i).trips = 3 := by decide +kernel
/-- The second loop makes none. -/
theorem trips2 : ∀ i : grid0.Coords, (k0_t2_loop i).trips = 0 := by decide +kernel
theorem off1 : ∀ (i : grid0.Coords) (k : Fin (k0_t1_loop i).trips), k0_off1 i k = ![0, 256 * k.val, 0] := by decide +kernel
theorem off2 : ∀ (i : grid0.Coords) (k : Fin (k0_t1_loop i).trips), k0_off2 i k = ![0, k.val, 0, 0] := by decide +kernel
theorem off5 : ∀ i : grid0.Coords, k0_off5 i = ![0, 256 * 3, 0] := by decide +kernel
theorem off6 : ∀ i : grid0.Coords, k0_off6 i = ![0, 3, 0, 0] := by decide +kernel
theorem off7 : ∀ i : grid0.Coords, k0_off7 i = ![0, 256 * 4, 0] := by decide +kernel
theorem off8 : ∀ i : grid0.Coords, k0_off8 i = ![0, 4, 0, 0] := by decide +kernel

/-- What a mask byte adds to a score: nothing, or `⊥` where the byte is zero. -/
def maskOf (w : BitVec 8) : EReal :=
  Scalar.select (IntOp.cmpi CmpIPredicate.ne (BitVec.signExtend 32 w) 0#32) 0 (Named.named (F := Ideal) (φ := .f32) κ "mask" 0xF149F2CA#32)

theorem maskOf_eq (w : BitVec 8) : maskOf w = if w = 0#8 then ⊥ else 0 := by
  unfold maskOf
  rw [named_mask]
  have h : ∀ w : BitVec 8, IntOp.cmpi CmpIPredicate.ne (BitVec.signExtend 32 w) 0#32 = if w = 0#8 then 0#1 else 1#1 := by decide +kernel
  rw [h]
  split_ifs <;> rfl

/-- The four heads of a group lie one under the other, 32 tokens each. -/
theorem pay8_at (a : FVec Ideal S1x256x128 .bf16) (q : FVec Ideal S128x128 .bf16) (b : Vec Ideal S1x1x32x256 .i8) (r : Fin 128) (k : Fin 256) :
    k0_pay8 a q b (ix2 r k) = ∑ x : Fin 128, q (ix2 r x) * a (ix3 0 k x) + maskOf (b (ix4 0 0 ⟨r.val % 32, by omega⟩ k)) := by
  pointwise [k0_pay8]
  by_cases h1 : r.val < 32
  · rw [dif_pos h1]
    have e : (⟨r.val, h1⟩ : Fin 32) = ⟨r.val % 32, by omega⟩ := Fin.ext (by simp; omega)
    rw [e]; rfl
  rw [dif_neg h1]
  by_cases h2 : r.val - 32 < 32
  · rw [dif_pos h2]
    have e : (⟨r.val - 32, h2⟩ : Fin 32) = ⟨r.val % 32, by omega⟩ := Fin.ext (by simp; omega)
    have e' : (⟨32 + (r.val - 32), by omega⟩ : Fin 128) = r := Fin.ext (by simp; omega)
    simp only [e, e']; rfl
  rw [dif_neg h2]
  by_cases h3 : r.val - 32 - 32 < 32
  · rw [dif_pos h3]
    have e : (⟨r.val - 32 - 32, h3⟩ : Fin 32) = ⟨r.val % 32, by omega⟩ := Fin.ext (by simp; omega)
    have e' : (⟨64 + (r.val - 32 - 32), by omega⟩ : Fin 128) = r := Fin.ext (by simp; omega)
    simp only [e, e']; rfl
  · rw [dif_neg h3]
    have e : (⟨r.val - 32 - 32 - 32, by omega⟩ : Fin 32) = ⟨r.val % 32, by omega⟩ := Fin.ext (by simp; omega)
    have e' : (⟨96 + (r.val - 32 - 32 - 32), by omega⟩ : Fin 128) = r := Fin.ext (by simp; omega)
    simp only [e, e']; rfl

/-- The scores of a biased tile, whose biases come head by head. -/
def biased (q : FVec Ideal S128x128 .bf16) (a : FVec Ideal S1x256x128 .bf16) (b : Vec Ideal S1x1x32x256 .i8) (n : Fin 4 → Vec Ideal S1x1x32x256 .f32)
    (r : Fin 128) (k : Fin 256) : EReal :=
  ∑ x : Fin 128, q (ix2 r x) * a (ix3 0 k x) + n ⟨r.val / 32, by omega⟩ (ix4 0 0 ⟨r.val % 32, by omega⟩ k) + maskOf (b (ix4 0 0 ⟨r.val % 32, by omega⟩ k))

theorem pay24_at (a : FVec Ideal S1x256x128 .bf16) (q : FVec Ideal S128x128 .bf16) (b : Vec Ideal S1x1x32x256 .i8) (n : Fin 4 → Vec Ideal S1x1x32x256 .f32) (r : Fin 128) (k : Fin 256) :
    k0_pay24 (k0_pay18 a q) (k0_pay19 b) (k0_pay20 a q b (n 0)) (k0_pay21 a q b (n 1)) (k0_pay22 a q) (k0_pay23 (n 2)) (n 3) (ix2 r k) = biased q a b n r k := by
  pointwise [k0_pay24, k0_pay18, k0_pay19, k0_pay20, k0_pay21, k0_pay22, k0_pay23, biased]
  by_cases h1 : r.val < 32
  · rw [dif_pos h1]
    have e : (⟨r.val, h1⟩ : Fin 32) = ⟨r.val % 32, by omega⟩ := Fin.ext (by simp; omega)
    have e'' : (⟨r.val / 32, by omega⟩ : Fin 4) = 0 := Fin.ext (by simp; omega)
    rw [e, e'']; rfl
  rw [dif_neg h1]
  by_cases h2 : r.val - 32 < 32
  · rw [dif_pos h2]
    have e : (⟨r.val - 32, h2⟩ : Fin 32) = ⟨r.val % 32, by omega⟩ := Fin.ext (by simp; omega)
    have e' : (⟨32 + (r.val - 32), by omega⟩ : Fin 128) = r := Fin.ext (by simp; omega)
    have e'' : (⟨r.val / 32, by omega⟩ : Fin 4) = 1 := Fin.ext (by simp; omega)
    simp only [e, e', e'']; rfl
  rw [dif_neg h2]
  by_cases h3 : r.val - 32 - 32 < 32
  · rw [dif_pos h3]
    have e : (⟨r.val - 32 - 32, h3⟩ : Fin 32) = ⟨r.val % 32, by omega⟩ := Fin.ext (by simp; omega)
    have e' : (⟨64 + (r.val - 32 - 32), by omega⟩ : Fin 128) = r := Fin.ext (by simp; omega)
    have e'' : (⟨r.val / 32, by omega⟩ : Fin 4) = 2 := Fin.ext (by simp; omega)
    simp only [e, e', e'']; rfl
  · rw [dif_neg h3]
    have e : (⟨r.val - 32 - 32 - 32, by omega⟩ : Fin 32) = ⟨r.val % 32, by omega⟩ := Fin.ext (by simp; omega)
    have e' : (⟨96 + (r.val - 32 - 32 - 32), by omega⟩ : Fin 128) = r := Fin.ext (by simp; omega)
    have e'' : (⟨r.val / 32, by omega⟩ : Fin 4) = 3 := Fin.ext (by simp; omega)
    simp only [e, e', e'']; rfl

theorem pay53_at (a : FVec Ideal S1x256x128 .bf16) (q : FVec Ideal S128x128 .bf16) (b : Vec Ideal S1x1x32x256 .i8) (n : Fin 4 → Vec Ideal S1x1x32x256 .f32) (r : Fin 128) (k : Fin 256) :
    k0_pay53 (k0_pay48 b) (k0_pay49 a q b (n 0)) (k0_pay50 a q b (n 1)) (k0_pay51 a q b (n 2)) (k0_pay52 a q) (n 3) (ix2 r k) = biased q a b n r k := by
  rw [← pay24_at]
  pointwise [k0_pay53, k0_pay47, k0_pay48, k0_pay49, k0_pay50, k0_pay51, k0_pay52, k0_pay24, k0_pay18, k0_pay19, k0_pay20, k0_pay21, k0_pay22, k0_pay23]

/-- The scores of tile `t` of a block: query row `r` (head `r / 32` of the group, token `r % 32`) against key `256 t + k`. -/
def score (x0 : FVec Ideal S32x512 .bf16) (x1 : FVec Ideal S1x1280x128 .bf16) (x3 : Vec Ideal S1x5x32x256 .i8) (x4 : FVec Ideal S1x4x32x512 .f32)
    (t : Fin 5) : FVec Ideal S128x256 .f32 := fun j =>
  ∑ d : Fin 128, x0 (ix2 ⟨(j 0).val % 32, by omega⟩ ⟨128 * ((j 0).val / 32) + d.val, by have : (j 0).val < 128 := (j 0).isLt; omega⟩)
      * x1 (ix3 0 ⟨256 * t.val + (j 1).val, by have : (j 1).val < 256 := (j 1).isLt; omega⟩ d)
    + (if h : 3 ≤ t.val then x4 (ix4 0 ⟨(j 0).val / 32, by have : (j 0).val < 128 := (j 0).isLt; omega⟩ ⟨(j 0).val % 32, by omega⟩
        ⟨256 * (t.val - 3) + (j 1).val, by have : (j 1).val < 256 := (j 1).isLt; omega⟩) else 0)
    + maskOf (x3 (ix4 0 t ⟨(j 0).val % 32, by omega⟩ (j 1)))

/-- The values of tile `t`. -/
def val (x2 : FVec Ideal S1x1280x128 .bf16) (t : Fin 5) : FVec Ideal S256x128 .bf16 := fun j =>
  x2 (ix3 0 ⟨256 * t.val + (j 0).val, by have : (j 0).val < 256 := (j 0).isLt; omega⟩ (j 1))

/-- The queries of a group, its four heads one under the other. -/
def queries (x0 : FVec Ideal S32x512 .bf16) : FVec Ideal S128x128 .bf16 := fun j =>
  x0 (ix2 ⟨(j 0).val % 32, by omega⟩ ⟨128 * ((j 0).val / 32) + (j 1).val, by
    have : (j 0).val < 128 := (j 0).isLt
    have : (j 1).val < 128 := (j 1).isLt
    omega⟩)

theorem unbiased_score (x0 : FVec Ideal S32x512 .bf16) (x1 : FVec Ideal S1x1280x128 .bf16) (x3 : Vec Ideal S1x5x32x256 .i8) (x4 : FVec Ideal S1x4x32x512 .f32)
    (t : Fin 5) (ht : t.val < 3) (a : FVec Ideal S1x256x128 .bf16) (b : Vec Ideal S1x1x32x256 .i8)
    (ha : ∀ (k : Fin 256) (d : Fin 128), a (ix3 0 k d) = x1 (ix3 0 ⟨256 * t.val + k.val, by omega⟩ d))
    (hb : ∀ (r : Fin 32) (k : Fin 256), b (ix4 0 0 r k) = x3 (ix4 0 t r k)) :
    k0_pay8 a (queries x0) b = score x0 x1 x3 x4 t := by
  funext j
  idx_vars j
  rw [pay8_at, hb]
  unfold score queries
  rw [dif_neg (by omega), add_zero]
  refine congrArg₂ _ (Finset.sum_congr rfl fun d _ => ?_) rfl
  rw [ha]
  rfl

theorem biased_score (x0 : FVec Ideal S32x512 .bf16) (x1 : FVec Ideal S1x1280x128 .bf16) (x3 : Vec Ideal S1x5x32x256 .i8) (x4 : FVec Ideal S1x4x32x512 .f32)
    (t : Fin 5) (ht : 3 ≤ t.val) (a : FVec Ideal S1x256x128 .bf16) (b : Vec Ideal S1x1x32x256 .i8) (n : Fin 4 → Vec Ideal S1x1x32x256 .f32)
    (ha : ∀ (k : Fin 256) (d : Fin 128), a (ix3 0 k d) = x1 (ix3 0 ⟨256 * t.val + k.val, by omega⟩ d))
    (hb : ∀ (r : Fin 32) (k : Fin 256), b (ix4 0 0 r k) = x3 (ix4 0 t r k))
    (hn : ∀ (g : Fin 4) (r : Fin 32) (k : Fin 256), n g (ix4 0 0 r k) = x4 (ix4 0 g r ⟨256 * (t.val - 3) + k.val, by omega⟩))
    (r : Fin 128) (k : Fin 256) : biased (queries x0) a b n r k = score x0 x1 x3 x4 t (ix2 r k) := by
  unfold biased score queries
  rw [dif_pos ht, hb, hn]
  refine congrArg₂ _ (congrArg₂ _ (Finset.sum_congr rfl fun d _ => ?_) rfl) rfl
  rw [ha]
  rfl

end Cert.AttentionIdeal.Algebra

end
-- ==== Proof.AttentionBody.lean ====
module

public import proofs.«01_k».proof.Proof.Gen.AttentionIdeal.Value
public import Idealize.ShloMosaic.Lib.Pipeline.ValueKit
public import Idealize.ShloMosaic.Lib.Pointwise
public import proofs.«01_k».proof.Proof.AttentionLoop
public import proofs.«01_k».proof.Proof.AttentionScores

@[expose] public section

set_option maxRecDepth 16384

noncomputable section

namespace Cert.AttentionIdeal.Algebra

open Cert.AttentionIdeal Cert.AttentionIdeal.Gen Idealize.ShloMosaic Idealize.ShloMosaic.TcCoe Idealize.SL.Sem

variable (c : Dev nD) (i : grid0.Coords)
  (arg2 : Memref sig .tc .vmem S32x512 .bf16) (harg2 : arg2.IsWhole)
  (arg3 : Memref sig .tc .vmem S1x1280x128 .bf16) (harg3 : arg3.IsWhole)
  (arg4 : Memref sig .tc .vmem S1x1280x128 .bf16) (harg4 : arg4.IsWhole)
  (arg5 : Memref sig .tc .vmem S1x5x32x256 .i8) (harg5 : arg5.IsWhole)
  (arg6 : Memref sig .tc .vmem S1x4x32x512 .f32) (harg6 : arg6.IsWhole)
  (arg7 : Memref sig .tc .vmem S32x512 .bf16) (harg7 : arg7.IsWhole)
  (arg8 : Memref sig .tc .vmem S128x128 .bf16) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x128 .f32) (harg11 : arg11.IsWhole)

variable (x0 : FVec Ideal S32x512 .bf16) (x1 x2 : FVec Ideal S1x1280x128 .bf16) (x3 : Vec Ideal S1x5x32x256 .i8) (x4 : FVec Ideal S1x4x32x512 .f32)

/-- The three scratch buffers. -/
abbrev Scratch := FVec Ideal S128x128 .f32 × FVec Ideal S128x128 .f32 × FVec Ideal S128x128 .f32

/-- A tile's update of the three scratch buffers. -/
def upd (s : FVec Ideal S128x256 .f32) (v : FVec Ideal S256x128 .bf16) (σ : Scratch) : Scratch :=
  (newM s σ.1, newL s σ.1 σ.2.1, newA s v σ.1 σ.2.2)

/-- The scratch buffers after the first three tiles. -/
def state3 : Scratch :=
  upd (score x0 x1 x3 x4 2) (val x2 2) (upd (score x0 x1 x3 x4 1) (val x2 1) (upd (score x0 x1 x3 x4 0) (val x2 0) (k0_pay35, k0_pay36, k0_pay37)))

/-- The scratch buffers after all five. -/
def state5 : Scratch := upd (score x0 x1 x3 x4 4) (val x2 4) (upd (score x0 x1 x3 x4 3) (val x2 3) (state3 x0 x1 x2 x3 x4))

theorem HS0_canon : View.canon (kernelRun0_A.sl.HS0_4 (F := Ideal) c arg2 harg2 x0) = queries x0 := by
  unfold kernelRun0_A.sl.HS0_4
  sl_unfold_words
  funext y
  rw [View.readAt_eq_ld, View.readAt_eq_ld, View.readAt_eq_ld, View.readAt_eq_ld, harg2.read_unread]
  canon_tiles x h
  all_goals
    pointwise [k0_pay34, k0_pay33, k0_pay32, k0_pay31, k0_pay30, queries]
    exact congrArg x0 (congrArg₂ ix2 (Fin.ext (by simp; omega)) (Fin.ext (by simp; omega)))

/-- A load of a tile of keys or values. -/
theorem ld_kv (a : Memref sig .tc .vmem S1x1280x128 .bf16) (ha : a.IsWhole) (x : FVec Ideal S1x1280x128 .bf16) {off : Fin 3 → ℕ}
    (inb : ∀ b, off b + S1x256x128.size b ≤ S1x1280x128.size b) (t : Fin 5) (h : off = ![0, 256 * t.val, 0]) (k : Fin 256) (d : Fin 128) :
    View.readAt (Elt Ideal) a.view (Rect.unit (s := S1x1280x128) off S1x256x128.size inb).toLoadRect (ha.unread x) (ix3 0 k d)
      = x (ix3 0 ⟨256 * t.val + k.val, by omega⟩ d) := by
  subst h
  rw [View.readAt_eq_ld, ha.read_unread]
  pointwise

/-- A load of a tile of the mask. -/
theorem ld_mask (x : Vec Ideal S1x5x32x256 .i8) {off : Fin 4 → ℕ}
    (inb : ∀ b, off b + S1x1x32x256.size b ≤ S1x5x32x256.size b) (t : Fin 5) (h : off = ![0, t.val, 0, 0]) (r : Fin 32) (k : Fin 256) :
    View.readAt (Elt Ideal) arg5.view (Rect.unit (s := S1x5x32x256) off S1x1x32x256.size inb).toLoadRect (harg5.unread x) (ix4 0 0 r k)
      = x (ix4 0 t r k) := by
  subst h
  rw [View.readAt_eq_ld, harg5.read_unread]
  pointwise

/-- A load of a tile of the biases of head `g`. -/
theorem ld_bias (x : FVec Ideal S1x4x32x512 .f32) {off : Fin 4 → ℕ}
    (inb : ∀ b, off b + S1x1x32x256.size b ≤ S1x4x32x512.size b) (g : Fin 4) (u : ℕ) (hu : 256 * u + 256 ≤ 512) (h : off = ![0, g.val, 0, 256 * u]) (r : Fin 32) (k : Fin 256) :
    View.readAt (Elt Ideal) arg6.view (Rect.unit (s := S1x4x32x512) off S1x1x32x256.size inb).toLoadRect (harg6.unread x) (ix4 0 0 r k)
      = x (ix4 0 g r ⟨256 * u + k.val, by omega⟩) := by
  subst h
  rw [View.readAt_eq_ld, harg6.read_unread]
  pointwise

theorem pay7_val (t : Fin 5) (a : FVec Ideal S1x256x128 .bf16)
    (ha : ∀ (k : Fin 256) (d : Fin 128), a (ix3 0 k d) = x2 (ix3 0 ⟨256 * t.val + k.val, by omega⟩ d)) : k0_pay7 a = val x2 t := by
  funext j
  idx_vars j
  pointwise [k0_pay7]
  rw [ha]
  rfl

/-- The scores of trip `k`. -/
theorem tripS_eq (k : Fin (k0_t1_loop i).trips) (t : Fin 5) (ht : t.val < 3) (hk : k.val = t.val) (L8 : List (View.Piece (Elt Ideal) S128x128 .bf16)) (h8 : View.canon L8 = queries x0) :
    tripS i arg3 arg5 arg8 (harg3.unread x1) (harg5.unread x3) (arg8.view.writes (Elt Ideal) arg8.view.junk L8) k = score x0 x1 x3 x4 t := by
  have e := readAt_writes_whole arg8.view L8 []
  rw [List.nil_append, h8] at e
  have ha := ld_kv arg3 harg3 x1 (k0_off1_inb i k) t ((off1 i k).trans (by rw [hk]))
  have hb := ld_mask arg5 harg5 x3 (k0_off2_inb i k) t ((off2 i k).trans (by rw [hk]))
  rw [← unbiased_score x0 x1 x3 x4 t ht _ _ ha hb, ← e]
  rfl

/-- The values of trip `k`. -/
theorem tripV_eq (k : Fin (k0_t1_loop i).trips) (t : Fin 5) (hk : k.val = t.val) : tripV i arg4 (harg4.unread x2) k = val x2 t :=
  pay7_val x2 t _ (ld_kv arg4 harg4 x2 (k0_off1_inb i k) t ((off1 i k).trans (by rw [hk])))

variable (v19 : BitVec 32) (v31 : FVec Ideal S32x128 .bf16)

/-- What the scratch buffers hold after the loop. -/
theorem St_three (L8 : List (View.Piece (Elt Ideal) S128x128 .bf16)) (h8 : View.canon L8 = queries x0)
    (L9 L10 L11 : List (View.Piece (Elt Ideal) S128x128 .f32)) (h9 : View.canon L9 = k0_pay35 (F := Ideal)) (h10 : View.canon L10 = k0_pay36 (F := Ideal))
    (h11 : View.canon L11 = k0_pay37 (F := Ideal)) :
    (View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 3).2.1 ++ L9) = (state3 x0 x1 x2 x3 x4).1
      ∧ View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 3).2.2.1 ++ L10) = (state3 x0 x1 x2 x3 x4).2.1
      ∧ View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 3).2.2.2 ++ L11) = (state3 x0 x1 x2 x3 x4).2.2) := by
  have ht := trips1 i
  obtain ⟨k0, hk0⟩ : ∃ k : Fin (k0_t1_loop i).trips, k.val = 0 := ⟨⟨0, by rw [ht]; decide⟩, rfl⟩
  obtain ⟨a0, b0, c0⟩ := St_succ c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 k0
  rw [tripS_eq i arg3 harg3 arg5 harg5 arg8 x0 x1 x3 x4 k0 0 (by decide) hk0 L8 h8] at a0 b0 c0
  rw [tripV_eq i arg4 harg4 x2 k0 0 hk0] at c0
  simp only [hk0, Nat.reduceAdd, Nat.zero_add] at a0 b0 c0
  obtain ⟨k1, hk1⟩ : ∃ k : Fin (k0_t1_loop i).trips, k.val = 1 := ⟨⟨1, by rw [ht]; decide⟩, rfl⟩
  obtain ⟨a1, b1, c1⟩ := St_succ c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 k1
  rw [tripS_eq i arg3 harg3 arg5 harg5 arg8 x0 x1 x3 x4 k1 1 (by decide) hk1 L8 h8] at a1 b1 c1
  rw [tripV_eq i arg4 harg4 x2 k1 1 hk1] at c1
  simp only [hk1, Nat.reduceAdd, Nat.zero_add] at a1 b1 c1
  obtain ⟨k2, hk2⟩ : ∃ k : Fin (k0_t1_loop i).trips, k.val = 2 := ⟨⟨2, by rw [ht]; decide⟩, rfl⟩
  obtain ⟨a2, b2, c2⟩ := St_succ c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 k2
  rw [tripS_eq i arg3 harg3 arg5 harg5 arg8 x0 x1 x3 x4 k2 2 (by decide) hk2 L8 h8] at a2 b2 c2
  rw [tripV_eq i arg4 harg4 x2 k2 2 hk2] at c2
  simp only [hk2, Nat.reduceAdd, Nat.zero_add] at a2 b2 c2
  have z9 : View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 0).2.1 ++ L9) = k0_pay35 (F := Ideal) := h9
  have z10 : View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 0).2.2.1 ++ L10) = k0_pay36 (F := Ideal) := h10
  have z11 : View.canon ((St c i arg2 harg2 arg3 harg3 arg4 harg4 arg5 harg5 arg6 harg6 arg7 harg7 arg8 harg8 arg9 harg9 arg10 harg10 arg11 harg11 v19 v31 (harg3.unread x1) (harg4.unread x2) (harg5.unread x3) (arg8.view.writes (Elt Ideal) arg8.view.junk L8) L9 L10 L11 0).2.2.2 ++ L11) = k0_pay37 (F := Ideal) := h11
  rw [z9] at a0 b0 c0
  rw [z10] at b0
  rw [z11] at c0
  rw [a0] at a1 b1 c1
  rw [b0] at b1
  rw [c0] at c1
  rw [a1] at a2 b2 c2
  rw [b1] at b2
  rw [c1] at c2
  exact ⟨a2, b2, c2⟩

end Cert.AttentionIdeal.Algebra

end
-- ==== Proof.AttentionRow.lean ====
module

public import proofs.«01_k».proof.Proof.Gen.AttentionIdeal.Value
public import Idealize.ShloMosaic.Lib.Pipeline.ValueKit
public import Idealize.ShloMosaic.Lib.Pointwise
public import proofs.«01_k».proof.Proof.AttentionBody

@[expose] public section

set_option maxRecDepth 16384

noncomputable section

namespace Cert.AttentionIdeal.Algebra

open Cert.AttentionIdeal Cert.AttentionIdeal.Gen Idealize.ShloMosaic Idealize.ShloMosaic.TcCoe Idealize.SL.Sem

variable (x0 : FVec Ideal S32x512 .bf16) (x1 x2 : FVec Ideal S1x1280x128 .bf16) (x3 : Vec Ideal S1x5x32x256 .i8) (x4 : FVec Ideal S1x4x32x512 .f32)

/-- The score of row `r` against key `s` of a block, over all its tiles. -/
def scoreAt (r : Fin 128) (s : Fin 1280) : EReal :=
  score x0 x1 x3 x4 ⟨s.val / 256, by omega⟩ (ix2 r ⟨s.val % 256, by omega⟩)

/-- A sum over five tiles of 256 keys, added tile by tile, is the sum over the 1280 keys. -/
theorem sum_tiles (f : Fin 5 → Fin 256 → EReal) :
    0 + ∑ k, f 0 k + ∑ k, f 1 k + ∑ k, f 2 k + ∑ k, f 3 k + ∑ k, f 4 k
      = ∑ s : Fin 1280, f ⟨s.val / 256, by omega⟩ ⟨s.val % 256, by omega⟩ := by
  rw [Fin.sum_univ_tiles 5 256 rfl fun s : Fin 1280 => f ⟨s.val / 256, by omega⟩ ⟨s.val % 256, by omega⟩]
  rw [zero_add, Fin.sum_univ_five]
  have h : ∀ (j : Fin 5) (t : Fin 256) (h1 : (j.val * 256 + t.val) / 256 < 5) (h2 : (j.val * 256 + t.val) % 256 < 256),
      f ⟨(j.val * 256 + t.val) / 256, h1⟩ ⟨(j.val * 256 + t.val) % 256, h2⟩ = f j t := by
    intro j t h1 h2
    refine congr ?_ ?_
    · exact congrArg f (Fin.ext (by show (j.val * 256 + t.val) / 256 = j.val; omega))
    · exact Fin.ext (by show (j.val * 256 + t.val) % 256 = t.val; omega)
  simp only [h]

/-- A sum over the 1280 keys whose last 224 terms are zero is the sum over the first 1056. -/
theorem sum_keys (f : Fin 1280 → EReal) (h : ∀ s : Fin 1280, 1056 ≤ s.val → f s = 0) :
    ∑ s, f s = ∑ s : Fin 1056, f ⟨s.val, by omega⟩ := by
  have e : ∑ s : Fin (1056 + 224), f s = _ := Fin.sum_univ_add (fun s : Fin (1056 + 224) => f s)
  rw [show (∑ s : Fin 1280, f s) = ∑ s : Fin (1056 + 224), f s from rfl, e]
  rw [Finset.sum_eq_zero (s := (Finset.univ : Finset (Fin 224))) (f := fun i => f (Fin.natAdd 1056 i)) (fun i _ => h _ (Nat.le_add_right _ _)), add_zero]
  rfl

/-- The padded keys are masked. -/
theorem scoreAt_bot (r : Fin 128) (s : Fin 1280)
    (h : x3 (ix4 0 ⟨s.val / 256, by omega⟩ ⟨r.val % 32, by omega⟩ ⟨s.val % 256, by omega⟩) = 0#8) : scoreAt x0 x1 x3 x4 r s = ⊥ := by
  have hm : maskOf (x3 (ix4 0 ⟨s.val / 256, by omega⟩ ⟨r.val % 32, by omega⟩ ⟨s.val % 256, by omega⟩)) = ⊥ := by
    rw [h, maskOf_eq, if_pos rfl]
  exact (congrArg (_ + ·) hm).trans (EReal.add_bot _)

/-- After the five tiles the scratch buffers stand for the sums over the 1056 keys. -/
theorem stands5 (hs : ∀ r s, scoreAt x0 x1 x3 x4 r s ≠ ⊤) (hpad : ∀ r (s : Fin 1280), 1056 ≤ s.val → scoreAt x0 x1 x3 x4 r s = ⊥)
    (r d : Fin 128) : Online.Stands ((state5 x0 x1 x2 x3 x4).1 (ix2 r d)) ((state5 x0 x1 x2 x3 x4).2.1 (ix2 r d)) ((state5 x0 x1 x2 x3 x4).2.2 (ix2 r d))
      (∑ s : Fin 1056, Ideal.exp2 (scoreAt x0 x1 x3 x4 r ⟨s.val, by omega⟩))
      (∑ s : Fin 1056, Ideal.exp2 (scoreAt x0 x1 x3 x4 r ⟨s.val, by omega⟩) * x2 (ix3 0 ⟨s.val, by omega⟩ d)) := by
  have ht : ∀ (t : Fin 5) (r : Fin 128) (k : Fin 256), score x0 x1 x3 x4 t (ix2 r k) ≠ ⊤ := by
    intro t r k
    have := hs r ⟨256 * t.val + k.val, by omega⟩
    unfold scoreAt at this
    rwa [show (⟨(256 * t.val + k.val) / 256, by omega⟩ : Fin 5) = t from Fin.ext (by dsimp only; omega),
      show (⟨(256 * t.val + k.val) % 256, by omega⟩ : Fin 256) = k from Fin.ext (by dsimp only; omega)] at this
  have h := (((((Inv.init.step (score x0 x1 x3 x4 0) (val x2 0) (ht 0)).step (score x0 x1 x3 x4 1) (val x2 1) (ht 1)).step
    (score x0 x1 x3 x4 2) (val x2 2) (ht 2)).step (score x0 x1 x3 x4 3) (val x2 3) (ht 3)).step (score x0 x1 x3 x4 4) (val x2 4) (ht 4)).2 r d
  beta_reduce at h
  rw [sum_tiles (fun t k => Ideal.exp2 (score x0 x1 x3 x4 t (ix2 r k))),
    sum_tiles (fun t k => Ideal.exp2 (score x0 x1 x3 x4 t (ix2 r k)) * val x2 t (ix2 k d)),
    sum_keys (fun s => Ideal.exp2 (score x0 x1 x3 x4 ⟨s.val / 256, by omega⟩ (ix2 r ⟨s.val % 256, by omega⟩))),
    sum_keys (fun s => Ideal.exp2 (score x0 x1 x3 x4 ⟨s.val / 256, by omega⟩ (ix2 r ⟨s.val % 256, by omega⟩)) * val x2 ⟨s.val / 256, by omega⟩ (ix2 ⟨s.val % 256, by omega⟩ d))] at h
  · have hv : ∀ s : Fin 1056, val x2 ⟨s.val / 256, by omega⟩ (ix2 ⟨s.val % 256, by omega⟩ d) = x2 (ix3 0 ⟨s.val, by omega⟩ d) := by
      intro s
      unfold val
      exact congrArg (fun z => x2 (ix3 0 z d)) (Fin.ext (Nat.div_add_mod s.val 256))
    simp only [hv] at h
    exact h
  · intro s h
    have := hpad r s h
    unfold scoreAt at this
    rw [this, Ideal.exp2_bot, zero_mul]
  · intro s h
    have := hpad r s h
    unfold scoreAt at this
    rw [this, Ideal.exp2_bot]

/-- The accumulator over the denominator is the mean of the values under the softmax, for any weights `p` proportional to the kernel's. -/
theorem mean5 (hs : ∀ r s, scoreAt x0 x1 x3 x4 r s ≠ ⊤) (hpad : ∀ r (s : Fin 1280), 1056 ≤ s.val → scoreAt x0 x1 x3 x4 r s = ⊥)
    (r d : Fin 128) (hpos : ∃ s : Fin 1056, Ideal.exp2 (scoreAt x0 x1 x3 x4 r ⟨s.val, by omega⟩) ≠ 0) (p : Fin 1056 → EReal) {c : ℝ} (hc : 0 < c)
    (hp : ∀ s, p s = Ideal.exp2 (scoreAt x0 x1 x3 x4 r ⟨s.val, by omega⟩) * (c : EReal)) :
    Ideal.div ((state5 x0 x1 x2 x3 x4).2.2 (ix2 r d)) ((state5 x0 x1 x2 x3 x4).2.1 (ix2 r d))
      = ∑ s, Ideal.div (p s) (∑ s, p s) * x2 (ix3 0 ⟨s.val, by omega⟩ d) :=
  Online.finish _ (fun s : Fin 1056 => x2 (ix3 0 ⟨s.val, by omega⟩ d)) p (fun s => Online.exp2_real (hs r _)) hpos hc hp
    (stands5 x0 x1 x2 x3 x4 hs hpad r d)

end Cert.AttentionIdeal.Algebra

end
-- ==== Proof.AttentionRun.lean ====
module

public import proofs.«01_k».proof.Proof.Gen.AttentionIdeal.Value
public import Idealize.ShloMosaic.Lib.Pipeline.ValueKit
public import Idealize.ShloMosaic.Lib.Pointwise
public import proofs.«01_k».proof.Proof.AttentionBody

@[expose] public section

set_option maxRecDepth 16384

noncomputable section

namespace Cert.AttentionIdeal.Algebra

open Cert.AttentionIdeal Cert.AttentionIdeal.Gen Idealize.ShloMosaic Idealize.ShloMosaic.TcCoe Idealize.SL.Sem

variable (c : Dev nD) (i : grid0.Coords)
  (arg2 : Memref sig .tc .vmem S32x512 .bf16) (harg2 : arg2.IsWhole)
  (arg3 : Memref sig .tc .vmem S1x1280x128 .bf16) (harg3 : arg3.IsWhole)
  (arg4 : Memref sig .tc .vmem S1x1280x128 .bf16) (harg4 : arg4.IsWhole)
  (arg5 : Memref sig .tc .vmem S1x5x32x256 .i8) (harg5 : arg5.IsWhole)
  (arg6 : Memref sig .tc .vmem S1x4x32x512 .f32) (harg6 : arg6.IsWhole)
  (arg7 : Memref sig .tc .vmem S32x512 .bf16) (harg7 : arg7.IsWhole)
  (arg8 : Memref sig .tc .vmem S128x128 .bf16) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x128 .f32) (harg11 : arg11.IsWhole)

variable (x0 : FVec Ideal S32x512 .bf16) (x1 x2 : FVec Ideal S1x1280x128 .bf16) (x3 : Vec Ideal S1x5x32x256 .i8) (x4 : FVec Ideal S1x4x32x512 .f32)

theorem v198_eq : kernelRun0_A.sl.v198 (F := Ideal) c i arg2 harg2 arg3 harg3 arg4 harg4 arg5 harg5 arg6 harg6 arg7 harg7 arg8 harg8 arg9 harg9 arg10 harg10 arg11 harg11 x0 x1 x2 x3 = (state3 x0 x1 x2 x3 x4).1 := by
  unfold kernelRun0_A.sl.v198
  refine (readCov_whole arg9.view _).trans ?_
  have h2 : Scf.trips (k0_t2_loop i).lb (k0_t2_loop i).ub (k0_t2_loop i).st = 0 := trips2 i
  have h1 : Scf.trips (k0_t1_loop i).lb (k0_t1_loop i).ub (k0_t1_loop i).st = 3 := trips1 i
  rw [h2, h1]
  exact (St_three c i arg2 harg2 arg3 harg3 arg4 harg4 arg5 harg5 arg6 harg6 arg7 harg7 arg8 harg8 arg9 harg9 arg10 harg10 arg11 harg11 x0 x1 x2 x3 x4 _ _ _ (HS0_canon c arg2 harg2 x0) kernelRun0_A.sl.HS1_1 kernelRun0_A.sl.HS2_1 kernelRun0_A.sl.HS3_1
    (View.canon_unit_zero hz2 _ _) (View.canon_unit_zero hz2 _ _) (View.canon_unit_zero hz2 _ _)).1
theorem v215_eq : kernelRun0_A.sl.v215 (F := Ideal) c i arg2 harg2 arg3 harg3 arg4 harg4 arg5 harg5 arg6 harg6 arg7 harg7 arg8 harg8 arg9 harg9 arg10 harg10 arg11 harg11 x0 x1 x2 x3 = (state3 x0 x1 x2 x3 x4).2.1 := by
  unfold kernelRun0_A.sl.v215
  refine (readCov_whole arg10.view _).trans ?_
  have h2 : Scf.trips (k0_t2_loop i).lb (k0_t2_loop i).ub (k0_t2_loop i).st = 0 := trips2 i
  have h1 : Scf.trips (k0_t1_loop i).lb (k0_t1_loop i).ub (k0_t1_loop i).st = 3 := trips1 i
  rw [h2, h1]
  exact (St_three c i arg2 harg2 arg3 harg3 arg4 harg4 arg5 harg5 arg6 harg6 arg7 harg7 arg8 harg8 arg9 harg9 arg10 harg10 arg11 harg11 x0 x1 x2 x3 x4 _ _ _ (HS0_canon c arg2 harg2 x0) kernelRun0_A.sl.HS1_1 kernelRun0_A.sl.HS2_1 kernelRun0_A.sl.HS3_1
    (View.canon_unit_zero hz2 _ _) (View.canon_unit_zero hz2 _ _) (View.canon_unit_zero hz2 _ _)).2.1
theorem v225_eq : kernelRun0_A.sl.v225 (F := Ideal) c i arg2 harg2 arg3 harg3 arg4 harg4 arg5 harg5 arg6 harg6 arg7 harg7 arg8 harg8 arg9 harg9 arg10 harg10 arg11 harg11 x0 x1 x2 x3 = (state3 x0 x1 x2 x3 x4).2.2 := by
  unfold kernelRun0_A.sl.v225
  refine (readCov_whole arg11.view _).trans ?_
  have h2 : Scf.trips (k0_t2_loop i).lb (k0_t2_loop i).ub (k0_t2_loop i).st = 0 := trips2 i
  have h1 : Scf.trips (k0_t1_loop i).lb (k0_t1_loop i).ub (k0_t1_loop i).st = 3 := trips1 i
  rw [h2, h1]
  exact (St_three c i arg2 harg2 arg3 harg3 arg4 harg4 arg5 harg5 arg6 harg6 arg7 harg7 arg8 harg8 arg9 harg9 arg10 harg10 arg11 harg11 x0 x1 x2 x3 x4 _ _ _ (HS0_canon c arg2 harg2 x0) kernelRun0_A.sl.HS1_1 kernelRun0_A.sl.HS2_1 kernelRun0_A.sl.HS3_1
    (View.canon_unit_zero hz2 _ _) (View.canon_unit_zero hz2 _ _) (View.canon_unit_zero hz2 _ _)).2.2

variable (hc0 : k0_cond1 i = 1#1)

theorem v166_eq : kernelRun0_A.sl.v166 (F := Ideal) c arg2 harg2 arg8 x0 = queries x0 := by
  unfold kernelRun0_A.sl.v166
  exact (readCov_whole arg8.view _).trans (HS0_canon c arg2 harg2 x0)

/-- The biases of the group's four heads for the first biased tile. -/
def bias3 : Fin 4 → Vec Ideal S1x1x32x256 .f32 :=
  ![View.readAt (Elt Ideal) arg6.view (Rect.unit (s := S1x4x32x512) ![0, 0, 0, 0] S1x1x32x256.size inb_S1x4x32x512_S1x1x32x256_0_0_0_0).toLoadRect (harg6.unread x4),
    View.readAt (Elt Ideal) arg6.view (Rect.unit (s := S1x4x32x512) ![0, 1, 0, 0] S1x1x32x256.size inb_S1x4x32x512_S1x1x32x256_0_1_0_0).toLoadRect (harg6.unread x4),
    View.readAt (Elt Ideal) arg6.view (Rect.unit (s := S1x4x32x512) ![0, 2, 0, 0] S1x1x32x256.size inb_S1x4x32x512_S1x1x32x256_0_2_0_0).toLoadRect (harg6.unread x4),
    View.readAt (Elt Ideal) arg6.view (Rect.unit (s := S1x4x32x512) ![0, 3, 0, 0] S1x1x32x256.size inb_S1x4x32x512_S1x1x32x256_0_3_0_0).toLoadRect (harg6.unread x4)]

/-- The biases of the group's four heads for the second biased tile. -/
def bias4 : Fin 4 → Vec Ideal S1x1x32x256 .f32 :=
  ![View.readAt (Elt Ideal) arg6.view (Rect.unit (s := S1x4x32x512) ![0, 0, 0, 256] S1x1x32x256.size inb_S1x4x32x512_S1x1x32x256_0_0_0_256).toLoadRect (harg6.unread x4),
    View.readAt (Elt Ideal) arg6.view (Rect.unit (s := S1x4x32x512) ![0, 1, 0, 256] S1x1x32x256.size inb_S1x4x32x512_S1x1x32x256_0_1_0_256).toLoadRect (harg6.unread x4),
    View.readAt (Elt Ideal) arg6.view (Rect.unit (s := S1x4x32x512) ![0, 2, 0, 256] S1x1x32x256.size inb_S1x4x32x512_S1x1x32x256_0_2_0_256).toLoadRect (harg6.unread x4),
    View.readAt (Elt Ideal) arg6.view (Rect.unit (s := S1x4x32x512) ![0, 3, 0, 256] S1x1x32x256.size inb_S1x4x32x512_S1x1x32x256_0_3_0_256).toLoadRect (harg6.unread x4)]

theorem bias3_at (g : Fin 4) (r : Fin 32) (k : Fin 256) :
    bias3 arg6 harg6 x4 g (ix4 0 0 r k) = x4 (ix4 0 g r ⟨256 * ((3 : Fin 5).val - 3) + k.val, by simp; omega⟩) := by
  fin_cases g
  · exact ld_bias arg6 harg6 x4 _ 0 0 (by decide) rfl r k
  · exact ld_bias arg6 harg6 x4 _ 1 0 (by decide) rfl r k
  · exact ld_bias arg6 harg6 x4 _ 2 0 (by decide) rfl r k
  · exact ld_bias arg6 harg6 x4 _ 3 0 (by decide) rfl r k

theorem bias4_at (g : Fin 4) (r : Fin 32) (k : Fin 256) :
    bias4 arg6 harg6 x4 g (ix4 0 0 r k) = x4 (ix4 0 g r ⟨256 * ((4 : Fin 5).val - 3) + k.val, by simp; omega⟩) := by
  fin_cases g
  · exact ld_bias arg6 harg6 x4 _ 0 1 (by decide) rfl r k
  · exact ld_bias arg6 harg6 x4 _ 1 1 (by decide) rfl r k
  · exact ld_bias arg6 harg6 x4 _ 2 1 (by decide) rfl r k
  · exact ld_bias arg6 harg6 x4 _ 3 1 (by decide) rfl r k

/-- The scores of the first biased tile. -/
theorem v197_eq : kernelRun0_A.sl.v197 (F := Ideal) c i arg2 harg2 arg3 harg3 arg5 harg5 arg6 harg6 arg8 hc0 x0 x1 x3 x4 = score x0 x1 x3 x4 3 := by
  funext j
  idx_vars j
  have ha := ld_kv arg3 harg3 x1 (k0_off5_inb i hc0) 3 (off5 i)
  have hb := ld_mask arg5 harg5 x3 (k0_off6_inb i hc0) 3 (off6 i)
  refine Eq.trans ?_ (biased_score x0 x1 x3 x4 3 (by decide) _ _ _ ha hb (bias3_at arg6 harg6 x4) j0 j1)
  rw [← pay24_at, ← v166_eq c arg2 harg2 arg8 x0]
  rfl

theorem r_1_eq : kernelRun0_A.sl.r_1 (F := Ideal) i arg4 harg4 hc0 x2 = val x2 3 :=
  pay7_val x2 3 _ (ld_kv arg4 harg4 x2 (k0_off5_inb i hc0) 3 (off5 i))

/-- The scores of the last tile. -/
theorem scores4_eq : k0_pay53 (kernelRun0_A.sl.r_9 (F := Ideal) i arg5 harg5 x3) (kernelRun0_A.sl.r_10 c i arg2 harg2 arg3 harg3 arg5 harg5 arg6 harg6 arg8 x0 x1 x3 x4)
    (kernelRun0_A.sl.r_11 c i arg2 harg2 arg3 harg3 arg5 harg5 arg6 harg6 arg8 x0 x1 x3 x4) (kernelRun0_A.sl.r_12 c i arg2 harg2 arg3 harg3 arg5 harg5 arg6 harg6 arg8 x0 x1 x3 x4)
    (kernelRun0_A.sl.r_13 c i arg2 harg2 arg3 harg3 arg8 x0 x1) (View.readAt (Elt Ideal) arg6.view (Rect.unit (s := S1x4x32x512) ![0, 3, 0, 256] S1x1x32x256.size inb_S1x4x32x512_S1x1x32x256_0_3_0_256).toLoadRect (harg6.unread x4))
    = score x0 x1 x3 x4 4 := by
  funext j
  idx_vars j
  have ha := ld_kv arg3 harg3 x1 (k0_off7_inb i) 4 (off7 i)
  have hb := ld_mask arg5 harg5 x3 (k0_off8_inb i) 4 (off8 i)
  refine Eq.trans ?_ (biased_score x0 x1 x3 x4 4 (by decide) _ _ _ ha hb (bias4_at arg6 harg6 x4) j0 j1)
  rw [← pay53_at, ← v166_eq c arg2 harg2 arg8 x0]
  rfl

theorem r_8_eq : kernelRun0_A.sl.r_8 (F := Ideal) i arg4 harg4 x2 = val x2 4 :=
  pay7_val x2 4 _ (ld_kv arg4 harg4 x2 (k0_off7_inb i) 4 (off7 i))

end Cert.AttentionIdeal.Algebra

end
-- ==== Proof.AttentionOut.lean ====
module

public import proofs.«01_k».proof.Proof.Gen.AttentionIdeal.Value
public import Idealize.ShloMosaic.Lib.Pipeline.ValueKit
public import Idealize.ShloMosaic.Lib.Pointwise
public import proofs.«01_k».proof.Proof.AttentionRun

@[expose] public section

set_option maxRecDepth 16384

noncomputable section

namespace Cert.AttentionIdeal.Algebra

open Cert.AttentionIdeal Cert.AttentionIdeal.Gen Idealize.ShloMosaic Idealize.ShloMosaic.TcCoe Idealize.SL.Sem

variable (c : Dev nD) (i : grid0.Coords)
  (arg2 : Memref sig .tc .vmem S32x512 .bf16) (harg2 : arg2.IsWhole)
  (arg3 : Memref sig .tc .vmem S1x1280x128 .bf16) (harg3 : arg3.IsWhole)
  (arg4 : Memref sig .tc .vmem S1x1280x128 .bf16) (harg4 : arg4.IsWhole)
  (arg5 : Memref sig .tc .vmem S1x5x32x256 .i8) (harg5 : arg5.IsWhole)
  (arg6 : Memref sig .tc .vmem S1x4x32x512 .f32) (harg6 : arg6.IsWhole)
  (arg7 : Memref sig .tc .vmem S32x512 .bf16) (harg7 : arg7.IsWhole)
  (arg8 : Memref sig .tc .vmem S128x128 .bf16) (harg8 : arg8.IsWhole)
  (arg9 : Memref sig .tc .vmem S128x128 .f32) (harg9 : arg9.IsWhole)
  (arg10 : Memref sig .tc .vmem S128x128 .f32) (harg10 : arg10.IsWhole)
  (arg11 : Memref sig .tc .vmem S128x128 .f32) (harg11 : arg11.IsWhole)

variable (x0 : FVec Ideal S32x512 .bf16) (x1 x2 : FVec Ideal S1x1280x128 .bf16) (x3 : Vec Ideal S1x5x32x256 .i8) (x4 : FVec Ideal S1x4x32x512 .f32)
variable (hc0 : k0_cond1 i = 1#1)

/-- The scratch buffers after four tiles. -/
def state4 : Scratch := upd (score x0 x1 x3 x4 3) (val x2 3) (state3 x0 x1 x2 x3 x4)

theorem v206_eq : kernelRun0_A.sl.v206 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).1 := by
  have e : kernelRun0_A.sl.v206 (F := Ideal) c i arg2 harg2 arg3 harg3 arg4 harg4 arg5 harg5 arg6 harg6 arg7 harg7 arg8 harg8 arg9 harg9 arg10 harg10 arg11 harg11 hc0 x0 x1 x2 x3 x4
      = newM (kernelRun0_A.sl.v197 (F := Ideal) c i arg2 harg2 arg3 harg3 arg5 harg5 arg6 harg6 arg8 hc0 x0 x1 x3 x4)
          (kernelRun0_A.sl.v198 (F := Ideal) c i arg2 harg2 arg3 harg3 arg4 harg4 arg5 harg5 arg6 harg6 arg7 harg7 arg8 harg8 arg9 harg9 arg10 harg10 arg11 harg11 x0 x1 x2 x3) := rfl
  rw [e, v197_eq, v198_eq (x4 := x4)]
  rfl

theorem v224_eq : kernelRun0_A.sl.v224 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).2.1 := by
  have e : kernelRun0_A.sl.v221 (F := Ideal) c i arg2 harg2 arg3 harg3 arg4 harg4 arg5 harg5 arg6 harg6 arg7 harg7 arg8 harg8 arg9 harg9 arg10 harg10 arg11 harg11 hc0 x0 x1 x2 x3 x4
      = newL (kernelRun0_A.sl.v197 (F := Ideal) c i arg2 harg2 arg3 harg3 arg5 harg5 arg6 harg6 arg8 hc0 x0 x1 x3 x4)
          (kernelRun0_A.sl.v198 (F := Ideal) c i arg2 harg2 arg3 harg3 arg4 harg4 arg5 harg5 arg6 harg6 arg7 harg7 arg8 harg8 arg9 harg9 arg10 harg10 arg11 harg11 x0 x1 x2 x3) (kernelRun0_A.sl.v215 (F := Ideal) c i arg2 harg2 arg3 harg3 arg4 harg4 arg5 harg5 arg6 harg6 arg7 harg7 arg8 harg8 arg9 harg9 arg10 harg10 arg11 harg11 x0 x1 x2 x3) := rfl
  unfold kernelRun0_A.sl.v224
  rw [shapeCast_self, e, v197_eq, v198_eq (x4 := x4), v215_eq (x4 := x4)]
  rfl

theorem v229_eq : kernelRun0_A.sl.v229 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).2.2 := by
  have e : kernelRun0_A.sl.v229 (F := Ideal) c i arg2 harg2 arg3 harg3 arg4 harg4 arg5 harg5 arg6 harg6 arg7 harg7 arg8 harg8 arg9 harg9 arg10 harg10 arg11 harg11 hc0 x0 x1 x2 x3 x4
      = newA (kernelRun0_A.sl.v197 (F := Ideal) c i arg2 harg2 arg3 harg3 arg5 harg5 arg6 harg6 arg8 hc0 x0 x1 x3 x4)
          (kernelRun0_A.sl.r_1 (F := Ideal) i arg4 harg4 hc0 x2)
          (kernelRun0_A.sl.v198 (F := Ideal) c i arg2 harg2 arg3 harg3 arg4 harg4 arg5 harg5 arg6 harg6 arg7 harg7 arg8 harg8 arg9 harg9 arg10 harg10 arg11 harg11 x0 x1 x2 x3) (kernelRun0_A.sl.v225 (F := Ideal) c i arg2 harg2 arg3 harg3 arg4 harg4 arg5 harg5 arg6 harg6 arg7 harg7 arg8 harg8 arg9 harg9 arg10 harg10 arg11 harg11 x0 x1 x2 x3) := rfl
  rw [e, v197_eq, r_1_eq, v198_eq (x4 := x4), v225_eq (x4 := x4)]
  rfl

theorem v104_eq : kernelRun0_A.sl.v104 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).1 := by
  unfold kernelRun0_A.sl.v104 kernelRun0_A.sl.HS1_1_1
  refine (readCov_whole arg9.view _).trans ((View.canon_cons_unit_zero hz2 _ _ _).trans ?_)
  unfold k0_pay45
  dsimp only
  rw [shapeCast_self, v206_eq]

theorem v121_eq : kernelRun0_A.sl.v121 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).2.1 := by
  unfold kernelRun0_A.sl.v121 kernelRun0_A.sl.HS2_1_1
  exact (readCov_whole arg10.view _).trans ((View.canon_cons_unit_zero hz2 _ _ _).trans (v224_eq c i arg2 harg2 arg3 harg3 arg4 harg4 arg5 harg5 arg6 harg6 arg7 harg7 arg8 harg8 arg9 harg9 arg10 harg10 arg11 harg11 x0 x1 x2 x3 x4 hc0))

theorem v131_eq : kernelRun0_A.sl.v131 (F := Ideal) c i arg2 harg2 arg3 harg3 arg4 harg4 arg5 harg5 arg6 harg6 arg7 harg7 arg8 harg8 arg9 harg9 arg10 harg10 arg11 harg11 hc0 x0 x1 x2 x3 x4 = (state4 x0 x1 x2 x3 x4).2.2 := by
  unfold kernelRun0_A.sl.v131 kernelRun0_A.sl.HS3_1_1
  refine (readCov_whole arg11.view _).trans ((View.canon_cons_unit_zero hz2 _ _ _).trans ?_)
  unfold k0_pay44
  dsimp only
  rw [shapeCast_self, v229_eq]

theorem pay57_eq (a b c' d e : FVec Ideal S32x256 .f32) (n : Vec Ideal S1x1x32x256 .f32) (m l : FVec Ideal S128x128 .f32) :
    k0_pay57 a b c' d e n m l = newL (k0_pay53 a b c' d e n) m l := by
  unfold k0_pay57; dsimp only; rw [shapeCast_self]; rfl

theorem pay58_eq (v : FVec Ideal S256x128 .bf16) (a b c' d e : FVec Ideal S32x256 .f32) (n : Vec Ideal S1x1x32x256 .f32) (m l : FVec Ideal S128x128 .f32) :
    k0_pay58 v a b c' d e n m l = newA (k0_pay53 a b c' d e n) v m l := by
  unfold k0_pay58; dsimp only; rw [shapeCast_self]; rfl

theorem v143_eq : kernelRun0_A.sl.v143 (F := Ideal) c i arg2 harg2 arg3 harg3 arg4 harg4 arg5 harg5 arg6 harg6 arg7 harg7 arg8 harg8 arg9 harg9 arg10 harg10 arg11 harg11 hc0 x0 x1 x2 x3 x4 = (state5 x0 x1 x2 x3 x4).2.1 := by
  unfold kernelRun0_A.sl.v143 kernelRun0_A.sl.HS2_2
  refine (readCov_whole arg10.view _).trans ((View.canon_cons_unit_zero hz2 _ _ _).trans ?_)
  rw [pay57_eq, v104_eq, v121_eq]
  exact congrArg (fun s => newL s (state4 x0 x1 x2 x3 x4).1 (state4 x0 x1 x2 x3 x4).2.1) (scores4_eq c i arg2 harg2 arg3 harg3 arg5 harg5 arg6 harg6 arg8 x0 x1 x3 x4)

theorem v142_eq : kernelRun0_A.sl.v142 (F := Ideal) c i arg2 harg2 arg3 harg3 arg4 harg4 arg5 harg5 arg6 harg6 arg7 harg7 arg8 harg8 arg9 harg9 arg10 harg10 arg11 harg11 hc0 x0 x1 x2 x3 x4 = (state5 x0 x1 x2 x3 x4).2.2 := by
  unfold kernelRun0_A.sl.v142 kernelRun0_A.sl.HS3_2
  refine (readCov_whole arg11.view _).trans ((View.canon_cons_unit_zero hz2 _ _ _).trans ?_)
  rw [pay58_eq, v104_eq, v131_eq, r_8_eq]
  exact congrArg (fun s => newA s (val x2 4) (state4 x0 x1 x2 x3 x4).1 (state4 x0 x1 x2 x3 x4).2.2) (scores4_eq c i arg2 harg2 arg3 harg3 arg5 harg5 arg6 harg6 arg8 x0 x1 x3 x4)

/-- What the body leaves in its result block: row `r`, column `128 g + d` is the accumulator's row `32 g + r` over the denominator's. -/
theorem out_at (r : Fin 32) (q : Fin 512) : out0_A_5 (F := Ideal) c i arg2 harg2 arg3 harg3 arg4 harg4 arg5 harg5 arg6 harg6 arg7 harg7 arg8 harg8 arg9 harg9 arg10 harg10 arg11 harg11 hc0 x0 x1 x2 x3 x4 (ix2 r q)
    = Ideal.div ((state5 x0 x1 x2 x3 x4).2.2 (ix2 ⟨32 * (q.val / 128) + r.val, by omega⟩ ⟨q.val % 128, by omega⟩))
        ((state5 x0 x1 x2 x3 x4).2.1 (ix2 ⟨32 * (q.val / 128) + r.val, by omega⟩ ⟨q.val % 128, by omega⟩)) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc0 x0 x1 x2 x3 x4)]
  unfold kernelRun0_A
  dsimp only
  rw [v142_eq, v143_eq]
  generalize hy : (ix2 r q : S32x512.Idx) = y
  have hr : r = y 0 := by rw [← hy]; rfl
  have hq : q = y 1 := by rw [← hy]; rfl
  subst hr hq
  clear hy
  generalize state5 x0 x1 x2 x3 x4 = σ
  canon_tiles x h
  all_goals
    pointwise [k0_pay3, k0_pay4, k0_pay5, k0_pay6, k0_pay2]
    have e : ∀ (a a' : Fin 128) (b b' : Fin 128), a.val = a'.val → b.val = b'.val →
        Ideal.div (σ.2.2 (ix2 a b)) (σ.2.1 (ix2 a b)) = Ideal.div (σ.2.2 (ix2 a' b')) (σ.2.1 (ix2 a' b')) := by
      intro a a' b b' ha hb
      rw [Fin.ext ha, Fin.ext hb]
    refine e _ _ _ _ ?_ ?_
    · simp only; omega
    · simp only; omega

end Cert.AttentionIdeal.Algebra

end
-- ==== Proof.AttentionScale.lean ====
module

public import proofs.«01_k».proof.Proof.OnlineSoftmax

@[expose] public section

/-!
The scale of the scores: the kernel multiplies the queries by `log₂ e / √128` and the bias by `log₂ e` and takes powers
of two, the reference divides by `√128` and takes powers of `e`.
-/

noncomputable section

namespace Cert.Scale

open Idealize.ShloMosaic

/-- The literal two, as an extended real. -/
theorem two : Ideal.ofBits .f32 1073741824#32 = ((2 : ℝ) : EReal) := by
  simp [Ideal.ofBits, Ideal.ieee]
  rw [← EReal.coe_mul]
  congr 1
  norm_num

/-- The literal 128, as an extended real. -/
theorem hundred : Ideal.ofBits .f32 1124073472#32 = ((128 : ℝ) : EReal) := by
  simp [Ideal.ofBits, Ideal.ieee]
  rw [← EReal.coe_mul]
  congr 1
  norm_num

/-- One over the natural logarithm of two. -/
abbrev log2e : EReal := Ideal.div 1 (Ideal.log (Ideal.ofBits .f32 1073741824#32))

/-- The square root of the head size. -/
abbrev root : EReal := Ideal.sqrt (Ideal.ofBits .f32 1124073472#32)

theorem log2e_eq : log2e = ((1 / Real.log 2 : ℝ) : EReal) := by
  unfold log2e
  rw [two, Ideal.log_coe, if_neg (by norm_num), Ideal.div_coe (Real.log_pos one_lt_two).ne', one_mul]

theorem root_eq : root = ((Real.sqrt 128 : ℝ) : EReal) := by
  unfold root
  rw [hundred, Ideal.sqrt_coe, if_neg (by norm_num)]

theorem ratio_eq : Ideal.div log2e root = ((1 / Real.log 2 * (1 / Real.sqrt 128) : ℝ) : EReal) := by
  rw [log2e_eq, root_eq, Ideal.div_coe (by positivity), ← EReal.coe_mul]

/-- Two to the `x / log 2` is `e` to the `x`. -/
theorem exp2_div (x : ℝ) : (2 : ℝ) ^ (x * (1 / Real.log 2)) = Real.exp x := by
  rw [Real.rpow_def_of_pos two_pos]
  congr 1
  have := (Real.log_pos one_lt_two).ne'
  field_simp

variable (q k : Fin 128 → ℝ) (β f M : ℝ)

/-- The kernel's score without its mask is a real number, the reference's logit less `f` on the scale of powers of two. -/
theorem score_eq : ∑ d, ((q d : EReal) * Ideal.div log2e root) * k d + ((β : EReal) * log2e - (f : EReal) * log2e)
    = (((∑ d, k d * q d) * (1 / Real.sqrt 128) + β - f) * (1 / Real.log 2) : ℝ) := by
  rw [ratio_eq, log2e_eq]
  have : ∀ d, ((q d : EReal) * ((1 / Real.log 2 * (1 / Real.sqrt 128) : ℝ) : EReal)) * k d
      = ((k d * q d * (1 / Real.log 2 * (1 / Real.sqrt 128)) : ℝ) : EReal) := by
    intro d
    rw [← EReal.coe_mul, ← EReal.coe_mul]
    congr 1
    ring
  rw [Finset.sum_congr rfl fun d _ => this d, ← Online.coe_sum, ← Finset.sum_mul, ← EReal.coe_mul, ← EReal.coe_mul,
    ← EReal.coe_sub, ← EReal.coe_add]
  congr 1
  ring

/-- The reference's logit without its mask is a real number. -/
theorem logit_eq : Ideal.div (∑ d, (k d : EReal) * q d) root + β = ((∑ d, k d * q d) * (1 / Real.sqrt 128) + β : ℝ) := by
  rw [root_eq, Finset.sum_congr rfl fun d _ => (EReal.coe_mul (k d) (q d)).symm, ← Online.coe_sum, Ideal.div_coe (by positivity),
    ← EReal.coe_mul, ← EReal.coe_add]

/-- The reference's weight is the kernel's up to the factor `e ^ (f - M)`. -/
theorem weight_eq : Ideal.exp (Ideal.div (∑ d, (k d : EReal) * q d) root + β - M)
    = Ideal.exp2 (∑ d, ((q d : EReal) * Ideal.div log2e root) * k d + ((β : EReal) * log2e - (f : EReal) * log2e)) * (Real.exp (f - M) : ℝ) := by
  rw [score_eq, logit_eq, ← EReal.coe_sub, Ideal.exp_coe, Online.exp2_coe, exp2_div, ← EReal.coe_mul, ← Real.exp_add]
  congr 2
  ring

end Cert.Scale

end
-- ==== Proof.AttentionLogit.lean ====
module

public import proofs.«01_k».proof.Proof.Gen.AttentionReferenceIdeal.Read
public import Idealize.ShloMosaic.Lib.Pipeline.ValueKit
public import Idealize.ShloMosaic.Lib.Pointwise
public import proofs.«01_k».proof.Proof.AttentionScale

@[expose] public section

set_option maxRecDepth 16384

/-! The reference's logits read at an index. -/

noncomputable section

namespace Cert.AttentionReferenceIdeal.Algebra

open Cert.AttentionReferenceIdeal Cert.AttentionReferenceIdeal.Gen Cert.AttentionReferenceIdeal.Read Idealize.ShloMosaic Idealize.ShloMosaic.TcCoe Idealize.SL.Sem

/-- Element `d` of key (or value) `s` of batch `b`, head group `h`: the first 1024 come from the cache, the others are new. -/
def key (cache : FVec Ideal S16x1024x8x128 .f32) (new : FVec Ideal S512x1024 .f32) (b : Fin 16) (s : Fin 1056) (h : Fin 8) (d : Fin 128) : EReal :=
  if hs : s.val < 1024 then cache (ix4 b ⟨s.val, hs⟩ h d)
  else new (ix2 ⟨b.val * 32 + (s.val - 1024), by omega⟩ ⟨h.val * 128 + d.val, by omega⟩)

/-- The bias of key `s` for token `t` and head `4 h + g`: the far keys share one number. -/
def bias (near : FVec Ideal S32x32x512 .f32) (far : FVec Ideal S32 .f32) (t : Fin 32) (h : Fin 8) (g : Fin 4) (s : Fin 1056) : EReal :=
  if hs : s.val < 768 then far (ix1 ⟨h.val * 4 + g.val, by omega⟩)
  else near (ix3 ⟨h.val * 4 + g.val, by omega⟩ t ⟨s.val - 768, by omega⟩)

theorem keys_at (cache : FVec Ideal S16x1024x8x128 .f32) (new : FVec Ideal S512x1024 .f32) (b : Fin 16) (s : Fin 1056) (h : Fin 8) (d : Fin 128) :
    val_main_v2 (F := Ideal) cache new (ix4 b s h d) = key cache new b s h d := by
  pointwise [val_main_v2, val_main_v1]
  rfl

theorem vals_at (cache : FVec Ideal S16x1024x8x128 .f32) (new : FVec Ideal S512x1024 .f32) (b : Fin 16) (s : Fin 1056) (h : Fin 8) (d : Fin 128) :
    val_main_v4 (F := Ideal) cache new (ix4 b s h d) = key cache new b s h d := by
  pointwise [val_main_v4, val_main_v3]
  rfl

theorem bias_at (near : FVec Ideal S32x32x512 .f32) (far : FVec Ideal S32 .f32) (b : Fin 16) (t : Fin 32) (h : Fin 8) (g : Fin 4) (s : Fin 1056) :
    val_main_v20 (F := Ideal) near far (ix5 b t h g s) = bias near far t h g s := by
  pointwise [val_main_v20, val_main_v19, val_main_v15, val_main_v14, val_main_v13, val_main_v12, val_main_v11, val_main_v10]
  rfl

variable (x0 : FVec Ideal S512x4096 .f32) (x1 x2 : FVec Ideal S16x1024x8x128 .f32) (x3 x4 : FVec Ideal S512x1024 .f32)
  (x5 : Vec Ideal S16x32x1056 .i8) (x6 : FVec Ideal S32x32x512 .f32) (x7 : FVec Ideal S32 .f32)

theorem scaled_at (b : Fin 16) (t : Fin 32) (h : Fin 8) (g : Fin 4) (s : Fin 1056) : val_main_v9 (F := Ideal) x0 x1 x3 (ix5 b t h g s)
    = Ideal.div (∑ d : Fin 128, key x1 x3 b s h d * x0 (ix2 ⟨b.val * 32 + t.val, by omega⟩ ⟨h.val * 512 + g.val * 128 + d.val, by omega⟩)) Scale.root := by
  pointwise [val_main_v9, val_main_v8, val_main_v7, val_main_cst, val_main_v6, val_main_v5, val_main_v0]
  simp only [keys_at]

/-- The logit of key `s`, masked where the key is not selected. -/
def logit (b : Fin 16) (t : Fin 32) (h : Fin 8) (g : Fin 4) (s : Fin 1056) : EReal :=
  if x5 (ix3 b t s) = 0#8 then ⊥
  else Ideal.div (∑ d : Fin 128, key x1 x3 b s h d * x0 (ix2 ⟨b.val * 32 + t.val, by omega⟩ ⟨h.val * 512 + g.val * 128 + d.val, by omega⟩)) Scale.root
    + bias x6 x7 t h g s

theorem negInf : Ideal.ofBits .f32 4286578688#32 = ⊥ := by simp [Ideal.ofBits, Ideal.ieee]

theorem select_ne (x : BitVec 8) (a b : EReal) : Scalar.select (IntOp.cmpi .ne x 0#8) a b = if x = 0#8 then b else a := by
  by_cases h : x = 0#8
  · subst h; rfl
  · rw [if_neg h, show IntOp.cmpi .ne x 0#8 = 1#1 from IntOp.cmpi_ne.2 h]; rfl

theorem logit_at (b : Fin 16) (t : Fin 32) (h : Fin 8) (g : Fin 4) (s : Fin 1056) :
    val_main_v22 (F := Ideal) x0 x1 x3 x5 x6 x7 (ix5 b t h g s) = logit x0 x1 x3 x5 x6 x7 b t h g s := by
  pointwise [val_main_v22, val_main_v21, val_main_call0_v1, val_main_call0_v2, val_main_call0_v0, val_main_cst_0, val_main_v18, val_main_v16, val_main_v17, val_main_c]
  rw [scaled_at, bias_at, select_ne, show (id (constant (F := Ideal) S_ .f32 4286578688#32) ix0 : EReal) = ⊥ from negInf]
  rfl

end Cert.AttentionReferenceIdeal.Algebra

end
-- ==== Proof.AttentionRef.lean ====
module

public import proofs.«01_k».proof.Proof.Gen.AttentionReferenceIdeal.Read
public import Idealize.ShloMosaic.Lib.Pipeline.ValueKit
public import Idealize.ShloMosaic.Lib.Pointwise
public import proofs.«01_k».proof.Proof.AttentionLogit

@[expose] public section

set_option maxRecDepth 16384

/-! The reference read at an index of its result. -/

noncomputable section

namespace Cert.AttentionReferenceIdeal.Algebra

open Cert.AttentionReferenceIdeal Cert.AttentionReferenceIdeal.Gen Cert.AttentionReferenceIdeal.Read Idealize.ShloMosaic Idealize.ShloMosaic.TcCoe Idealize.SL.Sem

/-- The largest element along the last axis, as a fold over that axis. -/
theorem max_at (x : FVec Ideal S16x32x8x4x1056 .f32) (v : FVec Ideal S_ .f32) (b : Fin 16) (t : Fin 32) (h : Fin 8) (g : Fin 4) :
    Host.reduce FloatOps.maximumf x v reducesTo_S16x32x8x4x1056_S16x32x8x4_d4 h_S_ (ix4 b t h g)
      = Finset.univ.fold max (v ix0) fun s : Fin 1056 => x (ix5 b t h g s) := by
  pointwise
  rw [show Shape.Idx.first h_S_ = ix0 from funext fun a => a.elim0]

variable (x0 : FVec Ideal S512x4096 .f32) (x1 x2 : FVec Ideal S16x1024x8x128 .f32) (x3 x4 : FVec Ideal S512x1024 .f32)
  (x5 : Vec Ideal S16x32x1056 .i8) (x6 : FVec Ideal S32x32x512 .f32) (x7 : FVec Ideal S32 .f32)

/-- The largest logit of a row. -/
def top (b : Fin 16) (t : Fin 32) (h : Fin 8) (g : Fin 4) : EReal :=
  max ⊥ (Finset.univ.fold max ⊥ fun s : Fin 1056 => logit x0 x1 x3 x5 x6 x7 b t h g s)

theorem fold_at (b : Fin 16) (t : Fin 32) (h : Fin 8) (g : Fin 4) : val_main_v23 (F := Ideal) x0 x1 x3 x5 x6 x7 (ix4 b t h g)
    = Finset.univ.fold max (val_main_cst_1 (F := Ideal) ix0) fun s : Fin 1056 => val_main_v22 (F := Ideal) x0 x1 x3 x5 x6 x7 (ix5 b t h g s) := by
  unfold val_main_v23
  rw [max_at]

theorem maximum_at (y : FVec Ideal S16x32x8x4 .f32) (b : Fin 16) (t : Fin 32) (h : Fin 8) (g : Fin 4) :
    maximumf (val_main_v24 (F := Ideal)) y (ix4 b t h g) = max ⊥ (y (ix4 b t h g)) := by
  pointwise [val_main_v24, val_main_cst_2]
  rw [negInf]

theorem cst_1 : (val_main_cst_1 (F := Ideal) ix0 : EReal) = ⊥ := by
  unfold val_main_cst_1
  pointwise
  exact negInf

theorem top_at (b : Fin 16) (t : Fin 32) (h : Fin 8) (g : Fin 4) :
    val_main_v25 (F := Ideal) x0 x1 x3 x5 x6 x7 (ix4 b t h g) = top x0 x1 x3 x5 x6 x7 b t h g := by
  have e : (fun s : Fin 1056 => val_main_v22 (F := Ideal) x0 x1 x3 x5 x6 x7 (ix5 b t h g s)) = fun s => logit x0 x1 x3 x5 x6 x7 b t h g s :=
    funext fun s => logit_at x0 x1 x3 x5 x6 x7 b t h g s
  unfold val_main_v25 top
  rw [maximum_at, fold_at, cst_1, e]

/-- The largest logit of a row with a selected key is a real number, if the logits are below `⊤`. -/
theorem top_real (b : Fin 16) (t : Fin 32) (h : Fin 8) (g : Fin 4) (h1 : ∀ s, logit x0 x1 x3 x5 x6 x7 b t h g s ≠ ⊤)
    (h2 : ∃ s, logit x0 x1 x3 x5 x6 x7 b t h g s ≠ ⊥) : ∃ M : ℝ, top x0 x1 x3 x5 x6 x7 b t h g = M := by
  have a : top x0 x1 x3 x5 x6 x7 b t h g ≠ ⊤ := by
    unfold top
    rw [max_eq_right bot_le]
    exact ((Finset.fold_max_lt _).2 ⟨bot_lt_top, fun s _ => lt_top_iff_ne_top.2 (h1 s)⟩).ne
  have a' : top x0 x1 x3 x5 x6 x7 b t h g ≠ ⊥ := by
    unfold top
    rw [max_eq_right bot_le]
    obtain ⟨s, hs⟩ := h2
    exact ((Finset.lt_fold_max _).2 (.inr ⟨s, Finset.mem_univ s, bot_lt_iff_ne_bot.2 hs⟩)).ne'
  exact ⟨_, (EReal.coe_toReal a a').symm⟩

theorem prob_at (b : Fin 16) (t : Fin 32) (h : Fin 8) (g : Fin 4) (s : Fin 1056) : val_main_v33 (F := Ideal) x0 x1 x3 x5 x6 x7 (ix5 b t h g s)
    = Ideal.div (Ideal.exp (logit x0 x1 x3 x5 x6 x7 b t h g s - top x0 x1 x3 x5 x6 x7 b t h g))
        (∑ s : Fin 1056, Ideal.exp (logit x0 x1 x3 x5 x6 x7 b t h g s - top x0 x1 x3 x5 x6 x7 b t h g)) := by
  pointwise [val_main_v33, val_main_v32, val_main_v31, val_main_v30, val_main_cst_3, val_main_v29, val_main_v28, val_main_v27, val_main_v26]
  simp only [logit_at, top_at]

/-- The reference's result: the mean of the values under the softmax of the logits. -/
theorem result_at (r : Fin 512) (q : Fin 4096) (b : Fin 16) (t : Fin 32) (h : Fin 8) (g : Fin 4) (d : Fin 128)
    (hr : r.val = b.val * 32 + t.val) (hq : q.val = h.val * 512 + g.val * 128 + d.val) : val_main_v37 (F := Ideal) x0 x1 x2 x3 x4 x5 x6 x7 (ix2 r q)
    = ∑ s : Fin 1056, Ideal.div (Ideal.exp (logit x0 x1 x3 x5 x6 x7 b t h g s - top x0 x1 x3 x5 x6 x7 b t h g))
        (∑ s : Fin 1056, Ideal.exp (logit x0 x1 x3 x5 x6 x7 b t h g s - top x0 x1 x3 x5 x6 x7 b t h g)) * key x2 x4 b s h d := by
  pointwise [val_main_v37, val_main_v36, val_main_v35, val_main_v34]
  simp only [vals_at, prob_at]
  refine Finset.sum_congr rfl fun s _ => ?_
  rw [show (⟨r.val / 32, by omega⟩ : Fin 16) = b from Fin.ext (by show r.val / 32 = b.val; omega),
    show (⟨r.val % 32, by omega⟩ : Fin 32) = t from Fin.ext (by show r.val % 32 = t.val; omega),
    show (⟨q.val / 512, by omega⟩ : Fin 8) = h from Fin.ext (by show q.val / 512 = h.val; omega),
    show (⟨q.val / 128 % 4, by omega⟩ : Fin 4) = g from Fin.ext (by show q.val / 128 % 4 = g.val; omega),
    show (⟨q.val % 128, by omega⟩ : Fin 128) = d from Fin.ext (by show q.val % 128 = d.val; omega)]
  exact mul_comm _ _

end Cert.AttentionReferenceIdeal.Algebra

end
-- ==== Proof.AttentionBlocks.lean ====
module

public import proofs.«01_k».proof.Proof.Gen.AttentionIdeal.Value
public import Idealize.ShloMosaic.Lib.Pipeline.ValueKit
public import Idealize.ShloMosaic.Lib.Pointwise
public import proofs.«01_k».proof.Proof.AttentionRow
public import proofs.«01_k».proof.Proof.AttentionOut
public import proofs.«01_k».proof.Proof.AttentionRef

@[expose] public section

set_option maxRecDepth 16384

/-! The kernel's result array, block by block, against the reference's result. -/

noncomputable section

namespace Cert.AttentionIdeal.Algebra

open Cert.AttentionIdeal Cert.AttentionIdeal.Gen Idealize.ShloMosaic Idealize.ShloMosaic.TcCoe Idealize.SL.Sem

variable (m : (ℓ : Loc nD τ sig) → Buf (Elt Ideal) ℓ)

theorem idx0 : ∀ t : Fin cfg0.N, win0_0.index t = ![win0_5.index t 0, win0_5.index t 1] := (by decide +kernel : ∀ t : Fin grid0.N, _)
theorem idx1 : ∀ t : Fin cfg0.N, win0_1.index t = ![win0_5.index t 0, 0, win0_5.index t 1] := (by decide +kernel : ∀ t : Fin grid0.N, _)
theorem idx2 : ∀ t : Fin cfg0.N, win0_2.index t = ![win0_5.index t 0, 0, win0_5.index t 1] := (by decide +kernel : ∀ t : Fin grid0.N, _)
theorem idx3 : ∀ t : Fin cfg0.N, win0_3.index t = ![win0_5.index t 0, 0, 0, 0] := (by decide +kernel : ∀ t : Fin grid0.N, _)
theorem idx4 : ∀ t : Fin cfg0.N, win0_4.index t = ![0, win0_5.index t 1, 0, 0] := (by decide +kernel : ∀ t : Fin grid0.N, _)
theorem lt0 : ∀ t : Fin cfg0.N, win0_5.index t 0 < 16 := (by decide +kernel : ∀ t : Fin grid0.N, _)
theorem lt1 : ∀ t : Fin cfg0.N, win0_5.index t 1 < 8 := (by decide +kernel : ∀ t : Fin grid0.N, _)

/-- The queries in front of the call: the argument times `log₂ e / √128`. -/
theorem host_q (c : Dev nD) (r : Fin 512) (k : Fin 4096) : V m c main_v9 (ix2 r k)
    = (show EReal from m ((c : Thread nD τ).loc main_arg0) (ix2 r k)) * Ideal.div Scale.log2e Scale.root := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise

/-- A cache of keys or values with the new ones behind it, padded with zeros to 1280. -/
def padded (cache : FVec Ideal S16x1024x8x128 .f32) (new : FVec Ideal S512x1024 .f32) (b : Fin 16) (s : Fin 1280) (k : Fin 1024) : EReal :=
  if h : s.val < 1024 then cache (ix4 b ⟨s.val, h⟩ ⟨k.val / 128, by omega⟩ ⟨k.val % 128, by omega⟩)
  else if h : s.val - 1024 < 32 then new (ix2 ⟨b.val * 32 + (s.val - 1024), by omega⟩ k) else 0

theorem host_k (c : Dev nD) (b : Fin 16) (s : Fin 1280) (k : Fin 1024) : V m c main_v23 (ix3 b s k)
    = padded (m ((c : Thread nD τ).loc main_arg1)) (m ((c : Thread nD τ).loc main_arg3)) b s k := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  after_results_simp
  pointwise
  rfl

theorem host_v (c : Dev nD) (b : Fin 16) (s : Fin 1280) (k : Fin 1024) : V m c main_v29 (ix3 b s k)
    = padded (m ((c : Thread nD τ).loc main_arg2)) (m ((c : Thread nD τ).loc main_arg4)) b s k := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  after_results_simp
  pointwise
  rfl

/-- The mask in front of the call: the selection, padded with zeros and cut in tiles of 256 keys. -/
theorem host_mask (c : Dev nD) (b : Fin 16) (j : Fin 5) (t : Fin 32) (k : Fin 256) : V m c main_v2 (ix4 b j t k)
    = if h : j.val * 256 + k.val < 1056 then (show BitVec 8 from m ((c : Thread nD τ).loc main_arg5) (ix3 b t ⟨j.val * 256 + k.val, h⟩)) else 0#8 := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise
  show pad S16x32x1280 ![0, 0, 0] ![0, 0, 224] ![0, 0, 0] (show IVec S16x32x1056 8 from m ((c : Thread nD τ).loc main_arg5))
    (trunci 8 (constantI S_ 32 0#32) natLt_8_32) pads_S16x32x1056_S16x32x1280_000_000_02240 h_S_ _ = _
  pointwise
  rfl

/-- The bias in front of the call: the near bias less the far one, times `log₂ e`. -/
theorem host_bias (c : Dev nD) (n t : Fin 32) (s : Fin 512) : V m c main_v17 (ix4 0 n t s)
    = (show EReal from m ((c : Thread nD τ).loc main_arg6) (ix3 n t s)) * Scale.log2e - (show EReal from m ((c : Thread nD τ).loc main_arg7) (ix1 n)) * Scale.log2e := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise

/-- The batch of a grid point. -/
abbrev bat (t : Fin cfg0.N) : Fin 16 := ⟨win0_5.index t 0, lt0 t⟩

/-- The group of heads of a grid point. -/
abbrev grp (t : Fin cfg0.N) : Fin 8 := ⟨win0_5.index t 1, lt1 t⟩

theorem blk_q (c : Dev nD) (t : Fin cfg0.N) (r : Fin 32) (k : Fin 512) : iblk m c 0 t (ix2 r k)
    = (show EReal from m ((c : Thread nD τ).loc main_arg0) (ix2 ⟨(bat t).val * 32 + r.val, by have := (bat t).isLt; omega⟩ ⟨(grp t).val * 512 + k.val, by have := (grp t).isLt; omega⟩))
      * Ideal.div Scale.log2e Scale.root := by
  rw [← host_q]
  blk_point [iblk, idx0]

theorem blk_k (c : Dev nD) (t : Fin cfg0.N) (s : Fin 1280) (d : Fin 128) : iblk m c 1 t (ix3 0 s d)
    = padded (m ((c : Thread nD τ).loc main_arg1)) (m ((c : Thread nD τ).loc main_arg3)) (bat t) s ⟨(grp t).val * 128 + d.val, by have := (grp t).isLt; omega⟩ := by
  rw [← host_k]
  blk_point [iblk, idx1]

theorem blk_v (c : Dev nD) (t : Fin cfg0.N) (s : Fin 1280) (d : Fin 128) : iblk m c 2 t (ix3 0 s d)
    = padded (m ((c : Thread nD τ).loc main_arg2)) (m ((c : Thread nD τ).loc main_arg4)) (bat t) s ⟨(grp t).val * 128 + d.val, by have := (grp t).isLt; omega⟩ := by
  rw [← host_v]
  blk_point [iblk, idx2]

theorem blk_mask (c : Dev nD) (t : Fin cfg0.N) (j : Fin 5) (r : Fin 32) (k : Fin 256) : iblk m c 3 t (ix4 0 j r k)
    = if h : j.val * 256 + k.val < 1056 then (show BitVec 8 from m ((c : Thread nD τ).loc main_arg5) (ix3 (bat t) r ⟨j.val * 256 + k.val, h⟩)) else 0#8 := by
  rw [← host_mask]
  blk_point [iblk, idx3]

theorem blk_bias (c : Dev nD) (t : Fin cfg0.N) (g : Fin 4) (r : Fin 32) (s : Fin 512) : iblk m c 4 t (ix4 0 g r s)
    = (show EReal from m ((c : Thread nD τ).loc main_arg6) (ix3 ⟨(grp t).val * 4 + g.val, by have := (grp t).isLt; omega⟩ r s)) * Scale.log2e
      - (show EReal from m ((c : Thread nD τ).loc main_arg7) (ix1 ⟨(grp t).val * 4 + g.val, by have := (grp t).isLt; omega⟩)) * Scale.log2e := by
  rw [← host_bias]
  blk_point [iblk, idx4]

end Cert.AttentionIdeal.Algebra

end
-- ==== Proof.AttentionFinal.lean ====
module

public import proofs.«01_k».proof.Proof.Gen.AttentionIdeal.Value
public import Idealize.ShloMosaic.Lib.Pipeline.ValueKit
public import Idealize.ShloMosaic.Lib.Pointwise
public import proofs.«01_k».proof.Proof.AttentionBlocks
public import proofs.«01_k».proof.Proof.AttentionOut
public import proofs.«01_k».proof.Proof.AttentionRef

@[expose] public section

set_option maxRecDepth 16384

/-! Under the precondition, the kernel's result array is the reference's result. -/

noncomputable section

namespace Cert.AttentionIdeal.Algebra

open Cert.AttentionIdeal Cert.AttentionIdeal.Gen Idealize.ShloMosaic Idealize.ShloMosaic.TcCoe Idealize.SL.Sem

variable (m : (ℓ : Loc nD τ sig) → Buf (Elt Ideal) ℓ)

/-- A score of a block, its row by head and token, its key by number. -/
theorem scoreAt_eq (x0 : FVec Ideal S32x512 .bf16) (x1 : FVec Ideal S1x1280x128 .bf16) (x3 : Vec Ideal S1x5x32x256 .i8) (x4 : FVec Ideal S1x4x32x512 .f32)
    (R : Fin 128) (g : Fin 4) (r : Fin 32) (s : Fin 1280) (hR : R.val = 32 * g.val + r.val) : scoreAt x0 x1 x3 x4 R s
      = ∑ d : Fin 128, x0 (ix2 r ⟨128 * g.val + d.val, by omega⟩) * x1 (ix3 0 s d)
        + (if h : 768 ≤ s.val then x4 (ix4 0 g r ⟨s.val - 768, by omega⟩) else 0)
        + maskOf (x3 (ix4 0 ⟨s.val / 256, by omega⟩ r ⟨s.val % 256, by omega⟩)) := by
  have er : (⟨R.val % 32, by omega⟩ : Fin 32) = r := Fin.ext (by show R.val % 32 = r.val; omega)
  have eg : (⟨R.val / 32, by omega⟩ : Fin 4) = g := Fin.ext (by show R.val / 32 = g.val; omega)
  unfold scoreAt score
  refine congr (congrArg HAdd.hAdd (congr (congrArg HAdd.hAdd (Finset.sum_congr rfl fun d _ => ?_)) ?_)) ?_
  · refine congr (congrArg HMul.hMul ?_) ?_
    · exact congrArg x0 (congr (congrArg ix2 er) (Fin.ext (by show 128 * (R.val / 32) + d.val = 128 * g.val + d.val; omega)))
    · exact congrArg (fun a => x1 (ix3 0 a d)) (Fin.ext (by show 256 * (s.val / 256) + s.val % 256 = s.val; omega))
  · by_cases h : 768 ≤ s.val
    · rw [dif_pos (show 3 ≤ s.val / 256 by omega), dif_pos h]
      refine congrArg x4 (congr (congr (congrArg (ix4 0) eg) er) (Fin.ext ?_))
      show 256 * (s.val / 256 - 3) + s.val % 256 = s.val - 768
      omega
    · rw [dif_neg (show ¬ 3 ≤ s.val / 256 by omega), dif_neg h]
  · exact congrArg maskOf (congrArg (fun a => x3 (ix4 0 _ a _)) er)

theorem padded_eq (cache : FVec Ideal S16x1024x8x128 .f32) (new : FVec Ideal S512x1024 .f32) (b : Fin 16) (s : Fin 1056) (h : Fin 8) (d : Fin 128) :
    padded cache new b ⟨s.val, by omega⟩ ⟨h.val * 128 + d.val, by omega⟩ = Cert.AttentionReferenceIdeal.Algebra.key cache new b s h d := by
  unfold padded Cert.AttentionReferenceIdeal.Algebra.key
  by_cases hs : s.val < 1024
  · rw [dif_pos hs, dif_pos hs]
    exact congrArg cache (congr (congrArg (ix4 b ⟨s.val, hs⟩) (Fin.ext (by show (h.val * 128 + d.val) / 128 = h.val; omega)))
      (Fin.ext (by show (h.val * 128 + d.val) % 128 = d.val; omega)))
  · rw [dif_neg hs, dif_neg hs, dif_pos (by show s.val - 1024 < 32; omega)]

/-- The precondition on the arguments, as the proof uses it. -/
structure Good (x0 : FVec Ideal S512x4096 .f32) (x1 : FVec Ideal S16x1024x8x128 .f32) (x3 : FVec Ideal S512x1024 .f32) (x5 : IVec S16x32x1056 8)
    (x6 : FVec Ideal S32x32x512 .f32) (x7 : FVec Ideal S32 .f32) : Prop where
  q : ∀ i, ∃ r : ℝ, x0 i = (r : EReal)
  cache : ∀ i, ∃ r : ℝ, x1 i = (r : EReal)
  new : ∀ i, ∃ r : ℝ, x3 i = (r : EReal)
  near : ∀ i, ∃ r : ℝ, x6 i = (r : EReal)
  far : ∀ i, ∃ r : ℝ, x7 i = (r : EReal)
  some : ∀ (b : Fin 16) (t : Fin 32), ∃ s : Fin 1056, x5 (ix3 b t s) ≠ 0#8

section Group

variable (x0 : FVec Ideal S512x4096 .f32) (x1 x2 : FVec Ideal S16x1024x8x128 .f32) (x3 x4 : FVec Ideal S512x1024 .f32)
  (x5 : IVec S16x32x1056 8) (x6 : FVec Ideal S32x32x512 .f32) (x7 : FVec Ideal S32 .f32)
  (y0 : FVec Ideal S32x512 .bf16) (y1 y2 : FVec Ideal S1x1280x128 .bf16) (y3 : Vec Ideal S1x5x32x256 .i8) (y4 : FVec Ideal S1x4x32x512 .f32)
  (b : Fin 16) (h : Fin 8)

/-- The blocks of a grid point, off the arguments: batch `b`, head group `h`. -/
structure Blocks : Prop where
  q : ∀ (r : Fin 32) (k : Fin 512), y0 (ix2 r k) = x0 (ix2 ⟨b.val * 32 + r.val, by omega⟩ ⟨h.val * 512 + k.val, by omega⟩) * Ideal.div Scale.log2e Scale.root
  k : ∀ (s : Fin 1280) (d : Fin 128), y1 (ix3 0 s d) = padded x1 x3 b s ⟨h.val * 128 + d.val, by omega⟩
  v : ∀ (s : Fin 1280) (d : Fin 128), y2 (ix3 0 s d) = padded x2 x4 b s ⟨h.val * 128 + d.val, by omega⟩
  mask : ∀ (j : Fin 5) (r : Fin 32) (k : Fin 256), y3 (ix4 0 j r k)
    = if h : j.val * 256 + k.val < 1056 then x5 (ix3 b r ⟨j.val * 256 + k.val, h⟩) else 0#8
  bias : ∀ (g : Fin 4) (r : Fin 32) (s : Fin 512), y4 (ix4 0 g r s)
    = x6 (ix3 ⟨h.val * 4 + g.val, by omega⟩ r s) * Scale.log2e - x7 (ix1 ⟨h.val * 4 + g.val, by omega⟩) * Scale.log2e

variable {x0 x1 x2 x3 x4 x5 x6 x7 y0 y1 y2 y3 y4 b h}
variable (B : Blocks x0 x1 x2 x3 x4 x5 x6 x7 y0 y1 y2 y3 y4 b h) (G : Good x0 x1 x3 x5 x6 x7)

include B in
/-- The padded keys are masked in every row. -/
theorem score_pad (R : Fin 128) (s : Fin 1280) (hs : 1056 ≤ s.val) : scoreAt y0 y1 y3 y4 R s = ⊥ := by
  refine scoreAt_bot y0 y1 y3 y4 R s ((B.mask _ _ _).trans (dif_neg ?_))
  show ¬ s.val / 256 * 256 + s.val % 256 < 1056
  omega

include B G in
/-- The score of a key that is not padding. -/
theorem score_key (R : Fin 128) (g : Fin 4) (r : Fin 32) (hR : R.val = 32 * g.val + r.val) (s : Fin 1056) : scoreAt y0 y1 y3 y4 R ⟨s.val, by omega⟩
    = if x5 (ix3 b r s) = 0#8 then ⊥
      else ∑ d : Fin 128, (x0 (ix2 ⟨b.val * 32 + r.val, by omega⟩ ⟨h.val * 512 + g.val * 128 + d.val, by omega⟩) * Ideal.div Scale.log2e Scale.root) * Cert.AttentionReferenceIdeal.Algebra.key x1 x3 b s h d
        + (Cert.AttentionReferenceIdeal.Algebra.bias x6 x7 r h g s * Scale.log2e - x7 (ix1 ⟨h.val * 4 + g.val, by omega⟩) * Scale.log2e) := by
  have hm : maskOf (y3 (ix4 0 ⟨s.val / 256, by omega⟩ r ⟨s.val % 256, by omega⟩)) = if x5 (ix3 b r s) = 0#8 then ⊥ else 0 := by
    rw [B.mask, dif_pos (show s.val / 256 * 256 + s.val % 256 < 1056 by omega), maskOf_eq]
    rw [show (⟨s.val / 256 * 256 + s.val % 256, by omega⟩ : Fin 1056) = s from Fin.ext (by show s.val / 256 * 256 + s.val % 256 = s.val; omega)]
  have hb : (if h : 768 ≤ s.val then y4 (ix4 0 g r ⟨s.val - 768, by omega⟩) else 0)
      = Cert.AttentionReferenceIdeal.Algebra.bias x6 x7 r h g s * Scale.log2e - x7 (ix1 ⟨h.val * 4 + g.val, by omega⟩) * Scale.log2e := by
    unfold Cert.AttentionReferenceIdeal.Algebra.bias
    by_cases hs : s.val < 768
    · rw [dif_neg (by omega), dif_pos hs]
      obtain ⟨f, hf⟩ := G.far (ix1 ⟨h.val * 4 + g.val, by omega⟩)
      rw [hf, Scale.log2e_eq, ← EReal.coe_mul, ← EReal.coe_sub, sub_self, EReal.coe_zero]
    · rw [dif_pos (by omega), dif_neg hs, B.bias]
  have hd : ∀ d : Fin 128, y0 (ix2 r ⟨128 * g.val + d.val, by omega⟩) * y1 (ix3 0 ⟨s.val, by omega⟩ d)
      = (x0 (ix2 ⟨b.val * 32 + r.val, by omega⟩ ⟨h.val * 512 + g.val * 128 + d.val, by omega⟩) * Ideal.div Scale.log2e Scale.root) * Cert.AttentionReferenceIdeal.Algebra.key x1 x3 b s h d := by
    intro d
    rw [B.q, B.k, padded_eq]
    rw [show (⟨h.val * 512 + (128 * g.val + d.val), by omega⟩ : Fin 4096) = ⟨h.val * 512 + g.val * 128 + d.val, by omega⟩ from
      Fin.ext (by show h.val * 512 + (128 * g.val + d.val) = h.val * 512 + g.val * 128 + d.val; omega)]
  rw [scoreAt_eq y0 y1 y3 y4 R g r ⟨s.val, by omega⟩ hR, Finset.sum_congr rfl fun d _ => hd d]
  refine (congr (congrArg (fun u v => _ + u + v) hb) hm).trans ?_
  by_cases h5 : x5 (ix3 b r s) = 0#8
  · rw [if_pos h5, if_pos h5, EReal.add_bot]
  · rw [if_neg h5, if_neg h5, add_zero]

include B G in
/-- A row of the block: the mean of the values under the reference's softmax. -/
theorem row_eq (R : Fin 128) (g : Fin 4) (r : Fin 32) (hR : R.val = 32 * g.val + r.val) (d : Fin 128) :
    Ideal.div ((state5 y0 y1 y2 y3 y4).2.2 (ix2 R d)) ((state5 y0 y1 y2 y3 y4).2.1 (ix2 R d))
      = ∑ s : Fin 1056, Ideal.div (Ideal.exp (Cert.AttentionReferenceIdeal.Algebra.logit x0 x1 x3 x5 x6 x7 b r h g s - Cert.AttentionReferenceIdeal.Algebra.top x0 x1 x3 x5 x6 x7 b r h g))
        (∑ s : Fin 1056, Ideal.exp (Cert.AttentionReferenceIdeal.Algebra.logit x0 x1 x3 x5 x6 x7 b r h g s - Cert.AttentionReferenceIdeal.Algebra.top x0 x1 x3 x5 x6 x7 b r h g)) * Cert.AttentionReferenceIdeal.Algebra.key x2 x4 b s h d := by
  choose q hq using G.q
  have hk : ∀ (s : Fin 1056) (d : Fin 128), ∃ z : ℝ, Cert.AttentionReferenceIdeal.Algebra.key x1 x3 b s h d = (z : EReal) := by
    intro s d
    unfold Cert.AttentionReferenceIdeal.Algebra.key
    split
    · exact G.cache _
    · exact G.new _
  choose k hk using hk
  have hβ : ∀ (g : Fin 4) (r : Fin 32) (s : Fin 1056), ∃ z : ℝ, Cert.AttentionReferenceIdeal.Algebra.bias x6 x7 r h g s = (z : EReal) := by
    intro g r s
    unfold Cert.AttentionReferenceIdeal.Algebra.bias
    split
    · exact G.far _
    · exact G.near _
  choose β hβ using hβ
  choose f hf using G.far
  have hs : ∀ (R : Fin 128) (s : Fin 1280), scoreAt y0 y1 y3 y4 R s ≠ ⊤ := by
    intro R s
    by_cases h1 : 1056 ≤ s.val
    · rw [score_pad B R s h1]; exact bot_ne_top
    · have e := score_key B G R ⟨R.val / 32, by omega⟩ ⟨R.val % 32, by omega⟩ (by show R.val = 32 * (R.val / 32) + R.val % 32; omega) ⟨s.val, by omega⟩
      rw [show scoreAt y0 y1 y3 y4 R s = _ from e]
      split
      · exact bot_ne_top
      · simp only [hq, hk, hβ, hf]
        rw [Scale.score_eq]
        exact EReal.coe_ne_top _
  have hl : ∀ s, x5 (ix3 b r s) ≠ 0#8 → Cert.AttentionReferenceIdeal.Algebra.logit x0 x1 x3 x5 x6 x7 b r h g s
      = Ideal.div (∑ d : Fin 128, (k s d : EReal) * q (ix2 ⟨b.val * 32 + r.val, by omega⟩ ⟨h.val * 512 + g.val * 128 + d.val, by omega⟩)) Scale.root + β g r s := by
    intro s h5
    unfold Cert.AttentionReferenceIdeal.Algebra.logit
    rw [if_neg h5]
    simp only [hq, hk, hβ]
  obtain ⟨s0, h0⟩ := G.some b r
  obtain ⟨M, hM⟩ := Cert.AttentionReferenceIdeal.Algebra.top_real x0 x1 x3 x5 x6 x7 b r h g (fun s => by
    by_cases h5 : x5 (ix3 b r s) = 0#8
    · unfold Cert.AttentionReferenceIdeal.Algebra.logit; rw [if_pos h5]; exact bot_ne_top
    · rw [hl s h5, Scale.logit_eq]; exact EReal.coe_ne_top _) ⟨s0, by rw [hl s0 h0, Scale.logit_eq]; exact EReal.coe_ne_bot _⟩
  rw [mean5 y0 y1 y2 y3 y4 hs (score_pad B) R d ⟨s0, ?_⟩
    (fun s => Ideal.exp (Cert.AttentionReferenceIdeal.Algebra.logit x0 x1 x3 x5 x6 x7 b r h g s - Cert.AttentionReferenceIdeal.Algebra.top x0 x1 x3 x5 x6 x7 b r h g))
    (Real.exp_pos (f (ix1 ⟨h.val * 4 + g.val, by omega⟩) - M)) fun s => ?_]
  · refine Finset.sum_congr rfl fun s _ => congrArg _ ?_
    rw [B.v, padded_eq]
  · rw [score_key B G R g r hR s0, if_neg h0]
    simp only [hq, hk, hβ, hf]
    rw [Scale.score_eq, Online.exp2_coe]
    exact EReal.coe_ne_zero.2 (by positivity)
  · rw [score_key B G R g r hR s, hM]
    by_cases h5 : x5 (ix3 b r s) = 0#8
    · rw [if_pos h5, show Cert.AttentionReferenceIdeal.Algebra.logit x0 x1 x3 x5 x6 x7 b r h g s = ⊥ from if_pos h5, EReal.bot_sub, Ideal.exp_bot, Ideal.exp2_bot, zero_mul]
    · rw [if_neg h5, hl s h5]
      simp only [hq, hk, hβ, hf]
      exact Scale.weight_eq _ _ _ _ _

end Group

theorem emb5 (t : Fin cfg0.N) (r : Fin 32) (k : Fin 512) : ((cfg0.win 5).blk t).view.emb (ix2 r k)
    = ix2 (⟨(bat t).val * 32 + r.val, by have := (bat t).isLt; omega⟩ : Fin 512) (⟨(grp t).val * 512 + k.val, by have := (grp t).isLt; omega⟩ : Fin 4096) := by
  blk_ext

/-- The reference's result of the arguments of core `c`. -/
abbrev result (c : Dev nD) : FVec Ideal S512x4096 .bf16 :=
  Cert.AttentionReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The precondition on core `c`'s arguments. -/
abbrev GoodAt (c : Dev nD) : Prop :=
  Good (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))

theorem blocks (c : Dev nD) (t : Fin cfg0.N) : Blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (iblk m c 0 t) (iblk m c 1 t) (iblk m c 2 t) (iblk m c 3 t) (iblk m c 4 t) (bat t) (grp t) :=
  ⟨blk_q m c t, blk_k m c t, blk_v m c t, blk_mask m c t, blk_bias m c t⟩

/-- What a grid point writes is the reference's result there. -/
theorem point (c : Dev nD) (G : GoodAt m c) (t : Fin cfg0.N) (y : S32x512.Idx) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) y
      = result m c (((cfg0.win 5).blk t).view.emb y) := by
  obtain ⟨r, q, rfl⟩ : ∃ (r : Fin 32) (q : Fin 512), y = ix2 r q := ⟨y 0, y 1, by funext a; match a with | 0 => rfl | 1 => rfl⟩
  rw [emb5, out_at]
  refine (row_eq (blocks m c t) G ⟨32 * (q.val / 128) + r.val, by omega⟩ ⟨q.val / 128, by omega⟩ r rfl ⟨q.val % 128, by omega⟩).trans ?_
  refine (Cert.AttentionReferenceIdeal.Algebra.result_at _ _ _ _ _ _ _ _ _ _ (bat t) r (grp t) ⟨q.val / 128, by omega⟩ ⟨q.val % 128, by omega⟩ rfl ?_).symm
  show (grp t).val * 512 + q.val = (grp t).val * 512 + q.val / 128 * 128 + q.val % 128
  omega

/-- The kernel's result array is the reference's result. -/
theorem final (c : Dev nD) (G : GoodAt m c) : (dats m 0 c).arrAt 5 cfg0.N = result m c := by
  refine (dats m 0 c).arrAt_eq_of_covers 5 _ (by decide +kernel) fun t hf y => ?_
  blk_simp
  rw [after0_5]
  exact point m c G t y

end Cert.AttentionIdeal.Algebra

end
-- ==== Proof.AttentionPre.lean ====
module

public import proofs.«01_k».proof.Proof.Gen.Pre_finite_and_some_selected
public import Idealize.ShloMosaic.Lib.Pipeline.ValueKit
public import Idealize.ShloMosaic.Lib.Pointwise
public import Idealize.ShloMosaic.Lib.ReduceAll

@[expose] public section

set_option maxRecDepth 16384

/-! What the precondition says of the arguments: finite numbers are reals, and every row has a selected key. -/

noncomputable section

namespace Cert.Pre_finite_and_some_selected.Algebra

open Cert.Pre_finite_and_some_selected Cert.Pre_finite_and_some_selected.Gen Idealize.ShloMosaic Idealize.ShloMosaic.TcCoe Idealize.SL.Sem

theorem posInf : Ideal.ofBits .f32 2139095040#32 = ⊤ := by simp [Ideal.ofBits, Ideal.ieee]

/-- A number whose absolute value is below infinity is a real. -/
theorem real_of (a : EReal) (h : BitVec.ofBool (decide ((FloatOps.absf (show Ideal .f32 from a) : EReal) < Ideal.ofBits .f32 2139095040#32)) = 1#1) : ∃ r : ℝ, a = r := by
  rw [posInf] at h
  have h : max a (-a) < ⊤ := by
    by_contra hn
    rw [show (FloatOps.absf (show Ideal .f32 from a) : EReal) = max a (-a) from rfl, decide_eq_false hn] at h
    exact absurd h (by decide)
  induction a using EReal.rec with
  | bot => simp at h
  | top => simp at h
  | coe r => exact ⟨r, rfl⟩

/-- The largest word along the last axis, as a fold over that axis. -/
theorem maxsi_at (x : IVec S16x32x1056 32) (v : IVec S_ 32) (b : Fin 16) (t : Fin 32) :
    Host.reduce IntOp.maxsi x v Facts.reducesTo_S16x32x1056_S16x32_d2 Facts.h_S_ (ix2 b t)
      = Finset.univ.fold IntOp.maxsi (v ix0) fun s : Fin 1056 => x (ix3 b t s) := by
  pointwise
  rw [show Shape.Idx.first Facts.h_S_ = ix0 from funext fun a => a.elim0]

/-- A maximum of words that are not positive, from a word that is not positive, is not positive. -/
theorem fold_le {ι : Type*} (S : Finset ι) (f : ι → BitVec 32) (v : BitVec 32) (hv : v.toInt ≤ 0) (hf : ∀ i, (f i).toInt ≤ 0) :
    (S.fold IntOp.maxsi v f).toInt ≤ 0 := by
  classical
  induction S using Finset.induction_on with
  | empty => exact hv
  | insert a S ha ih =>
    rw [Finset.fold_insert ha]
    unfold IntOp.maxsi
    split
    · exact hf a
    · exact ih

/-- The precondition read back. -/
theorem reads (x0 : FVec Ideal S512x4096 .f32) (x1 x2 : FVec Ideal S16x1024x8x128 .f32) (x3 x4 : FVec Ideal S512x1024 .f32)
    (x5 : IVec S16x32x1056 8) (x6 : FVec Ideal S32x32x512 .f32) (x7 : FVec Ideal S32 .f32)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x3 i = (r : EReal)) ∧ (∀ i, ∃ r : ℝ, x6 i = (r : EReal))
      ∧ (∀ i, ∃ r : ℝ, x7 i = (r : EReal)) ∧ ∀ (b : Fin 16) (t : Fin 32), ∃ s : Fin 1056, x5 (ix3 b t s) ≠ 0#8 := by
  have h := congrFun h ix0
  unfold fn fn_part1 at h
  dsimp only at h
  simp only [andi, IntOp.andi_eq_one] at h
  obtain ⟨⟨⟨⟨⟨h0, h1⟩, h3⟩, h6⟩, h7⟩, h5⟩ := h
  have h0 := Host.reduce_andi_all _ _ _ _ _ h0
  have h1 := Host.reduce_andi_all _ _ _ _ _ h1
  have h3 := Host.reduce_andi_all _ _ _ _ _ h3
  have h6 := Host.reduce_andi_all _ _ _ _ _ h6
  have h7 := Host.reduce_andi_all _ _ _ _ _ h7
  have h5 := Host.reduce_andi_all _ _ _ _ _ h5
  refine ⟨fun i => ?_, fun i => ?_, fun i => ?_, fun i => ?_, fun i => ?_, fun b t => ?_⟩
  · have h := h0 i
    pointwise at h
    exact real_of _ h
  · have h := h1 i
    pointwise at h
    exact real_of _ h
  · have h := h3 i
    pointwise at h
    exact real_of _ h
  · have h := h6 i
    pointwise at h
    exact real_of _ h
  · have h := h7 i
    pointwise at h
    exact real_of _ h
  · have h := h5 (ix2 b t)
    rw [cmpi, maxsi_at] at h
    by_contra hn
    push Not at hn
    have h : (0#32).toInt < _ := IntOp.cmpi_sgt.1 h
    refine absurd h (not_lt.2 (fold_le _ _ _ (by decide) fun s => ?_))
    have e : extui 32 (cmpi .ne x5 (broadcastInDim S16x32x1056 ![] Facts.bcast_S_S16x32x1056 (constantI S_ 8 0#8))) Facts.natLt_1_32 (ix3 b t s)
        = (IntOp.cmpi .ne (x5 (ix3 b t s)) 0#8).setWidth 32 := by pointwise
    rw [e, hn s]
    decide

end Cert.Pre_finite_and_some_selected.Algebra

end
-- ==== Proof.Attention.lean ====
/-
  The value of the attention of the drawn tokens: at the extended reals, the tiled kernel's online softmax in base two ends
  with the plain softmax attention of the reference.
-/
module

public import proofs.«01_k».proof.Proof.Gen.AttentionIdeal.Value
public import proofs.«01_k».proof.Proof.Gen.AttentionReferenceIdeal.Run
public import proofs.«01_k».proof.Proof.Gen.AttentionReferenceIdeal.Read
public import proofs.«01_k».proof.Defs
public import Idealize.ShloMosaic.Lib.Claim
public import proofs.«01_k».proof.Proof.AttentionFinal
public import proofs.«01_k».proof.Proof.AttentionPre

@[expose] public section

set_option maxRecDepth 16384

noncomputable section

namespace Cert

open Idealize.ShloMosaic Idealize.ShloMosaic.TcCoe Idealize.SL.Sem

/-- The tiled attention and the plain one end with the same result on the extended reals, where the queries, keys and
    biases are finite and each row of the mask selects some key. -/
theorem attention_algebraic : algebraic_AttentionIdeal_AttentionReferenceIdeal_pre_finite_and_some_selected
    (hAttentionIdeal := Cert.AttentionIdeal.Gen.facts) (hAttentionReferenceIdeal := Cert.AttentionReferenceIdeal.Gen.facts)
    (hPre_finite_and_some_selected := Cert.Pre_finite_and_some_selected.Gen.facts) := by
  intro m ρ m' ρ' hpre hag
  have hG : ∀ c, AttentionIdeal.Algebra.GoodAt m c := fun c => by
    obtain ⟨h0, h1, h3, h6, h7, h5⟩ := Pre_finite_and_some_selected.Algebra.reads _ _ _ _ _ _ _ _ (hpre c)
    exact ⟨h0, h1, h3, h6, h7, h5⟩
  refine ⟨fun c => AttentionIdeal.Algebra.result m c, ?_, ?_⟩
  · refine (θ_run _ _ _).mono (fun r h c => ?_) (AttentionIdeal.Value.run_blocks (F := Ideal) m ρ)
    exact ⟨(h c).1.trans (AttentionIdeal.Algebra.final m c (hG c)), (h c).2⟩
  · refine (θ_run _ _ _).mono (fun r h c => ⟨(h c).1.trans ?_, (h c).2⟩) (AttentionReferenceIdeal.Value.run (F := Ideal) m' ρ')
    rw [AttentionReferenceIdeal.Read.val_main_v37_eq]
    obtain ⟨h0, h1, h2, h3, h4, h5, h6, h7⟩ := hag c
    rw [h0, h1, h2, h3, h4, h5, h6, h7]

end Cert

end
-- ==== Proof.FfnUp.lean ====
/-
  The value of the gated feed-forward product: at the extended reals the tiled kernel's result array is, index by index,
  `(d₁ · logistic d₁) · d₃` with `d₁`, `d₃` the plain products of the activations with the two weight matrices.
-/
module

public import proofs.«01_k».proof.Proof.Gen.FfnUpIdeal.Value
public import proofs.«01_k».proof.Proof.Gen.FfnUpReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.FfnUpIdeal.Algebra

open Cert.FfnUpIdeal Cert.FfnUpIdeal.Gen Idealize.ShloMosaic Idealize.ShloMosaic.TcCoe Idealize.SL.Sem

/-- The gated product at one entry, from the two plain products there. -/
def gate (d₁ d₃ : EReal) : EReal := d₁ * Ideal.logistic d₁ * d₃

/-- The whole result: row `i 0` of the activations against column `i 1` of each weight matrix, gated. -/
def G (x : FVec Ideal S16896x4096 .bf16) (w₁ w₃ : FVec Ideal S4096x11008 .f32) : FVec Ideal S16896x11008 .bf16 := fun i =>
  gate (∑ k : Fin 4096, x (ix2 (i 0) k) * w₁ (ix2 k (i 1))) (∑ k : Fin 4096, x (ix2 (i 0) k) * w₃ (ix2 k (i 1)))

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![0, win0_3.index t 1] := (by decide +kernel : ∀ t : Fin grid0.N, _)

/-- What the body stores at entry `y` of its block at point `t` is `G` at the array index where `y` sits. -/
theorem point (c : Dev nD) (t : Fin cfg0.N) (y : S1536x256.Idx) :
    k0_pay1 (F := Ideal) (iblk m c 0 t) (iblk m c 1 t) (iblk m c 0 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, idx0, idx1, idx2, V_main_arg0]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.FfnUpIdeal.Algebra

namespace Cert

open Idealize.ShloMosaic Idealize.ShloMosaic.TcCoe Idealize.SL.Sem

/-- The tiled gated product and the plain one end with the same result on the extended reals. -/
theorem ffnUp_algebraic : algebraic_FfnUpIdeal_FfnUpReferenceIdeal (hFfnUpIdeal := Cert.FfnUpIdeal.Gen.facts)
    (hFfnUpReferenceIdeal := Cert.FfnUpReferenceIdeal.Gen.facts) := by
  intro m ρ m' ρ' _ hag
  refine ⟨fun c => FfnUpIdeal.Algebra.G (m ((c.tc : Thread FfnUpIdeal.nD FfnUpIdeal.τ).loc FfnUpIdeal.main_arg0))
    (m ((c.tc : Thread FfnUpIdeal.nD FfnUpIdeal.τ).loc FfnUpIdeal.main_arg1)) (m ((c.tc : Thread FfnUpIdeal.nD FfnUpIdeal.τ).loc FfnUpIdeal.main_arg2)), ?_, ?_⟩
  · refine (θ_run _ _ _).mono (fun r h c => ?_) (FfnUpIdeal.Value.run_blocks (F := Ideal) m ρ)
    exact ⟨(h c).1.trans (FfnUpIdeal.Algebra.final m c), (h c).2⟩
  · refine (θ_run _ _ _).mono (fun r h c => ⟨(h c).1.trans ?_, (h c).2⟩) (FfnUpReferenceIdeal.Value.run (F := Ideal) m' ρ')
    rw [(hag c).1, (hag c).2.1, (hag c).2.2]
    funext i
    pointwise [FfnUpIdeal.Algebra.G, FfnUpIdeal.Algebra.gate]
    rfl

end Cert

end
-- ==== Proof.FfnDown.lean ====
/-
  The value of the feed-forward network's second product with the residual added.
-/
module

public import proofs.«01_k».proof.Proof.Gen.FfnDownIdeal.Value
public import proofs.«01_k».proof.Proof.Gen.FfnDownReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.FfnDownIdeal.Algebra

open Cert.FfnDownIdeal Cert.FfnDownIdeal.Gen Idealize.ShloMosaic Idealize.ShloMosaic.TcCoe Idealize.SL.Sem

/-- The whole result: the residual plus the product. -/
def G (x : FVec Ideal S16896x11008 .bf16) (w : FVec Ideal S11008x4096 .f32) (e : FVec Ideal S16896x4096 .f32) : FVec Ideal S16896x4096 .f32 := fun i =>
  e i + (∑ k : Fin 11008, x (ix2 (i 0) k) * w (ix2 k (i 1)))

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![win0_3.index t 0, win0_3.index t 1] := (by decide +kernel : ∀ t : Fin grid0.N, _)

/-- What the body stores at entry `y` of its block at point `t` is `G` at the array index where `y` sits. -/
theorem point (c : Dev nD) (t : Fin cfg0.N) (y : S384x512.Idx) :
    k0_pay1 (F := Ideal) (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, idx0, idx1, idx2, V_main_arg0, V_main_arg2]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.FfnDownIdeal.Algebra

namespace Cert

open Idealize.ShloMosaic Idealize.ShloMosaic.TcCoe Idealize.SL.Sem

/-- The tiled second product and the plain one end with the same result on the extended reals. -/
theorem ffnDown_algebraic : algebraic_FfnDownIdeal_FfnDownReferenceIdeal (hFfnDownIdeal := Cert.FfnDownIdeal.Gen.facts)
    (hFfnDownReferenceIdeal := Cert.FfnDownReferenceIdeal.Gen.facts) := by
  intro m ρ m' ρ' _ hag
  refine ⟨fun c => FfnDownIdeal.Algebra.G (m ((c.tc : Thread FfnDownIdeal.nD FfnDownIdeal.τ).loc FfnDownIdeal.main_arg0)) (m ((c.tc : Thread FfnDownIdeal.nD FfnDownIdeal.τ).loc FfnDownIdeal.main_arg1)) (m ((c.tc : Thread FfnDownIdeal.nD FfnDownIdeal.τ).loc FfnDownIdeal.main_arg2)), ?_, ?_⟩
  · refine (θ_run _ _ _).mono (fun r h c => ?_) (FfnDownIdeal.Value.run_blocks (F := Ideal) m ρ)
    exact ⟨(h c).1.trans (FfnDownIdeal.Algebra.final m c), (h c).2⟩
  · refine (θ_run _ _ _).mono (fun r h c => ⟨(h c).1.trans ?_, (h c).2⟩) (FfnDownReferenceIdeal.Value.run (F := Ideal) m' ρ')
    rw [(hag c).1, (hag c).2.1, (hag c).2.2]
    funext i
    pointwise [FfnDownIdeal.Algebra.G]

end Cert

end
-- ==== Proof.OutMerged.lean ====
/-
  The value of the merged branches' output product with the residual added.
-/
module

public import proofs.«01_k».proof.Proof.Gen.OutMergedIdeal.Value
public import proofs.«01_k».proof.Proof.Gen.OutMergedReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutMergedIdeal.Algebra

open Cert.OutMergedIdeal Cert.OutMergedIdeal.Gen Idealize.ShloMosaic Idealize.ShloMosaic.TcCoe Idealize.SL.Sem

/-- The whole result: the residual plus the product. -/
def G (x : FVec Ideal S16896x4096 .bf16) (w : FVec Ideal S4096x4096 .f32) (e : FVec Ideal S16896x4096 .f32) : FVec Ideal S16896x4096 .f32 := fun i =>
  e i + (∑ k : Fin 4096, x (ix2 (i 0) k) * w (ix2 k (i 1)))

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![win0_3.index t 0, win0_3.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, idx0, idx1, idx2, V_main_arg0, V_main_arg2]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.OutMergedIdeal.Algebra

namespace Cert

open Idealize.ShloMosaic Idealize.ShloMosaic.TcCoe Idealize.SL.Sem

/-- The tiled output product and the plain one end with the same result on the extended reals. -/
theorem outMerged_algebraic : algebraic_OutMergedIdeal_OutMergedReferenceIdeal (hOutMergedIdeal := Cert.OutMergedIdeal.Gen.facts)
    (hOutMergedReferenceIdeal := Cert.OutMergedReferenceIdeal.Gen.facts) := by
  intro m ρ m' ρ' _ hag
  refine ⟨fun c => OutMergedIdeal.Algebra.G (m ((c.tc : Thread OutMergedIdeal.nD OutMergedIdeal.τ).loc OutMergedIdeal.main_arg0)) (m ((c.tc : Thread OutMergedIdeal.nD OutMergedIdeal.τ).loc OutMergedIdeal.main_arg1)) (m ((c.tc : Thread OutMergedIdeal.nD OutMergedIdeal.τ).loc OutMergedIdeal.main_arg2)), ?_, ?_⟩
  · refine (θ_run _ _ _).mono (fun r h c => ?_) (OutMergedIdeal.Value.run_blocks (F := Ideal) m ρ)
    exact ⟨(h c).1.trans (OutMergedIdeal.Algebra.final m c), (h c).2⟩
  · refine (θ_run _ _ _).mono (fun r h c => ⟨(h c).1.trans ?_, (h c).2⟩) (OutMergedReferenceIdeal.Value.run (F := Ideal) m' ρ')
    rw [(hag c).1, (hag c).2.1, (hag c).2.2]
    funext i
    pointwise [OutMergedIdeal.Algebra.G]

end Cert

end
-- ==== Proof.OutAttn.lean ====
/-
  The value of the attention branch's output product under its gate.
-/
module

public import proofs.«01_k».proof.Proof.Gen.OutAttnIdeal.Value
public import proofs.«01_k».proof.Proof.Gen.OutAttnReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutAttnIdeal.Algebra

open Cert.OutAttnIdeal Cert.OutAttnIdeal.Gen Idealize.ShloMosaic Idealize.ShloMosaic.TcCoe Idealize.SL.Sem

/-- The whole result: the gate's logistic times the product. -/
def G (x : FVec Ideal S16896x4096 .bf16) (w : FVec Ideal S4096x4096 .f32) (e : FVec Ideal S16896x4096 .f32) : FVec Ideal S16896x4096 .f32 := fun i =>
  Ideal.logistic (e i) * (∑ k : Fin 4096, x (ix2 (i 0) k) * w (ix2 k (i 1)))

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![win0_3.index t 0, win0_3.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, idx0, idx1, idx2, V_main_arg0, V_main_arg2]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

end Cert.OutAttnIdeal.Algebra

namespace Cert

open Idealize.ShloMosaic Idealize.ShloMosaic.TcCoe Idealize.SL.Sem

/-- The tiled gated product and the plain one end with the same result on the extended reals. -/
theorem outAttn_algebraic : algebraic_OutAttnIdeal_OutAttnReferenceIdeal (hOutAttnIdeal := Cert.OutAttnIdeal.Gen.facts)
    (hOutAttnReferenceIdeal := Cert.OutAttnReferenceIdeal.Gen.facts) := by
  intro m ρ m' ρ' _ hag
  refine ⟨fun c => OutAttnIdeal.Algebra.G (m ((c.tc : Thread OutAttnIdeal.nD OutAttnIdeal.τ).loc OutAttnIdeal.main_arg0)) (m ((c.tc : Thread OutAttnIdeal.nD OutAttnIdeal.τ).loc OutAttnIdeal.main_arg1)) (m ((c.tc : Thread OutAttnIdeal.nD OutAttnIdeal.τ).loc OutAttnIdeal.main_arg2)), ?_, ?_⟩
  · refine (θ_run _ _ _).mono (fun r h c => ?_) (OutAttnIdeal.Value.run_blocks (F := Ideal) m ρ)
    exact ⟨(h c).1.trans (OutAttnIdeal.Algebra.final m c), (h c).2⟩
  · refine (θ_run _ _ _).mono (fun r h c => ⟨(h c).1.trans ?_, (h c).2⟩) (OutAttnReferenceIdeal.Value.run (F := Ideal) m' ρ')
    rw [(hag c).1, (hag c).2.1, (hag c).2.2]
    funext i
    pointwise [OutAttnIdeal.Algebra.G]
    rfl

end Cert

end
-- ==== Proof.OutRg.lean ====
/-
  The value of the recurrent branch's output product under its gate, added to the attention branch's.
-/
module

public import proofs.«01_k».proof.Proof.Gen.OutRgIdeal.Value
public import proofs.«01_k».proof.Proof.Gen.OutRgReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutRgIdeal.Algebra

open Cert.OutRgIdeal Cert.OutRgIdeal.Gen Idealize.ShloMosaic Idealize.ShloMosaic.TcCoe Idealize.SL.Sem

/-- The whole result: the other branch plus the gate's logistic times the product. -/
def G (x : FVec Ideal S16896x5376 .bf16) (w : FVec Ideal S5376x4096 .f32) (e : FVec Ideal S16896x4096 .f32) (p : FVec Ideal S16896x4096 .f32) : FVec Ideal S16896x4096 .bf16 := fun i =>
  p i + Ideal.logistic (e i) * (∑ k : Fin 5376, x (ix2 (i 0) k) * w (ix2 k (i 1)))

variable (m : (ℓ : Loc nD τ sig) → Buf (Elt Ideal) ℓ) (ρ : Dev nD → PrngReg)

theorem idx0 : ∀ t : Fin cfg0.N, win0_0.index t = ![win0_4.index t 0, 0] := (by decide +kernel : ∀ t : Fin grid0.N, _)
theorem idx1 : ∀ t : Fin cfg0.N, win0_1.index t = ![0, win0_4.index t 1] := (by decide +kernel : ∀ t : Fin grid0.N, _)
theorem idx2 : ∀ t : Fin cfg0.N, win0_2.index t = ![win0_4.index t 0, win0_4.index t 1] := (by decide +kernel : ∀ t : Fin grid0.N, _)
theorem idx3 : ∀ t : Fin cfg0.N, win0_3.index t = ![win0_4.index t 0, win0_4.index t 1] := (by decide +kernel : ∀ t : Fin grid0.N, _)

/-- What the body stores at entry `y` of its block at point `t` is `G` at the array index where `y` sits. -/
theorem point (c : Dev nD) (t : Fin cfg0.N) (y : S512x1024.Idx) :
    k0_pay1 (F := Ideal) (iblk m c 0 t) (iblk m c 1 t) (iblk m c 2 t) (iblk m c 3 t) y
      = G (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, G]
  blk_point [iblk, idx0, idx1, idx2, idx3, V_main_arg0, V_main_arg2, V_main_arg3]

/-- The result array after the run is `G` of the arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  exact point m c t y

end Cert.OutRgIdeal.Algebra

namespace Cert

open Idealize.ShloMosaic Idealize.ShloMosaic.TcCoe Idealize.SL.Sem

/-- The tiled gated product and the plain one end with the same result on the extended reals. -/
theorem outRg_algebraic : algebraic_OutRgIdeal_OutRgReferenceIdeal (hOutRgIdeal := Cert.OutRgIdeal.Gen.facts)
    (hOutRgReferenceIdeal := Cert.OutRgReferenceIdeal.Gen.facts) := by
  intro m ρ m' ρ' _ hag
  refine ⟨fun c => OutRgIdeal.Algebra.G (m ((c.tc : Thread OutRgIdeal.nD OutRgIdeal.τ).loc OutRgIdeal.main_arg0)) (m ((c.tc : Thread OutRgIdeal.nD OutRgIdeal.τ).loc OutRgIdeal.main_arg1)) (m ((c.tc : Thread OutRgIdeal.nD OutRgIdeal.τ).loc OutRgIdeal.main_arg2)) (m ((c.tc : Thread OutRgIdeal.nD OutRgIdeal.τ).loc OutRgIdeal.main_arg3)), ?_, ?_⟩
  · refine (θ_run _ _ _).mono (fun r h c => ?_) (OutRgIdeal.Value.run_blocks (F := Ideal) m ρ)
    exact ⟨(h c).1.trans (OutRgIdeal.Algebra.final m c), (h c).2⟩
  · refine (θ_run _ _ _).mono (fun r h c => ⟨(h c).1.trans ?_, (h c).2⟩) (OutRgReferenceIdeal.Value.run (F := Ideal) m' ρ')
    rw [(hag c).1, (hag c).2.1, (hag c).2.2.1, (hag c).2.2.2]
    funext i
    pointwise [OutRgIdeal.Algebra.G]
    rfl

end Cert

end
-- ==== Proof.InProjV.lean ====
/-
  The value of the part of the input projection that makes the values: columns 5120 to 6143 of the product.
-/
module

public import proofs.«01_k».proof.Proof.Gen.InProjVIdeal.Value
public import proofs.«01_k».proof.Proof.Gen.InProjVReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjVIdeal.Algebra

open Cert.InProjVIdeal Cert.InProjVIdeal.Gen Idealize.ShloMosaic Idealize.ShloMosaic.TcCoe Idealize.SL.Sem

/-- The whole result: column 5120 + `i 1` of the product. -/
def G (x : FVec Ideal S16896x4096 .bf16) (w : FVec Ideal S4096x29344 .f32) : FVec Ideal S16896x1024 .f32 := fun i =>
  ∑ k : Fin 4096, x (ix2 (i 0) k) * w (ix2 k ⟨5120 + (i 1).val, by have h : (i 1).val < 1024 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjVIdeal.Algebra

namespace Cert

open Idealize.ShloMosaic Idealize.ShloMosaic.TcCoe Idealize.SL.Sem

/-- The tiled product making the values and the part of the plain one end with the same result on the extended reals. -/
theorem inProjV_algebraic : algebraic_InProjVIdeal_InProjVReferenceIdeal (hInProjVIdeal := Cert.InProjVIdeal.Gen.facts)
    (hInProjVReferenceIdeal := Cert.InProjVReferenceIdeal.Gen.facts) := by
  intro m ρ m' ρ' _ hag
  refine ⟨fun c => InProjVIdeal.Algebra.G (m ((c.tc : Thread InProjVIdeal.nD InProjVIdeal.τ).loc InProjVIdeal.main_arg0)) (m ((c.tc : Thread InProjVIdeal.nD InProjVIdeal.τ).loc InProjVIdeal.main_arg1)), ?_, ?_⟩
  · refine (θ_run _ _ _).mono (fun r h c => ?_) (InProjVIdeal.Value.run_blocks (F := Ideal) m ρ)
    exact ⟨(h c).1.trans (InProjVIdeal.Algebra.final m c), (h c).2⟩
  · refine (θ_run _ _ _).mono (fun r h c => ⟨(h c).1.trans ?_, (h c).2⟩) (InProjVReferenceIdeal.Value.run (F := Ideal) m' ρ')
    rw [(hag c).1, (hag c).2]
    funext i
    pointwise [InProjVIdeal.Algebra.G]

end Cert

end
-- ==== Proof.InProjQi.lean ====
/-
  The value of the part of the input projection that makes the indexer's queries: columns 6144 to 10239 of the product.
-/
module

public import proofs.«01_k».proof.Proof.Gen.InProjQiIdeal.Value
public import proofs.«01_k».proof.Proof.Gen.InProjQiReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjQiIdeal.Algebra

open Cert.InProjQiIdeal Cert.InProjQiIdeal.Gen Idealize.ShloMosaic Idealize.ShloMosaic.TcCoe Idealize.SL.Sem

/-- The whole result: column 6144 + `i 1` of the product. -/
def G (x : FVec Ideal S16896x4096 .bf16) (w : FVec Ideal S4096x29344 .f32) : FVec Ideal S16896x4096 .bf16 := fun i =>
  ∑ k : Fin 4096, x (ix2 (i 0) k) * w (ix2 k ⟨6144 + (i 1).val, by have h : (i 1).val < 4096 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjQiIdeal.Algebra

namespace Cert

open Idealize.ShloMosaic Idealize.ShloMosaic.TcCoe Idealize.SL.Sem

/-- The tiled product making the indexer's queries and the part of the plain one end with the same result on the extended reals. -/
theorem inProjQi_algebraic : algebraic_InProjQiIdeal_InProjQiReferenceIdeal (hInProjQiIdeal := Cert.InProjQiIdeal.Gen.facts)
    (hInProjQiReferenceIdeal := Cert.InProjQiReferenceIdeal.Gen.facts) := by
  intro m ρ m' ρ' _ hag
  refine ⟨fun c => InProjQiIdeal.Algebra.G (m ((c.tc : Thread InProjQiIdeal.nD InProjQiIdeal.τ).loc InProjQiIdeal.main_arg0)) (m ((c.tc : Thread InProjQiIdeal.nD InProjQiIdeal.τ).loc InProjQiIdeal.main_arg1)), ?_, ?_⟩
  · refine (θ_run _ _ _).mono (fun r h c => ?_) (InProjQiIdeal.Value.run_blocks (F := Ideal) m ρ)
    exact ⟨(h c).1.trans (InProjQiIdeal.Algebra.final m c), (h c).2⟩
  · refine (θ_run _ _ _).mono (fun r h c => ⟨(h c).1.trans ?_, (h c).2⟩) (InProjQiReferenceIdeal.Value.run (F := Ideal) m' ρ')
    rw [(hag c).1, (hag c).2]
    funext i
    pointwise [InProjQiIdeal.Algebra.G]

end Cert

end
-- ==== Proof.InProjXr.lean ====
/-
  The value of the part of the input projection that makes the recurrent branch's input: columns 10400 to 15775 of the product.
-/
module

public import proofs.«01_k».proof.Proof.Gen.InProjXrIdeal.Value
public import proofs.«01_k».proof.Proof.Gen.InProjXrReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjXrIdeal.Algebra

open Cert.InProjXrIdeal Cert.InProjXrIdeal.Gen Idealize.ShloMosaic Idealize.ShloMosaic.TcCoe Idealize.SL.Sem

/-- The whole result: column 10400 + `i 1` of the product. -/
def G (x : FVec Ideal S16896x4096 .bf16) (w : FVec Ideal S4096x29344 .f32) : FVec Ideal S16896x5376 .f32 := fun i =>
  ∑ k : Fin 4096, x (ix2 (i 0) k) * w (ix2 k ⟨10400 + (i 1).val, by have h : (i 1).val < 5376 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x768.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjXrIdeal.Algebra

namespace Cert

open Idealize.ShloMosaic Idealize.ShloMosaic.TcCoe Idealize.SL.Sem

/-- The tiled product making the recurrent branch's input and the part of the plain one end with the same result on the extended reals. -/
theorem inProjXr_algebraic : algebraic_InProjXrIdeal_InProjXrReferenceIdeal (hInProjXrIdeal := Cert.InProjXrIdeal.Gen.facts)
    (hInProjXrReferenceIdeal := Cert.InProjXrReferenceIdeal.Gen.facts) := by
  intro m ρ m' ρ' _ hag
  refine ⟨fun c => InProjXrIdeal.Algebra.G (m ((c.tc : Thread InProjXrIdeal.nD InProjXrIdeal.τ).loc InProjXrIdeal.main_arg0)) (m ((c.tc : Thread InProjXrIdeal.nD InProjXrIdeal.τ).loc InProjXrIdeal.main_arg1)), ?_, ?_⟩
  · refine (θ_run _ _ _).mono (fun r h c => ?_) (InProjXrIdeal.Value.run_blocks (F := Ideal) m ρ)
    exact ⟨(h c).1.trans (InProjXrIdeal.Algebra.final m c), (h c).2⟩
  · refine (θ_run _ _ _).mono (fun r h c => ⟨(h c).1.trans ?_, (h c).2⟩) (InProjXrReferenceIdeal.Value.run (F := Ideal) m' ρ')
    rw [(hag c).1, (hag c).2]
    funext i
    pointwise [InProjXrIdeal.Algebra.G]

end Cert

end
-- ==== Proof.InProjGr.lean ====
/-
  The value of the part of the input projection that makes the recurrent branch's gate: columns 15776 to 21151 of the product.
-/
module

public import proofs.«01_k».proof.Proof.Gen.InProjGrIdeal.Value
public import proofs.«01_k».proof.Proof.Gen.InProjGrReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjGrIdeal.Algebra

open Cert.InProjGrIdeal Cert.InProjGrIdeal.Gen Idealize.ShloMosaic Idealize.ShloMosaic.TcCoe Idealize.SL.Sem

/-- The whole result: column 15776 + `i 1` of the product. -/
def G (x : FVec Ideal S16896x4096 .bf16) (w : FVec Ideal S4096x29344 .f32) : FVec Ideal S16896x5376 .f32 := fun i =>
  ∑ k : Fin 4096, x (ix2 (i 0) k) * w (ix2 k ⟨15776 + (i 1).val, by have h : (i 1).val < 5376 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x768.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjGrIdeal.Algebra

namespace Cert

open Idealize.ShloMosaic Idealize.ShloMosaic.TcCoe Idealize.SL.Sem

/-- The tiled product making the recurrent branch's gate and the part of the plain one end with the same result on the extended reals. -/
theorem inProjGr_algebraic : algebraic_InProjGrIdeal_InProjGrReferenceIdeal (hInProjGrIdeal := Cert.InProjGrIdeal.Gen.facts)
    (hInProjGrReferenceIdeal := Cert.InProjGrReferenceIdeal.Gen.facts) := by
  intro m ρ m' ρ' _ hag
  refine ⟨fun c => InProjGrIdeal.Algebra.G (m ((c.tc : Thread InProjGrIdeal.nD InProjGrIdeal.τ).loc InProjGrIdeal.main_arg0)) (m ((c.tc : Thread InProjGrIdeal.nD InProjGrIdeal.τ).loc InProjGrIdeal.main_arg1)), ?_, ?_⟩
  · refine (θ_run _ _ _).mono (fun r h c => ?_) (InProjGrIdeal.Value.run_blocks (F := Ideal) m ρ)
    exact ⟨(h c).1.trans (InProjGrIdeal.Algebra.final m c), (h c).2⟩
  · refine (θ_run _ _ _).mono (fun r h c => ⟨(h c).1.trans ?_, (h c).2⟩) (InProjGrReferenceIdeal.Value.run (F := Ideal) m' ρ')
    rw [(hag c).1, (hag c).2]
    funext i
    pointwise [InProjGrIdeal.Algebra.G]

end Cert

end
-- ==== Proof.InProjGa.lean ====
/-
  The value of the part of the input projection that makes the attention branch's output gate: columns 21152 to 25247 of the product.
-/
module

public import proofs.«01_k».proof.Proof.Gen.InProjGaIdeal.Value
public import proofs.«01_k».proof.Proof.Gen.InProjGaReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjGaIdeal.Algebra

open Cert.InProjGaIdeal Cert.InProjGaIdeal.Gen Idealize.ShloMosaic Idealize.ShloMosaic.TcCoe Idealize.SL.Sem

/-- The whole result: column 21152 + `i 1` of the product. -/
def G (x : FVec Ideal S16896x4096 .bf16) (w : FVec Ideal S4096x29344 .f32) : FVec Ideal S16896x4096 .f32 := fun i =>
  ∑ k : Fin 4096, x (ix2 (i 0) k) * w (ix2 k ⟨21152 + (i 1).val, by have h : (i 1).val < 4096 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjGaIdeal.Algebra

namespace Cert

open Idealize.ShloMosaic Idealize.ShloMosaic.TcCoe Idealize.SL.Sem

/-- The tiled product making the attention branch's output gate and the part of the plain one end with the same result on the extended reals. -/
theorem inProjGa_algebraic : algebraic_InProjGaIdeal_InProjGaReferenceIdeal (hInProjGaIdeal := Cert.InProjGaIdeal.Gen.facts)
    (hInProjGaReferenceIdeal := Cert.InProjGaReferenceIdeal.Gen.facts) := by
  intro m ρ m' ρ' _ hag
  refine ⟨fun c => InProjGaIdeal.Algebra.G (m ((c.tc : Thread InProjGaIdeal.nD InProjGaIdeal.τ).loc InProjGaIdeal.main_arg0)) (m ((c.tc : Thread InProjGaIdeal.nD InProjGaIdeal.τ).loc InProjGaIdeal.main_arg1)), ?_, ?_⟩
  · refine (θ_run _ _ _).mono (fun r h c => ?_) (InProjGaIdeal.Value.run_blocks (F := Ideal) m ρ)
    exact ⟨(h c).1.trans (InProjGaIdeal.Algebra.final m c), (h c).2⟩
  · refine (θ_run _ _ _).mono (fun r h c => ⟨(h c).1.trans ?_, (h c).2⟩) (InProjGaReferenceIdeal.Value.run (F := Ideal) m' ρ')
    rw [(hag c).1, (hag c).2]
    funext i
    pointwise [InProjGaIdeal.Algebra.G]

end Cert

end
-- ==== Proof.InProjGb.lean ====
/-
  The value of the part of the input projection that makes the recurrent branch's output gate: columns 25248 to 29343 of the product.
-/
module

public import proofs.«01_k».proof.Proof.Gen.InProjGbIdeal.Value
public import proofs.«01_k».proof.Proof.Gen.InProjGbReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjGbIdeal.Algebra

open Cert.InProjGbIdeal Cert.InProjGbIdeal.Gen Idealize.ShloMosaic Idealize.ShloMosaic.TcCoe Idealize.SL.Sem

/-- The whole result: column 25248 + `i 1` of the product. -/
def G (x : FVec Ideal S16896x4096 .bf16) (w : FVec Ideal S4096x29344 .f32) : FVec Ideal S16896x4096 .f32 := fun i =>
  ∑ k : Fin 4096, x (ix2 (i 0) k) * w (ix2 k ⟨25248 + (i 1).val, by have h : (i 1).val < 4096 := (i 1).isLt; omega⟩)

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, win0_2.index t 1] := (by decide +kernel : ∀ t : Fin grid0.N, _)

/-- What the body stores at entry `y` of its block at point `t` is `G` at the array index where `y` sits. -/
theorem point (c : Dev nD) (t : Fin cfg0.N) (y : S768x1024.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjGbIdeal.Algebra

namespace Cert

open Idealize.ShloMosaic Idealize.ShloMosaic.TcCoe Idealize.SL.Sem

/-- The tiled product making the recurrent branch's output gate and the part of the plain one end with the same result on the extended reals. -/
theorem inProjGb_algebraic : algebraic_InProjGbIdeal_InProjGbReferenceIdeal (hInProjGbIdeal := Cert.InProjGbIdeal.Gen.facts)
    (hInProjGbReferenceIdeal := Cert.InProjGbReferenceIdeal.Gen.facts) := by
  intro m ρ m' ρ' _ hag
  refine ⟨fun c => InProjGbIdeal.Algebra.G (m ((c.tc : Thread InProjGbIdeal.nD InProjGbIdeal.τ).loc InProjGbIdeal.main_arg0)) (m ((c.tc : Thread InProjGbIdeal.nD InProjGbIdeal.τ).loc InProjGbIdeal.main_arg1)), ?_, ?_⟩
  · refine (θ_run _ _ _).mono (fun r h c => ?_) (InProjGbIdeal.Value.run_blocks (F := Ideal) m ρ)
    exact ⟨(h c).1.trans (InProjGbIdeal.Algebra.final m c), (h c).2⟩
  · refine (θ_run _ _ _).mono (fun r h c => ⟨(h c).1.trans ?_, (h c).2⟩) (InProjGbReferenceIdeal.Value.run (F := Ideal) m' ρ')
    rw [(hag c).1, (hag c).2]
    funext i
    pointwise [InProjGbIdeal.Algebra.G]

end Cert

end
-- ==== Proof.InProjQ.lean ====
/-
  The value of the part of the input projection that makes the queries: columns 0 to 4095 of the product, each
  head of 128 divided by its root mean square and multiplied by its gains.
-/
module

public import proofs.«01_k».proof.Proof.Gen.InProjQIdeal.Value
public import proofs.«01_k».proof.Proof.Gen.InProjQReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjQIdeal.Algebra

open Cert.InProjQIdeal Cert.InProjQIdeal.Gen Idealize.ShloMosaic Idealize.ShloMosaic.TcCoe Idealize.SL.Sem

/-- Entry `d` of a head `p` over the head's root mean square, times its gain `g`. -/
def nrm (p : Fin 128 → EReal) (g : EReal) (d : Fin 128) : EReal :=
  p d * Ideal.rsqrt (Ideal.div (∑ k : Fin 128, p k * p k) (Ideal.ofBits .f32 0x43000000#32) + Ideal.ofBits .f32 0x358637BD#32) * g

section Body

variable (v0 : Vec Ideal S768x4096 .bf16) (v1 : Vec Ideal S4096x1024 .bf16) (v4 : Vec Ideal S1x1024 .f32)

/-- What the body stores, of its three blocks. -/
def body : FVec Ideal S768x1024 .bf16 :=
  k0_pay1 (k0_pay2 v0 v1) (k0_pay3 v4) (k0_pay4 v0 v1 v4) (k0_pay5 v0 v1 v4) (k0_pay9 (k0_pay3 v4) (k0_pay6 v0 v1) (k0_pay7 v0 v1) k0_pay8)
    (k0_pay10 (k0_pay2 v0 v1) (k0_pay3 v4)) (k0_pay11 (k0_pay2 v0 v1) (k0_pay3 v4)) (k0_pay12 (k0_pay2 v0 v1) (k0_pay3 v4))
    (k0_pay13 (k0_pay2 v0 v1)) (k0_pay14 (k0_pay2 v0 v1))

/-- Entry `d` of head `j` of row `r` of a block, normalised. -/
def entry (r : Fin 768) (j : Fin 8) (d : Fin 128) : EReal :=
  nrm (fun k => ∑ s : Fin 4096, v0 (ix2 r s) * v1 (ix2 s ⟨128 * j.val + k.val, by omega⟩)) (v4 (ix2 0 ⟨128 * j.val + d.val, by omega⟩)) d

theorem head0 (r : Fin 768) (d : Fin 128) : body v0 v1 v4 (ix2 r ⟨128 * 0 + d.val, by omega⟩)
    = nrm (fun k => ∑ s : Fin 4096, v0 (ix2 r s) * v1 (ix2 s ⟨128 * 0 + k.val, by omega⟩)) (v4 (ix2 0 ⟨128 * 0 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]

theorem head1 (r : Fin 768) (d : Fin 128) : body v0 v1 v4 (ix2 r ⟨128 * 1 + d.val, by omega⟩)
    = nrm (fun k => ∑ s : Fin 4096, v0 (ix2 r s) * v1 (ix2 s ⟨128 * 1 + k.val, by omega⟩)) (v4 (ix2 0 ⟨128 * 1 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]

theorem head2 (r : Fin 768) (d : Fin 128) : body v0 v1 v4 (ix2 r ⟨128 * 2 + d.val, by omega⟩)
    = nrm (fun k => ∑ s : Fin 4096, v0 (ix2 r s) * v1 (ix2 s ⟨128 * 2 + k.val, by omega⟩)) (v4 (ix2 0 ⟨128 * 2 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_pos (by omega)]
  have e : 256 + (256 + d.val - 128 - 128) = 256 + d.val := by omega
  simp only [e]

theorem head3 (r : Fin 768) (d : Fin 128) : body v0 v1 v4 (ix2 r ⟨128 * 3 + d.val, by omega⟩)
    = nrm (fun k => ∑ s : Fin 4096, v0 (ix2 r s) * v1 (ix2 s ⟨128 * 3 + k.val, by omega⟩)) (v4 (ix2 0 ⟨128 * 3 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_pos (by omega)]
  have e : 384 + (384 + d.val - 128 - 128 - 128) = 384 + d.val := by omega
  simp only [e]

theorem head4 (r : Fin 768) (d : Fin 128) : body v0 v1 v4 (ix2 r ⟨128 * 4 + d.val, by omega⟩)
    = nrm (fun k => ∑ s : Fin 4096, v0 (ix2 r s) * v1 (ix2 s ⟨128 * 4 + k.val, by omega⟩)) (v4 (ix2 0 ⟨128 * 4 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_pos (by omega)]
  have e : 512 + (512 + d.val - 128 - 128 - 128 - 128) = 512 + d.val := by omega
  simp only [e]

theorem head5 (r : Fin 768) (d : Fin 128) : body v0 v1 v4 (ix2 r ⟨128 * 5 + d.val, by omega⟩)
    = nrm (fun k => ∑ s : Fin 4096, v0 (ix2 r s) * v1 (ix2 s ⟨128 * 5 + k.val, by omega⟩)) (v4 (ix2 0 ⟨128 * 5 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_pos (by omega)]
  have e : 640 + (640 + d.val - 128 - 128 - 128 - 128 - 128) = 640 + d.val := by omega
  simp only [e]

theorem head6 (r : Fin 768) (d : Fin 128) : body v0 v1 v4 (ix2 r ⟨128 * 6 + d.val, by omega⟩)
    = nrm (fun k => ∑ s : Fin 4096, v0 (ix2 r s) * v1 (ix2 s ⟨128 * 6 + k.val, by omega⟩)) (v4 (ix2 0 ⟨128 * 6 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_neg (by omega)]
  rw [dif_pos (by omega)]
  have e : 768 + (768 + d.val - 128 - 128 - 128 - 128 - 128 - 128) = 768 + d.val := by omega
  simp only [e]

theorem head7 (r : Fin 768) (d : Fin 128) : body v0 v1 v4 (ix2 r ⟨128 * 7 + d.val, by omega⟩)
    = nrm (fun k => ∑ s : Fin 4096, v0 (ix2 r s) * v1 (ix2 s ⟨128 * 7 + k.val, by omega⟩)) (v4 (ix2 0 ⟨128 * 7 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_neg (by omega)]
  rw [dif_neg (by omega)]
  have e : 896 + (896 + d.val - 128 - 128 - 128 - 128 - 128 - 128 - 128) = 896 + d.val := by omega
  simp only [e]

/-- Every entry the body stores. -/
theorem body_at (r : Fin 768) (j : Fin 8) (d : Fin 128) : body v0 v1 v4 (ix2 r ⟨128 * j.val + d.val, by omega⟩) = entry v0 v1 v4 r j d := by
  match j with
  | 0 => exact head0 v0 v1 v4 r d
  | 1 => exact head1 v0 v1 v4 r d
  | 2 => exact head2 v0 v1 v4 r d
  | 3 => exact head3 v0 v1 v4 r d
  | 4 => exact head4 v0 v1 v4 r d
  | 5 => exact head5 v0 v1 v4 r d
  | 6 => exact head6 v0 v1 v4 r d
  | 7 => exact head7 v0 v1 v4 r d

end Body

/-- The whole result: column 0 + `i 1` of the product, normalised in its head. -/
def G (x : FVec Ideal S16896x4096 .bf16) (w : FVec Ideal S4096x29344 .f32) (g : FVec Ideal S128 .f32) : FVec Ideal S16896x4096 .bf16 := fun i =>
  nrm (fun k => ∑ s : Fin 4096, x (ix2 (i 0) s) * w (ix2 s ⟨0 + (128 * ((i 1).val / 128) + k.val), by have h : (i 1).val < 4096 := (i 1).isLt; omega⟩))
    (g (ix1 ⟨(i 1).val % 128, by omega⟩)) ⟨(i 1).val % 128, by omega⟩

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![0, win0_3.index t 1] := (by decide +kernel : ∀ t : Fin grid0.N, _)

/-- What the body stores at a point is `G` where the block sits. -/
theorem point (c : Dev nD) (t : Fin cfg0.N) (y : S768x1024.Idx) :
    body (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  obtain ⟨r, j, d, rfl⟩ : ∃ (r : Fin 768) (j : Fin 8) (d : Fin 128), y = ix2 r (⟨128 * j.val + d.val, by omega⟩ : Fin 1024) := by
    have h : (y 1).val < 1024 := (y 1).isLt
    refine ⟨y 0, ⟨(y 1).val / 128, by omega⟩, ⟨(y 1).val % 128, by omega⟩, ?_⟩
    funext a
    match a with
    | 0 => rfl
    | 1 => exact Fin.ext (by show (y 1).val = 128 * ((y 1).val / 128) + (y 1).val % 128; omega)
  rw [body_at]
  pointwise [entry, G, nrm]
  blk_point [iblk, idx0, idx1, idx2, V_main_arg0]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold_out out0_3; frame_out
  exact point m c t y

end Cert.InProjQIdeal.Algebra

namespace Cert

open Idealize.ShloMosaic Idealize.ShloMosaic.TcCoe Idealize.SL.Sem

/-- The tiled product making the queries and the plain one, each normalised by heads, end with the same result on the
    extended reals. -/
theorem inProjQ_algebraic : algebraic_InProjQIdeal_InProjQReferenceIdeal (hInProjQIdeal := Cert.InProjQIdeal.Gen.facts)
    (hInProjQReferenceIdeal := Cert.InProjQReferenceIdeal.Gen.facts) := by
  intro m ρ m' ρ' _ hag
  refine ⟨fun c => InProjQIdeal.Algebra.G (m ((c.tc : Thread InProjQIdeal.nD InProjQIdeal.τ).loc InProjQIdeal.main_arg0))
    (m ((c.tc : Thread InProjQIdeal.nD InProjQIdeal.τ).loc InProjQIdeal.main_arg1)) (m ((c.tc : Thread InProjQIdeal.nD InProjQIdeal.τ).loc InProjQIdeal.main_arg2)), ?_, ?_⟩
  · refine (θ_run _ _ _).mono (fun r h c => ?_) (InProjQIdeal.Value.run_blocks (F := Ideal) m ρ)
    exact ⟨(h c).1.trans (InProjQIdeal.Algebra.final m c), (h c).2⟩
  · refine (θ_run _ _ _).mono (fun r h c => ⟨(h c).1.trans ?_, (h c).2⟩) (InProjQReferenceIdeal.Value.run (F := Ideal) m' ρ')
    rw [(hag c).1, (hag c).2.1, (hag c).2.2]
    funext i
    pointwise [InProjQIdeal.Algebra.G, InProjQIdeal.Algebra.nrm]
    simp only [Nat.mul_comm _ 128, Nat.div_add_mod]

end Cert

end
-- ==== Proof.InProjK.lean ====
/-
  The value of the part of the input projection that makes the keys: columns 4096 to 5119 of the product, each
  head of 128 divided by its root mean square and multiplied by its gains.
-/
module

public import proofs.«01_k».proof.Proof.Gen.InProjKIdeal.Value
public import proofs.«01_k».proof.Proof.Gen.InProjKReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjKIdeal.Algebra

open Cert.InProjKIdeal Cert.InProjKIdeal.Gen Idealize.ShloMosaic Idealize.ShloMosaic.TcCoe Idealize.SL.Sem

/-- Entry `d` of a head `p` over the head's root mean square, times its gain `g`. -/
def nrm (p : Fin 128 → EReal) (g : EReal) (d : Fin 128) : EReal :=
  p d * Ideal.rsqrt (Ideal.div (∑ k : Fin 128, p k * p k) (Ideal.ofBits .f32 0x43000000#32) + Ideal.ofBits .f32 0x358637BD#32) * g

section Body

variable (v0 : Vec Ideal S768x4096 .bf16) (v1 : Vec Ideal S4096x1024 .bf16) (v4 : Vec Ideal S1x1024 .f32)

/-- What the body stores, of its three blocks. -/
def body : FVec Ideal S768x1024 .f32 :=
  k0_pay1 (k0_pay2 v0 v1) (k0_pay3 v4) (k0_pay4 v0 v1 v4) (k0_pay5 v0 v1 v4) (k0_pay9 (k0_pay3 v4) (k0_pay6 v0 v1) (k0_pay7 v0 v1) k0_pay8)
    (k0_pay10 (k0_pay2 v0 v1) (k0_pay3 v4)) (k0_pay11 (k0_pay2 v0 v1) (k0_pay3 v4)) (k0_pay12 (k0_pay2 v0 v1) (k0_pay3 v4))
    (k0_pay13 (k0_pay2 v0 v1)) (k0_pay14 (k0_pay2 v0 v1))

/-- Entry `d` of head `j` of row `r` of a block, normalised. -/
def entry (r : Fin 768) (j : Fin 8) (d : Fin 128) : EReal :=
  nrm (fun k => ∑ s : Fin 4096, v0 (ix2 r s) * v1 (ix2 s ⟨128 * j.val + k.val, by omega⟩)) (v4 (ix2 0 ⟨128 * j.val + d.val, by omega⟩)) d

theorem head0 (r : Fin 768) (d : Fin 128) : body v0 v1 v4 (ix2 r ⟨128 * 0 + d.val, by omega⟩)
    = nrm (fun k => ∑ s : Fin 4096, v0 (ix2 r s) * v1 (ix2 s ⟨128 * 0 + k.val, by omega⟩)) (v4 (ix2 0 ⟨128 * 0 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]

theorem head1 (r : Fin 768) (d : Fin 128) : body v0 v1 v4 (ix2 r ⟨128 * 1 + d.val, by omega⟩)
    = nrm (fun k => ∑ s : Fin 4096, v0 (ix2 r s) * v1 (ix2 s ⟨128 * 1 + k.val, by omega⟩)) (v4 (ix2 0 ⟨128 * 1 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]

theorem head2 (r : Fin 768) (d : Fin 128) : body v0 v1 v4 (ix2 r ⟨128 * 2 + d.val, by omega⟩)
    = nrm (fun k => ∑ s : Fin 4096, v0 (ix2 r s) * v1 (ix2 s ⟨128 * 2 + k.val, by omega⟩)) (v4 (ix2 0 ⟨128 * 2 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_pos (by omega)]
  have e : 256 + (256 + d.val - 128 - 128) = 256 + d.val := by omega
  simp only [e]

theorem head3 (r : Fin 768) (d : Fin 128) : body v0 v1 v4 (ix2 r ⟨128 * 3 + d.val, by omega⟩)
    = nrm (fun k => ∑ s : Fin 4096, v0 (ix2 r s) * v1 (ix2 s ⟨128 * 3 + k.val, by omega⟩)) (v4 (ix2 0 ⟨128 * 3 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_pos (by omega)]
  have e : 384 + (384 + d.val - 128 - 128 - 128) = 384 + d.val := by omega
  simp only [e]

theorem head4 (r : Fin 768) (d : Fin 128) : body v0 v1 v4 (ix2 r ⟨128 * 4 + d.val, by omega⟩)
    = nrm (fun k => ∑ s : Fin 4096, v0 (ix2 r s) * v1 (ix2 s ⟨128 * 4 + k.val, by omega⟩)) (v4 (ix2 0 ⟨128 * 4 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_pos (by omega)]
  have e : 512 + (512 + d.val - 128 - 128 - 128 - 128) = 512 + d.val := by omega
  simp only [e]

theorem head5 (r : Fin 768) (d : Fin 128) : body v0 v1 v4 (ix2 r ⟨128 * 5 + d.val, by omega⟩)
    = nrm (fun k => ∑ s : Fin 4096, v0 (ix2 r s) * v1 (ix2 s ⟨128 * 5 + k.val, by omega⟩)) (v4 (ix2 0 ⟨128 * 5 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_pos (by omega)]
  have e : 640 + (640 + d.val - 128 - 128 - 128 - 128 - 128) = 640 + d.val := by omega
  simp only [e]

theorem head6 (r : Fin 768) (d : Fin 128) : body v0 v1 v4 (ix2 r ⟨128 * 6 + d.val, by omega⟩)
    = nrm (fun k => ∑ s : Fin 4096, v0 (ix2 r s) * v1 (ix2 s ⟨128 * 6 + k.val, by omega⟩)) (v4 (ix2 0 ⟨128 * 6 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_neg (by omega)]
  rw [dif_pos (by omega)]
  have e : 768 + (768 + d.val - 128 - 128 - 128 - 128 - 128 - 128) = 768 + d.val := by omega
  simp only [e]

theorem head7 (r : Fin 768) (d : Fin 128) : body v0 v1 v4 (ix2 r ⟨128 * 7 + d.val, by omega⟩)
    = nrm (fun k => ∑ s : Fin 4096, v0 (ix2 r s) * v1 (ix2 s ⟨128 * 7 + k.val, by omega⟩)) (v4 (ix2 0 ⟨128 * 7 + d.val, by omega⟩)) d := by
  pointwise [body, k0_pay1, k0_pay2, k0_pay3, k0_pay4, k0_pay5, k0_pay6, k0_pay7, k0_pay8, k0_pay9, k0_pay10, k0_pay11, k0_pay12, k0_pay13, k0_pay14, nrm]
  rw [dif_neg (by omega)]
  rw [dif_neg (by omega)]
  rw [dif_neg (by omega)]
  rw [dif_neg (by omega)]
  rw [dif_neg (by omega)]
  rw [dif_neg (by omega)]
  rw [dif_neg (by omega)]
  have e : 896 + (896 + d.val - 128 - 128 - 128 - 128 - 128 - 128 - 128) = 896 + d.val := by omega
  simp only [e]

/-- Every entry the body stores. -/
theorem body_at (r : Fin 768) (j : Fin 8) (d : Fin 128) : body v0 v1 v4 (ix2 r ⟨128 * j.val + d.val, by omega⟩) = entry v0 v1 v4 r j d := by
  match j with
  | 0 => exact head0 v0 v1 v4 r d
  | 1 => exact head1 v0 v1 v4 r d
  | 2 => exact head2 v0 v1 v4 r d
  | 3 => exact head3 v0 v1 v4 r d
  | 4 => exact head4 v0 v1 v4 r d
  | 5 => exact head5 v0 v1 v4 r d
  | 6 => exact head6 v0 v1 v4 r d
  | 7 => exact head7 v0 v1 v4 r d

end Body

/-- The whole result: column 4096 + `i 1` of the product, normalised in its head. -/
def G (x : FVec Ideal S16896x4096 .bf16) (w : FVec Ideal S4096x29344 .f32) (g : FVec Ideal S128 .f32) : FVec Ideal S16896x1024 .f32 := fun i =>
  nrm (fun k => ∑ s : Fin 4096, x (ix2 (i 0) s) * w (ix2 s ⟨4096 + (128 * ((i 1).val / 128) + k.val), by have h : (i 1).val < 1024 := (i 1).isLt; omega⟩))
    (g (ix1 ⟨(i 1).val % 128, by omega⟩)) ⟨(i 1).val % 128, by omega⟩

variable (m : (ℓ : Loc nD τ sig) → Buf (Elt Ideal) ℓ) (ρ : Dev nD → PrngReg)

theorem idx0 : ∀ t : Fin cfg0.N, win0_0.index t = ![win0_3.index t 0, 0] := (by decide +kernel : ∀ t : Fin grid0.N, _)
theorem idx1 : ∀ t : Fin cfg0.N, win0_1.index t = ![0, win0_3.index t 1] := (by decide +kernel : ∀ t : Fin grid0.N, _)
theorem idx2 : ∀ t : Fin cfg0.N, win0_2.index t = ![0, win0_3.index t 1] := (by decide +kernel : ∀ t : Fin grid0.N, _)

/-- What the body stores at a point is `G` where the block sits. -/
theorem point (c : Dev nD) (t : Fin cfg0.N) (y : S768x1024.Idx) :
    body (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  obtain ⟨r, j, d, rfl⟩ : ∃ (r : Fin 768) (j : Fin 8) (d : Fin 128), y = ix2 r (⟨128 * j.val + d.val, by omega⟩ : Fin 1024) := by
    have h : (y 1).val < 1024 := (y 1).isLt
    refine ⟨y 0, ⟨(y 1).val / 128, by omega⟩, ⟨(y 1).val % 128, by omega⟩, ?_⟩
    funext a
    match a with
    | 0 => rfl
    | 1 => exact Fin.ext (by show (y 1).val = 128 * ((y 1).val / 128) + (y 1).val % 128; omega)
  rw [body_at]
  pointwise [entry, G, nrm]
  blk_point [iblk, idx0, idx1, idx2, V_main_arg0]

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold_out out0_3; frame_out
  exact point m c t y

end Cert.InProjKIdeal.Algebra

namespace Cert

open Idealize.ShloMosaic Idealize.ShloMosaic.TcCoe Idealize.SL.Sem

/-- The tiled product making the keys and the plain one, each normalised by heads, end with the same result on the
    extended reals. -/
theorem inProjK_algebraic : algebraic_InProjKIdeal_InProjKReferenceIdeal (hInProjKIdeal := Cert.InProjKIdeal.Gen.facts)
    (hInProjKReferenceIdeal := Cert.InProjKReferenceIdeal.Gen.facts) := by
  intro m ρ m' ρ' _ hag
  refine ⟨fun c => InProjKIdeal.Algebra.G (m ((c.tc : Thread InProjKIdeal.nD InProjKIdeal.τ).loc InProjKIdeal.main_arg0))
    (m ((c.tc : Thread InProjKIdeal.nD InProjKIdeal.τ).loc InProjKIdeal.main_arg1)) (m ((c.tc : Thread InProjKIdeal.nD InProjKIdeal.τ).loc InProjKIdeal.main_arg2)), ?_, ?_⟩
  · refine (θ_run _ _ _).mono (fun r h c => ?_) (InProjKIdeal.Value.run_blocks (F := Ideal) m ρ)
    exact ⟨(h c).1.trans (InProjKIdeal.Algebra.final m c), (h c).2⟩
  · refine (θ_run _ _ _).mono (fun r h c => ⟨(h c).1.trans ?_, (h c).2⟩) (InProjKReferenceIdeal.Value.run (F := Ideal) m' ρ')
    rw [(hag c).1, (hag c).2.1, (hag c).2.2]
    funext i
    pointwise [InProjKIdeal.Algebra.G, InProjKIdeal.Algebra.nrm]
    simp only [Nat.mul_comm _ 128, Nat.div_add_mod]

end Cert

end
-- ==== Proof.Rmsnorm.lean ====
/-
  The value of the root-mean-square normalisation of the rows.
-/
module

public import proofs.«01_k».proof.Proof.Gen.RmsnormIdeal.Value
public import proofs.«01_k».proof.Proof.Gen.RmsnormReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.RmsnormIdeal.Algebra

open Cert.RmsnormIdeal Cert.RmsnormIdeal.Gen Idealize.ShloMosaic Idealize.ShloMosaic.TcCoe Idealize.SL.Sem

/-- The whole result: each entry over the root of its row's mean square plus epsilon, times its column's gain. -/
def G (x : FVec Ideal S16896x4096 .f32) (g : FVec Ideal S4096 .f32) : FVec Ideal S16896x4096 .bf16 := fun i =>
  x i * Ideal.rsqrt (Ideal.div (∑ k : Fin 4096, x (ix2 (i 0) k) * x (ix2 (i 0) k)) (Ideal.ofBits .f32 0x45800000#32) + Ideal.ofBits .f32 0x358637BD#32) * g (ix1 (i 1))

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx1 : ∀ t : Fin cfg0.N, win0_1.index t = ![0, 0] := (by decide +kernel : ∀ t : Fin grid0.N, _)

/-- What the body stores at entry `y` of its block at point `t` is `G` at the array index where `y` sits. -/
theorem point (c : Dev nD) (t : Fin cfg0.N) (y : S256x4096.Idx) :
    k0_pay1 (F := Ideal) (iblk m c 0 t) (iblk m c 1 t) y
      = G (m ((c : Thread nD τ).loc main_arg0)) (m ((c : Thread nD τ).loc main_arg1))
          (((cfg0.win 2).blk t).view.emb y) := by
  pointwise [k0_pay1, G]
  blk_point [iblk, idx0, idx1, idx2, V_main_arg0]

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.RmsnormIdeal.Algebra

namespace Cert

open Idealize.ShloMosaic Idealize.ShloMosaic.TcCoe Idealize.SL.Sem

/-- The tiled normalisation and the plain one end with the same result on the extended reals. -/
theorem rmsnorm_algebraic : algebraic_RmsnormIdeal_RmsnormReferenceIdeal (hRmsnormIdeal := Cert.RmsnormIdeal.Gen.facts)
    (hRmsnormReferenceIdeal := Cert.RmsnormReferenceIdeal.Gen.facts) := by
  intro m ρ m' ρ' _ hag
  refine ⟨fun c => RmsnormIdeal.Algebra.G (m ((c.tc : Thread RmsnormIdeal.nD RmsnormIdeal.τ).loc RmsnormIdeal.main_arg0)) (m ((c.tc : Thread RmsnormIdeal.nD RmsnormIdeal.τ).loc RmsnormIdeal.main_arg1)), ?_, ?_⟩
  · refine (θ_run _ _ _).mono (fun r h c => ?_) (RmsnormIdeal.Value.run_blocks (F := Ideal) m ρ)
    exact ⟨(h c).1.trans (RmsnormIdeal.Algebra.final m c), (h c).2⟩
  · refine (θ_run _ _ _).mono (fun r h c => ⟨(h c).1.trans ?_, (h c).2⟩) (RmsnormReferenceIdeal.Value.run (F := Ideal) m' ρ')
    rw [(hag c).1, (hag c).2]
    funext i
    pointwise [RmsnormIdeal.Algebra.G]

end Cert

end
-- ==== Proof.InProjKi.lean ====
/-
  The value of the part of the input projection that makes the indexer's keys and weights: columns 10240 to 10399 of the
  product, and columns of zeros up to 256.
-/
module

public import proofs.«01_k».proof.Proof.Gen.InProjKiIdeal.Value
public import proofs.«01_k».proof.Proof.Gen.InProjKiReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.InProjKiIdeal.Algebra

open Cert.InProjKiIdeal Cert.InProjKiIdeal.Gen Idealize.ShloMosaic Idealize.ShloMosaic.TcCoe Idealize.SL.Sem

/-- The whole result: column 10240 + `i 1` of the product where that is the indexer's, and zero past it. -/
def G (x : FVec Ideal S16896x4096 .bf16) (w : FVec Ideal S4096x29344 .f32) : FVec Ideal S16896x256 .f32 := fun i =>
  if h : (i 1).val < 160 then ∑ k : Fin 4096, x (ix2 (i 0) k) * w (ix2 k ⟨10240 + (i 1).val, by omega⟩) else 0

variable (m : (ℓ : Loc nD τ sig) → Buf (Elt Ideal) ℓ) (ρ : Dev nD → PrngReg)

theorem idx0 : ∀ t : Fin cfg0.N, win0_0.index t = ![win0_2.index t 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t 1 = 0 := (by decide +kernel : ∀ t : Fin grid0.N, _)

/-- The weight in front of the call: columns 10240 to 10399 of the whole one, and zeros past them. -/
theorem host_w (c : Dev nD) (k : Fin 4096) (j : Fin 256) : V m c main_v2 (ix2 k j)
    = if h : j.val < 160 then (show EReal from m ((c : Thread nD τ).loc main_arg1) (ix2 k ⟨10240 + j.val, by omega⟩)) else 0 := by
  show StableHlo.after (List.flatten [hostOps0, hostOps0_1]) (fun b => m (c, b)) _ _ = _
  simp only [hostOps0, hostOps0_1, List.flatten_cons, List.flatten_nil, List.append_nil, List.cons_append, List.nil_append, StableHlo.TRef.ternary, StableHlo.TRef.unary, StableHlo.TRef.toBuf, StableHlo.TRef.ofBuf, cast_eq]
  after_results_simp
  simp only [StableHlo.TRef.toBuf, StableHlo.TRef.ofBuf, cast_eq]
  pointwise
  rw [show FloatOps.sitofp (F := Ideal) .bf16 (0#32) = (0 : EReal) by simp [FloatOps.sitofp]]

theorem lt0 : ∀ t : Fin cfg0.N, win0_2.index t 0 < 22 := (by decide +kernel : ∀ t : Fin grid0.N, _)

theorem emb2 (t : Fin cfg0.N) (r : Fin 768) (j : Fin 256) : ((cfg0.win 2).blk t).view.emb (ix2 r j)
    = ix2 (⟨win0_2.index t 0 * 768 + r.val, by have := lt0 t; omega⟩ : Fin 16896) (j : Fin 256) := by
  have h := idx2 t
  blk_ext

theorem blk_x (c : Dev nD) (t : Fin cfg0.N) (r : Fin 768) (k : Fin 4096) : iblk m c 0 t (ix2 r k)
    = (show EReal from m ((c : Thread nD τ).loc main_arg0) (ix2 ⟨win0_2.index t 0 * 768 + r.val, by have := lt0 t; omega⟩ k)) := by
  blk_point [iblk, idx0, V_main_arg0]

theorem blk_w (c : Dev nD) (t : Fin cfg0.N) (k : Fin 4096) (j : Fin 256) : iblk m c 1 t (ix2 k j)
    = if h : j.val < 160 then (show EReal from m ((c : Thread nD τ).loc main_arg1) (ix2 k ⟨10240 + j.val, by omega⟩)) else 0 := by
  rw [← host_w]
  blk_point [iblk, idx1]

/-- What the body stores at entry `y` of its block at point `t` is `G` at the array index where `y` sits. -/
theorem point (c : Dev nD) (t : Fin cfg0.N) (y : S768x256.Idx) :
    k0_pay1 (F := Ideal) (iblk m c 0 t) (iblk m c 1 t) y
      = G (m ((c : Thread nD τ).loc main_arg0)) (m ((c : Thread nD τ).loc main_arg1))
          (((cfg0.win 2).blk t).view.emb y) := by
  obtain ⟨r, j, rfl⟩ : ∃ (r : Fin 768) (j : Fin 256), y = ix2 r j := ⟨y 0, y 1, by funext a; match a with | 0 => rfl | 1 => rfl⟩
  rw [emb2]
  pointwise [k0_pay1, G]
  simp only [blk_x, blk_w]
  split_ifs with h
  · rfl
  · simp

/-- The result array after the run is `G` of the arguments. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

end Cert.InProjKiIdeal.Algebra

namespace Cert

open Idealize.ShloMosaic Idealize.ShloMosaic.TcCoe Idealize.SL.Sem

/-- The tiled product making the indexer's keys and weights and the part of the plain one, padded with zeros, end with the
    same result on the extended reals. -/
theorem inProjKi_algebraic : algebraic_InProjKiIdeal_InProjKiReferenceIdeal (hInProjKiIdeal := Cert.InProjKiIdeal.Gen.facts)
    (hInProjKiReferenceIdeal := Cert.InProjKiReferenceIdeal.Gen.facts) := by
  intro m ρ m' ρ' _ hag
  refine ⟨fun c => InProjKiIdeal.Algebra.G (m ((c.tc : Thread InProjKiIdeal.nD InProjKiIdeal.τ).loc InProjKiIdeal.main_arg0)) (m ((c.tc : Thread InProjKiIdeal.nD InProjKiIdeal.τ).loc InProjKiIdeal.main_arg1)), ?_, ?_⟩
  · refine (θ_run _ _ _).mono (fun r h c => ?_) (InProjKiIdeal.Value.run_blocks (F := Ideal) m ρ)
    exact ⟨(h c).1.trans (InProjKiIdeal.Algebra.final m c), (h c).2⟩
  · refine (θ_run _ _ _).mono (fun r h c => ⟨(h c).1.trans ?_, (h c).2⟩) (InProjKiReferenceIdeal.Value.run (F := Ideal) m' ρ')
    rw [(hag c).1, (hag c).2]
    funext i
    pointwise [InProjKiIdeal.Algebra.G]
    have z : FloatOps.sitofp (F := Ideal) .f32 (0#32) = (0 : EReal) := by
      simp [FloatOps.sitofp]
    by_cases h : (i 1).val < 160
    · rw [dif_pos h, dif_pos h]
      by_cases h' : (i 1).val < 128
      · rw [dif_pos h']
      · rw [dif_neg h']
        congr! 5
        omega
    · rw [dif_neg h, dif_neg h]
      exact z

end Cert

end
-- ==== Proof.Conv.lean ====
/-
  The value of the causal convolution of the prompt, of width four.
-/
module

public import proofs.«01_k».proof.Proof.Gen.ConvIdeal.Value
public import proofs.«01_k».proof.Proof.Gen.ConvReferenceIdeal.Run
public import proofs.«01_k».proof.Defs
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.ConvIdeal.Algebra

open Cert.ConvIdeal Cert.ConvIdeal.Gen Idealize.ShloMosaic Idealize.ShloMosaic.TcCoe Idealize.SL.Sem

/-- Row `r` of the state's three rows and the tokens behind them. -/
def row (x : FVec Ideal S16896x5376 .f32) (buf : FVec Ideal S1x3x5376 .f32) (r : Nat) (c : Fin 5376) : EReal :=
  if h : r < 3 then buf (ix3 0 ⟨r, h⟩ c) else if h : r - 3 < 16384 then x (ix2 ⟨r - 3, by omega⟩ c) else 0

/-- The convolution: the bias and four rows, each times its weight. -/
def G (x : FVec Ideal S16896x5376 .f32) (buf : FVec Ideal S1x3x5376 .f32) (w : FVec Ideal S4x5376 .f32) (b : FVec Ideal S5376 .f32) :
    FVec Ideal S16384x5376 .f32 := fun i =>
  b (ix1 (i 1)) + row x buf ((i 0).val + 0) (i 1) * w (ix2 0 (i 1)) + row x buf ((i 0).val + 1) (i 1) * w (ix2 1 (i 1))
    + row x buf ((i 0).val + 2) (i 1) * w (ix2 2 (i 1)) + row x buf ((i 0).val + 3) (i 1) * w (ix2 3 (i 1))

variable (m : (ℓ : Loc nD τ sig) → Buf (Elt Ideal) ℓ) (ρ : Dev nD → PrngReg)

/-- The kernel's scratch: eight rows and the block's rows behind them. -/
def ext (A : FVec Ideal S8x5376 .f32) (B : FVec Ideal S128x5376 .f32) : FVec Ideal S136x5376 .f32 := fun i =>
  if h : (i 0).val < 8 then A (ix2 ⟨(i 0).val, h⟩ (i 1)) else B (ix2 ⟨(i 0).val - 8, by have h' : (i 0).val < 136 := (i 0).isLt; omega⟩ (i 1))

/-- A load of 128 rows of the scratch from row `o` reads those of `ext`. -/
theorem load_ext (A : FVec Ideal S8x5376 .f32) (B : FVec Ideal S128x5376 .f32) (o : Nat) (ho : o + 128 ≤ 136)
    (inb : ∀ a, (![o, 0] : Fin 2 → Nat) a + (![128, 5376] : Fin 2 → Nat) a ≤ S136x5376.size a) :
    (View.whole cc0_scratch0).readCov
        ([⟨Rect.unit ![8, 0] ![128, 5376] inb_S136x5376_S128x5376_8_0, B⟩,
          ⟨Rect.unit ![0, 0] ![8, 5376] inb_S136x5376_S8x5376_0_0, A⟩] : List (View.Piece (Elt Ideal) S136x5376 .f32))
        (Rect.unit (s := S136x5376) ![o, 0] ![128, 5376] inb).toLoadRect
      = (fun j => ext A B (ix2 ⟨o + (j 0).val, by have h : (j 0).val < 128 := (j 0).isLt; omega⟩ (j 1)) : FVec Ideal S128x5376 .f32) := by
  rw [View.readCov_eq_canon']
  funext j
  obtain ⟨r, k, rfl⟩ : ∃ (r : Fin 128) (k : Fin 5376), j = ix2 r k := ⟨j 0, j 1, by funext a; match a with | 0 => rfl | 1 => rfl⟩
  have hi : (Rect.unit (s := S136x5376) ![o, 0] ![128, 5376] inb).toLoadRect.idx (ix2 r k) = ix2 (⟨o + r.val, by omega⟩ : Fin 136) (k : Fin 5376) := by
    funext a
    match a with
    | 0 => exact Fin.ext (by show o + 1 * r.val = o + r.val; omega)
    | 1 => exact Fin.ext (by show 0 + 1 * k.val = k.val; omega)
  have e := View.canon_append_of_piecesOf (ext A B) []
    ([⟨Rect.unit ![8, 0] ![128, 5376] inb_S136x5376_S128x5376_8_0, B⟩,
      ⟨Rect.unit ![0, 0] ![8, 5376] inb_S136x5376_S8x5376_0_0, A⟩] : List (View.Piece (Elt Ideal) S136x5376 .f32))
    ⟨fun x => ?_, fun x => ?_, trivial⟩ ((Rect.unit (s := S136x5376) ![o, 0] ![128, 5376] inb).toLoadRect.idx (ix2 r k)) ?_
  · rw [List.append_nil] at e
    exact e.trans (congrArg (ext A B) hi)
  · obtain ⟨r', k', rfl⟩ : ∃ (r : Fin 128) (k : Fin 5376), x = ix2 r k := ⟨x 0, x 1, by funext a; match a with | 0 => rfl | 1 => rfl⟩
    rw [show (Rect.unit (s := S136x5376) ![8, 0] ![128, 5376] inb_S136x5376_S128x5376_8_0).emb (ix2 r' k') = ix2 (⟨8 + r'.val, by omega⟩ : Fin 136) (k' : Fin 5376) by blk_ext]
    have hx : ext A B (ix2 (⟨8 + r'.val, by omega⟩ : Fin 136) (k' : Fin 5376)) = B (ix2 (⟨8 + r'.val - 8, by omega⟩ : Fin 128) k') :=
      dif_neg (by show ¬ (8 + r'.val < 8); omega)
    refine Eq.trans ?_ hx.symm
    exact congrArg (fun z : Fin 128 => B (ix2 z k')) (Fin.ext (by show r'.val = 8 + r'.val - 8; omega))
  · obtain ⟨r', k', rfl⟩ : ∃ (r : Fin 8) (k : Fin 5376), x = ix2 r k := ⟨x 0, x 1, by funext a; match a with | 0 => rfl | 1 => rfl⟩
    rw [show (Rect.unit (s := S136x5376) ![0, 0] ![8, 5376] inb_S136x5376_S8x5376_0_0).emb (ix2 r' k') = ix2 (⟨r'.val, by omega⟩ : Fin 136) (k' : Fin 5376) by blk_ext]
    have hx : ext A B (ix2 (⟨r'.val, by omega⟩ : Fin 136) (k' : Fin 5376)) = A (ix2 (⟨r'.val, r'.isLt⟩ : Fin 8) k') := dif_pos r'.isLt
    exact hx.symm
  · by_cases h : o + r.val < 8
    · refine ⟨_, List.mem_cons_of_mem _ (List.mem_singleton.mpr rfl), (Rect.mem_set_unit (inb := inb_S136x5376_S8x5376_0_0)).mpr fun a => ?_⟩
      rw [hi]
      match a with
      | 0 => exact ⟨Nat.zero_le _, by show o + r.val < 0 + 8; omega⟩
      | 1 => exact ⟨Nat.zero_le _, by show k.val < 0 + 5376; omega⟩
    · refine ⟨_, List.mem_cons_self, (Rect.mem_set_unit (inb := inb_S136x5376_S128x5376_8_0)).mpr fun a => ?_⟩
      rw [hi]
      match a with
      | 0 => exact ⟨by show 8 ≤ o + r.val; omega, by show o + r.val < 8 + 128; omega⟩
      | 1 => exact ⟨Nat.zero_le _, by show k.val < 0 + 5376; omega⟩

/-- Which block each array's window is on. -/
theorem idx0 : ∀ t : Fin cfg0.N, win0_0.index t = ![t.val, 0] := (by decide +kernel : ∀ t : Fin grid0.N, _)
theorem idx1 : ∀ t : Fin cfg0.N, win0_1.index t = ![t.val * 16 - 1, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem coord : ∀ t : Fin cfg0.N, ((grid0.coords t) 1).val = t.val := (by decide +kernel : ∀ t : Fin grid0.N, _)

/-- The rows in front of the block: the state's at the first block, the previous block's last eight elsewhere. -/
theorem front (t : Fin cfg0.N) (A : FVec Ideal S1x8x5376 .f32) (B : FVec Ideal S8x5376 .f32) (r : Fin 8) (k : Fin 5376) :
    k0_pay3 (grid0.coords t) A B (ix2 r k) = if t.val = 0 then A (ix3 0 r k) else B (ix2 r k) := by
  have hb : t.val < 128 := t.isLt
  unfold k0_pay3
  simp only [coord]
  by_cases h : t.val = 0
  · rw [h, if_pos rfl]
    rw [show Scalar.cmpi .eq (BitVec.ofNat 32 0) 0#32 = 1#1 from rfl]
    simp only [Scalar.select]
    rw [if_pos (by decide)]
    pointwise
  · have h2 : ¬ BitVec.ofNat 32 t.val = 0#32 := fun e => h (by have := congrArg BitVec.toNat e; simp at this; omega)
    have e : Scalar.cmpi .eq (BitVec.ofNat 32 t.val) 0#32 = 0#1 := by
      simp only [Scalar.cmpi, IntOp.cmpi, beq_eq_false_iff_ne.mpr h2]
      rfl
    rw [if_neg h, e]
    simp only [Scalar.select]
    rw [if_neg (by decide)]
    pointwise

theorem ltN (t : Fin cfg0.N) : t.val < 128 := t.isLt

/-- The state in front of the call: five rows of zeros, and its three rows. -/
theorem host_buf (c : Dev nD) (r : Fin 8) (k : Fin 5376) : V m c main_v0 (ix3 0 r k)
    = if h : 5 ≤ r.val then (show EReal from m ((c : Thread nD τ).loc main_arg1) (ix3 0 ⟨r.val - 5, by omega⟩ k)) else 0 := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  simp only [StableHlo.TRef.toBuf, StableHlo.TRef.ofBuf, cast_eq]
  pointwise
  have z : FloatOps.sitofp (F := Ideal) .f32 (0#32) = (0 : EReal) := by simp [FloatOps.sitofp]
  by_cases h : 5 ≤ r.val
  · rw [dif_pos h, dif_pos ⟨h, by omega⟩]
  · rw [dif_neg h, dif_neg (fun e => h e.1), z]

/-- The bias in front of the call, as one row. -/
theorem host_b (c : Dev nD) (k : Fin 5376) : V m c main_v1 (ix2 0 k)
    = (show EReal from m ((c : Thread nD τ).loc main_arg3) (ix1 k)) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append, StableHlo.TRef.ternary, StableHlo.TRef.unary, StableHlo.TRef.toBuf, StableHlo.TRef.ofBuf, cast_eq]
  after_results_simp
  pointwise

/-- Where the entries of a block stand in the first result, -/
theorem emb5 (t : Fin cfg0.N) (r : Fin 128) (j : Fin 5376) : ((cfg0.win 5).blk t).view.emb (ix2 r j)
    = ix2 (⟨t.val * 128 + r.val, by have := ltN t; omega⟩ : Fin 16384) (j : Fin 5376) := by
  have h : win0_5.index t 0 = t.val := congrFun (idx5 t) 0
  have h' : win0_5.index t 1 = 0 := congrFun (idx5 t) 1
  blk_ext

/-- and in the second. -/
theorem emb6 (t : Fin cfg0.N) (r : Fin 128) (j : Fin 5376) : ((cfg0.win 6).blk t).view.emb (ix2 r j)
    = ix2 (⟨t.val * 128 + r.val, by have := ltN t; omega⟩ : Fin 16384) (j : Fin 5376) := by
  have h : win0_6.index t 0 = t.val := congrFun (idx6 t) 0
  have h' : win0_6.index t 1 = 0 := congrFun (idx6 t) 1
  blk_ext

/-- A step's block of the tokens, -/
theorem blk_x (c : Dev nD) (t : Fin cfg0.N) (r : Fin 128) (k : Fin 5376) : iblk m c 0 t (ix2 r k)
    = (show EReal from m ((c : Thread nD τ).loc main_arg0) (ix2 ⟨t.val * 128 + r.val, by have := ltN t; omega⟩ k)) := by
  blk_point [iblk, idx0, V_main_arg0]

/-- the eight rows in front of it, -/
theorem blk_halo (c : Dev nD) (t : Fin cfg0.N) (r : Fin 8) (k : Fin 5376) : iblk m c 1 t (ix2 r k)
    = (show EReal from m ((c : Thread nD τ).loc main_arg0) (ix2 ⟨(t.val * 16 - 1) * 8 + r.val, by have := ltN t; omega⟩ k)) := by
  blk_point [iblk, idx1, V_main_arg0]

/-- the state's rows, -/
theorem blk_buf (c : Dev nD) (t : Fin cfg0.N) (r : Fin 8) (k : Fin 5376) : iblk m c 2 t (ix3 0 r k)
    = if h : 5 ≤ r.val then (show EReal from m ((c : Thread nD τ).loc main_arg1) (ix3 0 ⟨r.val - 5, by omega⟩ k)) else 0 := by
  rw [← host_buf]
  blk_point [iblk, idx2]

/-- the weights, -/
theorem blk_w (c : Dev nD) (t : Fin cfg0.N) (r : Fin 4) (k : Fin 5376) : iblk m c 3 t (ix2 r k)
    = (show EReal from m ((c : Thread nD τ).loc main_arg2) (ix2 r k)) := by
  blk_point [iblk, idx3, V_main_arg2]

/-- and the bias. -/
theorem blk_b (c : Dev nD) (t : Fin cfg0.N) (k : Fin 5376) : iblk m c 4 t (ix2 0 k)
    = (show EReal from m ((c : Thread nD τ).loc main_arg3) (ix1 k)) := by
  refine Eq.trans ?_ (host_b m c k)
  blk_point [iblk, idx4]

/-- The scratch at row `o + r` holds the input's row of the output's row `r` and the tap `o - 5`. -/
theorem ext_row (c : Dev nD) (t : Fin cfg0.N) (r : Fin 128) (k : Fin 5376) (o : Nat) (h5 : 5 ≤ o) (h8 : o ≤ 8) :
    ext (k0_pay3 (grid0.coords t) (iblk m c 2 t) (iblk m c 1 t)) (k0_pay4 (iblk m c 0 t)) (ix2 ⟨o + r.val, by omega⟩ k)
      = row (m ((c : Thread nD τ).loc main_arg0)) (m ((c : Thread nD τ).loc main_arg1)) (t.val * 128 + r.val + (o - 5)) k := by
  have ht := ltN t
  have hr := r.isLt
  by_cases h : o + r.val < 8
  · rw [show ext (k0_pay3 (grid0.coords t) (iblk m c 2 t) (iblk m c 1 t)) (k0_pay4 (iblk m c 0 t)) (ix2 ⟨o + r.val, by omega⟩ k)
        = k0_pay3 (grid0.coords t) (iblk m c 2 t) (iblk m c 1 t) (ix2 ⟨o + r.val, h⟩ k) from dif_pos h, front]
    by_cases h0 : t.val = 0
    · rw [if_pos h0, blk_buf, dif_pos (by show 5 ≤ o + r.val; omega)]
      rw [row, dif_pos (by omega)]
      have e : o + r.val - 5 = t.val * 128 + r.val + (o - 5) := by omega
      simp only [e]
    · rw [if_neg h0, blk_halo, row, dif_neg (by omega), dif_pos (by omega)]
      have e : (t.val * 16 - 1) * 8 + (o + r.val) = t.val * 128 + r.val + (o - 5) - 3 := by omega
      simp only [e]
  · rw [show ext (k0_pay3 (grid0.coords t) (iblk m c 2 t) (iblk m c 1 t)) (k0_pay4 (iblk m c 0 t)) (ix2 ⟨o + r.val, by omega⟩ k)
        = k0_pay4 (iblk m c 0 t) (ix2 ⟨o + r.val - 8, by omega⟩ k) from dif_neg h]
    pointwise [k0_pay4]
    rw [blk_x, row, dif_neg (by omega), dif_pos (by omega)]
    have e : t.val * 128 + (o + r.val - 8) = t.val * 128 + r.val + (o - 5) - 3 := by omega
    simp only [e]

/-- What a block stores. -/
theorem body (c : Dev nD) (t : Fin cfg0.N) (r : Fin 128) (k : Fin 5376) :
    k0_pay1
      (k0_pay5 (iblk m c 4 t)
        (fun j => ext (k0_pay3 (grid0.coords t) (iblk m c 2 t) (iblk m c 1 t)) (k0_pay4 (iblk m c 0 t)) (ix2 ⟨5 + (j 0).val, by have h : (j 0).val < 128 := (j 0).isLt; omega⟩ (j 1)))
        (View.ld (iblk m c 3 t) (Rect.unit ![0, 0] ![1, 5376] inb_S4x5376_S1x5376_0_0))
        (fun j => ext (k0_pay3 (grid0.coords t) (iblk m c 2 t) (iblk m c 1 t)) (k0_pay4 (iblk m c 0 t)) (ix2 ⟨6 + (j 0).val, by have h : (j 0).val < 128 := (j 0).isLt; omega⟩ (j 1)))
        (View.ld (iblk m c 3 t) (Rect.unit ![1, 0] ![1, 5376] inb_S4x5376_S1x5376_1_0)))
      (k0_pay6
        (fun j => ext (k0_pay3 (grid0.coords t) (iblk m c 2 t) (iblk m c 1 t)) (k0_pay4 (iblk m c 0 t)) (ix2 ⟨7 + (j 0).val, by have h : (j 0).val < 128 := (j 0).isLt; omega⟩ (j 1)))
        (View.ld (iblk m c 3 t) (Rect.unit ![2, 0] ![1, 5376] inb_S4x5376_S1x5376_2_0)))
      (fun j => ext (k0_pay3 (grid0.coords t) (iblk m c 2 t) (iblk m c 1 t)) (k0_pay4 (iblk m c 0 t)) (ix2 ⟨8 + (j 0).val, by have h : (j 0).val < 128 := (j 0).isLt; omega⟩ (j 1)))
      (View.ld (iblk m c 3 t) (Rect.unit ![3, 0] ![1, 5376] inb_S4x5376_S1x5376_3_0)) (ix2 r k)
    = G (m ((c : Thread nD τ).loc main_arg0)) (m ((c : Thread nD τ).loc main_arg1)) (m ((c : Thread nD τ).loc main_arg2)) (m ((c : Thread nD τ).loc main_arg3))
      (ix2 ⟨t.val * 128 + r.val, by have := ltN t; omega⟩ k) := by
  have e5 := ext_row m c t r k 5 (by omega) (by omega)
  have e6 := ext_row m c t r k 6 (by omega) (by omega)
  have e7 := ext_row m c t r k 7 (by omega) (by omega)
  have e8 := ext_row m c t r k 8 (by omega) (by omega)
  pointwise [k0_pay1, k0_pay5, k0_pay6, G]
  rw [e5, e6, e7, e8, blk_b, blk_w, blk_w, blk_w, blk_w]
  rfl

/-- The first result after the run is `G` of the arguments, -/
theorem final5 (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; unfold outsAt0; dsimp only
  frame_out
  rw [load_ext _ _ 5 (by omega), load_ext _ _ 6 (by omega), load_ext _ _ 7 (by omega), load_ext _ _ 8 (by omega)]
  obtain ⟨r, k, rfl⟩ : ∃ (r : Fin 128) (k : Fin 5376), y = ix2 r k := ⟨y 0, y 1, by funext a; match a with | 0 => rfl | 1 => rfl⟩
  refine Eq.trans ?_ (congrArg (G _ _ _ _) (emb5 t r k).symm)
  exact body m c t r k

/-- and so is the second, its rounding being the identity on the extended reals. -/
theorem final6 (c : Dev nD) : (dats m 0 c).arrAt 6 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; unfold outsAt0; dsimp only
  frame_out
  rw [load_ext _ _ 5 (by omega), load_ext _ _ 6 (by omega), load_ext _ _ 7 (by omega), load_ext _ _ 8 (by omega)]
  obtain ⟨r, k, rfl⟩ : ∃ (r : Fin 128) (k : Fin 5376), y = ix2 r k := ⟨y 0, y 1, by funext a; match a with | 0 => rfl | 1 => rfl⟩
  refine Eq.trans ?_ (congrArg (G _ _ _ _) (emb6 t r k).symm)
  exact body m c t r k

end Cert.ConvIdeal.Algebra

namespace Cert.ConvReferenceIdeal.Algebra

open Cert.ConvReferenceIdeal Cert.ConvReferenceIdeal.Gen Idealize.ShloMosaic Idealize.ShloMosaic.TcCoe Idealize.SL.Sem

/-- The state's rows and the tokens', as the plain convolution joins them. -/
def inputRows (x : FVec Ideal S16896x5376 .f32) (buf : FVec Ideal S1x3x5376 .f32) : FVec Ideal S16387x5376 .f32 :=
  (concatenate S16387x5376 0 [⟨S3x5376, (shapeCast _ buf shapeCasts_S1x3x5376_S3x5376)⟩, ⟨S16384x5376, (extractStridedSlice S16384x5376 ![0, 0] x slices_S16896x5376_S16384x5376_0_0)⟩] concatenates_S3x5376_S16384x5376_S16387x5376_d0)

/-- The joined rows are the state's and the tokens'. -/
theorem inputRows_point (x : FVec Ideal S16896x5376 .f32) (buf : FVec Ideal S1x3x5376 .f32) (r : Fin 16387) (k : Fin 5376) :
    inputRows x buf (ix2 r k) = ConvIdeal.Algebra.row x buf r.val k := by
  pointwise [inputRows, ConvIdeal.Algebra.row]
  by_cases h : r.val < 3
  · rw [dif_pos h, dif_pos h]
  · rw [dif_neg h, dif_neg h, dif_pos (by omega)]

/-- The plain convolution is `G`. -/
theorem value (x : FVec Ideal S16896x5376 .f32) (buf : FVec Ideal S1x3x5376 .f32) (w : FVec Ideal S4x5376 .f32) (b : FVec Ideal S5376 .f32) :
    addf (addf (addf (addf (broadcastInDim S16384x5376 ![0, 1] bcast_S1x5376_S16384x5376_0_1 (broadcastInDim S1x5376 ![1] bcast_S5376_S1x5376_1 b)) (mulf (extractStridedSlice S16384x5376 ![0, 0] (inputRows x buf) slices_S16387x5376_S16384x5376_0_0) (broadcastInDim S16384x5376 ![0, 1] bcast_S1x5376_S16384x5376_0_1 (broadcastInDim S1x5376 ![1] bcast_S5376_S1x5376_1 (shapeCast _ (extractStridedSlice S1x5376 ![0, 0] w slices_S4x5376_S1x5376_0_0) shapeCasts_S1x5376_S5376))))) (mulf (extractStridedSlice S16384x5376 ![1, 0] (inputRows x buf) slices_S16387x5376_S16384x5376_1_0) (broadcastInDim S16384x5376 ![0, 1] bcast_S1x5376_S16384x5376_0_1 (broadcastInDim S1x5376 ![1] bcast_S5376_S1x5376_1 (shapeCast _ (extractStridedSlice S1x5376 ![1, 0] w slices_S4x5376_S1x5376_1_0) shapeCasts_S1x5376_S5376))))) (mulf (extractStridedSlice S16384x5376 ![2, 0] (inputRows x buf) slices_S16387x5376_S16384x5376_2_0) (broadcastInDim S16384x5376 ![0, 1] bcast_S1x5376_S16384x5376_0_1 (broadcastInDim S1x5376 ![1] bcast_S5376_S1x5376_1 (shapeCast _ (extractStridedSlice S1x5376 ![2, 0] w slices_S4x5376_S1x5376_2_0) shapeCasts_S1x5376_S5376))))) (mulf (extractStridedSlice S16384x5376 ![3, 0] (inputRows x buf) slices_S16387x5376_S16384x5376_3_0) (broadcastInDim S16384x5376 ![0, 1] bcast_S1x5376_S16384x5376_0_1 (broadcastInDim S1x5376 ![1] bcast_S5376_S1x5376_1 (shapeCast _ (extractStridedSlice S1x5376 ![3, 0] w slices_S4x5376_S1x5376_3_0) shapeCasts_S1x5376_S5376)))) = ConvIdeal.Algebra.G x buf w b := by
  funext i
  obtain ⟨r, k, rfl⟩ : ∃ (r : Fin 16384) (k : Fin 5376), i = ix2 r k := ⟨i 0, i 1, by funext a; match a with | 0 => rfl | 1 => rfl⟩
  pointwise [ConvIdeal.Algebra.G]
  simp only [inputRows_point, Nat.add_comm _ r.val]

end Cert.ConvReferenceIdeal.Algebra

namespace Cert

open Idealize.ShloMosaic Idealize.ShloMosaic.TcCoe Idealize.SL.Sem

/-- The tiled convolution and the plain one end with the same results on the extended reals. -/
theorem conv_algebraic : algebraic_ConvIdeal_ConvReferenceIdeal (hConvIdeal := Cert.ConvIdeal.Gen.facts)
    (hConvReferenceIdeal := Cert.ConvReferenceIdeal.Gen.facts) := by
  intro m ρ m' ρ' _ hag
  refine ⟨fun c => ConvIdeal.Algebra.G (m ((c.tc : Thread ConvIdeal.nD ConvIdeal.τ).loc ConvIdeal.main_arg0)) (m ((c.tc : Thread ConvIdeal.nD ConvIdeal.τ).loc ConvIdeal.main_arg1)) (m ((c.tc : Thread ConvIdeal.nD ConvIdeal.τ).loc ConvIdeal.main_arg2)) (m ((c.tc : Thread ConvIdeal.nD ConvIdeal.τ).loc ConvIdeal.main_arg3)), fun c => ConvIdeal.Algebra.G (m ((c.tc : Thread ConvIdeal.nD ConvIdeal.τ).loc ConvIdeal.main_arg0)) (m ((c.tc : Thread ConvIdeal.nD ConvIdeal.τ).loc ConvIdeal.main_arg1)) (m ((c.tc : Thread ConvIdeal.nD ConvIdeal.τ).loc ConvIdeal.main_arg2)) (m ((c.tc : Thread ConvIdeal.nD ConvIdeal.τ).loc ConvIdeal.main_arg3)), ?_, ?_⟩
  · refine (θ_run _ _ _).mono (fun r h c => ?_) (ConvIdeal.Value.run_blocks (F := Ideal) m ρ)
    exact ⟨(h c).1.trans (ConvIdeal.Algebra.final5 m c), (h c).2.1.trans (ConvIdeal.Algebra.final6 m c), (h c).2.2⟩
  · refine (θ_run _ _ _).mono (fun r h c => ⟨(h c).1.trans ?_, (h c).2.1.trans ?_, (h c).2.2⟩) (ConvReferenceIdeal.Value.run (F := Ideal) m' ρ')
    · rw [(hag c).1, (hag c).2.1, (hag c).2.2.1, (hag c).2.2.2]
      exact ConvReferenceIdeal.Algebra.value _ _ _ _
    · rw [(hag c).1, (hag c).2.1, (hag c).2.2.1, (hag c).2.2.2]
      exact ConvReferenceIdeal.Algebra.value _ _ _ _

end Cert

end
-- ==== Proof.GatesHost.lean ====
/-
  The gates' weights in front of the call: the block-diagonal matrix, and its tiles.
-/
module

public import proofs.«01_k».proof.Proof.Gen.GatesIdeal.Value
public import Idealize.ShloMosaic.Lib.Pipeline.ValueKit
public import Idealize.ShloMosaic.Lib.Pointwise

@[expose] public section

set_option maxRecDepth 16384
set_option maxHeartbeats 4000000

noncomputable section

namespace Cert.GatesIdeal.Algebra

open Cert.GatesIdeal Cert.GatesIdeal.Gen Idealize.ShloMosaic Idealize.ShloMosaic.TcCoe Idealize.SL.Sem

/-- The block-diagonal matrix of sixteen blocks: its entry at a row and a column. -/
def dense (w : FVec Ideal S16x336x336 .f32) (r k : Fin 5376) : EReal :=
  if r.val / 336 = k.val / 336 then w (ix3 ⟨r.val / 336, by omega⟩ ⟨r.val % 336, by omega⟩ ⟨k.val % 336, by omega⟩) else 0

/-- The first row of tile `j`. -/
def start (j : Nat) : Nat := min ((j * 256 / 336 * 336) / 128 * 128) 4480

/-- A window starts no further than row 4480. -/
theorem start_le (j : Nat) : start j ≤ 4480 := Nat.min_le_right _ _

/-- Block `q` of the weights in columns `lo` to `lo + 335`, zeros around it. -/
def blockOf (w : FVec Ideal S16x336x336 .f32) (q lo hi : Nat) (sl : S16x336x336.Slices ![q, 0, 0] S1x336x336)
    (pd : S336x336.Pads ![0, lo] ![0, hi] ![0, 0] S336x5376) : FVec Ideal S336x5376 .f32 :=
  pad S336x5376 ![0, lo] ![0, hi] ![0, 0] (shapeCast _ (extractStridedSlice S1x336x336 ![q, 0, 0] w sl) shapeCasts_S1x336x336_S336x336)
    (constant S_ .f32 0x00000000#32) pd h_S_

/-- The sixteen blocks, each padded to the whole width, one below the other. -/
def denseOf (w : FVec Ideal S16x336x336 .f32) : FVec Ideal S5376x5376 .f32 :=
  (concatenate S5376x5376 0 [
      ⟨S336x5376, blockOf w 0 0 5040 slices_S16x336x336_S1x336x336_0_0_0 pads_S336x336_S336x5376_000_050400⟩,
      ⟨S336x5376, blockOf w 1 336 4704 slices_S16x336x336_S1x336x336_1_0_0 pads_S336x336_S336x5376_000_33647040⟩,
      ⟨S336x5376, blockOf w 2 672 4368 slices_S16x336x336_S1x336x336_2_0_0 pads_S336x336_S336x5376_000_67243680⟩,
      ⟨S336x5376, blockOf w 3 1008 4032 slices_S16x336x336_S1x336x336_3_0_0 pads_S336x336_S336x5376_000_100840320⟩,
      ⟨S336x5376, blockOf w 4 1344 3696 slices_S16x336x336_S1x336x336_4_0_0 pads_S336x336_S336x5376_000_134436960⟩,
      ⟨S336x5376, blockOf w 5 1680 3360 slices_S16x336x336_S1x336x336_5_0_0 pads_S336x336_S336x5376_000_168033600⟩,
      ⟨S336x5376, blockOf w 6 2016 3024 slices_S16x336x336_S1x336x336_6_0_0 pads_S336x336_S336x5376_000_201630240⟩,
      ⟨S336x5376, blockOf w 7 2352 2688 slices_S16x336x336_S1x336x336_7_0_0 pads_S336x336_S336x5376_000_235226880⟩,
      ⟨S336x5376, blockOf w 8 2688 2352 slices_S16x336x336_S1x336x336_8_0_0 pads_S336x336_S336x5376_000_268823520⟩,
      ⟨S336x5376, blockOf w 9 3024 2016 slices_S16x336x336_S1x336x336_9_0_0 pads_S336x336_S336x5376_000_302420160⟩,
      ⟨S336x5376, blockOf w 10 3360 1680 slices_S16x336x336_S1x336x336_10_0_0 pads_S336x336_S336x5376_000_336016800⟩,
      ⟨S336x5376, blockOf w 11 3696 1344 slices_S16x336x336_S1x336x336_11_0_0 pads_S336x336_S336x5376_000_369613440⟩,
      ⟨S336x5376, blockOf w 12 4032 1008 slices_S16x336x336_S1x336x336_12_0_0 pads_S336x336_S336x5376_000_403210080⟩,
      ⟨S336x5376, blockOf w 13 4368 672 slices_S16x336x336_S1x336x336_13_0_0 pads_S336x336_S336x5376_000_43686720⟩,
      ⟨S336x5376, blockOf w 14 4704 336 slices_S16x336x336_S1x336x336_14_0_0 pads_S336x336_S336x5376_000_47043360⟩,
      ⟨S336x5376, blockOf w 15 5040 0 slices_S16x336x336_S1x336x336_15_0_0 pads_S336x336_S336x5376_000_504000⟩] concatenates_S336x5376_S336x5376_S336x5376_S336x5376_S336x5376_S336x5376_S336x5376_S336x5376_S336x5376_S336x5376_S336x5376_S336x5376_S336x5376_S336x5376_S336x5376_S336x5376_S5376x5376_d0)

/-- The first sixteen tiles, -/
def tiles16 (D : FVec Ideal S5376x5376 .f32) : FVec Ideal S16x896x256 .f32 :=
  (concatenate S16x896x256 0 [
      ⟨S1x896x256, (broadcastInDim S1x896x256 ![1, 2] bcast_S896x256_S1x896x256_1_2 (extractStridedSlice S896x256 ![0, 0] D slices_S5376x5376_S896x256_0_0))⟩,
      ⟨S1x896x256, (broadcastInDim S1x896x256 ![1, 2] bcast_S896x256_S1x896x256_1_2 (extractStridedSlice S896x256 ![0, 256] D slices_S5376x5376_S896x256_0_256))⟩,
      ⟨S1x896x256, (broadcastInDim S1x896x256 ![1, 2] bcast_S896x256_S1x896x256_1_2 (extractStridedSlice S896x256 ![256, 512] D slices_S5376x5376_S896x256_256_512))⟩,
      ⟨S1x896x256, (broadcastInDim S1x896x256 ![1, 2] bcast_S896x256_S1x896x256_1_2 (extractStridedSlice S896x256 ![640, 768] D slices_S5376x5376_S896x256_640_768))⟩,
      ⟨S1x896x256, (broadcastInDim S1x896x256 ![1, 2] bcast_S896x256_S1x896x256_1_2 (extractStridedSlice S896x256 ![896, 1024] D slices_S5376x5376_S896x256_896_1024))⟩,
      ⟨S1x896x256, (broadcastInDim S1x896x256 ![1, 2] bcast_S896x256_S1x896x256_1_2 (extractStridedSlice S896x256 ![896, 1280] D slices_S5376x5376_S896x256_896_1280))⟩,
      ⟨S1x896x256, (broadcastInDim S1x896x256 ![1, 2] bcast_S896x256_S1x896x256_1_2 (extractStridedSlice S896x256 ![1280, 1536] D slices_S5376x5376_S896x256_1280_1536))⟩,
      ⟨S1x896x256, (broadcastInDim S1x896x256 ![1, 2] bcast_S896x256_S1x896x256_1_2 (extractStridedSlice S896x256 ![1664, 1792] D slices_S5376x5376_S896x256_1664_1792))⟩,
      ⟨S1x896x256, (broadcastInDim S1x896x256 ![1, 2] bcast_S896x256_S1x896x256_1_2 (extractStridedSlice S896x256 ![1920, 2048] D slices_S5376x5376_S896x256_1920_2048))⟩,
      ⟨S1x896x256, (broadcastInDim S1x896x256 ![1, 2] bcast_S896x256_S1x896x256_1_2 (extractStridedSlice S896x256 ![1920, 2304] D slices_S5376x5376_S896x256_1920_2304))⟩,
      ⟨S1x896x256, (broadcastInDim S1x896x256 ![1, 2] bcast_S896x256_S1x896x256_1_2 (extractStridedSlice S896x256 ![2304, 2560] D slices_S5376x5376_S896x256_2304_2560))⟩,
      ⟨S1x896x256, (broadcastInDim S1x896x256 ![1, 2] bcast_S896x256_S1x896x256_1_2 (extractStridedSlice S896x256 ![2688, 2816] D slices_S5376x5376_S896x256_2688_2816))⟩,
      ⟨S1x896x256, (broadcastInDim S1x896x256 ![1, 2] bcast_S896x256_S1x896x256_1_2 (extractStridedSlice S896x256 ![2944, 3072] D slices_S5376x5376_S896x256_2944_3072))⟩,
      ⟨S1x896x256, (broadcastInDim S1x896x256 ![1, 2] bcast_S896x256_S1x896x256_1_2 (extractStridedSlice S896x256 ![2944, 3328] D slices_S5376x5376_S896x256_2944_3328))⟩,
      ⟨S1x896x256, (broadcastInDim S1x896x256 ![1, 2] bcast_S896x256_S1x896x256_1_2 (extractStridedSlice S896x256 ![3328, 3584] D slices_S5376x5376_S896x256_3328_3584))⟩,
      ⟨S1x896x256, (broadcastInDim S1x896x256 ![1, 2] bcast_S896x256_S1x896x256_1_2 (extractStridedSlice S896x256 ![3584, 3840] D slices_S5376x5376_S896x256_3584_3840))⟩] concatenates_S1x896x256_S1x896x256_S1x896x256_S1x896x256_S1x896x256_S1x896x256_S1x896x256_S1x896x256_S1x896x256_S1x896x256_S1x896x256_S1x896x256_S1x896x256_S1x896x256_S1x896x256_S1x896x256_S16x896x256_d0)

/-- and the last five. -/
def tiles5 (D : FVec Ideal S5376x5376 .f32) : FVec Ideal S5x896x256 .f32 :=
  (concatenate S5x896x256 0 [
      ⟨S1x896x256, (broadcastInDim S1x896x256 ![1, 2] bcast_S896x256_S1x896x256_1_2 (extractStridedSlice S896x256 ![3968, 4096] D slices_S5376x5376_S896x256_3968_4096))⟩,
      ⟨S1x896x256, (broadcastInDim S1x896x256 ![1, 2] bcast_S896x256_S1x896x256_1_2 (extractStridedSlice S896x256 ![3968, 4352] D slices_S5376x5376_S896x256_3968_4352))⟩,
      ⟨S1x896x256, (broadcastInDim S1x896x256 ![1, 2] bcast_S896x256_S1x896x256_1_2 (extractStridedSlice S896x256 ![4352, 4608] D slices_S5376x5376_S896x256_4352_4608))⟩,
      ⟨S1x896x256, (broadcastInDim S1x896x256 ![1, 2] bcast_S896x256_S1x896x256_1_2 (extractStridedSlice S896x256 ![4480, 4864] D slices_S5376x5376_S896x256_4480_4864))⟩,
      ⟨S1x896x256, (broadcastInDim S1x896x256 ![1, 2] bcast_S896x256_S1x896x256_1_2 (extractStridedSlice S896x256 ![4480, 5120] D slices_S5376x5376_S896x256_4480_5120))⟩] concatenates_S1x896x256_S1x896x256_S1x896x256_S1x896x256_S1x896x256_S5x896x256_d0)

/-- The twenty-one tiles of a matrix. -/
def tilesOf (D : FVec Ideal S5376x5376 .f32) : FVec Ideal S21x896x256 .bf16 :=
  truncf .bf16 (concatenate S21x896x256 0 [⟨S16x896x256, tiles16 D⟩, ⟨S5x896x256, tiles5 D⟩] concatenates_S16x896x256_S5x896x256_S21x896x256_d0) bitsLt_bf16_f32

/-- The first matrix's blocks, padded and stacked. -/
theorem ops_dense_a (B : Valuation τ sig (Elt Ideal)) :
    StableHlo.after hostOps0_1 (StableHlo.after hostOps0 B) (Proc.tc.devRef main_v32) = denseOf (B (Proc.tc.devRef main_arg2)) := by
  simp only [hostOps0, hostOps0_1]
  after_results_simp <;> rfl

/-- The first matrix's tiles. -/
theorem ops_tiles_a (B : Valuation τ sig (Elt Ideal)) :
    StableHlo.after hostOps0_2 B (Proc.tc.devRef main_v78) = tilesOf (B (Proc.tc.devRef main_v32)) := by
  simp only [hostOps0_2]
  after_results_simp <;> rfl

/-- The second matrix's blocks, padded and stacked. -/
theorem ops_dense_x (B : Valuation τ sig (Elt Ideal)) :
    StableHlo.after hostOps0_3 (StableHlo.after hostOps0_2 B) (Proc.tc.devRef main_v111) = denseOf (B (Proc.tc.devRef main_arg3)) := by
  simp only [hostOps0_2, hostOps0_3]
  after_results_simp <;> rfl

/-- The second matrix's tiles. -/
theorem ops_tiles_x (B : Valuation τ sig (Elt Ideal)) :
    StableHlo.after hostOps0_4 B (Proc.tc.devRef main_v157) = tilesOf (B (Proc.tc.devRef main_v111)) := by
  simp only [hostOps0_4]
  after_results_simp <;> rfl

end Cert.GatesIdeal.Algebra

end
-- ==== Proof.GatesTiles.lean ====
/-
  The entries of the gates' block-diagonal matrix and of its tiles.
-/
module

public import proofs.«01_k».proof.Proof.GatesHost

@[expose] public section

set_option maxRecDepth 16384
set_option maxHeartbeats 4000000

noncomputable section

namespace Cert.GatesIdeal.Algebra

open Cert.GatesIdeal Cert.GatesIdeal.Gen Idealize.ShloMosaic Idealize.ShloMosaic.TcCoe Idealize.SL.Sem

/-- The first sixteen tiles. -/
theorem tiles16_point (D : FVec Ideal S5376x5376 .f32) (j : Fin 16) (r : Fin 896) (k : Fin 256) :
    tiles16 D (ix3 j r k) = D (ix2 ⟨start j.val + r.val, by have := start_le j.val; omega⟩ ⟨j.val * 256 + k.val, by omega⟩) := by
  pointwise [tiles16]
  fin_cases j <;> simp [start]

/-- The last five tiles. -/
theorem tiles5_point (D : FVec Ideal S5376x5376 .f32) (j : Fin 5) (r : Fin 896) (k : Fin 256) :
    tiles5 D (ix3 j r k) = D (ix2 ⟨start (16 + j.val) + r.val, by have := start_le (16 + j.val); omega⟩ ⟨(16 + j.val) * 256 + k.val, by omega⟩) := by
  pointwise [tiles5]
  fin_cases j <;> simp [start]

/-- Tile `j` of a matrix holds its rows from `start j` on, in columns `256 j` to `256 j + 255`. -/
theorem tilesOf_point (D : FVec Ideal S5376x5376 .f32) (j : Fin 21) (r : Fin 896) (k : Fin 256) :
    tilesOf D (ix3 j r k) = D (ix2 ⟨start j.val + r.val, by have := start_le j.val; omega⟩ ⟨j.val * 256 + k.val, by omega⟩) := by
  pointwise [tilesOf]
  by_cases h : j.val < 16
  · rw [dif_pos h, tiles16_point]
  · rw [dif_neg h, tiles5_point]
    have e : 16 + (j.val - 16) = j.val := by omega
    simp only [e]

/-- Block `q` padded to the whole width: its entries stand from column `lo` on, and zeros everywhere else. -/
theorem blockOf_point (w : FVec Ideal S16x336x336 .f32) (q lo hi : Nat) (hq : q < 16) (sl : S16x336x336.Slices ![q, 0, 0] S1x336x336)
    (pd : S336x336.Pads ![0, lo] ![0, hi] ![0, 0] S336x5376) (r r' : Fin 336) (hr : r.val = r'.val) (k : Fin 5376) :
    blockOf w q lo hi sl pd (ix2 r k) = if h : lo ≤ k.val ∧ k.val - lo < 336 then w (ix3 ⟨q, hq⟩ r' ⟨k.val - lo, h.2⟩) else 0 := by
  obtain rfl : r = r' := Fin.ext hr
  pointwise [blockOf]

/-- One step into a stack of blocks: a position below 336 is in the first block, any other is 336 further down. -/
theorem stack_cons (x : FVec Ideal S336x5376 .f32) (p : (s : Shape) × (s.Idx → EReal)) (xs : List ((s : Shape) × (s.Idx → EReal)))
    (R k : Fin 5376) (hs : ∀ s' ∈ (⟨S336x5376, x⟩ :: p :: xs : List ((s : Shape) × (s.Idx → EReal))).map (·.1), s'.FitsOff S5376x5376 0) (c : Nat)
    (hc : c < (axisSizes S5376x5376 0 (⟨S336x5376, x⟩ :: p :: xs)).sum) :
    concatenateAt S5376x5376 0 (ix2 R k) (⟨S336x5376, x⟩ :: p :: xs) hs c hc
      = if hlt : c < 336 then x (ix2 ⟨c, hlt⟩ k)
        else concatenateAt S5376x5376 0 (ix2 R k) (p :: xs) (fun s' h => hs s' (List.mem_cons_of_mem _ h)) (c - 336)
          (by rw [axisSizes_cons _ _ _ _ (hs S336x5376 List.mem_cons_self), List.sum_cons] at hc
              change c < 336 + _ at hc
              omega) := by
  rw [concatenateAt_cons]
  have e : S336x5376.size ((0 : Fin S5376x5376.rank).cast (hs S336x5376 List.mem_cons_self).rank_eq.symm) = 336 := rfl
  by_cases h : c < 336
  · rw [dif_pos h]
    refine (dif_pos h).trans (congrArg x ?_)
    funext a
    match a with
    | 0 => rfl
    | 1 => rfl
  · rw [dif_neg h]
    exact dif_neg (c := c < S336x5376.size ((0 : Fin S5376x5376.rank).cast (hs S336x5376 List.mem_cons_self).rank_eq.symm)) h

/-- The last block of a stack. -/
theorem stack_last (x : FVec Ideal S336x5376 .f32) (R k : Fin 5376)
    (hs : ∀ s' ∈ ([⟨S336x5376, x⟩] : List ((s : Shape) × (s.Idx → EReal))).map (·.1), s'.FitsOff S5376x5376 0) (c : Nat)
    (hc : c < (axisSizes S5376x5376 0 [⟨S336x5376, x⟩]).sum) (h : c < 336) :
    concatenateAt S5376x5376 0 (ix2 R k) [⟨S336x5376, x⟩] hs c hc = x (ix2 ⟨c, h⟩ k) := by
  rw [concatenateAt_singleton]
  refine congrArg x ?_
  funext a
  match a with
  | 0 => rfl
  | 1 => rfl

/-- Row `336 q + r` of the stack is row `r` of block `q`. -/
theorem denseOf_row (w : FVec Ideal S16x336x336 .f32) (q : Fin 16) (r : Fin 336) (R k : Fin 5376) (hR : R.val = 336 * q.val + r.val) :
    denseOf w (ix2 R k)
      = if h : 336 * q.val ≤ k.val ∧ k.val - 336 * q.val < 336 then w (ix3 q r ⟨k.val - 336 * q.val, h.2⟩) else 0 := by
  have hr := r.isLt
  have e : ((ix2 R k : S5376x5376.Idx) 0).val = R.val := rfl
  unfold denseOf
  rw [concatenate_apply]
  fin_cases q
  · have hR' : R.val = 0 + r.val := hR
    rw [stack_cons, dif_pos (by omega)]
    exact blockOf_point w 0 _ _ (by omega) _ _ _ r (by show R.val = r.val; omega) k
  · have hR' : R.val = 336 + r.val := hR
    rw [stack_cons, dif_neg (by omega)]
    rw [stack_cons, dif_pos (by omega)]
    exact blockOf_point w 1 _ _ (by omega) _ _ _ r (by show R.val - 336 = r.val; omega) k
  · have hR' : R.val = 672 + r.val := hR
    rw [stack_cons, dif_neg (by omega)]
    rw [stack_cons, dif_neg (by omega)]
    rw [stack_cons, dif_pos (by omega)]
    exact blockOf_point w 2 _ _ (by omega) _ _ _ r (by show R.val - 336 - 336 = r.val; omega) k
  · have hR' : R.val = 1008 + r.val := hR
    rw [stack_cons, dif_neg (by omega)]
    rw [stack_cons, dif_neg (by omega)]
    rw [stack_cons, dif_neg (by omega)]
    rw [stack_cons, dif_pos (by omega)]
    exact blockOf_point w 3 _ _ (by omega) _ _ _ r (by show R.val - 336 - 336 - 336 = r.val; omega) k
  · have hR' : R.val = 1344 + r.val := hR
    rw [stack_cons, dif_neg (by omega)]
    rw [stack_cons, dif_neg (by omega)]
    rw [stack_cons, dif_neg (by omega)]
    rw [stack_cons, dif_neg (by omega)]
    rw [stack_cons, dif_pos (by omega)]
    exact blockOf_point w 4 _ _ (by omega) _ _ _ r (by show R.val - 336 - 336 - 336 - 336 = r.val; omega) k
  · have hR' : R.val = 1680 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 5 _ _ (by omega) _ _ _ r (by show R.val - 336 - 336 - 336 - 336 - 336 = r.val; omega) k
  · have hR' : R.val = 2016 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 6 _ _ (by omega) _ _ _ r (by show R.val - 336 - 336 - 336 - 336 - 336 - 336 = r.val; omega) k
  · have hR' : R.val = 2352 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 7 _ _ (by omega) _ _ _ r (by show R.val - 336 - 336 - 336 - 336 - 336 - 336 - 336 = r.val; omega) k
  · have hR' : R.val = 2688 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 8 _ _ (by omega) _ _ _ r (by show R.val - 336 - 336 - 336 - 336 - 336 - 336 - 336 - 336 = r.val; omega) k
  · have hR' : R.val = 3024 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 9 _ _ (by omega) _ _ _ r (by show R.val - 336 - 336 - 336 - 336 - 336 - 336 - 336 - 336 - 336 = r.val; omega) k
  · have hR' : R.val = 3360 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 10 _ _ (by omega) _ _ _ r (by show R.val - 336 - 336 - 336 - 336 - 336 - 336 - 336 - 336 - 336 - 336 = r.val; omega) k
  · have hR' : R.val = 3696 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 11 _ _ (by omega) _ _ _ r (by show R.val - 336 - 336 - 336 - 336 - 336 - 336 - 336 - 336 - 336 - 336 - 336 = r.val; omega) k
  · have hR' : R.val = 4032 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 12 _ _ (by omega) _ _ _ r (by show R.val - 336 - 336 - 336 - 336 - 336 - 336 - 336 - 336 - 336 - 336 - 336 - 336 = r.val; omega) k
  · have hR' : R.val = 4368 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 13 _ _ (by omega) _ _ _ r (by show R.val - 336 - 336 - 336 - 336 - 336 - 336 - 336 - 336 - 336 - 336 - 336 - 336 - 336 = r.val; omega) k
  · have hR' : R.val = 4704 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_pos (by omega)]
    exact blockOf_point w 14 _ _ (by omega) _ _ _ r (by show R.val - 336 - 336 - 336 - 336 - 336 - 336 - 336 - 336 - 336 - 336 - 336 - 336 - 336 - 336 = r.val; omega) k
  · have hR' : R.val = 5040 + r.val := hR
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_cons, dif_neg (by omega)]
    rw [stack_last _ _ _ _ _ _ (by omega)]
    exact blockOf_point w 15 _ _ (by omega) _ _ _ r (by show R.val - 336 - 336 - 336 - 336 - 336 - 336 - 336 - 336 - 336 - 336 - 336 - 336 - 336 - 336 - 336 = r.val; omega) k

/-- The stack of padded blocks is the block-diagonal matrix. -/
theorem denseOf_point (w : FVec Ideal S16x336x336 .f32) (r k : Fin 5376) : denseOf w (ix2 r k) = dense w r k := by
  have hr := r.isLt
  have hk := k.isLt
  rw [denseOf_row w ⟨r.val / 336, by omega⟩ ⟨r.val % 336, by omega⟩ r k (by show r.val = 336 * (r.val / 336) + r.val % 336; omega), dense]
  by_cases h : r.val / 336 = k.val / 336
  · rw [if_pos h, dif_pos (by dsimp only; omega)]
    congr 2
    apply Fin.ext
    show k.val - 336 * (r.val / 336) = k.val % 336
    omega
  · rw [if_neg h, dif_neg (by dsimp only; omega)]

end Cert.GatesIdeal.Algebra

end
-- ==== Proof.GatesBlocks.lean ====
/-
  What the gates' call finds in front of it: the tiles of the two matrices and the three rows.
-/
module

public import proofs.«01_k».proof.Proof.GatesTiles
public import proofs.«01_k».proof.Proof.Gen.GatesIdeal.Value
public import Idealize.ShloMosaic.Lib.Pipeline.ValueKit

@[expose] public section

set_option maxRecDepth 16384
set_option maxHeartbeats 4000000

noncomputable section

namespace Cert.GatesIdeal.Algebra

open Cert.GatesIdeal Cert.GatesIdeal.Gen Idealize.ShloMosaic Idealize.ShloMosaic.TcCoe Idealize.SL.Sem

/-- Two lists of host operations one after the other. -/
theorem after_join (l₁ l₂ : List (HloOp τ sig (Elt Ideal))) : ∀ B : Valuation τ sig (Elt Ideal),
    StableHlo.after (l₁ ++ l₂) B = StableHlo.after l₂ (StableHlo.after l₁ B) := by
  induction l₁ with
  | nil => exact fun _ => rfl
  | cons o l ih => exact fun B => ih _

/-- The five lists in front of the call, one after the other. -/
theorem after_split (B : Valuation τ sig (Elt Ideal)) :
    StableHlo.after (List.flatten [hostOps0, hostOps0_1, hostOps0_2, hostOps0_3, hostOps0_4]) B
      = StableHlo.after hostOps0_4 (StableHlo.after hostOps0_3 (StableHlo.after hostOps0_2 (StableHlo.after hostOps0_1 (StableHlo.after hostOps0 B)))) := by
  simp only [List.flatten_cons, List.flatten_nil, List.append_nil, after_join]

/-- What the lists leave as it was. -/
theorem kept0_main_arg3 (B : Valuation τ sig (Elt Ideal)) : StableHlo.after hostOps0 B (Proc.tc.devRef main_arg3) = B (Proc.tc.devRef main_arg3) := by
  simp only [hostOps0]
  after_results_simp

theorem kept1_main_arg3 (B : Valuation τ sig (Elt Ideal)) : StableHlo.after hostOps0_1 B (Proc.tc.devRef main_arg3) = B (Proc.tc.devRef main_arg3) := by
  simp only [hostOps0_1]
  after_results_simp

theorem kept3_main_v78 (B : Valuation τ sig (Elt Ideal)) : StableHlo.after hostOps0_3 B (Proc.tc.devRef main_v78) = B (Proc.tc.devRef main_v78) := by
  simp only [hostOps0_3]
  after_results_simp

theorem kept4_main_v78 (B : Valuation τ sig (Elt Ideal)) : StableHlo.after hostOps0_4 B (Proc.tc.devRef main_v78) = B (Proc.tc.devRef main_v78) := by
  simp only [hostOps0_4]
  after_results_simp

variable (m : (ℓ : Loc nD τ sig) → Buf (Elt Ideal) ℓ) (ρ : Dev nD → PrngReg)

/-- The call's first weight is the tiles of the first block-diagonal matrix, -/
theorem host_wa (c : Dev nD) : V m c main_v78 = tilesOf (denseOf (m ((c : Thread nD τ).loc main_arg2))) := by
  show StableHlo.after (List.flatten [hostOps0, hostOps0_1, hostOps0_2, hostOps0_3, hostOps0_4]) (fun b => m (c, b)) (Proc.tc.devRef main_v78) = _
  rw [after_split, kept4_main_v78, kept3_main_v78, ops_tiles_a, ops_dense_a]

/-- and its second those of the second. -/
theorem host_wx (c : Dev nD) : V m c main_v157 = tilesOf (denseOf (m ((c : Thread nD τ).loc main_arg3))) := by
  show StableHlo.after (List.flatten [hostOps0, hostOps0_1, hostOps0_2, hostOps0_3, hostOps0_4]) (fun b => m (c, b)) (Proc.tc.devRef main_v157) = _
  rw [after_split, ops_tiles_x, ops_dense_x, kept1_main_arg3, kept0_main_arg3]

/-- The first bias as one row, -/
theorem host_main_arg4 (c : Dev nD) (k : Fin 5376) : V m c main_v158 (ix2 0 k) = (show EReal from m ((c : Thread nD τ).loc main_arg4) (ix1 k)) := by
  show StableHlo.after (List.flatten [hostOps0, hostOps0_1, hostOps0_2, hostOps0_3, hostOps0_4]) (fun b => m (c, b)) (Proc.tc.devRef main_v158) _ = _
  rw [after_split]
  simp only [hostOps0_4]
  after_results_simp
  pointwise

/-- the second, -/
theorem host_main_arg5 (c : Dev nD) (k : Fin 5376) : V m c main_v159 (ix2 0 k) = (show EReal from m ((c : Thread nD τ).loc main_arg5) (ix1 k)) := by
  show StableHlo.after (List.flatten [hostOps0, hostOps0_1, hostOps0_2, hostOps0_3, hostOps0_4]) (fun b => m (c, b)) (Proc.tc.devRef main_v159) _ = _
  rw [after_split]
  simp only [hostOps0_4]
  after_results_simp
  pointwise

/-- and the decay. -/
theorem host_main_arg6 (c : Dev nD) (k : Fin 5376) : V m c main_v160 (ix2 0 k) = (show EReal from m ((c : Thread nD τ).loc main_arg6) (ix1 k)) := by
  show StableHlo.after (List.flatten [hostOps0, hostOps0_1, hostOps0_2, hostOps0_3, hostOps0_4]) (fun b => m (c, b)) (Proc.tc.devRef main_v160) _ = _
  rw [after_split]
  simp only [hostOps0_4]
  after_results_simp
  pointwise

/-- Which block each array's window is on: step `t` works on rows' block `t / 21` and columns' block `t % 21`. -/
theorem idx0 : ∀ t : Fin cfg0.N, win0_0.index t = ![t.val / 21, 0] := (by decide +kernel : ∀ t : Fin grid0.N, _)
theorem idx1 : ∀ t : Fin cfg0.N, win0_1.index t = ![t.val % 21, 0, 0] := (by decide +kernel : ∀ t : Fin grid0.N, _)
theorem idx2 : ∀ t : Fin cfg0.N, win0_2.index t = ![t.val % 21, 0, 0] := (by decide +kernel : ∀ t : Fin grid0.N, _)
theorem idx3 : ∀ t : Fin cfg0.N, win0_3.index t = ![t.val / 21, t.val % 21] := (by decide +kernel : ∀ t : Fin grid0.N, _)
theorem idx4 : ∀ t : Fin cfg0.N, win0_4.index t = ![0, t.val % 21] := (by decide +kernel : ∀ t : Fin grid0.N, _)
theorem idx5 : ∀ t : Fin cfg0.N, win0_5.index t = ![0, t.val % 21] := (by decide +kernel : ∀ t : Fin grid0.N, _)
theorem idx6 : ∀ t : Fin cfg0.N, win0_6.index t = ![0, t.val % 21] := (by decide +kernel : ∀ t : Fin grid0.N, _)
theorem idx7 : ∀ t : Fin cfg0.N, win0_7.index t = ![t.val / 21, t.val % 21] := (by decide +kernel : ∀ t : Fin grid0.N, _)
theorem idx8 : ∀ t : Fin cfg0.N, win0_8.index t = ![t.val / 21, t.val % 21] := (by decide +kernel : ∀ t : Fin grid0.N, _)
theorem ltN (t : Fin cfg0.N) : t.val < 336 := t.isLt

/-- Where a step's four loads of the input start. -/
theorem off1 : ∀ t : Fin cfg0.N, k0_off1 (grid0.coords t) = ![0, start (t.val % 21)] := (by decide +kernel : ∀ t : Fin grid0.N, _)
theorem off2 : ∀ t : Fin cfg0.N, k0_off2 (grid0.coords t) = ![256, start (t.val % 21)] := (by decide +kernel : ∀ t : Fin grid0.N, _)
theorem off3 : ∀ t : Fin cfg0.N, k0_off3 (grid0.coords t) = ![512, start (t.val % 21)] := (by decide +kernel : ∀ t : Fin grid0.N, _)
theorem off4 : ∀ t : Fin cfg0.N, k0_off4 (grid0.coords t) = ![768, start (t.val % 21)] := (by decide +kernel : ∀ t : Fin grid0.N, _)

/-- A step's block of the input, -/
theorem blk_x (c : Dev nD) (t : Fin cfg0.N) (r : Fin 1024) (k : Fin 5376) : iblk m c 0 t (ix2 r k)
    = (show EReal from m ((c : Thread nD τ).loc main_arg0) (ix2 ⟨t.val / 21 * 1024 + r.val, by have := ltN t; omega⟩ k)) := by
  blk_point [iblk, idx0, V_main_arg0]

/-- of the convolution, -/
theorem blk_xc (c : Dev nD) (t : Fin cfg0.N) (r : Fin 1024) (k : Fin 256) : iblk m c 3 t (ix2 r k)
    = (show EReal from m ((c : Thread nD τ).loc main_arg1) (ix2 ⟨t.val / 21 * 1024 + r.val, by have := ltN t; omega⟩ ⟨t.val % 21 * 256 + k.val, by omega⟩)) := by
  blk_point [iblk, idx3, V_main_arg1]

/-- of the first bias, -/
theorem blk_ba (c : Dev nD) (t : Fin cfg0.N) (k : Fin 256) : iblk m c 4 t (ix2 0 k)
    = (show EReal from m ((c : Thread nD τ).loc main_arg4) (ix1 ⟨t.val % 21 * 256 + k.val, by omega⟩)) := by
  refine Eq.trans ?_ (host_main_arg4 m c _)
  blk_point [iblk, idx4]

/-- of the second bias, -/
theorem blk_bx (c : Dev nD) (t : Fin cfg0.N) (k : Fin 256) : iblk m c 5 t (ix2 0 k)
    = (show EReal from m ((c : Thread nD τ).loc main_arg5) (ix1 ⟨t.val % 21 * 256 + k.val, by omega⟩)) := by
  refine Eq.trans ?_ (host_main_arg5 m c _)
  blk_point [iblk, idx5]

/-- of the decay, -/
theorem blk_lam (c : Dev nD) (t : Fin cfg0.N) (k : Fin 256) : iblk m c 6 t (ix2 0 k)
    = (show EReal from m ((c : Thread nD τ).loc main_arg6) (ix1 ⟨t.val % 21 * 256 + k.val, by omega⟩)) := by
  refine Eq.trans ?_ (host_main_arg6 m c _)
  blk_point [iblk, idx6]

/-- of the first matrix, -/
theorem blk_wa (c : Dev nD) (t : Fin cfg0.N) (r : Fin 896) (k : Fin 256) : iblk m c 1 t (ix3 0 r k)
    = dense (m ((c : Thread nD τ).loc main_arg2)) ⟨start (t.val % 21) + r.val, by have := start_le (t.val % 21); omega⟩ ⟨t.val % 21 * 256 + k.val, by omega⟩ := by
  rw [← denseOf_point]
  refine Eq.trans ?_ (tilesOf_point _ ⟨t.val % 21, by omega⟩ r k)
  rw [← host_wa m c]
  blk_point [iblk, idx1]

/-- and of the second matrix. -/
theorem blk_wx (c : Dev nD) (t : Fin cfg0.N) (r : Fin 896) (k : Fin 256) : iblk m c 2 t (ix3 0 r k)
    = dense (m ((c : Thread nD τ).loc main_arg3)) ⟨start (t.val % 21) + r.val, by have := start_le (t.val % 21); omega⟩ ⟨t.val % 21 * 256 + k.val, by omega⟩ := by
  rw [← denseOf_point]
  refine Eq.trans ?_ (tilesOf_point _ ⟨t.val % 21, by omega⟩ r k)
  rw [← host_wx m c]
  blk_point [iblk, idx2]

end Cert.GatesIdeal.Algebra

end
-- ==== Proof.GatesSum.lean ====
/-
  The gates as functions of the arguments, and the sum over one window of the block-diagonal matrix.
-/
module

public import proofs.«01_k».proof.Proof.GatesHost
public import Idealize.ShloMosaic.Lib.Pointwise

@[expose] public section

set_option maxRecDepth 16384

noncomputable section

namespace Cert.GatesIdeal.Algebra

open Cert.GatesIdeal Cert.GatesIdeal.Gen Idealize.ShloMosaic Idealize.ShloMosaic.TcCoe Idealize.SL.Sem

/-- The product of a row with column `k` of its block: the block of column `k` takes the 336 entries of the row that it stands on. -/
def part (x : FVec Ideal S16384x5376 .bf16) (w : FVec Ideal S16x336x336 .f32) (r : Fin 16384) (k : Fin 5376) : EReal :=
  ∑ i : Fin 336, x (ix2 r ⟨k.val / 336 * 336 + i.val, by omega⟩) * w (ix3 ⟨k.val / 336, by omega⟩ i ⟨k.val % 336, by omega⟩)

/-- A gate: the logistic function of the product and a bias. -/
def gate (x : FVec Ideal S16384x5376 .bf16) (w : FVec Ideal S16x336x336 .f32) (b : FVec Ideal S5376 .f32) (r : Fin 16384) (k : Fin 5376) : EReal :=
  Ideal.logistic (part x w r k + b (ix1 k))

/-- The softplus of `-l`. -/
def rate (l : EReal) : EReal := max (0 - l) 0 + Ideal.log1p (Ideal.exp (0 - FloatOps.absf (F := Ideal) (φ := .f32) (0 - l)))

/-- The logarithm of the recurrence's factor: minus eight times the gate times the softplus. -/
def logA (x : FVec Ideal S16384x5376 .bf16) (w : FVec Ideal S16x336x336 .f32) (b l : FVec Ideal S5376 .f32) (r : Fin 16384) (k : Fin 5376) : EReal :=
  Ideal.ofBits .f32 0xC1000000#32 * gate x w b r k * rate (l (ix1 k))

/-- The recurrence's factor. -/
def factor (x : FVec Ideal S16384x5376 .bf16) (w : FVec Ideal S16x336x336 .f32) (b l : FVec Ideal S5376 .f32) : FVec Ideal S16384x5376 .f32 :=
  fun i => Ideal.exp (logA x w b l (i 0) (i 1))

/-- The recurrence's input: the gated convolution, times the square root of one minus the factor's square. -/
def input (x : FVec Ideal S16384x5376 .bf16) (xc : FVec Ideal S16384x5376 .f32) (wa wx : FVec Ideal S16x336x336 .f32) (ba bx l : FVec Ideal S5376 .f32) :
    FVec Ideal S16384x5376 .f32 :=
  fun i => Ideal.sqrt (1 - Ideal.exp (logA x wa ba l (i 0) (i 1)) * Ideal.exp (logA x wa ba l (i 0) (i 1))) * (gate x wx bx (i 0) (i 1) * xc (ix2 (i 0) (i 1)))

/-- The window of tile `j` holds the whole block of each of the tile's columns. -/
theorem window_fits : ∀ (j : Fin 21) (k : Fin 256), start j.val ≤ (j.val * 256 + k.val) / 336 * 336 ∧ (j.val * 256 + k.val) / 336 * 336 + 336 ≤ start j.val + 896 := by
  decide +kernel

/-- The sum over the window is the sum over the block, the matrix being zero elsewhere in the column. -/
theorem window_sum (x : FVec Ideal S16384x5376 .bf16) (w : FVec Ideal S16x336x336 .f32) (r : Fin 16384) (j : Fin 21) (k : Fin 256) :
    (∑ i : Fin 896, x (ix2 r ⟨start j.val + i.val, by have := start_le j.val; omega⟩)
        * dense w ⟨start j.val + i.val, by have := start_le j.val; omega⟩ ⟨j.val * 256 + k.val, by omega⟩)
      = part x w r ⟨j.val * 256 + k.val, by omega⟩ := by
  have hs := start_le j.val
  obtain ⟨h1, h2⟩ := window_fits j k
  have hk := k.isLt
  symm
  unfold part
  refine Fintype.sum_of_injective
    (fun i : Fin 336 => (⟨(j.val * 256 + k.val) / 336 * 336 + i.val - start j.val, by omega⟩ : Fin 896)) ?_ _ _ ?_ ?_
  · intro a b e
    have e' := congrArg Fin.val e
    simp only at e'
    exact Fin.ext (by omega)
  · intro i hi
    have hne : ¬ (start j.val + i.val) / 336 = (j.val * 256 + k.val) / 336 := fun e => hi
      ⟨⟨start j.val + i.val - (j.val * 256 + k.val) / 336 * 336, by omega⟩, Fin.ext (by dsimp only; omega)⟩
    rw [dense, if_neg hne, mul_zero]
  · intro i
    have hi := i.isLt
    dsimp only
    have e : start j.val + ((j.val * 256 + k.val) / 336 * 336 + i.val - start j.val) = (j.val * 256 + k.val) / 336 * 336 + i.val := by omega
    have e1 : ((j.val * 256 + k.val) / 336 * 336 + i.val) / 336 = (j.val * 256 + k.val) / 336 := by omega
    have e2 : ((j.val * 256 + k.val) / 336 * 336 + i.val) % 336 = i.val := by omega
    simp only [dense, e, e1, e2, if_true]

/-- One minus the square of an exponential is minus the exponential of the double, less one; at the infinities too. -/
theorem one_sub_sq (y : EReal) : 1 - Ideal.exp y * Ideal.exp y = -(Ideal.exp (Ideal.ofBits .f32 0x40000000#32 * y) - 1) := by
  have h2 : Ideal.ofBits .f32 0x40000000#32 = ((2 : ℝ) : EReal) := by
    simp [Ideal.ofBits, Ideal.ieee]
    rw [← EReal.coe_mul]
    norm_num
  rw [h2]
  induction y using EReal.rec with
  | bot =>
    rw [EReal.coe_mul_bot_of_pos (by norm_num), show Ideal.exp ⊥ = 0 from rfl]
    simp
  | top =>
    rw [EReal.coe_mul_top_of_pos (by norm_num), show Ideal.exp ⊤ = ⊤ from rfl, EReal.top_mul_top]
    rfl
  | coe y =>
    have e : Ideal.exp (((2 : ℝ) : EReal) * (y : EReal)) = ((Real.exp y * Real.exp y : ℝ) : EReal) := by
      rw [← EReal.coe_mul, ← Real.exp_add, two_mul]
      rfl
    rw [e]
    show (1 : EReal) - ((Real.exp y : ℝ) : EReal) * ((Real.exp y : ℝ) : EReal) = _
    norm_cast
    ring_nf

end Cert.GatesIdeal.Algebra

end
-- ==== Proof.GatesRef.lean ====
/-
  The value of the plain gates of the recurrence.
-/
module

public import proofs.«01_k».proof.Proof.GatesSum
public import proofs.«01_k».proof.Proof.Gen.GatesReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384
set_option maxHeartbeats 2000000

noncomputable section

namespace Cert.GatesReferenceIdeal.Algebra

open Cert.GatesReferenceIdeal Cert.GatesReferenceIdeal.Gen Idealize.ShloMosaic Idealize.ShloMosaic.TcCoe Idealize.SL.Sem

/-- A gate: the logistic function of the blocks' products and the bias. -/
def gate (x : FVec Ideal S16384x5376 .bf16) (w : FVec Ideal S16x336x336 .f32) (b : FVec Ideal S5376 .f32) : FVec Ideal S16384x5376 .f32 :=
  (Host.divf (broadcastInDim S16384x5376 ![] bcast_S_S16384x5376 (constant S_ .f32 0x3F800000#32)) (addf (broadcastInDim S16384x5376 ![] bcast_S_S16384x5376 (constant S_ .f32 0x3F800000#32)) (Host.exp (Host.negf (addf (shapeCast _ (transpose S16384x16x336 [2, 0, 1] (Host.dotGeneral dot_S16x336x336_S16384x16x336_S16x336x16384_1_2_2_0_0_1 none w (shapeCast _ (extf .f32 x bitsLt_bf16_f32) shapeCasts_S16384x5376_S16384x16x336)) transposes_S16x336x16384_S16384x16x336_2_0_1) shapeCasts_S16384x16x336_S16384x5376) (broadcastInDim S16384x5376 ![0, 1] bcast_S1x5376_S16384x5376_0_1 (broadcastInDim S1x5376 ![1] bcast_S5376_S1x5376_1 b)))))))

/-- The logarithm of the recurrence's factor at a full gate. -/
def rate (l : FVec Ideal S5376 .f32) : FVec Ideal S5376 .f32 :=
  (select (cmpf .une (subf (Host.negf l) (broadcastInDim S5376 ![] bcast_S_S5376 (constant S_ .f32 0x00000000#32))) (subf (Host.negf l) (broadcastInDim S5376 ![] bcast_S_S5376 (constant S_ .f32 0x00000000#32)))) (addf (Host.negf l) (broadcastInDim S5376 ![] bcast_S_S5376 (constant S_ .f32 0x00000000#32))) (addf (maximumf (Host.negf l) (broadcastInDim S5376 ![] bcast_S_S5376 (constant S_ .f32 0x00000000#32))) (Host.log1p (Host.exp (Host.negf (Host.absf (subf (Host.negf l) (broadcastInDim S5376 ![] bcast_S_S5376 (constant S_ .f32 0x00000000#32)))))))))

/-- The logarithm of the recurrence's factor. -/
def logA (g : FVec Ideal S16384x5376 .f32) (l : FVec Ideal S5376 .f32) : FVec Ideal S16384x5376 .f32 :=
  (mulf (mulf (broadcastInDim S16384x5376 ![] bcast_S_S16384x5376 (constant S_ .f32 0xC1000000#32)) g) (broadcastInDim S16384x5376 ![0, 1] bcast_S1x5376_S16384x5376_0_1 (broadcastInDim S1x5376 ![1] bcast_S5376_S1x5376_1 (rate l))))

/-- The plain gate is the gate, -/
theorem gate_point (x : FVec Ideal S16384x5376 .bf16) (w : FVec Ideal S16x336x336 .f32) (b : FVec Ideal S5376 .f32) (r : Fin 16384) (k : Fin 5376) :
    gate x w b (ix2 r k) = GatesIdeal.Algebra.gate x w b r k := by
  pointwise [gate]
  simp only [mul_comm (w _)]
  rfl

/-- the plain softplus the softplus, -/
theorem rate_point (l : FVec Ideal S5376 .f32) (k : Fin 5376) : rate l (ix1 k) = GatesIdeal.Algebra.rate (l (ix1 k)) := by
  pointwise [rate]
  rw [if_neg (fun h => h rfl), GatesIdeal.Algebra.rate, zero_sub, zero_sub]

/-- and so with the logarithm of the factor. -/
theorem logA_point (x : FVec Ideal S16384x5376 .bf16) (w : FVec Ideal S16x336x336 .f32) (b l : FVec Ideal S5376 .f32) (r : Fin 16384) (k : Fin 5376) :
    logA (gate x w b) l (ix2 r k) = GatesIdeal.Algebra.logA x w b l r k := by
  pointwise [logA]
  rw [gate_point, rate_point]
  rfl

/-- The plain factor is the factor. -/
theorem value_a (x : FVec Ideal S16384x5376 .bf16) (w : FVec Ideal S16x336x336 .f32) (b l : FVec Ideal S5376 .f32) :
    Host.exp (logA (gate x w b) l) = GatesIdeal.Algebra.factor x w b l := by
  funext i
  obtain ⟨r, k, rfl⟩ : ∃ (r : Fin 16384) (k : Fin 5376), i = ix2 r k := ⟨i 0, i 1, by funext a; match a with | 0 => rfl | 1 => rfl⟩
  pointwise
  rw [logA_point]
  rfl

/-- The plain input is the input. -/
theorem value_u (x : FVec Ideal S16384x5376 .bf16) (xc : FVec Ideal S16384x5376 .f32) (wa wx : FVec Ideal S16x336x336 .f32) (ba bx l : FVec Ideal S5376 .f32) :
    mulf (Host.sqrt (Host.negf (Host.expm1 (mulf (broadcastInDim S16384x5376 ![] bcast_S_S16384x5376 (constant S_ .f32 0x40000000#32)) (logA (gate x wa ba) l))))) (mulf (gate x wx bx) xc)
      = GatesIdeal.Algebra.input x xc wa wx ba bx l := by
  funext i
  obtain ⟨r, k, rfl⟩ : ∃ (r : Fin 16384) (k : Fin 5376), i = ix2 r k := ⟨i 0, i 1, by funext a; match a with | 0 => rfl | 1 => rfl⟩
  pointwise
  rw [logA_point, gate_point, ← GatesIdeal.Algebra.one_sub_sq]
  rfl

end Cert.GatesReferenceIdeal.Algebra

end
-- ==== Proof.Gates.lean ====
/-
  The value of the gates of the recurrence, block by block.
-/
module

public import proofs.«01_k».proof.Proof.GatesBlocks
public import proofs.«01_k».proof.Proof.GatesSum
public import proofs.«01_k».proof.Proof.GatesRef
public import proofs.«01_k».proof.Defs
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.GatesIdeal.Algebra

open Cert.GatesIdeal Cert.GatesIdeal.Gen Idealize.ShloMosaic Idealize.ShloMosaic.TcCoe Idealize.SL.Sem

/-- Four stores of 256 rows each read back as the block whose rows they hold. -/
theorem canon_four (T : FVec Ideal S1024x256 .f32) (P0 P1 P2 P3 : FVec Ideal S256x256 .f32)
    (h0 : ∀ r k : Fin 256, P0 (ix2 r k) = T (ix2 ⟨0 + r.val, by omega⟩ k))
    (h1 : ∀ r k : Fin 256, P1 (ix2 r k) = T (ix2 ⟨256 + r.val, by omega⟩ k))
    (h2 : ∀ r k : Fin 256, P2 (ix2 r k) = T (ix2 ⟨512 + r.val, by omega⟩ k))
    (h3 : ∀ r k : Fin 256, P3 (ix2 r k) = T (ix2 ⟨768 + r.val, by omega⟩ k))
    (y : S1024x256.Idx) :
    View.canon ([
        ⟨Rect.unit ![768, 0] ![256, 256] inb_S1024x256_S256x256_768_0, P3⟩,
        ⟨Rect.unit ![512, 0] ![256, 256] inb_S1024x256_S256x256_512_0, P2⟩,
        ⟨Rect.unit ![256, 0] ![256, 256] inb_S1024x256_S256x256_256_0, P1⟩,
        ⟨Rect.unit ![0, 0] ![256, 256] inb_S1024x256_S256x256_0_0, P0⟩] : List (View.Piece (Elt Ideal) S1024x256 .f32)) y = T y := by
  obtain ⟨R, K, rfl⟩ : ∃ (r : Fin 1024) (k : Fin 256), y = ix2 r k := ⟨y 0, y 1, by funext a; match a with | 0 => rfl | 1 => rfl⟩
  have hR := R.isLt
  have hK := K.isLt
  have e := View.canon_append_of_piecesOf T []
    ([
        ⟨Rect.unit ![768, 0] ![256, 256] inb_S1024x256_S256x256_768_0, P3⟩,
        ⟨Rect.unit ![512, 0] ![256, 256] inb_S1024x256_S256x256_512_0, P2⟩,
        ⟨Rect.unit ![256, 0] ![256, 256] inb_S1024x256_S256x256_256_0, P1⟩,
        ⟨Rect.unit ![0, 0] ![256, 256] inb_S1024x256_S256x256_0_0, P0⟩] : List (View.Piece (Elt Ideal) S1024x256 .f32))
    ⟨fun x => ?_, fun x => ?_, fun x => ?_, fun x => ?_, trivial⟩ (ix2 R K) ?_
  · rw [List.append_nil] at e
    exact e
  · obtain ⟨r, k, rfl⟩ : ∃ (r : Fin 256) (k : Fin 256), x = ix2 r k := ⟨x 0, x 1, by funext a; match a with | 0 => rfl | 1 => rfl⟩
    rw [show (Rect.unit (s := S1024x256) ![768, 0] ![256, 256] inb_S1024x256_S256x256_768_0).emb (ix2 r k) = ix2 (⟨768 + r.val, by omega⟩ : Fin 1024) (k : Fin 256) by blk_ext]
    exact h3 r k
  · obtain ⟨r, k, rfl⟩ : ∃ (r : Fin 256) (k : Fin 256), x = ix2 r k := ⟨x 0, x 1, by funext a; match a with | 0 => rfl | 1 => rfl⟩
    rw [show (Rect.unit (s := S1024x256) ![512, 0] ![256, 256] inb_S1024x256_S256x256_512_0).emb (ix2 r k) = ix2 (⟨512 + r.val, by omega⟩ : Fin 1024) (k : Fin 256) by blk_ext]
    exact h2 r k
  · obtain ⟨r, k, rfl⟩ : ∃ (r : Fin 256) (k : Fin 256), x = ix2 r k := ⟨x 0, x 1, by funext a; match a with | 0 => rfl | 1 => rfl⟩
    rw [show (Rect.unit (s := S1024x256) ![256, 0] ![256, 256] inb_S1024x256_S256x256_256_0).emb (ix2 r k) = ix2 (⟨256 + r.val, by omega⟩ : Fin 1024) (k : Fin 256) by blk_ext]
    exact h1 r k
  · obtain ⟨r, k, rfl⟩ : ∃ (r : Fin 256) (k : Fin 256), x = ix2 r k := ⟨x 0, x 1, by funext a; match a with | 0 => rfl | 1 => rfl⟩
    rw [show (Rect.unit (s := S1024x256) ![0, 0] ![256, 256] inb_S1024x256_S256x256_0_0).emb (ix2 r k) = ix2 (⟨0 + r.val, by omega⟩ : Fin 1024) (k : Fin 256) by blk_ext]
    exact h0 r k
  · rcases (by omega : R.val < 256 ∨ (256 ≤ R.val ∧ R.val < 512) ∨ (512 ≤ R.val ∧ R.val < 768) ∨ 768 ≤ R.val) with h | h | h | h
    · refine ⟨_, List.mem_cons_of_mem _ (List.mem_cons_of_mem _ (List.mem_cons_of_mem _ List.mem_cons_self)), (Rect.mem_set_unit (inb := inb_S1024x256_S256x256_0_0)).mpr fun a => ?_⟩
      match a with
      | 0 => exact ⟨by show 0 ≤ R.val; omega, by show R.val < 0 + 256; omega⟩
      | 1 => exact ⟨Nat.zero_le _, by show K.val < 0 + 256; omega⟩
    · refine ⟨_, List.mem_cons_of_mem _ (List.mem_cons_of_mem _ List.mem_cons_self), (Rect.mem_set_unit (inb := inb_S1024x256_S256x256_256_0)).mpr fun a => ?_⟩
      match a with
      | 0 => exact ⟨by show 256 ≤ R.val; omega, by show R.val < 256 + 256; omega⟩
      | 1 => exact ⟨Nat.zero_le _, by show K.val < 0 + 256; omega⟩
    · refine ⟨_, List.mem_cons_of_mem _ List.mem_cons_self, (Rect.mem_set_unit (inb := inb_S1024x256_S256x256_512_0)).mpr fun a => ?_⟩
      match a with
      | 0 => exact ⟨by show 512 ≤ R.val; omega, by show R.val < 512 + 256; omega⟩
      | 1 => exact ⟨Nat.zero_le _, by show K.val < 0 + 256; omega⟩
    · refine ⟨_, List.mem_cons_self, (Rect.mem_set_unit (inb := inb_S1024x256_S256x256_768_0)).mpr fun a => ?_⟩
      match a with
      | 0 => exact ⟨by show 768 ≤ R.val; omega, by show R.val < 768 + 256; omega⟩
      | 1 => exact ⟨Nat.zero_le _, by show K.val < 0 + 256; omega⟩

/-- The four groups of 256 rows are worked on alike. -/
theorem pay10 (b l X W) : k0_pay10 (F := Ideal) (k0_pay2 b) (k0_pay4 l) X W = k0_pay6 b l X W := rfl
theorem pay14 (b l X W) : k0_pay14 (F := Ideal) (k0_pay2 b) (k0_pay4 l) X W = k0_pay6 b l X W := rfl
theorem pay18 (b l X W) : k0_pay18 (F := Ideal) (k0_pay2 b) (k0_pay4 l) X W = k0_pay6 b l X W := rfl
theorem pay11 (b l X W) : k0_pay11 (F := Ideal) (k0_pay2 b) (k0_pay4 l) X W = k0_pay7 b l X W := rfl
theorem pay15 (b l X W) : k0_pay15 (F := Ideal) (k0_pay2 b) (k0_pay4 l) X W = k0_pay7 b l X W := rfl
theorem pay19 (b l X W) : k0_pay19 (F := Ideal) (k0_pay2 b) (k0_pay4 l) X W = k0_pay7 b l X W := rfl
theorem pay9 (b X W) : k0_pay9 (F := Ideal) (k0_pay3 b) X W = k0_pay5 b X W := rfl
theorem pay13 (b X W) : k0_pay13 (F := Ideal) (k0_pay3 b) X W = k0_pay5 b X W := rfl
theorem pay17 (b X W) : k0_pay17 (F := Ideal) (k0_pay3 b) X W = k0_pay5 b X W := rfl
theorem pay12 (xc g y) : k0_pay12 (F := Ideal) xc g y = k0_pay8 xc g y := rfl
theorem pay16 (xc g y) : k0_pay16 (F := Ideal) xc g y = k0_pay8 xc g y := rfl
theorem pay1 (xc g y) : k0_pay1 (F := Ideal) xc g y = k0_pay8 xc g y := rfl

variable (m : (ℓ : Loc nD τ sig) → Buf (Elt Ideal) ℓ) (ρ : Dev nD → PrngReg)

/-- The factor's entry, from the rows a step works on. -/
theorem pay6_point (b : FVec Ideal S1x256 .f32) (l : FVec Ideal S1x256 .f32) (X : Vec Ideal S256x896 .bf16) (W : Vec Ideal S1x896x256 .bf16)
    (r k : Fin 256) : k0_pay6 b l X W (ix2 r k)
      = Ideal.exp (Ideal.ofBits .f32 0xC1000000#32 * Ideal.logistic ((∑ i : Fin 896, X (ix2 r i) * W (ix3 0 i k)) + b (ix2 0 k)) * rate (l (ix2 0 k))) := by
  pointwise [k0_pay6, k0_pay2, k0_pay4]
  rfl

/-- The second gate's entry. -/
theorem pay5_point (b : FVec Ideal S1x256 .f32) (X : Vec Ideal S256x896 .bf16) (W : Vec Ideal S1x896x256 .bf16)
    (r k : Fin 256) : k0_pay5 b X W (ix2 r k) = Ideal.logistic ((∑ i : Fin 896, X (ix2 r i) * W (ix3 0 i k)) + b (ix2 0 k)) := by
  pointwise [k0_pay5, k0_pay3]

/-- The input's entry. -/
theorem pay8_point (xc : FVec Ideal S256x256 .f32) (g : FVec Ideal S256x256 .f32) (b : FVec Ideal S1x256 .f32) (l : FVec Ideal S1x256 .f32) (X : Vec Ideal S256x896 .bf16) (W : Vec Ideal S1x896x256 .bf16)
    (r k : Fin 256) : k0_pay8 xc g (k0_pay7 b l X W) (ix2 r k)
      = Ideal.sqrt (1 - k0_pay6 b l X W (ix2 r k) * k0_pay6 b l X W (ix2 r k)) * (g (ix2 r k) * xc (ix2 r k)) := by
  pointwise [k0_pay8, k0_pay7]

/-- A load of 256 rows of the input, in the columns of the block's window. -/
theorem ld_x (c : Dev nD) (t : Fin cfg0.N) (o : Nat) (ho : o + 256 ≤ 1024) (off : Fin 2 → Nat) (hoff : off = ![o, start (t.val % 21)])
    (inb : ∀ a, off a + (![256, 896] : Fin 2 → Nat) a ≤ S1024x5376.size a) (r : Fin 256) (k : Fin 896) :
    View.ld (iblk m c 0 t) (Rect.unit (s := S1024x5376) off ![256, 896] inb) (ix2 r k)
      = (show EReal from m ((c : Thread nD τ).loc main_arg0) (ix2 ⟨t.val / 21 * 1024 + (o + r.val), by have := ltN t; omega⟩
          ⟨start (t.val % 21) + k.val, by have := start_le (t.val % 21); omega⟩)) := by
  subst hoff
  have hs := start_le (t.val % 21)
  rw [← blk_x m c t ⟨o + r.val, by omega⟩ ⟨start (t.val % 21) + k.val, by omega⟩]
  refine congrArg (iblk m c 0 t) ?_
  funext a
  match a with
  | 0 => exact Fin.ext (by show o + 1 * r.val = o + r.val; omega)
  | 1 => exact Fin.ext (by show start (t.val % 21) + 1 * k.val = start (t.val % 21) + k.val; omega)

/-- The product of a step's rows with a tile is the product with the blocks. -/
theorem sum_wa (c : Dev nD) (t : Fin cfg0.N) (o : Nat) (ho : o + 256 ≤ 1024) (off : Fin 2 → Nat) (hoff : off = ![o, start (t.val % 21)])
    (inb : ∀ a, off a + (![256, 896] : Fin 2 → Nat) a ≤ S1024x5376.size a) (r k : Fin 256) :
    (∑ i : Fin 896, (show EReal from View.ld (iblk m c 0 t) (Rect.unit (s := S1024x5376) off ![256, 896] inb) (ix2 r i)) * (show EReal from iblk m c 1 t (ix3 0 i k)))
      = part (m ((c : Thread nD τ).loc main_arg0)) (m ((c : Thread nD τ).loc main_arg2)) ⟨t.val / 21 * 1024 + (o + r.val), by have := ltN t; omega⟩ ⟨t.val % 21 * 256 + k.val, by omega⟩ := by
  refine Eq.trans (Finset.sum_congr rfl fun i _ => ?_) (window_sum _ _ _ ⟨t.val % 21, by omega⟩ k)
  rw [ld_x m c t o ho off hoff inb r i, blk_wa m c t i k]

/-- The product of a step's rows with a tile is the product with the blocks. -/
theorem sum_wx (c : Dev nD) (t : Fin cfg0.N) (o : Nat) (ho : o + 256 ≤ 1024) (off : Fin 2 → Nat) (hoff : off = ![o, start (t.val % 21)])
    (inb : ∀ a, off a + (![256, 896] : Fin 2 → Nat) a ≤ S1024x5376.size a) (r k : Fin 256) :
    (∑ i : Fin 896, (show EReal from View.ld (iblk m c 0 t) (Rect.unit (s := S1024x5376) off ![256, 896] inb) (ix2 r i)) * (show EReal from iblk m c 2 t (ix3 0 i k)))
      = part (m ((c : Thread nD τ).loc main_arg0)) (m ((c : Thread nD τ).loc main_arg3)) ⟨t.val / 21 * 1024 + (o + r.val), by have := ltN t; omega⟩ ⟨t.val % 21 * 256 + k.val, by omega⟩ := by
  refine Eq.trans (Finset.sum_congr rfl fun i _ => ?_) (window_sum _ _ _ ⟨t.val % 21, by omega⟩ k)
  rw [ld_x m c t o ho off hoff inb r i, blk_wx m c t i k]

/-- What a step stores of the factor. -/
theorem step_a (c : Dev nD) (t : Fin cfg0.N) (o : Nat) (ho : o + 256 ≤ 1024) (off : Fin 2 → Nat) (hoff : off = ![o, start (t.val % 21)])
    (inb : ∀ a, off a + (![256, 896] : Fin 2 → Nat) a ≤ S1024x5376.size a) (r k : Fin 256) :
    k0_pay6 (iblk m c 4 t) (iblk m c 6 t) (View.ld (iblk m c 0 t) (Rect.unit (s := S1024x5376) off ![256, 896] inb)) (iblk m c 1 t) (ix2 r k)
      = factor (m ((c : Thread nD τ).loc main_arg0)) (m ((c : Thread nD τ).loc main_arg2)) (m ((c : Thread nD τ).loc main_arg4)) (m ((c : Thread nD τ).loc main_arg6))
          (ix2 ⟨t.val / 21 * 1024 + (o + r.val), by have := ltN t; omega⟩ ⟨t.val % 21 * 256 + k.val, by omega⟩) := by
  refine (pay6_point _ _ _ _ r k).trans ?_
  have e := sum_wa m c t o ho off hoff inb r k
  have e1 := blk_ba m c t k
  have e2 := blk_lam m c t k
  dsimp only at e e1 e2
  rw [e, e1, e2]
  rfl

/-- What a step stores of the input. -/
theorem step_u (c : Dev nD) (t : Fin cfg0.N) (o : Nat) (ho : o + 256 ≤ 1024) (off : Fin 2 → Nat) (hoff : off = ![o, start (t.val % 21)])
    (inb : ∀ a, off a + (![256, 896] : Fin 2 → Nat) a ≤ S1024x5376.size a) (inb' : ∀ a, (![o, 0] : Fin 2 → Nat) a + (![256, 256] : Fin 2 → Nat) a ≤ S1024x256.size a) (r k : Fin 256) :
    k0_pay8 (View.ld (iblk m c 3 t) (Rect.unit (s := S1024x256) ![o, 0] ![256, 256] inb'))
        (k0_pay5 (iblk m c 5 t) (View.ld (iblk m c 0 t) (Rect.unit (s := S1024x5376) off ![256, 896] inb)) (iblk m c 2 t))
        (k0_pay7 (iblk m c 4 t) (iblk m c 6 t) (View.ld (iblk m c 0 t) (Rect.unit (s := S1024x5376) off ![256, 896] inb)) (iblk m c 1 t)) (ix2 r k)
      = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (ix2 ⟨t.val / 21 * 1024 + (o + r.val), by have := ltN t; omega⟩ ⟨t.val % 21 * 256 + k.val, by omega⟩) := by
  refine (pay8_point _ _ _ _ _ _ r k).trans ?_
  rw [step_a m c t o ho off hoff inb r k, pay5_point]
  have e := sum_wx m c t o ho off hoff inb r k
  have e1 := blk_bx m c t k
  have e2 : View.ld (iblk m c 3 t) (Rect.unit (s := S1024x256) ![o, 0] ![256, 256] inb') (ix2 r k)
      = (show EReal from m ((c : Thread nD τ).loc main_arg1) (ix2 ⟨t.val / 21 * 1024 + (o + r.val), by have := ltN t; omega⟩ ⟨t.val % 21 * 256 + k.val, by omega⟩)) := by
    rw [← blk_xc m c t ⟨o + r.val, by omega⟩ k]
    refine congrArg (iblk m c 3 t) ?_
    funext a
    match a with
    | 0 => exact Fin.ext (by show o + 1 * r.val = o + r.val; omega)
    | 1 => exact Fin.ext (by show 0 + 1 * k.val = k.val; omega)
  dsimp only at e e1 e2
  rw [e, e1, e2]
  rfl

/-- Where the entries of a block stand in the first result, -/
theorem emb7 (t : Fin cfg0.N) (r : Fin 1024) (j : Fin 256) : ((cfg0.win 7).blk t).view.emb (ix2 r j)
    = ix2 (⟨t.val / 21 * 1024 + r.val, by have := ltN t; omega⟩ : Fin 16384) (⟨t.val % 21 * 256 + j.val, by omega⟩ : Fin 5376) := by
  have h : win0_7.index t 0 = t.val / 21 := congrFun (idx7 t) 0
  have h' : win0_7.index t 1 = t.val % 21 := congrFun (idx7 t) 1
  blk_ext

/-- and in the second. -/
theorem emb8 (t : Fin cfg0.N) (r : Fin 1024) (j : Fin 256) : ((cfg0.win 8).blk t).view.emb (ix2 r j)
    = ix2 (⟨t.val / 21 * 1024 + r.val, by have := ltN t; omega⟩ : Fin 16384) (⟨t.val % 21 * 256 + j.val, by omega⟩ : Fin 5376) := by
  have h : win0_8.index t 0 = t.val / 21 := congrFun (idx8 t) 0
  have h' : win0_8.index t 1 = t.val % 21 := congrFun (idx8 t) 1
  blk_ext

/-- The first result after the run. -/
theorem final7 (c : Dev nD) : (dats m 0 c).arrAt 7 cfg0.N
    = factor (m ((c : Thread nD τ).loc main_arg0)) (m ((c : Thread nD τ).loc main_arg2)) (m ((c : Thread nD τ).loc main_arg4)) (m ((c : Thread nD τ).loc main_arg6)) := by
  refine (dats m 0 c).arrAt_eq_of_covers 7 _ (by decide +kernel) fun t hf y => ?_
  blk_simp
  rw [after0_7]; unfold outsAt0; dsimp only
  frame_out
  obtain ⟨r, k, rfl⟩ : ∃ (r : Fin 1024) (k : Fin 256), y = ix2 r k := ⟨y 0, y 1, by funext a; match a with | 0 => rfl | 1 => rfl⟩
  refine Eq.trans ?_ (congrArg (factor _ _ _ _) (emb7 t r k).symm)
  refine canon_four (fun i => factor (m ((c : Thread nD τ).loc main_arg0)) (m ((c : Thread nD τ).loc main_arg2)) (m ((c : Thread nD τ).loc main_arg4)) (m ((c : Thread nD τ).loc main_arg6))
      (ix2 (⟨t.val / 21 * 1024 + (i 0).val, by have := ltN t; have h : (i 0).val < 1024 := (i 0).isLt; omega⟩ : Fin 16384)
        (⟨t.val % 21 * 256 + (i 1).val, by have h : (i 1).val < 256 := (i 1).isLt; omega⟩ : Fin 5376))) _ _ _ _
    (fun r k => ?_) (fun r k => ?_) (fun r k => ?_) (fun r k => ?_) (ix2 r k)
  · exact step_a m c t 0 (by omega) _ (off1 t) _ r k
  · exact step_a m c t 256 (by omega) _ (off2 t) _ r k
  · exact step_a m c t 512 (by omega) _ (off3 t) _ r k
  · exact step_a m c t 768 (by omega) _ (off4 t) _ r k

/-- The second result after the run. -/
theorem final8 (c : Dev nD) : (dats m 0 c).arrAt 8 cfg0.N
    = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]; unfold outsAt0; dsimp only
  frame_out
  obtain ⟨r, k, rfl⟩ : ∃ (r : Fin 1024) (k : Fin 256), y = ix2 r k := ⟨y 0, y 1, by funext a; match a with | 0 => rfl | 1 => rfl⟩
  refine Eq.trans ?_ (congrArg (input _ _ _ _ _ _ _) (emb8 t r k).symm)
  refine canon_four (fun i => input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 (⟨t.val / 21 * 1024 + (i 0).val, by have := ltN t; have h : (i 0).val < 1024 := (i 0).isLt; omega⟩ : Fin 16384)
        (⟨t.val % 21 * 256 + (i 1).val, by have h : (i 1).val < 256 := (i 1).isLt; omega⟩ : Fin 5376))) _ _ _ _
    (fun r k => ?_) (fun r k => ?_) (fun r k => ?_) (fun r k => ?_) (ix2 r k)
  · exact step_u m c t 0 (by omega) _ (off1 t) _ inb_S1024x256_S256x256_0_0 r k
  · exact step_u m c t 256 (by omega) _ (off2 t) _ inb_S1024x256_S256x256_256_0 r k
  · exact step_u m c t 512 (by omega) _ (off3 t) _ inb_S1024x256_S256x256_512_0 r k
  · exact step_u m c t 768 (by omega) _ (off4 t) _ inb_S1024x256_S256x256_768_0 r k

end Cert.GatesIdeal.Algebra

namespace Cert

open Idealize.ShloMosaic Idealize.ShloMosaic.TcCoe Idealize.SL.Sem

/-- The tiled gates and the plain ones end with the same results on the extended reals. -/
theorem gates_algebraic : algebraic_GatesIdeal_GatesReferenceIdeal (hGatesIdeal := Cert.GatesIdeal.Gen.facts)
    (hGatesReferenceIdeal := Cert.GatesReferenceIdeal.Gen.facts) := by
  intro m ρ m' ρ' _ hag
  refine ⟨fun c => GatesIdeal.Algebra.factor (m ((c.tc : Thread GatesIdeal.nD GatesIdeal.τ).loc GatesIdeal.main_arg0)) (m ((c.tc : Thread GatesIdeal.nD GatesIdeal.τ).loc GatesIdeal.main_arg2)) (m ((c.tc : Thread GatesIdeal.nD GatesIdeal.τ).loc GatesIdeal.main_arg4)) (m ((c.tc : Thread GatesIdeal.nD GatesIdeal.τ).loc GatesIdeal.main_arg6)), fun c => GatesIdeal.Algebra.input (m ((c.tc : Thread GatesIdeal.nD GatesIdeal.τ).loc GatesIdeal.main_arg0)) (m ((c.tc : Thread GatesIdeal.nD GatesIdeal.τ).loc GatesIdeal.main_arg1)) (m ((c.tc : Thread GatesIdeal.nD GatesIdeal.τ).loc GatesIdeal.main_arg2)) (m ((c.tc : Thread GatesIdeal.nD GatesIdeal.τ).loc GatesIdeal.main_arg3)) (m ((c.tc : Thread GatesIdeal.nD GatesIdeal.τ).loc GatesIdeal.main_arg4)) (m ((c.tc : Thread GatesIdeal.nD GatesIdeal.τ).loc GatesIdeal.main_arg5)) (m ((c.tc : Thread GatesIdeal.nD GatesIdeal.τ).loc GatesIdeal.main_arg6)), ?_, ?_⟩
  · refine (θ_run _ _ _).mono (fun r h c => ?_) (GatesIdeal.Value.run_blocks (F := Ideal) m ρ)
    exact ⟨(h c).1.trans (GatesIdeal.Algebra.final7 m c), (h c).2.1.trans (GatesIdeal.Algebra.final8 m c), (h c).2.2⟩
  · refine (θ_run _ _ _).mono (fun r h c => ⟨(h c).1.trans ?_, (h c).2.1.trans ?_, (h c).2.2⟩) (GatesReferenceIdeal.Value.run (F := Ideal) m' ρ')
    · rw [(hag c).1, (hag c).2.2.1, (hag c).2.2.2.2.1, (hag c).2.2.2.2.2.2]
      exact GatesReferenceIdeal.Algebra.value_a _ _ _ _
    · rw [(hag c).1, (hag c).2.1, (hag c).2.2.1, (hag c).2.2.2.1, (hag c).2.2.2.2.1, (hag c).2.2.2.2.2.1, (hag c).2.2.2.2.2.2]
      exact GatesReferenceIdeal.Algebra.value_u _ _ _ _ _ _ _

end Cert

end
-- ==== Proof.lean ====
/-
  The claims about the calls of the layer, put together: each program and its ideal program run and leave their arguments
  as they were, each ideal program is the kernel over the extended reals, and it ends with its reference's result there.
-/
module

public import proofs.«01_k».proof.Defs
public import proofs.«01_k».proof.Proof.Gen.Attention.Frame
public import proofs.«01_k».proof.Proof.Gen.AttentionIdeal.Value
public import proofs.«01_k».proof.Proof.Gen.AttentionReferenceIdeal.Run
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.OutMerged.Frame
public import proofs.«01_k».proof.Proof.Gen.OutMergedIdeal.Value
public import proofs.«01_k».proof.Proof.Gen.OutMergedReferenceIdeal.Run
public import proofs.«01_k».proof.Proof.Gen.OutAttn.Frame
public import proofs.«01_k».proof.Proof.Gen.OutAttnIdeal.Value
public import proofs.«01_k».proof.Proof.Gen.OutAttnReferenceIdeal.Run
public import proofs.«01_k».proof.Proof.Gen.OutRg.Frame
public import proofs.«01_k».proof.Proof.Gen.OutRgIdeal.Value
public import proofs.«01_k».proof.Proof.Gen.OutRgReferenceIdeal.Run
public import proofs.«01_k».proof.Proof.Gen.InProjV.Frame
public import proofs.«01_k».proof.Proof.Gen.InProjVIdeal.Value
public import proofs.«01_k».proof.Proof.Gen.InProjVReferenceIdeal.Run
public import proofs.«01_k».proof.Proof.Gen.InProjQi.Frame
public import proofs.«01_k».proof.Proof.Gen.InProjQiIdeal.Value
public import proofs.«01_k».proof.Proof.Gen.InProjQiReferenceIdeal.Run
public import proofs.«01_k».proof.Proof.Gen.InProjXr.Frame
public import proofs.«01_k».proof.Proof.Gen.InProjXrIdeal.Value
public import proofs.«01_k».proof.Proof.Gen.InProjXrReferenceIdeal.Run
public import proofs.«01_k».proof.Proof.Gen.InProjGr.Frame
public import proofs.«01_k».proof.Proof.Gen.InProjGrIdeal.Value
public import proofs.«01_k».proof.Proof.Gen.InProjGrReferenceIdeal.Run
public import proofs.«01_k».proof.Proof.Gen.InProjGa.Frame
public import proofs.«01_k».proof.Proof.Gen.InProjGaIdeal.Value
public import proofs.«01_k».proof.Proof.Gen.InProjGaReferenceIdeal.Run
public import proofs.«01_k».proof.Proof.Gen.InProjGb.Frame
public import proofs.«01_k».proof.Proof.Gen.InProjGbIdeal.Value
public import proofs.«01_k».proof.Proof.Gen.InProjGbReferenceIdeal.Run
public import proofs.«01_k».proof.Proof.Gen.InProjQ.Frame
public import proofs.«01_k».proof.Proof.Gen.InProjQIdeal.Value
public import proofs.«01_k».proof.Proof.Gen.InProjQReferenceIdeal.Run
public import proofs.«01_k».proof.Proof.Gen.InProjK.Frame
public import proofs.«01_k».proof.Proof.Gen.InProjKIdeal.Value
public import proofs.«01_k».proof.Proof.Gen.InProjKReferenceIdeal.Run
public import proofs.«01_k».proof.Proof.Gen.Rmsnorm.Frame
public import proofs.«01_k».proof.Proof.Gen.RmsnormIdeal.Value
public import proofs.«01_k».proof.Proof.Gen.RmsnormReferenceIdeal.Run
public import proofs.«01_k».proof.Proof.Gen.InProjKi.Frame
public import proofs.«01_k».proof.Proof.Gen.InProjKiIdeal.Value
public import proofs.«01_k».proof.Proof.Gen.InProjKiReferenceIdeal.Run
public import proofs.«01_k».proof.Proof.Gen.Conv.Frame
public import proofs.«01_k».proof.Proof.Gen.ConvIdeal.Value
public import proofs.«01_k».proof.Proof.Gen.ConvReferenceIdeal.Run
public import proofs.«01_k».proof.Proof.Gen.Gates.Frame
public import proofs.«01_k».proof.Proof.Gen.GatesIdeal.Value
public import proofs.«01_k».proof.Proof.Gen.GatesReferenceIdeal.Run
public import proofs.«01_k».proof.Proof.Gen.AttentionReferenceIdeal.Read
public import proofs.«01_k».proof.Proof.Gen.Pre_finite_and_some_selected
public import Idealize.ShloMosaic.Lib.Quiescent
public import proofs.«01_k».proof.Proof.Attention
public import proofs.«01_k».proof.Proof.FfnUp
public import proofs.«01_k».proof.Proof.FfnDown
public import proofs.«01_k».proof.Proof.OutMerged
public import proofs.«01_k».proof.Proof.OutAttn
public import proofs.«01_k».proof.Proof.OutRg
public import proofs.«01_k».proof.Proof.InProjV
public import proofs.«01_k».proof.Proof.InProjQi
public import proofs.«01_k».proof.Proof.InProjXr
public import proofs.«01_k».proof.Proof.InProjGr
public import proofs.«01_k».proof.Proof.InProjGa
public import proofs.«01_k».proof.Proof.InProjGb
public import proofs.«01_k».proof.Proof.InProjQ
public import proofs.«01_k».proof.Proof.InProjK
public import proofs.«01_k».proof.Proof.Rmsnorm
public import proofs.«01_k».proof.Proof.InProjKi
public import proofs.«01_k».proof.Proof.Conv
public import proofs.«01_k».proof.Proof.Gates

@[expose] public section

noncomputable section

namespace Cert.Proof

open Idealize.ShloMosaic Idealize.SL.Sem

/-- The reference `AttentionReference` runs, leaves its arguments as they were and every counter at zero. -/
theorem attentionReference_frame : quiescent_AttentionReferenceIdeal (hAttentionReferenceIdeal := Cert.AttentionReferenceIdeal.Gen.facts) := fun m g _ =>
  (θ_run (Cert.AttentionReferenceIdeal.defs (F := Ideal)) _ _).mono (fun r h => ⟨fun c => (h c).2, sem_eq_zero_of_no_sems (by decide) r.2⟩) (Cert.AttentionReferenceIdeal.Value.run (F := Ideal) m g)

/-- The reference `FfnUpReference` runs, leaves its arguments as they were and every counter at zero. -/
theorem ffnUpReference_frame : quiescent_FfnUpReferenceIdeal (hFfnUpReferenceIdeal := Cert.FfnUpReferenceIdeal.Gen.facts) := fun m g _ =>
  (θ_run (Cert.FfnUpReferenceIdeal.defs (F := Ideal)) _ _).mono (fun r h => ⟨fun c => (h c).2, sem_eq_zero_of_no_sems (by decide) r.2⟩) (Cert.FfnUpReferenceIdeal.Value.run (F := Ideal) m g)

/-- The reference `FfnDownReference` runs, leaves its arguments as they were and every counter at zero. -/
theorem ffnDownReference_frame : quiescent_FfnDownReferenceIdeal (hFfnDownReferenceIdeal := Cert.FfnDownReferenceIdeal.Gen.facts) := fun m g _ =>
  (θ_run (Cert.FfnDownReferenceIdeal.defs (F := Ideal)) _ _).mono (fun r h => ⟨fun c => (h c).2, sem_eq_zero_of_no_sems (by decide) r.2⟩) (Cert.FfnDownReferenceIdeal.Value.run (F := Ideal) m g)

/-- The reference `OutMergedReference` runs, leaves its arguments as they were and every counter at zero. -/
theorem outMergedReference_frame : quiescent_OutMergedReferenceIdeal (hOutMergedReferenceIdeal := Cert.OutMergedReferenceIdeal.Gen.facts) := fun m g _ =>
  (θ_run (Cert.OutMergedReferenceIdeal.defs (F := Ideal)) _ _).mono (fun r h => ⟨fun c => (h c).2, sem_eq_zero_of_no_sems (by decide) r.2⟩) (Cert.OutMergedReferenceIdeal.Value.run (F := Ideal) m g)

/-- The reference `OutAttnReference` runs, leaves its arguments as they were and every counter at zero. -/
theorem outAttnReference_frame : quiescent_OutAttnReferenceIdeal (hOutAttnReferenceIdeal := Cert.OutAttnReferenceIdeal.Gen.facts) := fun m g _ =>
  (θ_run (Cert.OutAttnReferenceIdeal.defs (F := Ideal)) _ _).mono (fun r h => ⟨fun c => (h c).2, sem_eq_zero_of_no_sems (by decide) r.2⟩) (Cert.OutAttnReferenceIdeal.Value.run (F := Ideal) m g)

/-- The reference `OutRgReference` runs, leaves its arguments as they were and every counter at zero. -/
theorem outRgReference_frame : quiescent_OutRgReferenceIdeal (hOutRgReferenceIdeal := Cert.OutRgReferenceIdeal.Gen.facts) := fun m g _ =>
  (θ_run (Cert.OutRgReferenceIdeal.defs (F := Ideal)) _ _).mono (fun r h => ⟨fun c => (h c).2, sem_eq_zero_of_no_sems (by decide) r.2⟩) (Cert.OutRgReferenceIdeal.Value.run (F := Ideal) m g)

/-- The reference `InProjVReference` runs, leaves its arguments as they were and every counter at zero. -/
theorem inProjVReference_frame : quiescent_InProjVReferenceIdeal (hInProjVReferenceIdeal := Cert.InProjVReferenceIdeal.Gen.facts) := fun m g _ =>
  (θ_run (Cert.InProjVReferenceIdeal.defs (F := Ideal)) _ _).mono (fun r h => ⟨fun c => (h c).2, sem_eq_zero_of_no_sems (by decide) r.2⟩) (Cert.InProjVReferenceIdeal.Value.run (F := Ideal) m g)

/-- The reference `InProjQiReference` runs, leaves its arguments as they were and every counter at zero. -/
theorem inProjQiReference_frame : quiescent_InProjQiReferenceIdeal (hInProjQiReferenceIdeal := Cert.InProjQiReferenceIdeal.Gen.facts) := fun m g _ =>
  (θ_run (Cert.InProjQiReferenceIdeal.defs (F := Ideal)) _ _).mono (fun r h => ⟨fun c => (h c).2, sem_eq_zero_of_no_sems (by decide) r.2⟩) (Cert.InProjQiReferenceIdeal.Value.run (F := Ideal) m g)

/-- The reference `InProjXrReference` runs, leaves its arguments as they were and every counter at zero. -/
theorem inProjXrReference_frame : quiescent_InProjXrReferenceIdeal (hInProjXrReferenceIdeal := Cert.InProjXrReferenceIdeal.Gen.facts) := fun m g _ =>
  (θ_run (Cert.InProjXrReferenceIdeal.defs (F := Ideal)) _ _).mono (fun r h => ⟨fun c => (h c).2, sem_eq_zero_of_no_sems (by decide) r.2⟩) (Cert.InProjXrReferenceIdeal.Value.run (F := Ideal) m g)

/-- The reference `InProjGrReference` runs, leaves its arguments as they were and every counter at zero. -/
theorem inProjGrReference_frame : quiescent_InProjGrReferenceIdeal (hInProjGrReferenceIdeal := Cert.InProjGrReferenceIdeal.Gen.facts) := fun m g _ =>
  (θ_run (Cert.InProjGrReferenceIdeal.defs (F := Ideal)) _ _).mono (fun r h => ⟨fun c => (h c).2, sem_eq_zero_of_no_sems (by decide) r.2⟩) (Cert.InProjGrReferenceIdeal.Value.run (F := Ideal) m g)

/-- The reference `InProjGaReference` runs, leaves its arguments as they were and every counter at zero. -/
theorem inProjGaReference_frame : quiescent_InProjGaReferenceIdeal (hInProjGaReferenceIdeal := Cert.InProjGaReferenceIdeal.Gen.facts) := fun m g _ =>
  (θ_run (Cert.InProjGaReferenceIdeal.defs (F := Ideal)) _ _).mono (fun r h => ⟨fun c => (h c).2, sem_eq_zero_of_no_sems (by decide) r.2⟩) (Cert.InProjGaReferenceIdeal.Value.run (F := Ideal) m g)

/-- The reference `InProjGbReference` runs, leaves its arguments as they were and every counter at zero. -/
theorem inProjGbReference_frame : quiescent_InProjGbReferenceIdeal (hInProjGbReferenceIdeal := Cert.InProjGbReferenceIdeal.Gen.facts) := fun m g _ =>
  (θ_run (Cert.InProjGbReferenceIdeal.defs (F := Ideal)) _ _).mono (fun r h => ⟨fun c => (h c).2, sem_eq_zero_of_no_sems (by decide) r.2⟩) (Cert.InProjGbReferenceIdeal.Value.run (F := Ideal) m g)

/-- The reference `InProjQReference` runs, leaves its arguments as they were and every counter at zero. -/
theorem inProjQReference_frame : quiescent_InProjQReferenceIdeal (hInProjQReferenceIdeal := Cert.InProjQReferenceIdeal.Gen.facts) := fun m g _ =>
  (θ_run (Cert.InProjQReferenceIdeal.defs (F := Ideal)) _ _).mono (fun r h => ⟨fun c => (h c).2, sem_eq_zero_of_no_sems (by decide) r.2⟩) (Cert.InProjQReferenceIdeal.Value.run (F := Ideal) m g)

/-- The reference `InProjKReference` runs, leaves its arguments as they were and every counter at zero. -/
theorem inProjKReference_frame : quiescent_InProjKReferenceIdeal (hInProjKReferenceIdeal := Cert.InProjKReferenceIdeal.Gen.facts) := fun m g _ =>
  (θ_run (Cert.InProjKReferenceIdeal.defs (F := Ideal)) _ _).mono (fun r h => ⟨fun c => (h c).2, sem_eq_zero_of_no_sems (by decide) r.2⟩) (Cert.InProjKReferenceIdeal.Value.run (F := Ideal) m g)

/-- The reference `RmsnormReference` runs, leaves its arguments as they were and every counter at zero. -/
theorem rmsnormReference_frame : quiescent_RmsnormReferenceIdeal (hRmsnormReferenceIdeal := Cert.RmsnormReferenceIdeal.Gen.facts) := fun m g _ =>
  (θ_run (Cert.RmsnormReferenceIdeal.defs (F := Ideal)) _ _).mono (fun r h => ⟨fun c => (h c).2, sem_eq_zero_of_no_sems (by decide) r.2⟩) (Cert.RmsnormReferenceIdeal.Value.run (F := Ideal) m g)

/-- The reference `InProjKiReference` runs, leaves its arguments as they were and every counter at zero. -/
theorem inProjKiReference_frame : quiescent_InProjKiReferenceIdeal (hInProjKiReferenceIdeal := Cert.InProjKiReferenceIdeal.Gen.facts) := fun m g _ =>
  (θ_run (Cert.InProjKiReferenceIdeal.defs (F := Ideal)) _ _).mono (fun r h => ⟨fun c => (h c).2, sem_eq_zero_of_no_sems (by decide) r.2⟩) (Cert.InProjKiReferenceIdeal.Value.run (F := Ideal) m g)

/-- The reference `ConvReference` runs, leaves its arguments as they were and every counter at zero. -/
theorem convReference_frame : quiescent_ConvReferenceIdeal (hConvReferenceIdeal := Cert.ConvReferenceIdeal.Gen.facts) := fun m g _ =>
  (θ_run (Cert.ConvReferenceIdeal.defs (F := Ideal)) _ _).mono (fun r h => ⟨fun c => (h c).2.2, sem_eq_zero_of_no_sems (by decide) r.2⟩) (Cert.ConvReferenceIdeal.Value.run (F := Ideal) m g)

/-- The reference `GatesReference` runs, leaves its arguments as they were and every counter at zero. -/
theorem gatesReference_frame : quiescent_GatesReferenceIdeal (hGatesReferenceIdeal := Cert.GatesReferenceIdeal.Gen.facts) := fun m g _ =>
  (θ_run (Cert.GatesReferenceIdeal.defs (F := Ideal)) _ _).mono (fun r h => ⟨fun c => (h c).2.2, sem_eq_zero_of_no_sems (by decide) r.2⟩) (Cert.GatesReferenceIdeal.Value.run (F := Ideal) m g)

/-- Everything claimed. -/
theorem claim : Cert.Claim := ⟨Cert.Attention.Gen.facts, Cert.AttentionIdeal.Gen.facts, Cert.AttentionReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.OutMerged.Gen.facts, Cert.OutMergedIdeal.Gen.facts, Cert.OutMergedReferenceIdeal.Gen.facts, Cert.OutAttn.Gen.facts, Cert.OutAttnIdeal.Gen.facts, Cert.OutAttnReferenceIdeal.Gen.facts, Cert.OutRg.Gen.facts, Cert.OutRgIdeal.Gen.facts, Cert.OutRgReferenceIdeal.Gen.facts, Cert.InProjV.Gen.facts, Cert.InProjVIdeal.Gen.facts, Cert.InProjVReferenceIdeal.Gen.facts, Cert.InProjQi.Gen.facts, Cert.InProjQiIdeal.Gen.facts, Cert.InProjQiReferenceIdeal.Gen.facts, Cert.InProjXr.Gen.facts, Cert.InProjXrIdeal.Gen.facts, Cert.InProjXrReferenceIdeal.Gen.facts, Cert.InProjGr.Gen.facts, Cert.InProjGrIdeal.Gen.facts, Cert.InProjGrReferenceIdeal.Gen.facts, Cert.InProjGa.Gen.facts, Cert.InProjGaIdeal.Gen.facts, Cert.InProjGaReferenceIdeal.Gen.facts, Cert.InProjGb.Gen.facts, Cert.InProjGbIdeal.Gen.facts, Cert.InProjGbReferenceIdeal.Gen.facts, Cert.InProjQ.Gen.facts, Cert.InProjQIdeal.Gen.facts, Cert.InProjQReferenceIdeal.Gen.facts, Cert.InProjK.Gen.facts, Cert.InProjKIdeal.Gen.facts, Cert.InProjKReferenceIdeal.Gen.facts, Cert.Rmsnorm.Gen.facts, Cert.RmsnormIdeal.Gen.facts, Cert.RmsnormReferenceIdeal.Gen.facts, Cert.InProjKi.Gen.facts, Cert.InProjKiIdeal.Gen.facts, Cert.InProjKiReferenceIdeal.Gen.facts, Cert.Conv.Gen.facts, Cert.ConvIdeal.Gen.facts, Cert.ConvReferenceIdeal.Gen.facts, Cert.Gates.Gen.facts, Cert.GatesIdeal.Gen.facts, Cert.GatesReferenceIdeal.Gen.facts, Cert.Pre_finite_and_some_selected.Gen.facts,
    fun m g _ => Cert.Attention.Gen.frame (F := Bits) m g,
    fun m g _ => Cert.AttentionIdeal.Gen.frame (F := Ideal) m g,
    fun m g _ => Cert.AttentionIdeal.Gen.frame (F := Ideal) m g,
    attentionReference_frame,
    fun m g _ => attentionReference_frame m g trivial,
    fun m g _ => Cert.FfnUp.Gen.frame (F := Bits) m g,
    fun m g _ => Cert.FfnUpIdeal.Gen.frame (F := Ideal) m g,
    ffnUpReference_frame,
    fun m g _ => Cert.FfnDown.Gen.frame (F := Bits) m g,
    fun m g _ => Cert.FfnDownIdeal.Gen.frame (F := Ideal) m g,
    ffnDownReference_frame,
    fun m g _ => Cert.OutMerged.Gen.frame (F := Bits) m g,
    fun m g _ => Cert.OutMergedIdeal.Gen.frame (F := Ideal) m g,
    outMergedReference_frame,
    fun m g _ => Cert.OutAttn.Gen.frame (F := Bits) m g,
    fun m g _ => Cert.OutAttnIdeal.Gen.frame (F := Ideal) m g,
    outAttnReference_frame,
    fun m g _ => Cert.OutRg.Gen.frame (F := Bits) m g,
    fun m g _ => Cert.OutRgIdeal.Gen.frame (F := Ideal) m g,
    outRgReference_frame,
    fun m g _ => Cert.InProjV.Gen.frame (F := Bits) m g,
    fun m g _ => Cert.InProjVIdeal.Gen.frame (F := Ideal) m g,
    inProjVReference_frame,
    fun m g _ => Cert.InProjQi.Gen.frame (F := Bits) m g,
    fun m g _ => Cert.InProjQiIdeal.Gen.frame (F := Ideal) m g,
    inProjQiReference_frame,
    fun m g _ => Cert.InProjXr.Gen.frame (F := Bits) m g,
    fun m g _ => Cert.InProjXrIdeal.Gen.frame (F := Ideal) m g,
    inProjXrReference_frame,
    fun m g _ => Cert.InProjGr.Gen.frame (F := Bits) m g,
    fun m g _ => Cert.InProjGrIdeal.Gen.frame (F := Ideal) m g,
    inProjGrReference_frame,
    fun m g _ => Cert.InProjGa.Gen.frame (F := Bits) m g,
    fun m g _ => Cert.InProjGaIdeal.Gen.frame (F := Ideal) m g,
    inProjGaReference_frame,
    fun m g _ => Cert.InProjGb.Gen.frame (F := Bits) m g,
    fun m g _ => Cert.InProjGbIdeal.Gen.frame (F := Ideal) m g,
    inProjGbReference_frame,
    fun m g _ => Cert.InProjQ.Gen.frame (F := Bits) m g,
    fun m g _ => Cert.InProjQIdeal.Gen.frame (F := Ideal) m g,
    inProjQReference_frame,
    fun m g _ => Cert.InProjK.Gen.frame (F := Bits) m g,
    fun m g _ => Cert.InProjKIdeal.Gen.frame (F := Ideal) m g,
    inProjKReference_frame,
    fun m g _ => Cert.Rmsnorm.Gen.frame (F := Bits) m g,
    fun m g _ => Cert.RmsnormIdeal.Gen.frame (F := Ideal) m g,
    rmsnormReference_frame,
    fun m g _ => Cert.InProjKi.Gen.frame (F := Bits) m g,
    fun m g _ => Cert.InProjKiIdeal.Gen.frame (F := Ideal) m g,
    inProjKiReference_frame,
    fun m g _ => Cert.Conv.Gen.frame (F := Bits) m g,
    fun m g _ => Cert.ConvIdeal.Gen.frame (F := Ideal) m g,
    convReference_frame,
    fun m g _ => Cert.Gates.Gen.frame (F := Bits) m g,
    fun m g _ => Cert.GatesIdeal.Gen.frame (F := Ideal) m g,
    gatesReference_frame,
    IdealRules.named_const.statement Cert.AttentionIdeal.κ "mask" .f32 0xF149F2CA#32 ⊥ rfl,
    Cert.attention_algebraic,
    trivial,
    Cert.ffnUp_algebraic,
    trivial,
    Cert.ffnDown_algebraic,
    trivial,
    Cert.outMerged_algebraic,
    trivial,
    Cert.outAttn_algebraic,
    trivial,
    Cert.outRg_algebraic,
    trivial,
    Cert.inProjV_algebraic,
    trivial,
    Cert.inProjQi_algebraic,
    trivial,
    Cert.inProjXr_algebraic,
    trivial,
    Cert.inProjGr_algebraic,
    trivial,
    Cert.inProjGa_algebraic,
    trivial,
    Cert.inProjGb_algebraic,
    trivial,
    Cert.inProjQ_algebraic,
    trivial,
    Cert.inProjK_algebraic,
    trivial,
    Cert.rmsnorm_algebraic,
    trivial,
    Cert.inProjKi_algebraic,
    trivial,
    Cert.conv_algebraic,
    trivial,
    Cert.gates_algebraic⟩

end Cert.Proof

end
